-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![4096, 128]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S4096x128 : Shape := ⟨2, ![4096, 128]⟩
abbrev S32x128x128 : Shape := ⟨3, ![32, 128, 128]⟩
abbrev S32 : Shape := ⟨1, ![32]⟩
abbrev S_ : Shape := ⟨0, ![]⟩
abbrev S1 : Shape := ⟨1, ![1]⟩
abbrev S3968x128 : Shape := ⟨2, ![3968, 128]⟩
abbrev S3968x256 : Shape := ⟨2, ![3968, 256]⟩
abbrev S1x128x128 : Shape := ⟨3, ![1, 128, 128]⟩
abbrev S31x128x128 : Shape := ⟨3, ![31, 128, 128]⟩

abbrev nBuf : Space → Nat
  | .hbm => 8
  | .vmem => 12
  | .smem => 0
  | _ => 0

abbrev bufTy : (tb : Table) → Fin (tcTables nBuf tb) → BufTy
  | .hbm, ⟨0, _⟩ => ⟨S128x128, .bf16⟩
  | .hbm, ⟨1, _⟩ => ⟨S128x256, .bf16⟩
  | .hbm, ⟨2, _⟩ => ⟨S256x128, .bf16⟩
  | .hbm, ⟨3, _⟩ => ⟨S128x256, .bf16⟩
  | .hbm, ⟨4, _⟩ => ⟨S256x128, .bf16⟩
  | .hbm, ⟨5, _⟩ => ⟨S128x256, .bf16⟩
  | .hbm, ⟨6, _⟩ => ⟨S256x128, .bf16⟩
  | .hbm, ⟨7, _⟩ => ⟨S4096x128, .f32⟩
  | .local _ .vmem, ⟨0, _⟩ => ⟨S128x128, .bf16⟩
  | .local _ .vmem, ⟨1, _⟩ => ⟨S128x256, .bf16⟩
  | .local _ .vmem, ⟨2, _⟩ => ⟨S256x128, .bf16⟩
  | .local _ .vmem, ⟨3, _⟩ => ⟨S128x256, .bf16⟩
  | .local _ .vmem, ⟨4, _⟩ => ⟨S256x128, .bf16⟩
  | .local _ .vmem, ⟨5, _⟩ => ⟨S128x256, .bf16⟩
  | .local _ .vmem, ⟨6, _⟩ => ⟨S256x128, .bf16⟩
  | .local _ .vmem, ⟨7, _⟩ => ⟨S4096x128, .f32⟩
  | .local _ .vmem, ⟨8, _⟩ => ⟨S4096x128, .bf16⟩
  | .local _ .vmem, ⟨9, _⟩ => ⟨S4096x128, .bf16⟩
  | .local _ .vmem, ⟨10, _⟩ => ⟨S32x128x128, .bf16⟩
  | .local _ .vmem, ⟨11, _⟩ => ⟨S128x128, .bf16⟩
  | _, _ => ⟨S128x128, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v5 : BitVec 32 := Scalar.addi v2 c1_i32_0
  let c32_i32_1 : BitVec 32 := 32#32
  let c0_i32 : BitVec 32 := 0#32
  let v6 : BitVec 1 := Scalar.cmpi .eq c32_i32_1 c0_i32
  let c1_i32_2 : BitVec 32 := 1#32
  let v7 : BitVec 32 := Scalar.select v6 c1_i32_2 c32_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c1_i32_7 : BitVec 32 := 1#32
  let v16 : BitVec 32 := Scalar.muli v15 c1_i32_7
  let v17 : BitVec 32 := Scalar.addi c0_i32_8 v16
  v17.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v18 : BitVec 32 := Scalar.addi v2 c2_i32
  let c32_i32_9 : BitVec 32 := 32#32
  let c0_i32_10 : BitVec 32 := 0#32
  let v19 : BitVec 1 := Scalar.cmpi .eq c32_i32_9 c0_i32_10
  let c1_i32_11 : BitVec 32 := 1#32
  let v20 : BitVec 32 := Scalar.select v19 c1_i32_11 c32_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_16 : BitVec 32 := 1#32
  let v29 : BitVec 32 := Scalar.muli v28 c1_i32_16
  let v30 : BitVec 32 := Scalar.addi c0_i32_17 v29
  v30.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v31 : BitVec 32 := Scalar.addi v2 c3_i32
  let c32_i32_18 : BitVec 32 := 32#32
  let c0_i32_19 : BitVec 32 := 0#32
  let v32 : BitVec 1 := Scalar.cmpi .eq c32_i32_18 c0_i32_19
  let c1_i32_20 : BitVec 32 := 1#32
  let v33 : BitVec 32 := Scalar.select v32 c1_i32_20 c32_i32_18
  let v34 : BitVec 32 := Scalar.remsi v31 v33
  let c0_i32_22 : BitVec 32 := 0#32
  let v36 : BitVec 1 := Scalar.cmpi .slt v34 c0_i32_22
  let c0_i32_23 : BitVec 32 := 0#32
  let v37 : BitVec 1 := Scalar.cmpi .slt v33 c0_i32_23
  let v38 : BitVec 1 := Scalar.xori v36 v37
  let c0_i32_21 : BitVec 32 := 0#32
  let v35 : BitVec 1 := Scalar.cmpi .ne v34 c0_i32_21
  let v39 : BitVec 1 := Scalar.andi v38 v35
  let v40 : BitVec 32 := Scalar.addi v34 v33
  let v41 : BitVec 32 := Scalar.select v39 v40 v34
  let c1_i32_25 : BitVec 32 := 1#32
  let v42 : BitVec 32 := Scalar.muli v41 c1_i32_25
  let v43 : BitVec 32 := Scalar.addi c0_i32_26 v42
  v43.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v44 : BitVec 32 := Scalar.addi v2 c4_i32
  let c32_i32_27 : BitVec 32 := 32#32
  let c0_i32_28 : BitVec 32 := 0#32
  let v45 : BitVec 1 := Scalar.cmpi .eq c32_i32_27 c0_i32_28
  let c1_i32_29 : BitVec 32 := 1#32
  let v46 : BitVec 32 := Scalar.select v45 c1_i32_29 c32_i32_27
  let v47 : BitVec 32 := Scalar.remsi v44 v46
  let c0_i32_31 : BitVec 32 := 0#32
  let v49 : BitVec 1 := Scalar.cmpi .slt v47 c0_i32_31
  let c0_i32_32 : BitVec 32 := 0#32
  let v50 : BitVec 1 := Scalar.cmpi .slt v46 c0_i32_32
  let v51 : BitVec 1 := Scalar.xori v49 v50
  let c0_i32_30 : BitVec 32 := 0#32
  let v48 : BitVec 1 := Scalar.cmpi .ne v47 c0_i32_30
  let v52 : BitVec 1 := Scalar.andi v51 v48
  let v53 : BitVec 32 := Scalar.addi v47 v46
  let v54 : BitVec 32 := Scalar.select v52 v53 v47
  let c1_i32_34 : BitVec 32 := 1#32
  let v55 : BitVec 32 := Scalar.muli v54 c1_i32_34
  let v56 : BitVec 32 := Scalar.addi c0_i32_35 v55
  v56.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v57 : BitVec 32 := Scalar.addi v2 c5_i32
  let c32_i32_36 : BitVec 32 := 32#32
  let c0_i32_37 : BitVec 32 := 0#32
  let v58 : BitVec 1 := Scalar.cmpi .eq c32_i32_36 c0_i32_37
  let c1_i32_38 : BitVec 32 := 1#32
  let v59 : BitVec 32 := Scalar.select v58 c1_i32_38 c32_i32_36
  let v60 : BitVec 32 := Scalar.remsi v57 v59
  let c0_i32_40 : BitVec 32 := 0#32
  let v62 : BitVec 1 := Scalar.cmpi .slt v60 c0_i32_40
  let c0_i32_41 : BitVec 32 := 0#32
  let v63 : BitVec 1 := Scalar.cmpi .slt v59 c0_i32_41
  let v64 : BitVec 1 := Scalar.xori v62 v63
  let c0_i32_39 : BitVec 32 := 0#32
  let v61 : BitVec 1 := Scalar.cmpi .ne v60 c0_i32_39
  let v65 : BitVec 1 := Scalar.andi v64 v61
  let v66 : BitVec 32 := Scalar.addi v60 v59
  let v67 : BitVec 32 := Scalar.select v65 v66 v60
  let c1_i32_43 : BitVec 32 := 1#32
  let v68 : BitVec 32 := Scalar.muli v67 c1_i32_43
  let v69 : BitVec 32 := Scalar.addi c0_i32_44 v68
  v69.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v70 : BitVec 32 := Scalar.addi v2 c6_i32
  let c32_i32_45 : BitVec 32 := 32#32
  let c0_i32_46 : BitVec 32 := 0#32
  let v71 : BitVec 1 := Scalar.cmpi .eq c32_i32_45 c0_i32_46
  let c1_i32_47 : BitVec 32 := 1#32
  let v72 : BitVec 32 := Scalar.select v71 c1_i32_47 c32_i32_45
  let v73 : BitVec 32 := Scalar.remsi v70 v72
  let c0_i32_49 : BitVec 32 := 0#32
  let v75 : BitVec 1 := Scalar.cmpi .slt v73 c0_i32_49
  let c0_i32_50 : BitVec 32 := 0#32
  let v76 : BitVec 1 := Scalar.cmpi .slt v72 c0_i32_50
  let v77 : BitVec 1 := Scalar.xori v75 v76
  let c0_i32_48 : BitVec 32 := 0#32
  let v74 : BitVec 1 := Scalar.cmpi .ne v73 c0_i32_48
  let v78 : BitVec 1 := Scalar.andi v77 v74
  let v79 : BitVec 32 := Scalar.addi v73 v72
  let v80 : BitVec 32 := Scalar.select v78 v79 v73
  let c1_i32_52 : BitVec 32 := 1#32
  let v81 : BitVec 32 := Scalar.muli v80 c1_i32_52
  let v82 : BitVec 32 := Scalar.addi c0_i32_53 v81
  v82.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v83 : BitVec 32 := Scalar.addi v2 c7_i32
  let c32_i32_54 : BitVec 32 := 32#32
  let c0_i32_55 : BitVec 32 := 0#32
  let v84 : BitVec 1 := Scalar.cmpi .eq c32_i32_54 c0_i32_55
  let c1_i32_56 : BitVec 32 := 1#32
  let v85 : BitVec 32 := Scalar.select v84 c1_i32_56 c32_i32_54
  let v86 : BitVec 32 := Scalar.remsi v83 v85
  let c0_i32_58 : BitVec 32 := 0#32
  let v88 : BitVec 1 := Scalar.cmpi .slt v86 c0_i32_58
  let c0_i32_59 : BitVec 32 := 0#32
  let v89 : BitVec 1 := Scalar.cmpi .slt v85 c0_i32_59
  let v90 : BitVec 1 := Scalar.xori v88 v89
  let c0_i32_57 : BitVec 32 := 0#32
  let v87 : BitVec 1 := Scalar.cmpi .ne v86 c0_i32_57
  let v91 : BitVec 1 := Scalar.andi v90 v87
  let v92 : BitVec 32 := Scalar.addi v86 v85
  let v93 : BitVec 32 := Scalar.select v91 v92 v86
  let c1_i32_61 : BitVec 32 := 1#32
  let v94 : BitVec 32 := Scalar.muli v93 c1_i32_61
  let v95 : BitVec 32 := Scalar.addi c0_i32_62 v94
  v95.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v96 : BitVec 32 := Scalar.addi v2 c8_i32
  let c32_i32_63 : BitVec 32 := 32#32
  let c0_i32_64 : BitVec 32 := 0#32
  let v97 : BitVec 1 := Scalar.cmpi .eq c32_i32_63 c0_i32_64
  let c1_i32_65 : BitVec 32 := 1#32
  let v98 : BitVec 32 := Scalar.select v97 c1_i32_65 c32_i32_63
  let v99 : BitVec 32 := Scalar.remsi v96 v98
  let c0_i32_67 : BitVec 32 := 0#32
  let v101 : BitVec 1 := Scalar.cmpi .slt v99 c0_i32_67
  let c0_i32_68 : BitVec 32 := 0#32
  let v102 : BitVec 1 := Scalar.cmpi .slt v98 c0_i32_68
  let v103 : BitVec 1 := Scalar.xori v101 v102
  let c0_i32_66 : BitVec 32 := 0#32
  let v100 : BitVec 1 := Scalar.cmpi .ne v99 c0_i32_66
  let v104 : BitVec 1 := Scalar.andi v103 v100
  let v105 : BitVec 32 := Scalar.addi v99 v98
  let v106 : BitVec 32 := Scalar.select v104 v105 v99
  let c1_i32_70 : BitVec 32 := 1#32
  let v107 : BitVec 32 := Scalar.muli v106 c1_i32_70
  let v108 : BitVec 32 := Scalar.addi c0_i32_71 v107
  v108.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v109 : BitVec 32 := Scalar.addi v2 c9_i32
  let c32_i32_72 : BitVec 32 := 32#32
  let c0_i32_73 : BitVec 32 := 0#32
  let v110 : BitVec 1 := Scalar.cmpi .eq c32_i32_72 c0_i32_73
  let c1_i32_74 : BitVec 32 := 1#32
  let v111 : BitVec 32 := Scalar.select v110 c1_i32_74 c32_i32_72
  let v112 : BitVec 32 := Scalar.remsi v109 v111
  let c0_i32_76 : BitVec 32 := 0#32
  let v114 : BitVec 1 := Scalar.cmpi .slt v112 c0_i32_76
  let c0_i32_77 : BitVec 32 := 0#32
  let v115 : BitVec 1 := Scalar.cmpi .slt v111 c0_i32_77
  let v116 : BitVec 1 := Scalar.xori v114 v115
  let c0_i32_75 : BitVec 32 := 0#32
  let v113 : BitVec 1 := Scalar.cmpi .ne v112 c0_i32_75
  let v117 : BitVec 1 := Scalar.andi v116 v113
  let v118 : BitVec 32 := Scalar.addi v112 v111
  let v119 : BitVec 32 := Scalar.select v117 v118 v112
  let c1_i32_79 : BitVec 32 := 1#32
  let v120 : BitVec 32 := Scalar.muli v119 c1_i32_79
  let v121 : BitVec 32 := Scalar.addi c0_i32_80 v120
  v121.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v122 : BitVec 32 := Scalar.addi v2 c10_i32
  let c32_i32_81 : BitVec 32 := 32#32
  let c0_i32_82 : BitVec 32 := 0#32
  let v123 : BitVec 1 := Scalar.cmpi .eq c32_i32_81 c0_i32_82
  let c1_i32_83 : BitVec 32 := 1#32
  let v124 : BitVec 32 := Scalar.select v123 c1_i32_83 c32_i32_81
  let v125 : BitVec 32 := Scalar.remsi v122 v124
  let c0_i32_85 : BitVec 32 := 0#32
  let v127 : BitVec 1 := Scalar.cmpi .slt v125 c0_i32_85
  let c0_i32_86 : BitVec 32 := 0#32
  let v128 : BitVec 1 := Scalar.cmpi .slt v124 c0_i32_86
  let v129 : BitVec 1 := Scalar.xori v127 v128
  let c0_i32_84 : BitVec 32 := 0#32
  let v126 : BitVec 1 := Scalar.cmpi .ne v125 c0_i32_84
  let v130 : BitVec 1 := Scalar.andi v129 v126
  let v131 : BitVec 32 := Scalar.addi v125 v124
  let v132 : BitVec 32 := Scalar.select v130 v131 v125
  let c1_i32_88 : BitVec 32 := 1#32
  let v133 : BitVec 32 := Scalar.muli v132 c1_i32_88
  let v134 : BitVec 32 := Scalar.addi c0_i32_89 v133
  v134.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v135 : BitVec 32 := Scalar.addi v2 c11_i32
  let c32_i32_90 : BitVec 32 := 32#32
  let c0_i32_91 : BitVec 32 := 0#32
  let v136 : BitVec 1 := Scalar.cmpi .eq c32_i32_90 c0_i32_91
  let c1_i32_92 : BitVec 32 := 1#32
  let v137 : BitVec 32 := Scalar.select v136 c1_i32_92 c32_i32_90
  let v138 : BitVec 32 := Scalar.remsi v135 v137
  let c0_i32_94 : BitVec 32 := 0#32
  let v140 : BitVec 1 := Scalar.cmpi .slt v138 c0_i32_94
  let c0_i32_95 : BitVec 32 := 0#32
  let v141 : BitVec 1 := Scalar.cmpi .slt v137 c0_i32_95
  let v142 : BitVec 1 := Scalar.xori v140 v141
  let c0_i32_93 : BitVec 32 := 0#32
  let v139 : BitVec 1 := Scalar.cmpi .ne v138 c0_i32_93
  let v143 : BitVec 1 := Scalar.andi v142 v139
  let v144 : BitVec 32 := Scalar.addi v138 v137
  let v145 : BitVec 32 := Scalar.select v143 v144 v138
  let c1_i32_97 : BitVec 32 := 1#32
  let v146 : BitVec 32 := Scalar.muli v145 c1_i32_97
  let v147 : BitVec 32 := Scalar.addi c0_i32_98 v146
  v147.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v148 : BitVec 32 := Scalar.addi v2 c12_i32
  let c32_i32_99 : BitVec 32 := 32#32
  let c0_i32_100 : BitVec 32 := 0#32
  let v149 : BitVec 1 := Scalar.cmpi .eq c32_i32_99 c0_i32_100
  let c1_i32_101 : BitVec 32 := 1#32
  let v150 : BitVec 32 := Scalar.select v149 c1_i32_101 c32_i32_99
  let v151 : BitVec 32 := Scalar.remsi v148 v150
  let c0_i32_103 : BitVec 32 := 0#32
  let v153 : BitVec 1 := Scalar.cmpi .slt v151 c0_i32_103
  let c0_i32_104 : BitVec 32 := 0#32
  let v154 : BitVec 1 := Scalar.cmpi .slt v150 c0_i32_104
  let v155 : BitVec 1 := Scalar.xori v153 v154
  let c0_i32_102 : BitVec 32 := 0#32
  let v152 : BitVec 1 := Scalar.cmpi .ne v151 c0_i32_102
  let v156 : BitVec 1 := Scalar.andi v155 v152
  let v157 : BitVec 32 := Scalar.addi v151 v150
  let v158 : BitVec 32 := Scalar.select v156 v157 v151
  let c1_i32_106 : BitVec 32 := 1#32
  let v159 : BitVec 32 := Scalar.muli v158 c1_i32_106
  let v160 : BitVec 32 := Scalar.addi c0_i32_107 v159
  v160.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v161 : BitVec 32 := Scalar.addi v2 c13_i32
  let c32_i32_108 : BitVec 32 := 32#32
  let c0_i32_109 : BitVec 32 := 0#32
  let v162 : BitVec 1 := Scalar.cmpi .eq c32_i32_108 c0_i32_109
  let c1_i32_110 : BitVec 32 := 1#32
  let v163 : BitVec 32 := Scalar.select v162 c1_i32_110 c32_i32_108
  let v164 : BitVec 32 := Scalar.remsi v161 v163
  let c0_i32_112 : BitVec 32 := 0#32
  let v166 : BitVec 1 := Scalar.cmpi .slt v164 c0_i32_112
  let c0_i32_113 : BitVec 32 := 0#32
  let v167 : BitVec 1 := Scalar.cmpi .slt v163 c0_i32_113
  let v168 : BitVec 1 := Scalar.xori v166 v167
  let c0_i32_111 : BitVec 32 := 0#32
  let v165 : BitVec 1 := Scalar.cmpi .ne v164 c0_i32_111
  let v169 : BitVec 1 := Scalar.andi v168 v165
  let v170 : BitVec 32 := Scalar.addi v164 v163
  let v171 : BitVec 32 := Scalar.select v169 v170 v164
  let c1_i32_115 : BitVec 32 := 1#32
  let v172 : BitVec 32 := Scalar.muli v171 c1_i32_115
  let v173 : BitVec 32 := Scalar.addi c0_i32_116 v172
  v173.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v174 : BitVec 32 := Scalar.addi v2 c14_i32
  let c32_i32_117 : BitVec 32 := 32#32
  let c0_i32_118 : BitVec 32 := 0#32
  let v175 : BitVec 1 := Scalar.cmpi .eq c32_i32_117 c0_i32_118
  let c1_i32_119 : BitVec 32 := 1#32
  let v176 : BitVec 32 := Scalar.select v175 c1_i32_119 c32_i32_117
  let v177 : BitVec 32 := Scalar.remsi v174 v176
  let c0_i32_121 : BitVec 32 := 0#32
  let v179 : BitVec 1 := Scalar.cmpi .slt v177 c0_i32_121
  let c0_i32_122 : BitVec 32 := 0#32
  let v180 : BitVec 1 := Scalar.cmpi .slt v176 c0_i32_122
  let v181 : BitVec 1 := Scalar.xori v179 v180
  let c0_i32_120 : BitVec 32 := 0#32
  let v178 : BitVec 1 := Scalar.cmpi .ne v177 c0_i32_120
  let v182 : BitVec 1 := Scalar.andi v181 v178
  let v183 : BitVec 32 := Scalar.addi v177 v176
  let v184 : BitVec 32 := Scalar.select v182 v183 v177
  let c1_i32_124 : BitVec 32 := 1#32
  let v185 : BitVec 32 := Scalar.muli v184 c1_i32_124
  let v186 : BitVec 32 := Scalar.addi c0_i32_125 v185
  v186.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v187 : BitVec 32 := Scalar.addi v2 c15_i32
  let c32_i32_126 : BitVec 32 := 32#32
  let c0_i32_127 : BitVec 32 := 0#32
  let v188 : BitVec 1 := Scalar.cmpi .eq c32_i32_126 c0_i32_127
  let c1_i32_128 : BitVec 32 := 1#32
  let v189 : BitVec 32 := Scalar.select v188 c1_i32_128 c32_i32_126
  let v190 : BitVec 32 := Scalar.remsi v187 v189
  let c0_i32_130 : BitVec 32 := 0#32
  let v192 : BitVec 1 := Scalar.cmpi .slt v190 c0_i32_130
  let c0_i32_131 : BitVec 32 := 0#32
  let v193 : BitVec 1 := Scalar.cmpi .slt v189 c0_i32_131
  let v194 : BitVec 1 := Scalar.xori v192 v193
  let c0_i32_129 : BitVec 32 := 0#32
  let v191 : BitVec 1 := Scalar.cmpi .ne v190 c0_i32_129
  let v195 : BitVec 1 := Scalar.andi v194 v191
  let v196 : BitVec 32 := Scalar.addi v190 v189
  let v197 : BitVec 32 := Scalar.select v195 v196 v190
  let c1_i32_133 : BitVec 32 := 1#32
  let v198 : BitVec 32 := Scalar.muli v197 c1_i32_133
  let v199 : BitVec 32 := Scalar.addi c0_i32_134 v198
  v199.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v200 : BitVec 32 := Scalar.addi v2 c16_i32
  let c32_i32_135 : BitVec 32 := 32#32
  let c0_i32_136 : BitVec 32 := 0#32
  let v201 : BitVec 1 := Scalar.cmpi .eq c32_i32_135 c0_i32_136
  let c1_i32_137 : BitVec 32 := 1#32
  let v202 : BitVec 32 := Scalar.select v201 c1_i32_137 c32_i32_135
  let v203 : BitVec 32 := Scalar.remsi v200 v202
  let c0_i32_139 : BitVec 32 := 0#32
  let v205 : BitVec 1 := Scalar.cmpi .slt v203 c0_i32_139
  let c0_i32_140 : BitVec 32 := 0#32
  let v206 : BitVec 1 := Scalar.cmpi .slt v202 c0_i32_140
  let v207 : BitVec 1 := Scalar.xori v205 v206
  let c0_i32_138 : BitVec 32 := 0#32
  let v204 : BitVec 1 := Scalar.cmpi .ne v203 c0_i32_138
  let v208 : BitVec 1 := Scalar.andi v207 v204
  let v209 : BitVec 32 := Scalar.addi v203 v202
  let v210 : BitVec 32 := Scalar.select v208 v209 v203
  let c1_i32_142 : BitVec 32 := 1#32
  let v211 : BitVec 32 := Scalar.muli v210 c1_i32_142
  let v212 : BitVec 32 := Scalar.addi c0_i32_143 v211
  v212.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v213 : BitVec 32 := Scalar.addi v2 c17_i32
  let c32_i32_144 : BitVec 32 := 32#32
  let c0_i32_145 : BitVec 32 := 0#32
  let v214 : BitVec 1 := Scalar.cmpi .eq c32_i32_144 c0_i32_145
  let c1_i32_146 : BitVec 32 := 1#32
  let v215 : BitVec 32 := Scalar.select v214 c1_i32_146 c32_i32_144
  let v216 : BitVec 32 := Scalar.remsi v213 v215
  let c0_i32_148 : BitVec 32 := 0#32
  let v218 : BitVec 1 := Scalar.cmpi .slt v216 c0_i32_148
  let c0_i32_149 : BitVec 32 := 0#32
  let v219 : BitVec 1 := Scalar.cmpi .slt v215 c0_i32_149
  let v220 : BitVec 1 := Scalar.xori v218 v219
  let c0_i32_147 : BitVec 32 := 0#32
  let v217 : BitVec 1 := Scalar.cmpi .ne v216 c0_i32_147
  let v221 : BitVec 1 := Scalar.andi v220 v217
  let v222 : BitVec 32 := Scalar.addi v216 v215
  let v223 : BitVec 32 := Scalar.select v221 v222 v216
  let c1_i32_151 : BitVec 32 := 1#32
  let v224 : BitVec 32 := Scalar.muli v223 c1_i32_151
  let v225 : BitVec 32 := Scalar.addi c0_i32_152 v224
  v225.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v226 : BitVec 32 := Scalar.addi v2 c18_i32
  let c32_i32_153 : BitVec 32 := 32#32
  let c0_i32_154 : BitVec 32 := 0#32
  let v227 : BitVec 1 := Scalar.cmpi .eq c32_i32_153 c0_i32_154
  let c1_i32_155 : BitVec 32 := 1#32
  let v228 : BitVec 32 := Scalar.select v227 c1_i32_155 c32_i32_153
  let v229 : BitVec 32 := Scalar.remsi v226 v228
  let c0_i32_157 : BitVec 32 := 0#32
  let v231 : BitVec 1 := Scalar.cmpi .slt v229 c0_i32_157
  let c0_i32_158 : BitVec 32 := 0#32
  let v232 : BitVec 1 := Scalar.cmpi .slt v228 c0_i32_158
  let v233 : BitVec 1 := Scalar.xori v231 v232
  let c0_i32_156 : BitVec 32 := 0#32
  let v230 : BitVec 1 := Scalar.cmpi .ne v229 c0_i32_156
  let v234 : BitVec 1 := Scalar.andi v233 v230
  let v235 : BitVec 32 := Scalar.addi v229 v228
  let v236 : BitVec 32 := Scalar.select v234 v235 v229
  let c1_i32_160 : BitVec 32 := 1#32
  let v237 : BitVec 32 := Scalar.muli v236 c1_i32_160
  let v238 : BitVec 32 := Scalar.addi c0_i32_161 v237
  v238.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v239 : BitVec 32 := Scalar.addi v2 c19_i32
  let c32_i32_162 : BitVec 32 := 32#32
  let c0_i32_163 : BitVec 32 := 0#32
  let v240 : BitVec 1 := Scalar.cmpi .eq c32_i32_162 c0_i32_163
  let c1_i32_164 : BitVec 32 := 1#32
  let v241 : BitVec 32 := Scalar.select v240 c1_i32_164 c32_i32_162
  let v242 : BitVec 32 := Scalar.remsi v239 v241
  let c0_i32_166 : BitVec 32 := 0#32
  let v244 : BitVec 1 := Scalar.cmpi .slt v242 c0_i32_166
  let c0_i32_167 : BitVec 32 := 0#32
  let v245 : BitVec 1 := Scalar.cmpi .slt v241 c0_i32_167
  let v246 : BitVec 1 := Scalar.xori v244 v245
  let c0_i32_165 : BitVec 32 := 0#32
  let v243 : BitVec 1 := Scalar.cmpi .ne v242 c0_i32_165
  let v247 : BitVec 1 := Scalar.andi v246 v243
  let v248 : BitVec 32 := Scalar.addi v242 v241
  let v249 : BitVec 32 := Scalar.select v247 v248 v242
  let c1_i32_169 : BitVec 32 := 1#32
  let v250 : BitVec 32 := Scalar.muli v249 c1_i32_169
  let v251 : BitVec 32 := Scalar.addi c0_i32_170 v250
  v251.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v252 : BitVec 32 := Scalar.addi v2 c20_i32
  let c32_i32_171 : BitVec 32 := 32#32
  let c0_i32_172 : BitVec 32 := 0#32
  let v253 : BitVec 1 := Scalar.cmpi .eq c32_i32_171 c0_i32_172
  let c1_i32_173 : BitVec 32 := 1#32
  let v254 : BitVec 32 := Scalar.select v253 c1_i32_173 c32_i32_171
  let v255 : BitVec 32 := Scalar.remsi v252 v254
  let c0_i32_175 : BitVec 32 := 0#32
  let v257 : BitVec 1 := Scalar.cmpi .slt v255 c0_i32_175
  let c0_i32_176 : BitVec 32 := 0#32
  let v258 : BitVec 1 := Scalar.cmpi .slt v254 c0_i32_176
  let v259 : BitVec 1 := Scalar.xori v257 v258
  let c0_i32_174 : BitVec 32 := 0#32
  let v256 : BitVec 1 := Scalar.cmpi .ne v255 c0_i32_174
  let v260 : BitVec 1 := Scalar.andi v259 v256
  let v261 : BitVec 32 := Scalar.addi v255 v254
  let v262 : BitVec 32 := Scalar.select v260 v261 v255
  let c1_i32_178 : BitVec 32 := 1#32
  let v263 : BitVec 32 := Scalar.muli v262 c1_i32_178
  let v264 : BitVec 32 := Scalar.addi c0_i32_179 v263
  v264.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v265 : BitVec 32 := Scalar.addi v2 c21_i32
  let c32_i32_180 : BitVec 32 := 32#32
  let c0_i32_181 : BitVec 32 := 0#32
  let v266 : BitVec 1 := Scalar.cmpi .eq c32_i32_180 c0_i32_181
  let c1_i32_182 : BitVec 32 := 1#32
  let v267 : BitVec 32 := Scalar.select v266 c1_i32_182 c32_i32_180
  let v268 : BitVec 32 := Scalar.remsi v265 v267
  let c0_i32_184 : BitVec 32 := 0#32
  let v270 : BitVec 1 := Scalar.cmpi .slt v268 c0_i32_184
  let c0_i32_185 : BitVec 32 := 0#32
  let v271 : BitVec 1 := Scalar.cmpi .slt v267 c0_i32_185
  let v272 : BitVec 1 := Scalar.xori v270 v271
  let c0_i32_183 : BitVec 32 := 0#32
  let v269 : BitVec 1 := Scalar.cmpi .ne v268 c0_i32_183
  let v273 : BitVec 1 := Scalar.andi v272 v269
  let v274 : BitVec 32 := Scalar.addi v268 v267
  let v275 : BitVec 32 := Scalar.select v273 v274 v268
  let c1_i32_187 : BitVec 32 := 1#32
  let v276 : BitVec 32 := Scalar.muli v275 c1_i32_187
  let v277 : BitVec 32 := Scalar.addi c0_i32_188 v276
  v277.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v278 : BitVec 32 := Scalar.addi v2 c22_i32
  let c32_i32_189 : BitVec 32 := 32#32
  let c0_i32_190 : BitVec 32 := 0#32
  let v279 : BitVec 1 := Scalar.cmpi .eq c32_i32_189 c0_i32_190
  let c1_i32_191 : BitVec 32 := 1#32
  let v280 : BitVec 32 := Scalar.select v279 c1_i32_191 c32_i32_189
  let v281 : BitVec 32 := Scalar.remsi v278 v280
  let c0_i32_193 : BitVec 32 := 0#32
  let v283 : BitVec 1 := Scalar.cmpi .slt v281 c0_i32_193
  let c0_i32_194 : BitVec 32 := 0#32
  let v284 : BitVec 1 := Scalar.cmpi .slt v280 c0_i32_194
  let v285 : BitVec 1 := Scalar.xori v283 v284
  let c0_i32_192 : BitVec 32 := 0#32
  let v282 : BitVec 1 := Scalar.cmpi .ne v281 c0_i32_192
  let v286 : BitVec 1 := Scalar.andi v285 v282
  let v287 : BitVec 32 := Scalar.addi v281 v280
  let v288 : BitVec 32 := Scalar.select v286 v287 v281
  let c1_i32_196 : BitVec 32 := 1#32
  let v289 : BitVec 32 := Scalar.muli v288 c1_i32_196
  let v290 : BitVec 32 := Scalar.addi c0_i32_197 v289
  v290.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v291 : BitVec 32 := Scalar.addi v2 c23_i32
  let c32_i32_198 : BitVec 32 := 32#32
  let c0_i32_199 : BitVec 32 := 0#32
  let v292 : BitVec 1 := Scalar.cmpi .eq c32_i32_198 c0_i32_199
  let c1_i32_200 : BitVec 32 := 1#32
  let v293 : BitVec 32 := Scalar.select v292 c1_i32_200 c32_i32_198
  let v294 : BitVec 32 := Scalar.remsi v291 v293
  let c0_i32_202 : BitVec 32 := 0#32
  let v296 : BitVec 1 := Scalar.cmpi .slt v294 c0_i32_202
  let c0_i32_203 : BitVec 32 := 0#32
  let v297 : BitVec 1 := Scalar.cmpi .slt v293 c0_i32_203
  let v298 : BitVec 1 := Scalar.xori v296 v297
  let c0_i32_201 : BitVec 32 := 0#32
  let v295 : BitVec 1 := Scalar.cmpi .ne v294 c0_i32_201
  let v299 : BitVec 1 := Scalar.andi v298 v295
  let v300 : BitVec 32 := Scalar.addi v294 v293
  let v301 : BitVec 32 := Scalar.select v299 v300 v294
  let c1_i32_205 : BitVec 32 := 1#32
  let v302 : BitVec 32 := Scalar.muli v301 c1_i32_205
  let v303 : BitVec 32 := Scalar.addi c0_i32_206 v302
  v303.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v304 : BitVec 32 := Scalar.addi v2 c24_i32
  let c32_i32_207 : BitVec 32 := 32#32
  let c0_i32_208 : BitVec 32 := 0#32
  let v305 : BitVec 1 := Scalar.cmpi .eq c32_i32_207 c0_i32_208
  let c1_i32_209 : BitVec 32 := 1#32
  let v306 : BitVec 32 := Scalar.select v305 c1_i32_209 c32_i32_207
  let v307 : BitVec 32 := Scalar.remsi v304 v306
  let c0_i32_211 : BitVec 32 := 0#32
  let v309 : BitVec 1 := Scalar.cmpi .slt v307 c0_i32_211
  let c0_i32_212 : BitVec 32 := 0#32
  let v310 : BitVec 1 := Scalar.cmpi .slt v306 c0_i32_212
  let v311 : BitVec 1 := Scalar.xori v309 v310
  let c0_i32_210 : BitVec 32 := 0#32
  let v308 : BitVec 1 := Scalar.cmpi .ne v307 c0_i32_210
  let v312 : BitVec 1 := Scalar.andi v311 v308
  let v313 : BitVec 32 := Scalar.addi v307 v306
  let v314 : BitVec 32 := Scalar.select v312 v313 v307
  let c1_i32_214 : BitVec 32 := 1#32
  let v315 : BitVec 32 := Scalar.muli v314 c1_i32_214
  let v316 : BitVec 32 := Scalar.addi c0_i32_215 v315
  v316.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v317 : BitVec 32 := Scalar.addi v2 c25_i32
  let c32_i32_216 : BitVec 32 := 32#32
  let c0_i32_217 : BitVec 32 := 0#32
  let v318 : BitVec 1 := Scalar.cmpi .eq c32_i32_216 c0_i32_217
  let c1_i32_218 : BitVec 32 := 1#32
  let v319 : BitVec 32 := Scalar.select v318 c1_i32_218 c32_i32_216
  let v320 : BitVec 32 := Scalar.remsi v317 v319
  let c0_i32_220 : BitVec 32 := 0#32
  let v322 : BitVec 1 := Scalar.cmpi .slt v320 c0_i32_220
  let c0_i32_221 : BitVec 32 := 0#32
  let v323 : BitVec 1 := Scalar.cmpi .slt v319 c0_i32_221
  let v324 : BitVec 1 := Scalar.xori v322 v323
  let c0_i32_219 : BitVec 32 := 0#32
  let v321 : BitVec 1 := Scalar.cmpi .ne v320 c0_i32_219
  let v325 : BitVec 1 := Scalar.andi v324 v321
  let v326 : BitVec 32 := Scalar.addi v320 v319
  let v327 : BitVec 32 := Scalar.select v325 v326 v320
  let c1_i32_223 : BitVec 32 := 1#32
  let v328 : BitVec 32 := Scalar.muli v327 c1_i32_223
  let v329 : BitVec 32 := Scalar.addi c0_i32_224 v328
  v329.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v330 : BitVec 32 := Scalar.addi v2 c26_i32
  let c32_i32_225 : BitVec 32 := 32#32
  let c0_i32_226 : BitVec 32 := 0#32
  let v331 : BitVec 1 := Scalar.cmpi .eq c32_i32_225 c0_i32_226
  let c1_i32_227 : BitVec 32 := 1#32
  let v332 : BitVec 32 := Scalar.select v331 c1_i32_227 c32_i32_225
  let v333 : BitVec 32 := Scalar.remsi v330 v332
  let c0_i32_229 : BitVec 32 := 0#32
  let v335 : BitVec 1 := Scalar.cmpi .slt v333 c0_i32_229
  let c0_i32_230 : BitVec 32 := 0#32
  let v336 : BitVec 1 := Scalar.cmpi .slt v332 c0_i32_230
  let v337 : BitVec 1 := Scalar.xori v335 v336
  let c0_i32_228 : BitVec 32 := 0#32
  let v334 : BitVec 1 := Scalar.cmpi .ne v333 c0_i32_228
  let v338 : BitVec 1 := Scalar.andi v337 v334
  let v339 : BitVec 32 := Scalar.addi v333 v332
  let v340 : BitVec 32 := Scalar.select v338 v339 v333
  let c1_i32_232 : BitVec 32 := 1#32
  let v341 : BitVec 32 := Scalar.muli v340 c1_i32_232
  let v342 : BitVec 32 := Scalar.addi c0_i32_233 v341
  v342.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v343 : BitVec 32 := Scalar.addi v2 c27_i32
  let c32_i32_234 : BitVec 32 := 32#32
  let c0_i32_235 : BitVec 32 := 0#32
  let v344 : BitVec 1 := Scalar.cmpi .eq c32_i32_234 c0_i32_235
  let c1_i32_236 : BitVec 32 := 1#32
  let v345 : BitVec 32 := Scalar.select v344 c1_i32_236 c32_i32_234
  let v346 : BitVec 32 := Scalar.remsi v343 v345
  let c0_i32_238 : BitVec 32 := 0#32
  let v348 : BitVec 1 := Scalar.cmpi .slt v346 c0_i32_238
  let c0_i32_239 : BitVec 32 := 0#32
  let v349 : BitVec 1 := Scalar.cmpi .slt v345 c0_i32_239
  let v350 : BitVec 1 := Scalar.xori v348 v349
  let c0_i32_237 : BitVec 32 := 0#32
  let v347 : BitVec 1 := Scalar.cmpi .ne v346 c0_i32_237
  let v351 : BitVec 1 := Scalar.andi v350 v347
  let v352 : BitVec 32 := Scalar.addi v346 v345
  let v353 : BitVec 32 := Scalar.select v351 v352 v346
  let c1_i32_241 : BitVec 32 := 1#32
  let v354 : BitVec 32 := Scalar.muli v353 c1_i32_241
  let v355 : BitVec 32 := Scalar.addi c0_i32_242 v354
  v355.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v356 : BitVec 32 := Scalar.addi v2 c28_i32
  let c32_i32_243 : BitVec 32 := 32#32
  let c0_i32_244 : BitVec 32 := 0#32
  let v357 : BitVec 1 := Scalar.cmpi .eq c32_i32_243 c0_i32_244
  let c1_i32_245 : BitVec 32 := 1#32
  let v358 : BitVec 32 := Scalar.select v357 c1_i32_245 c32_i32_243
  let v359 : BitVec 32 := Scalar.remsi v356 v358
  let c0_i32_247 : BitVec 32 := 0#32
  let v361 : BitVec 1 := Scalar.cmpi .slt v359 c0_i32_247
  let c0_i32_248 : BitVec 32 := 0#32
  let v362 : BitVec 1 := Scalar.cmpi .slt v358 c0_i32_248
  let v363 : BitVec 1 := Scalar.xori v361 v362
  let c0_i32_246 : BitVec 32 := 0#32
  let v360 : BitVec 1 := Scalar.cmpi .ne v359 c0_i32_246
  let v364 : BitVec 1 := Scalar.andi v363 v360
  let v365 : BitVec 32 := Scalar.addi v359 v358
  let v366 : BitVec 32 := Scalar.select v364 v365 v359
  let c1_i32_250 : BitVec 32 := 1#32
  let v367 : BitVec 32 := Scalar.muli v366 c1_i32_250
  let v368 : BitVec 32 := Scalar.addi c0_i32_251 v367
  v368.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v369 : BitVec 32 := Scalar.addi v2 c29_i32
  let c32_i32_252 : BitVec 32 := 32#32
  let c0_i32_253 : BitVec 32 := 0#32
  let v370 : BitVec 1 := Scalar.cmpi .eq c32_i32_252 c0_i32_253
  let c1_i32_254 : BitVec 32 := 1#32
  let v371 : BitVec 32 := Scalar.select v370 c1_i32_254 c32_i32_252
  let v372 : BitVec 32 := Scalar.remsi v369 v371
  let c0_i32_256 : BitVec 32 := 0#32
  let v374 : BitVec 1 := Scalar.cmpi .slt v372 c0_i32_256
  let c0_i32_257 : BitVec 32 := 0#32
  let v375 : BitVec 1 := Scalar.cmpi .slt v371 c0_i32_257
  let v376 : BitVec 1 := Scalar.xori v374 v375
  let c0_i32_255 : BitVec 32 := 0#32
  let v373 : BitVec 1 := Scalar.cmpi .ne v372 c0_i32_255
  let v377 : BitVec 1 := Scalar.andi v376 v373
  let v378 : BitVec 32 := Scalar.addi v372 v371
  let v379 : BitVec 32 := Scalar.select v377 v378 v372
  let c1_i32_259 : BitVec 32 := 1#32
  let v380 : BitVec 32 := Scalar.muli v379 c1_i32_259
  let v381 : BitVec 32 := Scalar.addi c0_i32_260 v380
  v381.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v382 : BitVec 32 := Scalar.addi v2 c30_i32
  let c32_i32_261 : BitVec 32 := 32#32
  let c0_i32_262 : BitVec 32 := 0#32
  let v383 : BitVec 1 := Scalar.cmpi .eq c32_i32_261 c0_i32_262
  let c1_i32_263 : BitVec 32 := 1#32
  let v384 : BitVec 32 := Scalar.select v383 c1_i32_263 c32_i32_261
  let v385 : BitVec 32 := Scalar.remsi v382 v384
  let c0_i32_265 : BitVec 32 := 0#32
  let v387 : BitVec 1 := Scalar.cmpi .slt v385 c0_i32_265
  let c0_i32_266 : BitVec 32 := 0#32
  let v388 : BitVec 1 := Scalar.cmpi .slt v384 c0_i32_266
  let v389 : BitVec 1 := Scalar.xori v387 v388
  let c0_i32_264 : BitVec 32 := 0#32
  let v386 : BitVec 1 := Scalar.cmpi .ne v385 c0_i32_264
  let v390 : BitVec 1 := Scalar.andi v389 v386
  let v391 : BitVec 32 := Scalar.addi v385 v384
  let v392 : BitVec 32 := Scalar.select v390 v391 v385
  let c1_i32_268 : BitVec 32 := 1#32
  let v393 : BitVec 32 := Scalar.muli v392 c1_i32_268
  let v394 : BitVec 32 := Scalar.addi c0_i32_269 v393
  v394.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v395 : BitVec 32 := Scalar.addi v2 c31_i32
  let c32_i32_270 : BitVec 32 := 32#32
  let c0_i32_271 : BitVec 32 := 0#32
  let v396 : BitVec 1 := Scalar.cmpi .eq c32_i32_270 c0_i32_271
  let c1_i32_272 : BitVec 32 := 1#32
  let v397 : BitVec 32 := Scalar.select v396 c1_i32_272 c32_i32_270
  let v398 : BitVec 32 := Scalar.remsi v395 v397
  let c0_i32_274 : BitVec 32 := 0#32
  let v400 : BitVec 1 := Scalar.cmpi .slt v398 c0_i32_274
  let c0_i32_275 : BitVec 32 := 0#32
  let v401 : BitVec 1 := Scalar.cmpi .slt v397 c0_i32_275
  let v402 : BitVec 1 := Scalar.xori v400 v401
  let c0_i32_273 : BitVec 32 := 0#32
  let v399 : BitVec 1 := Scalar.cmpi .ne v398 c0_i32_273
  let v403 : BitVec 1 := Scalar.andi v402 v399
  let v404 : BitVec 32 := Scalar.addi v398 v397
  let v405 : BitVec 32 := Scalar.select v403 v404 v398
  let c1_i32_277 : BitVec 32 := 1#32
  let v406 : BitVec 32 := Scalar.muli v405 c1_i32_277
  let v407 : BitVec 32 := Scalar.addi c0_i32_278 v406
  v407.toNat
def k0_dev32 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_283 : BitVec 32 := 1#32
  let v413 : BitVec 32 := Scalar.addi v2 c1_i32_283
  let c32_i32_284 : BitVec 32 := 32#32
  let c0_i32_285 : BitVec 32 := 0#32
  let v414 : BitVec 1 := Scalar.cmpi .eq c32_i32_284 c0_i32_285
  let c1_i32_286 : BitVec 32 := 1#32
  let v415 : BitVec 32 := Scalar.select v414 c1_i32_286 c32_i32_284
  let v416 : BitVec 32 := Scalar.remsi v413 v415
  let c0_i32_288 : BitVec 32 := 0#32
  let v418 : BitVec 1 := Scalar.cmpi .slt v416 c0_i32_288
  let c0_i32_289 : BitVec 32 := 0#32
  let v419 : BitVec 1 := Scalar.cmpi .slt v415 c0_i32_289
  let v420 : BitVec 1 := Scalar.xori v418 v419
  let c0_i32_287 : BitVec 32 := 0#32
  let v417 : BitVec 1 := Scalar.cmpi .ne v416 c0_i32_287
  let v421 : BitVec 1 := Scalar.andi v420 v417
  let v422 : BitVec 32 := Scalar.addi v416 v415
  let v423 : BitVec 32 := Scalar.select v421 v422 v416
  let c1_i32_292 : BitVec 32 := 1#32
  let v424 : BitVec 32 := Scalar.muli v423 c1_i32_292
  let v425 : BitVec 32 := Scalar.addi c0_i32_293 v424
  v425.toNat
def k0_dev33 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_296 : BitVec 32 := 2#32
  let v431 : BitVec 32 := Scalar.addi v2 c2_i32_296
  let c32_i32_297 : BitVec 32 := 32#32
  let c0_i32_298 : BitVec 32 := 0#32
  let v432 : BitVec 1 := Scalar.cmpi .eq c32_i32_297 c0_i32_298
  let c1_i32_299 : BitVec 32 := 1#32
  let v433 : BitVec 32 := Scalar.select v432 c1_i32_299 c32_i32_297
  let v434 : BitVec 32 := Scalar.remsi v431 v433
  let c0_i32_301 : BitVec 32 := 0#32
  let v436 : BitVec 1 := Scalar.cmpi .slt v434 c0_i32_301
  let c0_i32_302 : BitVec 32 := 0#32
  let v437 : BitVec 1 := Scalar.cmpi .slt v433 c0_i32_302
  let v438 : BitVec 1 := Scalar.xori v436 v437
  let c0_i32_300 : BitVec 32 := 0#32
  let v435 : BitVec 1 := Scalar.cmpi .ne v434 c0_i32_300
  let v439 : BitVec 1 := Scalar.andi v438 v435
  let v440 : BitVec 32 := Scalar.addi v434 v433
  let v441 : BitVec 32 := Scalar.select v439 v440 v434
  let c1_i32_305 : BitVec 32 := 1#32
  let v442 : BitVec 32 := Scalar.muli v441 c1_i32_305
  let v443 : BitVec 32 := Scalar.addi c0_i32_306 v442
  v443.toNat
def k0_dev34 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_308 : BitVec 32 := 3#32
  let v449 : BitVec 32 := Scalar.addi v2 c3_i32_308
  let c32_i32_309 : BitVec 32 := 32#32
  let c0_i32_310 : BitVec 32 := 0#32
  let v450 : BitVec 1 := Scalar.cmpi .eq c32_i32_309 c0_i32_310
  let c1_i32_311 : BitVec 32 := 1#32
  let v451 : BitVec 32 := Scalar.select v450 c1_i32_311 c32_i32_309
  let v452 : BitVec 32 := Scalar.remsi v449 v451
  let c0_i32_313 : BitVec 32 := 0#32
  let v454 : BitVec 1 := Scalar.cmpi .slt v452 c0_i32_313
  let c0_i32_314 : BitVec 32 := 0#32
  let v455 : BitVec 1 := Scalar.cmpi .slt v451 c0_i32_314
  let v456 : BitVec 1 := Scalar.xori v454 v455
  let c0_i32_312 : BitVec 32 := 0#32
  let v453 : BitVec 1 := Scalar.cmpi .ne v452 c0_i32_312
  let v457 : BitVec 1 := Scalar.andi v456 v453
  let v458 : BitVec 32 := Scalar.addi v452 v451
  let v459 : BitVec 32 := Scalar.select v457 v458 v452
  let c1_i32_317 : BitVec 32 := 1#32
  let v460 : BitVec 32 := Scalar.muli v459 c1_i32_317
  let v461 : BitVec 32 := Scalar.addi c0_i32_318 v460
  v461.toNat
def k0_dev35 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_320 : BitVec 32 := 4#32
  let v467 : BitVec 32 := Scalar.addi v2 c4_i32_320
  let c32_i32_321 : BitVec 32 := 32#32
  let c0_i32_322 : BitVec 32 := 0#32
  let v468 : BitVec 1 := Scalar.cmpi .eq c32_i32_321 c0_i32_322
  let c1_i32_323 : BitVec 32 := 1#32
  let v469 : BitVec 32 := Scalar.select v468 c1_i32_323 c32_i32_321
  let v470 : BitVec 32 := Scalar.remsi v467 v469
  let c0_i32_325 : BitVec 32 := 0#32
  let v472 : BitVec 1 := Scalar.cmpi .slt v470 c0_i32_325
  let c0_i32_326 : BitVec 32 := 0#32
  let v473 : BitVec 1 := Scalar.cmpi .slt v469 c0_i32_326
  let v474 : BitVec 1 := Scalar.xori v472 v473
  let c0_i32_324 : BitVec 32 := 0#32
  let v471 : BitVec 1 := Scalar.cmpi .ne v470 c0_i32_324
  let v475 : BitVec 1 := Scalar.andi v474 v471
  let v476 : BitVec 32 := Scalar.addi v470 v469
  let v477 : BitVec 32 := Scalar.select v475 v476 v470
  let c1_i32_329 : BitVec 32 := 1#32
  let v478 : BitVec 32 := Scalar.muli v477 c1_i32_329
  let v479 : BitVec 32 := Scalar.addi c0_i32_330 v478
  v479.toNat
def k0_dev36 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_332 : BitVec 32 := 5#32
  let v485 : BitVec 32 := Scalar.addi v2 c5_i32_332
  let c32_i32_333 : BitVec 32 := 32#32
  let c0_i32_334 : BitVec 32 := 0#32
  let v486 : BitVec 1 := Scalar.cmpi .eq c32_i32_333 c0_i32_334
  let c1_i32_335 : BitVec 32 := 1#32
  let v487 : BitVec 32 := Scalar.select v486 c1_i32_335 c32_i32_333
  let v488 : BitVec 32 := Scalar.remsi v485 v487
  let c0_i32_337 : BitVec 32 := 0#32
  let v490 : BitVec 1 := Scalar.cmpi .slt v488 c0_i32_337
  let c0_i32_338 : BitVec 32 := 0#32
  let v491 : BitVec 1 := Scalar.cmpi .slt v487 c0_i32_338
  let v492 : BitVec 1 := Scalar.xori v490 v491
  let c0_i32_336 : BitVec 32 := 0#32
  let v489 : BitVec 1 := Scalar.cmpi .ne v488 c0_i32_336
  let v493 : BitVec 1 := Scalar.andi v492 v489
  let v494 : BitVec 32 := Scalar.addi v488 v487
  let v495 : BitVec 32 := Scalar.select v493 v494 v488
  let c1_i32_341 : BitVec 32 := 1#32
  let v496 : BitVec 32 := Scalar.muli v495 c1_i32_341
  let v497 : BitVec 32 := Scalar.addi c0_i32_342 v496
  v497.toNat
def k0_dev37 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_344 : BitVec 32 := 6#32
  let v503 : BitVec 32 := Scalar.addi v2 c6_i32_344
  let c32_i32_345 : BitVec 32 := 32#32
  let c0_i32_346 : BitVec 32 := 0#32
  let v504 : BitVec 1 := Scalar.cmpi .eq c32_i32_345 c0_i32_346
  let c1_i32_347 : BitVec 32 := 1#32
  let v505 : BitVec 32 := Scalar.select v504 c1_i32_347 c32_i32_345
  let v506 : BitVec 32 := Scalar.remsi v503 v505
  let c0_i32_349 : BitVec 32 := 0#32
  let v508 : BitVec 1 := Scalar.cmpi .slt v506 c0_i32_349
  let c0_i32_350 : BitVec 32 := 0#32
  let v509 : BitVec 1 := Scalar.cmpi .slt v505 c0_i32_350
  let v510 : BitVec 1 := Scalar.xori v508 v509
  let c0_i32_348 : BitVec 32 := 0#32
  let v507 : BitVec 1 := Scalar.cmpi .ne v506 c0_i32_348
  let v511 : BitVec 1 := Scalar.andi v510 v507
  let v512 : BitVec 32 := Scalar.addi v506 v505
  let v513 : BitVec 32 := Scalar.select v511 v512 v506
  let c1_i32_353 : BitVec 32 := 1#32
  let v514 : BitVec 32 := Scalar.muli v513 c1_i32_353
  let v515 : BitVec 32 := Scalar.addi c0_i32_354 v514
  v515.toNat
def k0_dev38 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_356 : BitVec 32 := 7#32
  let v521 : BitVec 32 := Scalar.addi v2 c7_i32_356
  let c32_i32_357 : BitVec 32 := 32#32
  let c0_i32_358 : BitVec 32 := 0#32
  let v522 : BitVec 1 := Scalar.cmpi .eq c32_i32_357 c0_i32_358
  let c1_i32_359 : BitVec 32 := 1#32
  let v523 : BitVec 32 := Scalar.select v522 c1_i32_359 c32_i32_357
  let v524 : BitVec 32 := Scalar.remsi v521 v523
  let c0_i32_361 : BitVec 32 := 0#32
  let v526 : BitVec 1 := Scalar.cmpi .slt v524 c0_i32_361
  let c0_i32_362 : BitVec 32 := 0#32
  let v527 : BitVec 1 := Scalar.cmpi .slt v523 c0_i32_362
  let v528 : BitVec 1 := Scalar.xori v526 v527
  let c0_i32_360 : BitVec 32 := 0#32
  let v525 : BitVec 1 := Scalar.cmpi .ne v524 c0_i32_360
  let v529 : BitVec 1 := Scalar.andi v528 v525
  let v530 : BitVec 32 := Scalar.addi v524 v523
  let v531 : BitVec 32 := Scalar.select v529 v530 v524
  let c1_i32_365 : BitVec 32 := 1#32
  let v532 : BitVec 32 := Scalar.muli v531 c1_i32_365
  let v533 : BitVec 32 := Scalar.addi c0_i32_366 v532
  v533.toNat
def k0_dev39 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_368 : BitVec 32 := 8#32
  let v539 : BitVec 32 := Scalar.addi v2 c8_i32_368
  let c32_i32_369 : BitVec 32 := 32#32
  let c0_i32_370 : BitVec 32 := 0#32
  let v540 : BitVec 1 := Scalar.cmpi .eq c32_i32_369 c0_i32_370
  let c1_i32_371 : BitVec 32 := 1#32
  let v541 : BitVec 32 := Scalar.select v540 c1_i32_371 c32_i32_369
  let v542 : BitVec 32 := Scalar.remsi v539 v541
  let c0_i32_373 : BitVec 32 := 0#32
  let v544 : BitVec 1 := Scalar.cmpi .slt v542 c0_i32_373
  let c0_i32_374 : BitVec 32 := 0#32
  let v545 : BitVec 1 := Scalar.cmpi .slt v541 c0_i32_374
  let v546 : BitVec 1 := Scalar.xori v544 v545
  let c0_i32_372 : BitVec 32 := 0#32
  let v543 : BitVec 1 := Scalar.cmpi .ne v542 c0_i32_372
  let v547 : BitVec 1 := Scalar.andi v546 v543
  let v548 : BitVec 32 := Scalar.addi v542 v541
  let v549 : BitVec 32 := Scalar.select v547 v548 v542
  let c1_i32_377 : BitVec 32 := 1#32
  let v550 : BitVec 32 := Scalar.muli v549 c1_i32_377
  let v551 : BitVec 32 := Scalar.addi c0_i32_378 v550
  v551.toNat
def k0_dev40 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_380 : BitVec 32 := 9#32
  let v557 : BitVec 32 := Scalar.addi v2 c9_i32_380
  let c32_i32_381 : BitVec 32 := 32#32
  let c0_i32_382 : BitVec 32 := 0#32
  let v558 : BitVec 1 := Scalar.cmpi .eq c32_i32_381 c0_i32_382
  let c1_i32_383 : BitVec 32 := 1#32
  let v559 : BitVec 32 := Scalar.select v558 c1_i32_383 c32_i32_381
  let v560 : BitVec 32 := Scalar.remsi v557 v559
  let c0_i32_385 : BitVec 32 := 0#32
  let v562 : BitVec 1 := Scalar.cmpi .slt v560 c0_i32_385
  let c0_i32_386 : BitVec 32 := 0#32
  let v563 : BitVec 1 := Scalar.cmpi .slt v559 c0_i32_386
  let v564 : BitVec 1 := Scalar.xori v562 v563
  let c0_i32_384 : BitVec 32 := 0#32
  let v561 : BitVec 1 := Scalar.cmpi .ne v560 c0_i32_384
  let v565 : BitVec 1 := Scalar.andi v564 v561
  let v566 : BitVec 32 := Scalar.addi v560 v559
  let v567 : BitVec 32 := Scalar.select v565 v566 v560
  let c1_i32_389 : BitVec 32 := 1#32
  let v568 : BitVec 32 := Scalar.muli v567 c1_i32_389
  let v569 : BitVec 32 := Scalar.addi c0_i32_390 v568
  v569.toNat
def k0_dev41 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_392 : BitVec 32 := 10#32
  let v575 : BitVec 32 := Scalar.addi v2 c10_i32_392
  let c32_i32_393 : BitVec 32 := 32#32
  let c0_i32_394 : BitVec 32 := 0#32
  let v576 : BitVec 1 := Scalar.cmpi .eq c32_i32_393 c0_i32_394
  let c1_i32_395 : BitVec 32 := 1#32
  let v577 : BitVec 32 := Scalar.select v576 c1_i32_395 c32_i32_393
  let v578 : BitVec 32 := Scalar.remsi v575 v577
  let c0_i32_397 : BitVec 32 := 0#32
  let v580 : BitVec 1 := Scalar.cmpi .slt v578 c0_i32_397
  let c0_i32_398 : BitVec 32 := 0#32
  let v581 : BitVec 1 := Scalar.cmpi .slt v577 c0_i32_398
  let v582 : BitVec 1 := Scalar.xori v580 v581
  let c0_i32_396 : BitVec 32 := 0#32
  let v579 : BitVec 1 := Scalar.cmpi .ne v578 c0_i32_396
  let v583 : BitVec 1 := Scalar.andi v582 v579
  let v584 : BitVec 32 := Scalar.addi v578 v577
  let v585 : BitVec 32 := Scalar.select v583 v584 v578
  let c1_i32_401 : BitVec 32 := 1#32
  let v586 : BitVec 32 := Scalar.muli v585 c1_i32_401
  let v587 : BitVec 32 := Scalar.addi c0_i32_402 v586
  v587.toNat
def k0_dev42 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_404 : BitVec 32 := 11#32
  let v593 : BitVec 32 := Scalar.addi v2 c11_i32_404
  let c32_i32_405 : BitVec 32 := 32#32
  let c0_i32_406 : BitVec 32 := 0#32
  let v594 : BitVec 1 := Scalar.cmpi .eq c32_i32_405 c0_i32_406
  let c1_i32_407 : BitVec 32 := 1#32
  let v595 : BitVec 32 := Scalar.select v594 c1_i32_407 c32_i32_405
  let v596 : BitVec 32 := Scalar.remsi v593 v595
  let c0_i32_409 : BitVec 32 := 0#32
  let v598 : BitVec 1 := Scalar.cmpi .slt v596 c0_i32_409
  let c0_i32_410 : BitVec 32 := 0#32
  let v599 : BitVec 1 := Scalar.cmpi .slt v595 c0_i32_410
  let v600 : BitVec 1 := Scalar.xori v598 v599
  let c0_i32_408 : BitVec 32 := 0#32
  let v597 : BitVec 1 := Scalar.cmpi .ne v596 c0_i32_408
  let v601 : BitVec 1 := Scalar.andi v600 v597
  let v602 : BitVec 32 := Scalar.addi v596 v595
  let v603 : BitVec 32 := Scalar.select v601 v602 v596
  let c1_i32_413 : BitVec 32 := 1#32
  let v604 : BitVec 32 := Scalar.muli v603 c1_i32_413
  let v605 : BitVec 32 := Scalar.addi c0_i32_414 v604
  v605.toNat
def k0_dev43 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_416 : BitVec 32 := 12#32
  let v611 : BitVec 32 := Scalar.addi v2 c12_i32_416
  let c32_i32_417 : BitVec 32 := 32#32
  let c0_i32_418 : BitVec 32 := 0#32
  let v612 : BitVec 1 := Scalar.cmpi .eq c32_i32_417 c0_i32_418
  let c1_i32_419 : BitVec 32 := 1#32
  let v613 : BitVec 32 := Scalar.select v612 c1_i32_419 c32_i32_417
  let v614 : BitVec 32 := Scalar.remsi v611 v613
  let c0_i32_421 : BitVec 32 := 0#32
  let v616 : BitVec 1 := Scalar.cmpi .slt v614 c0_i32_421
  let c0_i32_422 : BitVec 32 := 0#32
  let v617 : BitVec 1 := Scalar.cmpi .slt v613 c0_i32_422
  let v618 : BitVec 1 := Scalar.xori v616 v617
  let c0_i32_420 : BitVec 32 := 0#32
  let v615 : BitVec 1 := Scalar.cmpi .ne v614 c0_i32_420
  let v619 : BitVec 1 := Scalar.andi v618 v615
  let v620 : BitVec 32 := Scalar.addi v614 v613
  let v621 : BitVec 32 := Scalar.select v619 v620 v614
  let c1_i32_425 : BitVec 32 := 1#32
  let v622 : BitVec 32 := Scalar.muli v621 c1_i32_425
  let v623 : BitVec 32 := Scalar.addi c0_i32_426 v622
  v623.toNat
def k0_dev44 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_428 : BitVec 32 := 13#32
  let v629 : BitVec 32 := Scalar.addi v2 c13_i32_428
  let c32_i32_429 : BitVec 32 := 32#32
  let c0_i32_430 : BitVec 32 := 0#32
  let v630 : BitVec 1 := Scalar.cmpi .eq c32_i32_429 c0_i32_430
  let c1_i32_431 : BitVec 32 := 1#32
  let v631 : BitVec 32 := Scalar.select v630 c1_i32_431 c32_i32_429
  let v632 : BitVec 32 := Scalar.remsi v629 v631
  let c0_i32_433 : BitVec 32 := 0#32
  let v634 : BitVec 1 := Scalar.cmpi .slt v632 c0_i32_433
  let c0_i32_434 : BitVec 32 := 0#32
  let v635 : BitVec 1 := Scalar.cmpi .slt v631 c0_i32_434
  let v636 : BitVec 1 := Scalar.xori v634 v635
  let c0_i32_432 : BitVec 32 := 0#32
  let v633 : BitVec 1 := Scalar.cmpi .ne v632 c0_i32_432
  let v637 : BitVec 1 := Scalar.andi v636 v633
  let v638 : BitVec 32 := Scalar.addi v632 v631
  let v639 : BitVec 32 := Scalar.select v637 v638 v632
  let c1_i32_437 : BitVec 32 := 1#32
  let v640 : BitVec 32 := Scalar.muli v639 c1_i32_437
  let v641 : BitVec 32 := Scalar.addi c0_i32_438 v640
  v641.toNat
def k0_dev45 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_440 : BitVec 32 := 14#32
  let v647 : BitVec 32 := Scalar.addi v2 c14_i32_440
  let c32_i32_441 : BitVec 32 := 32#32
  let c0_i32_442 : BitVec 32 := 0#32
  let v648 : BitVec 1 := Scalar.cmpi .eq c32_i32_441 c0_i32_442
  let c1_i32_443 : BitVec 32 := 1#32
  let v649 : BitVec 32 := Scalar.select v648 c1_i32_443 c32_i32_441
  let v650 : BitVec 32 := Scalar.remsi v647 v649
  let c0_i32_445 : BitVec 32 := 0#32
  let v652 : BitVec 1 := Scalar.cmpi .slt v650 c0_i32_445
  let c0_i32_446 : BitVec 32 := 0#32
  let v653 : BitVec 1 := Scalar.cmpi .slt v649 c0_i32_446
  let v654 : BitVec 1 := Scalar.xori v652 v653
  let c0_i32_444 : BitVec 32 := 0#32
  let v651 : BitVec 1 := Scalar.cmpi .ne v650 c0_i32_444
  let v655 : BitVec 1 := Scalar.andi v654 v651
  let v656 : BitVec 32 := Scalar.addi v650 v649
  let v657 : BitVec 32 := Scalar.select v655 v656 v650
  let c1_i32_449 : BitVec 32 := 1#32
  let v658 : BitVec 32 := Scalar.muli v657 c1_i32_449
  let v659 : BitVec 32 := Scalar.addi c0_i32_450 v658
  v659.toNat
def k0_dev46 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_452 : BitVec 32 := 15#32
  let v665 : BitVec 32 := Scalar.addi v2 c15_i32_452
  let c32_i32_453 : BitVec 32 := 32#32
  let c0_i32_454 : BitVec 32 := 0#32
  let v666 : BitVec 1 := Scalar.cmpi .eq c32_i32_453 c0_i32_454
  let c1_i32_455 : BitVec 32 := 1#32
  let v667 : BitVec 32 := Scalar.select v666 c1_i32_455 c32_i32_453
  let v668 : BitVec 32 := Scalar.remsi v665 v667
  let c0_i32_457 : BitVec 32 := 0#32
  let v670 : BitVec 1 := Scalar.cmpi .slt v668 c0_i32_457
  let c0_i32_458 : BitVec 32 := 0#32
  let v671 : BitVec 1 := Scalar.cmpi .slt v667 c0_i32_458
  let v672 : BitVec 1 := Scalar.xori v670 v671
  let c0_i32_456 : BitVec 32 := 0#32
  let v669 : BitVec 1 := Scalar.cmpi .ne v668 c0_i32_456
  let v673 : BitVec 1 := Scalar.andi v672 v669
  let v674 : BitVec 32 := Scalar.addi v668 v667
  let v675 : BitVec 32 := Scalar.select v673 v674 v668
  let c1_i32_461 : BitVec 32 := 1#32
  let v676 : BitVec 32 := Scalar.muli v675 c1_i32_461
  let v677 : BitVec 32 := Scalar.addi c0_i32_462 v676
  v677.toNat
def k0_dev47 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_464 : BitVec 32 := 16#32
  let v683 : BitVec 32 := Scalar.addi v2 c16_i32_464
  let c32_i32_465 : BitVec 32 := 32#32
  let c0_i32_466 : BitVec 32 := 0#32
  let v684 : BitVec 1 := Scalar.cmpi .eq c32_i32_465 c0_i32_466
  let c1_i32_467 : BitVec 32 := 1#32
  let v685 : BitVec 32 := Scalar.select v684 c1_i32_467 c32_i32_465
  let v686 : BitVec 32 := Scalar.remsi v683 v685
  let c0_i32_469 : BitVec 32 := 0#32
  let v688 : BitVec 1 := Scalar.cmpi .slt v686 c0_i32_469
  let c0_i32_470 : BitVec 32 := 0#32
  let v689 : BitVec 1 := Scalar.cmpi .slt v685 c0_i32_470
  let v690 : BitVec 1 := Scalar.xori v688 v689
  let c0_i32_468 : BitVec 32 := 0#32
  let v687 : BitVec 1 := Scalar.cmpi .ne v686 c0_i32_468
  let v691 : BitVec 1 := Scalar.andi v690 v687
  let v692 : BitVec 32 := Scalar.addi v686 v685
  let v693 : BitVec 32 := Scalar.select v691 v692 v686
  let c1_i32_473 : BitVec 32 := 1#32
  let v694 : BitVec 32 := Scalar.muli v693 c1_i32_473
  let v695 : BitVec 32 := Scalar.addi c0_i32_474 v694
  v695.toNat
def k0_dev48 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_476 : BitVec 32 := 17#32
  let v701 : BitVec 32 := Scalar.addi v2 c17_i32_476
  let c32_i32_477 : BitVec 32 := 32#32
  let c0_i32_478 : BitVec 32 := 0#32
  let v702 : BitVec 1 := Scalar.cmpi .eq c32_i32_477 c0_i32_478
  let c1_i32_479 : BitVec 32 := 1#32
  let v703 : BitVec 32 := Scalar.select v702 c1_i32_479 c32_i32_477
  let v704 : BitVec 32 := Scalar.remsi v701 v703
  let c0_i32_481 : BitVec 32 := 0#32
  let v706 : BitVec 1 := Scalar.cmpi .slt v704 c0_i32_481
  let c0_i32_482 : BitVec 32 := 0#32
  let v707 : BitVec 1 := Scalar.cmpi .slt v703 c0_i32_482
  let v708 : BitVec 1 := Scalar.xori v706 v707
  let c0_i32_480 : BitVec 32 := 0#32
  let v705 : BitVec 1 := Scalar.cmpi .ne v704 c0_i32_480
  let v709 : BitVec 1 := Scalar.andi v708 v705
  let v710 : BitVec 32 := Scalar.addi v704 v703
  let v711 : BitVec 32 := Scalar.select v709 v710 v704
  let c1_i32_485 : BitVec 32 := 1#32
  let v712 : BitVec 32 := Scalar.muli v711 c1_i32_485
  let v713 : BitVec 32 := Scalar.addi c0_i32_486 v712
  v713.toNat
def k0_dev49 (d0 : Dev nD) : Nat :=
  let c0_i32_498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_488 : BitVec 32 := 18#32
  let v719 : BitVec 32 := Scalar.addi v2 c18_i32_488
  let c32_i32_489 : BitVec 32 := 32#32
  let c0_i32_490 : BitVec 32 := 0#32
  let v720 : BitVec 1 := Scalar.cmpi .eq c32_i32_489 c0_i32_490
  let c1_i32_491 : BitVec 32 := 1#32
  let v721 : BitVec 32 := Scalar.select v720 c1_i32_491 c32_i32_489
  let v722 : BitVec 32 := Scalar.remsi v719 v721
  let c0_i32_493 : BitVec 32 := 0#32
  let v724 : BitVec 1 := Scalar.cmpi .slt v722 c0_i32_493
  let c0_i32_494 : BitVec 32 := 0#32
  let v725 : BitVec 1 := Scalar.cmpi .slt v721 c0_i32_494
  let v726 : BitVec 1 := Scalar.xori v724 v725
  let c0_i32_492 : BitVec 32 := 0#32
  let v723 : BitVec 1 := Scalar.cmpi .ne v722 c0_i32_492
  let v727 : BitVec 1 := Scalar.andi v726 v723
  let v728 : BitVec 32 := Scalar.addi v722 v721
  let v729 : BitVec 32 := Scalar.select v727 v728 v722
  let c1_i32_497 : BitVec 32 := 1#32
  let v730 : BitVec 32 := Scalar.muli v729 c1_i32_497
  let v731 : BitVec 32 := Scalar.addi c0_i32_498 v730
  v731.toNat
def k0_dev50 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_500 : BitVec 32 := 19#32
  let v737 : BitVec 32 := Scalar.addi v2 c19_i32_500
  let c32_i32_501 : BitVec 32 := 32#32
  let c0_i32_502 : BitVec 32 := 0#32
  let v738 : BitVec 1 := Scalar.cmpi .eq c32_i32_501 c0_i32_502
  let c1_i32_503 : BitVec 32 := 1#32
  let v739 : BitVec 32 := Scalar.select v738 c1_i32_503 c32_i32_501
  let v740 : BitVec 32 := Scalar.remsi v737 v739
  let c0_i32_505 : BitVec 32 := 0#32
  let v742 : BitVec 1 := Scalar.cmpi .slt v740 c0_i32_505
  let c0_i32_506 : BitVec 32 := 0#32
  let v743 : BitVec 1 := Scalar.cmpi .slt v739 c0_i32_506
  let v744 : BitVec 1 := Scalar.xori v742 v743
  let c0_i32_504 : BitVec 32 := 0#32
  let v741 : BitVec 1 := Scalar.cmpi .ne v740 c0_i32_504
  let v745 : BitVec 1 := Scalar.andi v744 v741
  let v746 : BitVec 32 := Scalar.addi v740 v739
  let v747 : BitVec 32 := Scalar.select v745 v746 v740
  let c1_i32_509 : BitVec 32 := 1#32
  let v748 : BitVec 32 := Scalar.muli v747 c1_i32_509
  let v749 : BitVec 32 := Scalar.addi c0_i32_510 v748
  v749.toNat
def k0_dev51 (d0 : Dev nD) : Nat :=
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_512 : BitVec 32 := 20#32
  let v755 : BitVec 32 := Scalar.addi v2 c20_i32_512
  let c32_i32_513 : BitVec 32 := 32#32
  let c0_i32_514 : BitVec 32 := 0#32
  let v756 : BitVec 1 := Scalar.cmpi .eq c32_i32_513 c0_i32_514
  let c1_i32_515 : BitVec 32 := 1#32
  let v757 : BitVec 32 := Scalar.select v756 c1_i32_515 c32_i32_513
  let v758 : BitVec 32 := Scalar.remsi v755 v757
  let c0_i32_517 : BitVec 32 := 0#32
  let v760 : BitVec 1 := Scalar.cmpi .slt v758 c0_i32_517
  let c0_i32_518 : BitVec 32 := 0#32
  let v761 : BitVec 1 := Scalar.cmpi .slt v757 c0_i32_518
  let v762 : BitVec 1 := Scalar.xori v760 v761
  let c0_i32_516 : BitVec 32 := 0#32
  let v759 : BitVec 1 := Scalar.cmpi .ne v758 c0_i32_516
  let v763 : BitVec 1 := Scalar.andi v762 v759
  let v764 : BitVec 32 := Scalar.addi v758 v757
  let v765 : BitVec 32 := Scalar.select v763 v764 v758
  let c1_i32_521 : BitVec 32 := 1#32
  let v766 : BitVec 32 := Scalar.muli v765 c1_i32_521
  let v767 : BitVec 32 := Scalar.addi c0_i32_522 v766
  v767.toNat
def k0_dev52 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_524 : BitVec 32 := 21#32
  let v773 : BitVec 32 := Scalar.addi v2 c21_i32_524
  let c32_i32_525 : BitVec 32 := 32#32
  let c0_i32_526 : BitVec 32 := 0#32
  let v774 : BitVec 1 := Scalar.cmpi .eq c32_i32_525 c0_i32_526
  let c1_i32_527 : BitVec 32 := 1#32
  let v775 : BitVec 32 := Scalar.select v774 c1_i32_527 c32_i32_525
  let v776 : BitVec 32 := Scalar.remsi v773 v775
  let c0_i32_529 : BitVec 32 := 0#32
  let v778 : BitVec 1 := Scalar.cmpi .slt v776 c0_i32_529
  let c0_i32_530 : BitVec 32 := 0#32
  let v779 : BitVec 1 := Scalar.cmpi .slt v775 c0_i32_530
  let v780 : BitVec 1 := Scalar.xori v778 v779
  let c0_i32_528 : BitVec 32 := 0#32
  let v777 : BitVec 1 := Scalar.cmpi .ne v776 c0_i32_528
  let v781 : BitVec 1 := Scalar.andi v780 v777
  let v782 : BitVec 32 := Scalar.addi v776 v775
  let v783 : BitVec 32 := Scalar.select v781 v782 v776
  let c1_i32_533 : BitVec 32 := 1#32
  let v784 : BitVec 32 := Scalar.muli v783 c1_i32_533
  let v785 : BitVec 32 := Scalar.addi c0_i32_534 v784
  v785.toNat
def k0_dev53 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_536 : BitVec 32 := 22#32
  let v791 : BitVec 32 := Scalar.addi v2 c22_i32_536
  let c32_i32_537 : BitVec 32 := 32#32
  let c0_i32_538 : BitVec 32 := 0#32
  let v792 : BitVec 1 := Scalar.cmpi .eq c32_i32_537 c0_i32_538
  let c1_i32_539 : BitVec 32 := 1#32
  let v793 : BitVec 32 := Scalar.select v792 c1_i32_539 c32_i32_537
  let v794 : BitVec 32 := Scalar.remsi v791 v793
  let c0_i32_541 : BitVec 32 := 0#32
  let v796 : BitVec 1 := Scalar.cmpi .slt v794 c0_i32_541
  let c0_i32_542 : BitVec 32 := 0#32
  let v797 : BitVec 1 := Scalar.cmpi .slt v793 c0_i32_542
  let v798 : BitVec 1 := Scalar.xori v796 v797
  let c0_i32_540 : BitVec 32 := 0#32
  let v795 : BitVec 1 := Scalar.cmpi .ne v794 c0_i32_540
  let v799 : BitVec 1 := Scalar.andi v798 v795
  let v800 : BitVec 32 := Scalar.addi v794 v793
  let v801 : BitVec 32 := Scalar.select v799 v800 v794
  let c1_i32_545 : BitVec 32 := 1#32
  let v802 : BitVec 32 := Scalar.muli v801 c1_i32_545
  let v803 : BitVec 32 := Scalar.addi c0_i32_546 v802
  v803.toNat
def k0_dev54 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_548 : BitVec 32 := 23#32
  let v809 : BitVec 32 := Scalar.addi v2 c23_i32_548
  let c32_i32_549 : BitVec 32 := 32#32
  let c0_i32_550 : BitVec 32 := 0#32
  let v810 : BitVec 1 := Scalar.cmpi .eq c32_i32_549 c0_i32_550
  let c1_i32_551 : BitVec 32 := 1#32
  let v811 : BitVec 32 := Scalar.select v810 c1_i32_551 c32_i32_549
  let v812 : BitVec 32 := Scalar.remsi v809 v811
  let c0_i32_553 : BitVec 32 := 0#32
  let v814 : BitVec 1 := Scalar.cmpi .slt v812 c0_i32_553
  let c0_i32_554 : BitVec 32 := 0#32
  let v815 : BitVec 1 := Scalar.cmpi .slt v811 c0_i32_554
  let v816 : BitVec 1 := Scalar.xori v814 v815
  let c0_i32_552 : BitVec 32 := 0#32
  let v813 : BitVec 1 := Scalar.cmpi .ne v812 c0_i32_552
  let v817 : BitVec 1 := Scalar.andi v816 v813
  let v818 : BitVec 32 := Scalar.addi v812 v811
  let v819 : BitVec 32 := Scalar.select v817 v818 v812
  let c1_i32_557 : BitVec 32 := 1#32
  let v820 : BitVec 32 := Scalar.muli v819 c1_i32_557
  let v821 : BitVec 32 := Scalar.addi c0_i32_558 v820
  v821.toNat
def k0_dev55 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_560 : BitVec 32 := 24#32
  let v827 : BitVec 32 := Scalar.addi v2 c24_i32_560
  let c32_i32_561 : BitVec 32 := 32#32
  let c0_i32_562 : BitVec 32 := 0#32
  let v828 : BitVec 1 := Scalar.cmpi .eq c32_i32_561 c0_i32_562
  let c1_i32_563 : BitVec 32 := 1#32
  let v829 : BitVec 32 := Scalar.select v828 c1_i32_563 c32_i32_561
  let v830 : BitVec 32 := Scalar.remsi v827 v829
  let c0_i32_565 : BitVec 32 := 0#32
  let v832 : BitVec 1 := Scalar.cmpi .slt v830 c0_i32_565
  let c0_i32_566 : BitVec 32 := 0#32
  let v833 : BitVec 1 := Scalar.cmpi .slt v829 c0_i32_566
  let v834 : BitVec 1 := Scalar.xori v832 v833
  let c0_i32_564 : BitVec 32 := 0#32
  let v831 : BitVec 1 := Scalar.cmpi .ne v830 c0_i32_564
  let v835 : BitVec 1 := Scalar.andi v834 v831
  let v836 : BitVec 32 := Scalar.addi v830 v829
  let v837 : BitVec 32 := Scalar.select v835 v836 v830
  let c1_i32_569 : BitVec 32 := 1#32
  let v838 : BitVec 32 := Scalar.muli v837 c1_i32_569
  let v839 : BitVec 32 := Scalar.addi c0_i32_570 v838
  v839.toNat
def k0_dev56 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_572 : BitVec 32 := 25#32
  let v845 : BitVec 32 := Scalar.addi v2 c25_i32_572
  let c32_i32_573 : BitVec 32 := 32#32
  let c0_i32_574 : BitVec 32 := 0#32
  let v846 : BitVec 1 := Scalar.cmpi .eq c32_i32_573 c0_i32_574
  let c1_i32_575 : BitVec 32 := 1#32
  let v847 : BitVec 32 := Scalar.select v846 c1_i32_575 c32_i32_573
  let v848 : BitVec 32 := Scalar.remsi v845 v847
  let c0_i32_577 : BitVec 32 := 0#32
  let v850 : BitVec 1 := Scalar.cmpi .slt v848 c0_i32_577
  let c0_i32_578 : BitVec 32 := 0#32
  let v851 : BitVec 1 := Scalar.cmpi .slt v847 c0_i32_578
  let v852 : BitVec 1 := Scalar.xori v850 v851
  let c0_i32_576 : BitVec 32 := 0#32
  let v849 : BitVec 1 := Scalar.cmpi .ne v848 c0_i32_576
  let v853 : BitVec 1 := Scalar.andi v852 v849
  let v854 : BitVec 32 := Scalar.addi v848 v847
  let v855 : BitVec 32 := Scalar.select v853 v854 v848
  let c1_i32_581 : BitVec 32 := 1#32
  let v856 : BitVec 32 := Scalar.muli v855 c1_i32_581
  let v857 : BitVec 32 := Scalar.addi c0_i32_582 v856
  v857.toNat
def k0_dev57 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_584 : BitVec 32 := 26#32
  let v863 : BitVec 32 := Scalar.addi v2 c26_i32_584
  let c32_i32_585 : BitVec 32 := 32#32
  let c0_i32_586 : BitVec 32 := 0#32
  let v864 : BitVec 1 := Scalar.cmpi .eq c32_i32_585 c0_i32_586
  let c1_i32_587 : BitVec 32 := 1#32
  let v865 : BitVec 32 := Scalar.select v864 c1_i32_587 c32_i32_585
  let v866 : BitVec 32 := Scalar.remsi v863 v865
  let c0_i32_589 : BitVec 32 := 0#32
  let v868 : BitVec 1 := Scalar.cmpi .slt v866 c0_i32_589
  let c0_i32_590 : BitVec 32 := 0#32
  let v869 : BitVec 1 := Scalar.cmpi .slt v865 c0_i32_590
  let v870 : BitVec 1 := Scalar.xori v868 v869
  let c0_i32_588 : BitVec 32 := 0#32
  let v867 : BitVec 1 := Scalar.cmpi .ne v866 c0_i32_588
  let v871 : BitVec 1 := Scalar.andi v870 v867
  let v872 : BitVec 32 := Scalar.addi v866 v865
  let v873 : BitVec 32 := Scalar.select v871 v872 v866
  let c1_i32_593 : BitVec 32 := 1#32
  let v874 : BitVec 32 := Scalar.muli v873 c1_i32_593
  let v875 : BitVec 32 := Scalar.addi c0_i32_594 v874
  v875.toNat
def k0_dev58 (d0 : Dev nD) : Nat :=
  let c0_i32_606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_596 : BitVec 32 := 27#32
  let v881 : BitVec 32 := Scalar.addi v2 c27_i32_596
  let c32_i32_597 : BitVec 32 := 32#32
  let c0_i32_598 : BitVec 32 := 0#32
  let v882 : BitVec 1 := Scalar.cmpi .eq c32_i32_597 c0_i32_598
  let c1_i32_599 : BitVec 32 := 1#32
  let v883 : BitVec 32 := Scalar.select v882 c1_i32_599 c32_i32_597
  let v884 : BitVec 32 := Scalar.remsi v881 v883
  let c0_i32_601 : BitVec 32 := 0#32
  let v886 : BitVec 1 := Scalar.cmpi .slt v884 c0_i32_601
  let c0_i32_602 : BitVec 32 := 0#32
  let v887 : BitVec 1 := Scalar.cmpi .slt v883 c0_i32_602
  let v888 : BitVec 1 := Scalar.xori v886 v887
  let c0_i32_600 : BitVec 32 := 0#32
  let v885 : BitVec 1 := Scalar.cmpi .ne v884 c0_i32_600
  let v889 : BitVec 1 := Scalar.andi v888 v885
  let v890 : BitVec 32 := Scalar.addi v884 v883
  let v891 : BitVec 32 := Scalar.select v889 v890 v884
  let c1_i32_605 : BitVec 32 := 1#32
  let v892 : BitVec 32 := Scalar.muli v891 c1_i32_605
  let v893 : BitVec 32 := Scalar.addi c0_i32_606 v892
  v893.toNat
def k0_dev59 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_608 : BitVec 32 := 28#32
  let v899 : BitVec 32 := Scalar.addi v2 c28_i32_608
  let c32_i32_609 : BitVec 32 := 32#32
  let c0_i32_610 : BitVec 32 := 0#32
  let v900 : BitVec 1 := Scalar.cmpi .eq c32_i32_609 c0_i32_610
  let c1_i32_611 : BitVec 32 := 1#32
  let v901 : BitVec 32 := Scalar.select v900 c1_i32_611 c32_i32_609
  let v902 : BitVec 32 := Scalar.remsi v899 v901
  let c0_i32_613 : BitVec 32 := 0#32
  let v904 : BitVec 1 := Scalar.cmpi .slt v902 c0_i32_613
  let c0_i32_614 : BitVec 32 := 0#32
  let v905 : BitVec 1 := Scalar.cmpi .slt v901 c0_i32_614
  let v906 : BitVec 1 := Scalar.xori v904 v905
  let c0_i32_612 : BitVec 32 := 0#32
  let v903 : BitVec 1 := Scalar.cmpi .ne v902 c0_i32_612
  let v907 : BitVec 1 := Scalar.andi v906 v903
  let v908 : BitVec 32 := Scalar.addi v902 v901
  let v909 : BitVec 32 := Scalar.select v907 v908 v902
  let c1_i32_617 : BitVec 32 := 1#32
  let v910 : BitVec 32 := Scalar.muli v909 c1_i32_617
  let v911 : BitVec 32 := Scalar.addi c0_i32_618 v910
  v911.toNat
def k0_dev60 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_620 : BitVec 32 := 29#32
  let v917 : BitVec 32 := Scalar.addi v2 c29_i32_620
  let c32_i32_621 : BitVec 32 := 32#32
  let c0_i32_622 : BitVec 32 := 0#32
  let v918 : BitVec 1 := Scalar.cmpi .eq c32_i32_621 c0_i32_622
  let c1_i32_623 : BitVec 32 := 1#32
  let v919 : BitVec 32 := Scalar.select v918 c1_i32_623 c32_i32_621
  let v920 : BitVec 32 := Scalar.remsi v917 v919
  let c0_i32_625 : BitVec 32 := 0#32
  let v922 : BitVec 1 := Scalar.cmpi .slt v920 c0_i32_625
  let c0_i32_626 : BitVec 32 := 0#32
  let v923 : BitVec 1 := Scalar.cmpi .slt v919 c0_i32_626
  let v924 : BitVec 1 := Scalar.xori v922 v923
  let c0_i32_624 : BitVec 32 := 0#32
  let v921 : BitVec 1 := Scalar.cmpi .ne v920 c0_i32_624
  let v925 : BitVec 1 := Scalar.andi v924 v921
  let v926 : BitVec 32 := Scalar.addi v920 v919
  let v927 : BitVec 32 := Scalar.select v925 v926 v920
  let c1_i32_629 : BitVec 32 := 1#32
  let v928 : BitVec 32 := Scalar.muli v927 c1_i32_629
  let v929 : BitVec 32 := Scalar.addi c0_i32_630 v928
  v929.toNat
def k0_dev61 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_632 : BitVec 32 := 30#32
  let v935 : BitVec 32 := Scalar.addi v2 c30_i32_632
  let c32_i32_633 : BitVec 32 := 32#32
  let c0_i32_634 : BitVec 32 := 0#32
  let v936 : BitVec 1 := Scalar.cmpi .eq c32_i32_633 c0_i32_634
  let c1_i32_635 : BitVec 32 := 1#32
  let v937 : BitVec 32 := Scalar.select v936 c1_i32_635 c32_i32_633
  let v938 : BitVec 32 := Scalar.remsi v935 v937
  let c0_i32_637 : BitVec 32 := 0#32
  let v940 : BitVec 1 := Scalar.cmpi .slt v938 c0_i32_637
  let c0_i32_638 : BitVec 32 := 0#32
  let v941 : BitVec 1 := Scalar.cmpi .slt v937 c0_i32_638
  let v942 : BitVec 1 := Scalar.xori v940 v941
  let c0_i32_636 : BitVec 32 := 0#32
  let v939 : BitVec 1 := Scalar.cmpi .ne v938 c0_i32_636
  let v943 : BitVec 1 := Scalar.andi v942 v939
  let v944 : BitVec 32 := Scalar.addi v938 v937
  let v945 : BitVec 32 := Scalar.select v943 v944 v938
  let c1_i32_641 : BitVec 32 := 1#32
  let v946 : BitVec 32 := Scalar.muli v945 c1_i32_641
  let v947 : BitVec 32 := Scalar.addi c0_i32_642 v946
  v947.toNat
def k0_dev62 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_644 : BitVec 32 := 31#32
  let v953 : BitVec 32 := Scalar.addi v2 c31_i32_644
  let c32_i32_645 : BitVec 32 := 32#32
  let c0_i32_646 : BitVec 32 := 0#32
  let v954 : BitVec 1 := Scalar.cmpi .eq c32_i32_645 c0_i32_646
  let c1_i32_647 : BitVec 32 := 1#32
  let v955 : BitVec 32 := Scalar.select v954 c1_i32_647 c32_i32_645
  let v956 : BitVec 32 := Scalar.remsi v953 v955
  let c0_i32_649 : BitVec 32 := 0#32
  let v958 : BitVec 1 := Scalar.cmpi .slt v956 c0_i32_649
  let c0_i32_650 : BitVec 32 := 0#32
  let v959 : BitVec 1 := Scalar.cmpi .slt v955 c0_i32_650
  let v960 : BitVec 1 := Scalar.xori v958 v959
  let c0_i32_648 : BitVec 32 := 0#32
  let v957 : BitVec 1 := Scalar.cmpi .ne v956 c0_i32_648
  let v961 : BitVec 1 := Scalar.andi v960 v957
  let v962 : BitVec 32 := Scalar.addi v956 v955
  let v963 : BitVec 32 := Scalar.select v961 v962 v956
  let c1_i32_653 : BitVec 32 := 1#32
  let v964 : BitVec 32 := Scalar.muli v963 c1_i32_653
  let v965 : BitVec 32 := Scalar.addi c0_i32_654 v964
  v965.toNat
def k0_dev63 (d0 : Dev nD) : Nat :=
  let c0_i32_865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_854 : BitVec 32 := 1#32
  let v1145 : BitVec 32 := Scalar.subi v2 c1_i32_854
  let c32_i32_855 : BitVec 32 := 32#32
  let c0_i32_856 : BitVec 32 := 0#32
  let v1146 : BitVec 1 := Scalar.cmpi .eq c32_i32_855 c0_i32_856
  let c1_i32_857 : BitVec 32 := 1#32
  let v1147 : BitVec 32 := Scalar.select v1146 c1_i32_857 c32_i32_855
  let v1148 : BitVec 32 := Scalar.remsi v1145 v1147
  let c0_i32_859 : BitVec 32 := 0#32
  let v1150 : BitVec 1 := Scalar.cmpi .slt v1148 c0_i32_859
  let c0_i32_860 : BitVec 32 := 0#32
  let v1151 : BitVec 1 := Scalar.cmpi .slt v1147 c0_i32_860
  let v1152 : BitVec 1 := Scalar.xori v1150 v1151
  let c0_i32_858 : BitVec 32 := 0#32
  let v1149 : BitVec 1 := Scalar.cmpi .ne v1148 c0_i32_858
  let v1153 : BitVec 1 := Scalar.andi v1152 v1149
  let v1154 : BitVec 32 := Scalar.addi v1148 v1147
  let v1155 : BitVec 32 := Scalar.select v1153 v1154 v1148
  let c1_i32_864 : BitVec 32 := 1#32
  let v1156 : BitVec 32 := Scalar.muli v1155 c1_i32_864
  let v1157 : BitVec 32 := Scalar.addi c0_i32_865 v1156
  v1157.toNat
def k0_dev64 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_870 : BitVec 32 := 31#32
  let v1165 : BitVec 32 := Scalar.subi v2 c31_i32_870
  let c32_i32_871 : BitVec 32 := 32#32
  let c0_i32_872 : BitVec 32 := 0#32
  let v1166 : BitVec 1 := Scalar.cmpi .eq c32_i32_871 c0_i32_872
  let c1_i32_873 : BitVec 32 := 1#32
  let v1167 : BitVec 32 := Scalar.select v1166 c1_i32_873 c32_i32_871
  let v1168 : BitVec 32 := Scalar.remsi v1165 v1167
  let c0_i32_875 : BitVec 32 := 0#32
  let v1170 : BitVec 1 := Scalar.cmpi .slt v1168 c0_i32_875
  let c0_i32_876 : BitVec 32 := 0#32
  let v1171 : BitVec 1 := Scalar.cmpi .slt v1167 c0_i32_876
  let v1172 : BitVec 1 := Scalar.xori v1170 v1171
  let c0_i32_874 : BitVec 32 := 0#32
  let v1169 : BitVec 1 := Scalar.cmpi .ne v1168 c0_i32_874
  let v1173 : BitVec 1 := Scalar.andi v1172 v1169
  let v1174 : BitVec 32 := Scalar.addi v1168 v1167
  let v1175 : BitVec 32 := Scalar.select v1173 v1174 v1168
  let c1_i32_880 : BitVec 32 := 1#32
  let v1176 : BitVec 32 := Scalar.muli v1175 c1_i32_880
  let v1177 : BitVec 32 := Scalar.addi c0_i32_881 v1176
  v1177.toNat
def k0_dev65 (d0 : Dev nD) : Nat :=
  let c0_i32_897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_886 : BitVec 32 := 2#32
  let v1185 : BitVec 32 := Scalar.subi v2 c2_i32_886
  let c32_i32_887 : BitVec 32 := 32#32
  let c0_i32_888 : BitVec 32 := 0#32
  let v1186 : BitVec 1 := Scalar.cmpi .eq c32_i32_887 c0_i32_888
  let c1_i32_889 : BitVec 32 := 1#32
  let v1187 : BitVec 32 := Scalar.select v1186 c1_i32_889 c32_i32_887
  let v1188 : BitVec 32 := Scalar.remsi v1185 v1187
  let c0_i32_891 : BitVec 32 := 0#32
  let v1190 : BitVec 1 := Scalar.cmpi .slt v1188 c0_i32_891
  let c0_i32_892 : BitVec 32 := 0#32
  let v1191 : BitVec 1 := Scalar.cmpi .slt v1187 c0_i32_892
  let v1192 : BitVec 1 := Scalar.xori v1190 v1191
  let c0_i32_890 : BitVec 32 := 0#32
  let v1189 : BitVec 1 := Scalar.cmpi .ne v1188 c0_i32_890
  let v1193 : BitVec 1 := Scalar.andi v1192 v1189
  let v1194 : BitVec 32 := Scalar.addi v1188 v1187
  let v1195 : BitVec 32 := Scalar.select v1193 v1194 v1188
  let c1_i32_896 : BitVec 32 := 1#32
  let v1196 : BitVec 32 := Scalar.muli v1195 c1_i32_896
  let v1197 : BitVec 32 := Scalar.addi c0_i32_897 v1196
  v1197.toNat
def k0_dev66 (d0 : Dev nD) : Nat :=
  let c0_i32_913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_902 : BitVec 32 := 30#32
  let v1205 : BitVec 32 := Scalar.subi v2 c30_i32_902
  let c32_i32_903 : BitVec 32 := 32#32
  let c0_i32_904 : BitVec 32 := 0#32
  let v1206 : BitVec 1 := Scalar.cmpi .eq c32_i32_903 c0_i32_904
  let c1_i32_905 : BitVec 32 := 1#32
  let v1207 : BitVec 32 := Scalar.select v1206 c1_i32_905 c32_i32_903
  let v1208 : BitVec 32 := Scalar.remsi v1205 v1207
  let c0_i32_907 : BitVec 32 := 0#32
  let v1210 : BitVec 1 := Scalar.cmpi .slt v1208 c0_i32_907
  let c0_i32_908 : BitVec 32 := 0#32
  let v1211 : BitVec 1 := Scalar.cmpi .slt v1207 c0_i32_908
  let v1212 : BitVec 1 := Scalar.xori v1210 v1211
  let c0_i32_906 : BitVec 32 := 0#32
  let v1209 : BitVec 1 := Scalar.cmpi .ne v1208 c0_i32_906
  let v1213 : BitVec 1 := Scalar.andi v1212 v1209
  let v1214 : BitVec 32 := Scalar.addi v1208 v1207
  let v1215 : BitVec 32 := Scalar.select v1213 v1214 v1208
  let c1_i32_912 : BitVec 32 := 1#32
  let v1216 : BitVec 32 := Scalar.muli v1215 c1_i32_912
  let v1217 : BitVec 32 := Scalar.addi c0_i32_913 v1216
  v1217.toNat
def k0_dev67 (d0 : Dev nD) : Nat :=
  let c0_i32_929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_918 : BitVec 32 := 3#32
  let v1225 : BitVec 32 := Scalar.subi v2 c3_i32_918
  let c32_i32_919 : BitVec 32 := 32#32
  let c0_i32_920 : BitVec 32 := 0#32
  let v1226 : BitVec 1 := Scalar.cmpi .eq c32_i32_919 c0_i32_920
  let c1_i32_921 : BitVec 32 := 1#32
  let v1227 : BitVec 32 := Scalar.select v1226 c1_i32_921 c32_i32_919
  let v1228 : BitVec 32 := Scalar.remsi v1225 v1227
  let c0_i32_923 : BitVec 32 := 0#32
  let v1230 : BitVec 1 := Scalar.cmpi .slt v1228 c0_i32_923
  let c0_i32_924 : BitVec 32 := 0#32
  let v1231 : BitVec 1 := Scalar.cmpi .slt v1227 c0_i32_924
  let v1232 : BitVec 1 := Scalar.xori v1230 v1231
  let c0_i32_922 : BitVec 32 := 0#32
  let v1229 : BitVec 1 := Scalar.cmpi .ne v1228 c0_i32_922
  let v1233 : BitVec 1 := Scalar.andi v1232 v1229
  let v1234 : BitVec 32 := Scalar.addi v1228 v1227
  let v1235 : BitVec 32 := Scalar.select v1233 v1234 v1228
  let c1_i32_928 : BitVec 32 := 1#32
  let v1236 : BitVec 32 := Scalar.muli v1235 c1_i32_928
  let v1237 : BitVec 32 := Scalar.addi c0_i32_929 v1236
  v1237.toNat
def k0_dev68 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_934 : BitVec 32 := 29#32
  let v1245 : BitVec 32 := Scalar.subi v2 c29_i32_934
  let c32_i32_935 : BitVec 32 := 32#32
  let c0_i32_936 : BitVec 32 := 0#32
  let v1246 : BitVec 1 := Scalar.cmpi .eq c32_i32_935 c0_i32_936
  let c1_i32_937 : BitVec 32 := 1#32
  let v1247 : BitVec 32 := Scalar.select v1246 c1_i32_937 c32_i32_935
  let v1248 : BitVec 32 := Scalar.remsi v1245 v1247
  let c0_i32_939 : BitVec 32 := 0#32
  let v1250 : BitVec 1 := Scalar.cmpi .slt v1248 c0_i32_939
  let c0_i32_940 : BitVec 32 := 0#32
  let v1251 : BitVec 1 := Scalar.cmpi .slt v1247 c0_i32_940
  let v1252 : BitVec 1 := Scalar.xori v1250 v1251
  let c0_i32_938 : BitVec 32 := 0#32
  let v1249 : BitVec 1 := Scalar.cmpi .ne v1248 c0_i32_938
  let v1253 : BitVec 1 := Scalar.andi v1252 v1249
  let v1254 : BitVec 32 := Scalar.addi v1248 v1247
  let v1255 : BitVec 32 := Scalar.select v1253 v1254 v1248
  let c1_i32_944 : BitVec 32 := 1#32
  let v1256 : BitVec 32 := Scalar.muli v1255 c1_i32_944
  let v1257 : BitVec 32 := Scalar.addi c0_i32_945 v1256
  v1257.toNat
def k0_dev69 (d0 : Dev nD) : Nat :=
  let c0_i32_961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_950 : BitVec 32 := 4#32
  let v1265 : BitVec 32 := Scalar.subi v2 c4_i32_950
  let c32_i32_951 : BitVec 32 := 32#32
  let c0_i32_952 : BitVec 32 := 0#32
  let v1266 : BitVec 1 := Scalar.cmpi .eq c32_i32_951 c0_i32_952
  let c1_i32_953 : BitVec 32 := 1#32
  let v1267 : BitVec 32 := Scalar.select v1266 c1_i32_953 c32_i32_951
  let v1268 : BitVec 32 := Scalar.remsi v1265 v1267
  let c0_i32_955 : BitVec 32 := 0#32
  let v1270 : BitVec 1 := Scalar.cmpi .slt v1268 c0_i32_955
  let c0_i32_956 : BitVec 32 := 0#32
  let v1271 : BitVec 1 := Scalar.cmpi .slt v1267 c0_i32_956
  let v1272 : BitVec 1 := Scalar.xori v1270 v1271
  let c0_i32_954 : BitVec 32 := 0#32
  let v1269 : BitVec 1 := Scalar.cmpi .ne v1268 c0_i32_954
  let v1273 : BitVec 1 := Scalar.andi v1272 v1269
  let v1274 : BitVec 32 := Scalar.addi v1268 v1267
  let v1275 : BitVec 32 := Scalar.select v1273 v1274 v1268
  let c1_i32_960 : BitVec 32 := 1#32
  let v1276 : BitVec 32 := Scalar.muli v1275 c1_i32_960
  let v1277 : BitVec 32 := Scalar.addi c0_i32_961 v1276
  v1277.toNat
def k0_dev70 (d0 : Dev nD) : Nat :=
  let c0_i32_977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_966 : BitVec 32 := 28#32
  let v1285 : BitVec 32 := Scalar.subi v2 c28_i32_966
  let c32_i32_967 : BitVec 32 := 32#32
  let c0_i32_968 : BitVec 32 := 0#32
  let v1286 : BitVec 1 := Scalar.cmpi .eq c32_i32_967 c0_i32_968
  let c1_i32_969 : BitVec 32 := 1#32
  let v1287 : BitVec 32 := Scalar.select v1286 c1_i32_969 c32_i32_967
  let v1288 : BitVec 32 := Scalar.remsi v1285 v1287
  let c0_i32_971 : BitVec 32 := 0#32
  let v1290 : BitVec 1 := Scalar.cmpi .slt v1288 c0_i32_971
  let c0_i32_972 : BitVec 32 := 0#32
  let v1291 : BitVec 1 := Scalar.cmpi .slt v1287 c0_i32_972
  let v1292 : BitVec 1 := Scalar.xori v1290 v1291
  let c0_i32_970 : BitVec 32 := 0#32
  let v1289 : BitVec 1 := Scalar.cmpi .ne v1288 c0_i32_970
  let v1293 : BitVec 1 := Scalar.andi v1292 v1289
  let v1294 : BitVec 32 := Scalar.addi v1288 v1287
  let v1295 : BitVec 32 := Scalar.select v1293 v1294 v1288
  let c1_i32_976 : BitVec 32 := 1#32
  let v1296 : BitVec 32 := Scalar.muli v1295 c1_i32_976
  let v1297 : BitVec 32 := Scalar.addi c0_i32_977 v1296
  v1297.toNat
def k0_dev71 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_982 : BitVec 32 := 5#32
  let v1305 : BitVec 32 := Scalar.subi v2 c5_i32_982
  let c32_i32_983 : BitVec 32 := 32#32
  let c0_i32_984 : BitVec 32 := 0#32
  let v1306 : BitVec 1 := Scalar.cmpi .eq c32_i32_983 c0_i32_984
  let c1_i32_985 : BitVec 32 := 1#32
  let v1307 : BitVec 32 := Scalar.select v1306 c1_i32_985 c32_i32_983
  let v1308 : BitVec 32 := Scalar.remsi v1305 v1307
  let c0_i32_987 : BitVec 32 := 0#32
  let v1310 : BitVec 1 := Scalar.cmpi .slt v1308 c0_i32_987
  let c0_i32_988 : BitVec 32 := 0#32
  let v1311 : BitVec 1 := Scalar.cmpi .slt v1307 c0_i32_988
  let v1312 : BitVec 1 := Scalar.xori v1310 v1311
  let c0_i32_986 : BitVec 32 := 0#32
  let v1309 : BitVec 1 := Scalar.cmpi .ne v1308 c0_i32_986
  let v1313 : BitVec 1 := Scalar.andi v1312 v1309
  let v1314 : BitVec 32 := Scalar.addi v1308 v1307
  let v1315 : BitVec 32 := Scalar.select v1313 v1314 v1308
  let c1_i32_992 : BitVec 32 := 1#32
  let v1316 : BitVec 32 := Scalar.muli v1315 c1_i32_992
  let v1317 : BitVec 32 := Scalar.addi c0_i32_993 v1316
  v1317.toNat
def k0_dev72 (d0 : Dev nD) : Nat :=
  let c0_i32_1009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_998 : BitVec 32 := 27#32
  let v1325 : BitVec 32 := Scalar.subi v2 c27_i32_998
  let c32_i32_999 : BitVec 32 := 32#32
  let c0_i32_1000 : BitVec 32 := 0#32
  let v1326 : BitVec 1 := Scalar.cmpi .eq c32_i32_999 c0_i32_1000
  let c1_i32_1001 : BitVec 32 := 1#32
  let v1327 : BitVec 32 := Scalar.select v1326 c1_i32_1001 c32_i32_999
  let v1328 : BitVec 32 := Scalar.remsi v1325 v1327
  let c0_i32_1003 : BitVec 32 := 0#32
  let v1330 : BitVec 1 := Scalar.cmpi .slt v1328 c0_i32_1003
  let c0_i32_1004 : BitVec 32 := 0#32
  let v1331 : BitVec 1 := Scalar.cmpi .slt v1327 c0_i32_1004
  let v1332 : BitVec 1 := Scalar.xori v1330 v1331
  let c0_i32_1002 : BitVec 32 := 0#32
  let v1329 : BitVec 1 := Scalar.cmpi .ne v1328 c0_i32_1002
  let v1333 : BitVec 1 := Scalar.andi v1332 v1329
  let v1334 : BitVec 32 := Scalar.addi v1328 v1327
  let v1335 : BitVec 32 := Scalar.select v1333 v1334 v1328
  let c1_i32_1008 : BitVec 32 := 1#32
  let v1336 : BitVec 32 := Scalar.muli v1335 c1_i32_1008
  let v1337 : BitVec 32 := Scalar.addi c0_i32_1009 v1336
  v1337.toNat
def k0_dev73 (d0 : Dev nD) : Nat :=
  let c0_i32_1025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1014 : BitVec 32 := 6#32
  let v1345 : BitVec 32 := Scalar.subi v2 c6_i32_1014
  let c32_i32_1015 : BitVec 32 := 32#32
  let c0_i32_1016 : BitVec 32 := 0#32
  let v1346 : BitVec 1 := Scalar.cmpi .eq c32_i32_1015 c0_i32_1016
  let c1_i32_1017 : BitVec 32 := 1#32
  let v1347 : BitVec 32 := Scalar.select v1346 c1_i32_1017 c32_i32_1015
  let v1348 : BitVec 32 := Scalar.remsi v1345 v1347
  let c0_i32_1019 : BitVec 32 := 0#32
  let v1350 : BitVec 1 := Scalar.cmpi .slt v1348 c0_i32_1019
  let c0_i32_1020 : BitVec 32 := 0#32
  let v1351 : BitVec 1 := Scalar.cmpi .slt v1347 c0_i32_1020
  let v1352 : BitVec 1 := Scalar.xori v1350 v1351
  let c0_i32_1018 : BitVec 32 := 0#32
  let v1349 : BitVec 1 := Scalar.cmpi .ne v1348 c0_i32_1018
  let v1353 : BitVec 1 := Scalar.andi v1352 v1349
  let v1354 : BitVec 32 := Scalar.addi v1348 v1347
  let v1355 : BitVec 32 := Scalar.select v1353 v1354 v1348
  let c1_i32_1024 : BitVec 32 := 1#32
  let v1356 : BitVec 32 := Scalar.muli v1355 c1_i32_1024
  let v1357 : BitVec 32 := Scalar.addi c0_i32_1025 v1356
  v1357.toNat
def k0_dev74 (d0 : Dev nD) : Nat :=
  let c0_i32_1041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1030 : BitVec 32 := 26#32
  let v1365 : BitVec 32 := Scalar.subi v2 c26_i32_1030
  let c32_i32_1031 : BitVec 32 := 32#32
  let c0_i32_1032 : BitVec 32 := 0#32
  let v1366 : BitVec 1 := Scalar.cmpi .eq c32_i32_1031 c0_i32_1032
  let c1_i32_1033 : BitVec 32 := 1#32
  let v1367 : BitVec 32 := Scalar.select v1366 c1_i32_1033 c32_i32_1031
  let v1368 : BitVec 32 := Scalar.remsi v1365 v1367
  let c0_i32_1035 : BitVec 32 := 0#32
  let v1370 : BitVec 1 := Scalar.cmpi .slt v1368 c0_i32_1035
  let c0_i32_1036 : BitVec 32 := 0#32
  let v1371 : BitVec 1 := Scalar.cmpi .slt v1367 c0_i32_1036
  let v1372 : BitVec 1 := Scalar.xori v1370 v1371
  let c0_i32_1034 : BitVec 32 := 0#32
  let v1369 : BitVec 1 := Scalar.cmpi .ne v1368 c0_i32_1034
  let v1373 : BitVec 1 := Scalar.andi v1372 v1369
  let v1374 : BitVec 32 := Scalar.addi v1368 v1367
  let v1375 : BitVec 32 := Scalar.select v1373 v1374 v1368
  let c1_i32_1040 : BitVec 32 := 1#32
  let v1376 : BitVec 32 := Scalar.muli v1375 c1_i32_1040
  let v1377 : BitVec 32 := Scalar.addi c0_i32_1041 v1376
  v1377.toNat
def k0_dev75 (d0 : Dev nD) : Nat :=
  let c0_i32_1057 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1046 : BitVec 32 := 7#32
  let v1385 : BitVec 32 := Scalar.subi v2 c7_i32_1046
  let c32_i32_1047 : BitVec 32 := 32#32
  let c0_i32_1048 : BitVec 32 := 0#32
  let v1386 : BitVec 1 := Scalar.cmpi .eq c32_i32_1047 c0_i32_1048
  let c1_i32_1049 : BitVec 32 := 1#32
  let v1387 : BitVec 32 := Scalar.select v1386 c1_i32_1049 c32_i32_1047
  let v1388 : BitVec 32 := Scalar.remsi v1385 v1387
  let c0_i32_1051 : BitVec 32 := 0#32
  let v1390 : BitVec 1 := Scalar.cmpi .slt v1388 c0_i32_1051
  let c0_i32_1052 : BitVec 32 := 0#32
  let v1391 : BitVec 1 := Scalar.cmpi .slt v1387 c0_i32_1052
  let v1392 : BitVec 1 := Scalar.xori v1390 v1391
  let c0_i32_1050 : BitVec 32 := 0#32
  let v1389 : BitVec 1 := Scalar.cmpi .ne v1388 c0_i32_1050
  let v1393 : BitVec 1 := Scalar.andi v1392 v1389
  let v1394 : BitVec 32 := Scalar.addi v1388 v1387
  let v1395 : BitVec 32 := Scalar.select v1393 v1394 v1388
  let c1_i32_1056 : BitVec 32 := 1#32
  let v1396 : BitVec 32 := Scalar.muli v1395 c1_i32_1056
  let v1397 : BitVec 32 := Scalar.addi c0_i32_1057 v1396
  v1397.toNat
def k0_dev76 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1062 : BitVec 32 := 25#32
  let v1405 : BitVec 32 := Scalar.subi v2 c25_i32_1062
  let c32_i32_1063 : BitVec 32 := 32#32
  let c0_i32_1064 : BitVec 32 := 0#32
  let v1406 : BitVec 1 := Scalar.cmpi .eq c32_i32_1063 c0_i32_1064
  let c1_i32_1065 : BitVec 32 := 1#32
  let v1407 : BitVec 32 := Scalar.select v1406 c1_i32_1065 c32_i32_1063
  let v1408 : BitVec 32 := Scalar.remsi v1405 v1407
  let c0_i32_1067 : BitVec 32 := 0#32
  let v1410 : BitVec 1 := Scalar.cmpi .slt v1408 c0_i32_1067
  let c0_i32_1068 : BitVec 32 := 0#32
  let v1411 : BitVec 1 := Scalar.cmpi .slt v1407 c0_i32_1068
  let v1412 : BitVec 1 := Scalar.xori v1410 v1411
  let c0_i32_1066 : BitVec 32 := 0#32
  let v1409 : BitVec 1 := Scalar.cmpi .ne v1408 c0_i32_1066
  let v1413 : BitVec 1 := Scalar.andi v1412 v1409
  let v1414 : BitVec 32 := Scalar.addi v1408 v1407
  let v1415 : BitVec 32 := Scalar.select v1413 v1414 v1408
  let c1_i32_1072 : BitVec 32 := 1#32
  let v1416 : BitVec 32 := Scalar.muli v1415 c1_i32_1072
  let v1417 : BitVec 32 := Scalar.addi c0_i32_1073 v1416
  v1417.toNat
def k0_dev77 (d0 : Dev nD) : Nat :=
  let c0_i32_1089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1078 : BitVec 32 := 8#32
  let v1425 : BitVec 32 := Scalar.subi v2 c8_i32_1078
  let c32_i32_1079 : BitVec 32 := 32#32
  let c0_i32_1080 : BitVec 32 := 0#32
  let v1426 : BitVec 1 := Scalar.cmpi .eq c32_i32_1079 c0_i32_1080
  let c1_i32_1081 : BitVec 32 := 1#32
  let v1427 : BitVec 32 := Scalar.select v1426 c1_i32_1081 c32_i32_1079
  let v1428 : BitVec 32 := Scalar.remsi v1425 v1427
  let c0_i32_1083 : BitVec 32 := 0#32
  let v1430 : BitVec 1 := Scalar.cmpi .slt v1428 c0_i32_1083
  let c0_i32_1084 : BitVec 32 := 0#32
  let v1431 : BitVec 1 := Scalar.cmpi .slt v1427 c0_i32_1084
  let v1432 : BitVec 1 := Scalar.xori v1430 v1431
  let c0_i32_1082 : BitVec 32 := 0#32
  let v1429 : BitVec 1 := Scalar.cmpi .ne v1428 c0_i32_1082
  let v1433 : BitVec 1 := Scalar.andi v1432 v1429
  let v1434 : BitVec 32 := Scalar.addi v1428 v1427
  let v1435 : BitVec 32 := Scalar.select v1433 v1434 v1428
  let c1_i32_1088 : BitVec 32 := 1#32
  let v1436 : BitVec 32 := Scalar.muli v1435 c1_i32_1088
  let v1437 : BitVec 32 := Scalar.addi c0_i32_1089 v1436
  v1437.toNat
def k0_dev78 (d0 : Dev nD) : Nat :=
  let c0_i32_1105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1094 : BitVec 32 := 24#32
  let v1445 : BitVec 32 := Scalar.subi v2 c24_i32_1094
  let c32_i32_1095 : BitVec 32 := 32#32
  let c0_i32_1096 : BitVec 32 := 0#32
  let v1446 : BitVec 1 := Scalar.cmpi .eq c32_i32_1095 c0_i32_1096
  let c1_i32_1097 : BitVec 32 := 1#32
  let v1447 : BitVec 32 := Scalar.select v1446 c1_i32_1097 c32_i32_1095
  let v1448 : BitVec 32 := Scalar.remsi v1445 v1447
  let c0_i32_1099 : BitVec 32 := 0#32
  let v1450 : BitVec 1 := Scalar.cmpi .slt v1448 c0_i32_1099
  let c0_i32_1100 : BitVec 32 := 0#32
  let v1451 : BitVec 1 := Scalar.cmpi .slt v1447 c0_i32_1100
  let v1452 : BitVec 1 := Scalar.xori v1450 v1451
  let c0_i32_1098 : BitVec 32 := 0#32
  let v1449 : BitVec 1 := Scalar.cmpi .ne v1448 c0_i32_1098
  let v1453 : BitVec 1 := Scalar.andi v1452 v1449
  let v1454 : BitVec 32 := Scalar.addi v1448 v1447
  let v1455 : BitVec 32 := Scalar.select v1453 v1454 v1448
  let c1_i32_1104 : BitVec 32 := 1#32
  let v1456 : BitVec 32 := Scalar.muli v1455 c1_i32_1104
  let v1457 : BitVec 32 := Scalar.addi c0_i32_1105 v1456
  v1457.toNat
def k0_dev79 (d0 : Dev nD) : Nat :=
  let c0_i32_1121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1110 : BitVec 32 := 9#32
  let v1465 : BitVec 32 := Scalar.subi v2 c9_i32_1110
  let c32_i32_1111 : BitVec 32 := 32#32
  let c0_i32_1112 : BitVec 32 := 0#32
  let v1466 : BitVec 1 := Scalar.cmpi .eq c32_i32_1111 c0_i32_1112
  let c1_i32_1113 : BitVec 32 := 1#32
  let v1467 : BitVec 32 := Scalar.select v1466 c1_i32_1113 c32_i32_1111
  let v1468 : BitVec 32 := Scalar.remsi v1465 v1467
  let c0_i32_1115 : BitVec 32 := 0#32
  let v1470 : BitVec 1 := Scalar.cmpi .slt v1468 c0_i32_1115
  let c0_i32_1116 : BitVec 32 := 0#32
  let v1471 : BitVec 1 := Scalar.cmpi .slt v1467 c0_i32_1116
  let v1472 : BitVec 1 := Scalar.xori v1470 v1471
  let c0_i32_1114 : BitVec 32 := 0#32
  let v1469 : BitVec 1 := Scalar.cmpi .ne v1468 c0_i32_1114
  let v1473 : BitVec 1 := Scalar.andi v1472 v1469
  let v1474 : BitVec 32 := Scalar.addi v1468 v1467
  let v1475 : BitVec 32 := Scalar.select v1473 v1474 v1468
  let c1_i32_1120 : BitVec 32 := 1#32
  let v1476 : BitVec 32 := Scalar.muli v1475 c1_i32_1120
  let v1477 : BitVec 32 := Scalar.addi c0_i32_1121 v1476
  v1477.toNat
def k0_dev80 (d0 : Dev nD) : Nat :=
  let c0_i32_1137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1126 : BitVec 32 := 23#32
  let v1485 : BitVec 32 := Scalar.subi v2 c23_i32_1126
  let c32_i32_1127 : BitVec 32 := 32#32
  let c0_i32_1128 : BitVec 32 := 0#32
  let v1486 : BitVec 1 := Scalar.cmpi .eq c32_i32_1127 c0_i32_1128
  let c1_i32_1129 : BitVec 32 := 1#32
  let v1487 : BitVec 32 := Scalar.select v1486 c1_i32_1129 c32_i32_1127
  let v1488 : BitVec 32 := Scalar.remsi v1485 v1487
  let c0_i32_1131 : BitVec 32 := 0#32
  let v1490 : BitVec 1 := Scalar.cmpi .slt v1488 c0_i32_1131
  let c0_i32_1132 : BitVec 32 := 0#32
  let v1491 : BitVec 1 := Scalar.cmpi .slt v1487 c0_i32_1132
  let v1492 : BitVec 1 := Scalar.xori v1490 v1491
  let c0_i32_1130 : BitVec 32 := 0#32
  let v1489 : BitVec 1 := Scalar.cmpi .ne v1488 c0_i32_1130
  let v1493 : BitVec 1 := Scalar.andi v1492 v1489
  let v1494 : BitVec 32 := Scalar.addi v1488 v1487
  let v1495 : BitVec 32 := Scalar.select v1493 v1494 v1488
  let c1_i32_1136 : BitVec 32 := 1#32
  let v1496 : BitVec 32 := Scalar.muli v1495 c1_i32_1136
  let v1497 : BitVec 32 := Scalar.addi c0_i32_1137 v1496
  v1497.toNat
def k0_dev81 (d0 : Dev nD) : Nat :=
  let c0_i32_1153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1142 : BitVec 32 := 10#32
  let v1505 : BitVec 32 := Scalar.subi v2 c10_i32_1142
  let c32_i32_1143 : BitVec 32 := 32#32
  let c0_i32_1144 : BitVec 32 := 0#32
  let v1506 : BitVec 1 := Scalar.cmpi .eq c32_i32_1143 c0_i32_1144
  let c1_i32_1145 : BitVec 32 := 1#32
  let v1507 : BitVec 32 := Scalar.select v1506 c1_i32_1145 c32_i32_1143
  let v1508 : BitVec 32 := Scalar.remsi v1505 v1507
  let c0_i32_1147 : BitVec 32 := 0#32
  let v1510 : BitVec 1 := Scalar.cmpi .slt v1508 c0_i32_1147
  let c0_i32_1148 : BitVec 32 := 0#32
  let v1511 : BitVec 1 := Scalar.cmpi .slt v1507 c0_i32_1148
  let v1512 : BitVec 1 := Scalar.xori v1510 v1511
  let c0_i32_1146 : BitVec 32 := 0#32
  let v1509 : BitVec 1 := Scalar.cmpi .ne v1508 c0_i32_1146
  let v1513 : BitVec 1 := Scalar.andi v1512 v1509
  let v1514 : BitVec 32 := Scalar.addi v1508 v1507
  let v1515 : BitVec 32 := Scalar.select v1513 v1514 v1508
  let c1_i32_1152 : BitVec 32 := 1#32
  let v1516 : BitVec 32 := Scalar.muli v1515 c1_i32_1152
  let v1517 : BitVec 32 := Scalar.addi c0_i32_1153 v1516
  v1517.toNat
def k0_dev82 (d0 : Dev nD) : Nat :=
  let c0_i32_1169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1158 : BitVec 32 := 22#32
  let v1525 : BitVec 32 := Scalar.subi v2 c22_i32_1158
  let c32_i32_1159 : BitVec 32 := 32#32
  let c0_i32_1160 : BitVec 32 := 0#32
  let v1526 : BitVec 1 := Scalar.cmpi .eq c32_i32_1159 c0_i32_1160
  let c1_i32_1161 : BitVec 32 := 1#32
  let v1527 : BitVec 32 := Scalar.select v1526 c1_i32_1161 c32_i32_1159
  let v1528 : BitVec 32 := Scalar.remsi v1525 v1527
  let c0_i32_1163 : BitVec 32 := 0#32
  let v1530 : BitVec 1 := Scalar.cmpi .slt v1528 c0_i32_1163
  let c0_i32_1164 : BitVec 32 := 0#32
  let v1531 : BitVec 1 := Scalar.cmpi .slt v1527 c0_i32_1164
  let v1532 : BitVec 1 := Scalar.xori v1530 v1531
  let c0_i32_1162 : BitVec 32 := 0#32
  let v1529 : BitVec 1 := Scalar.cmpi .ne v1528 c0_i32_1162
  let v1533 : BitVec 1 := Scalar.andi v1532 v1529
  let v1534 : BitVec 32 := Scalar.addi v1528 v1527
  let v1535 : BitVec 32 := Scalar.select v1533 v1534 v1528
  let c1_i32_1168 : BitVec 32 := 1#32
  let v1536 : BitVec 32 := Scalar.muli v1535 c1_i32_1168
  let v1537 : BitVec 32 := Scalar.addi c0_i32_1169 v1536
  v1537.toNat
def k0_dev83 (d0 : Dev nD) : Nat :=
  let c0_i32_1185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1174 : BitVec 32 := 11#32
  let v1545 : BitVec 32 := Scalar.subi v2 c11_i32_1174
  let c32_i32_1175 : BitVec 32 := 32#32
  let c0_i32_1176 : BitVec 32 := 0#32
  let v1546 : BitVec 1 := Scalar.cmpi .eq c32_i32_1175 c0_i32_1176
  let c1_i32_1177 : BitVec 32 := 1#32
  let v1547 : BitVec 32 := Scalar.select v1546 c1_i32_1177 c32_i32_1175
  let v1548 : BitVec 32 := Scalar.remsi v1545 v1547
  let c0_i32_1179 : BitVec 32 := 0#32
  let v1550 : BitVec 1 := Scalar.cmpi .slt v1548 c0_i32_1179
  let c0_i32_1180 : BitVec 32 := 0#32
  let v1551 : BitVec 1 := Scalar.cmpi .slt v1547 c0_i32_1180
  let v1552 : BitVec 1 := Scalar.xori v1550 v1551
  let c0_i32_1178 : BitVec 32 := 0#32
  let v1549 : BitVec 1 := Scalar.cmpi .ne v1548 c0_i32_1178
  let v1553 : BitVec 1 := Scalar.andi v1552 v1549
  let v1554 : BitVec 32 := Scalar.addi v1548 v1547
  let v1555 : BitVec 32 := Scalar.select v1553 v1554 v1548
  let c1_i32_1184 : BitVec 32 := 1#32
  let v1556 : BitVec 32 := Scalar.muli v1555 c1_i32_1184
  let v1557 : BitVec 32 := Scalar.addi c0_i32_1185 v1556
  v1557.toNat
def k0_dev84 (d0 : Dev nD) : Nat :=
  let c0_i32_1201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1190 : BitVec 32 := 21#32
  let v1565 : BitVec 32 := Scalar.subi v2 c21_i32_1190
  let c32_i32_1191 : BitVec 32 := 32#32
  let c0_i32_1192 : BitVec 32 := 0#32
  let v1566 : BitVec 1 := Scalar.cmpi .eq c32_i32_1191 c0_i32_1192
  let c1_i32_1193 : BitVec 32 := 1#32
  let v1567 : BitVec 32 := Scalar.select v1566 c1_i32_1193 c32_i32_1191
  let v1568 : BitVec 32 := Scalar.remsi v1565 v1567
  let c0_i32_1195 : BitVec 32 := 0#32
  let v1570 : BitVec 1 := Scalar.cmpi .slt v1568 c0_i32_1195
  let c0_i32_1196 : BitVec 32 := 0#32
  let v1571 : BitVec 1 := Scalar.cmpi .slt v1567 c0_i32_1196
  let v1572 : BitVec 1 := Scalar.xori v1570 v1571
  let c0_i32_1194 : BitVec 32 := 0#32
  let v1569 : BitVec 1 := Scalar.cmpi .ne v1568 c0_i32_1194
  let v1573 : BitVec 1 := Scalar.andi v1572 v1569
  let v1574 : BitVec 32 := Scalar.addi v1568 v1567
  let v1575 : BitVec 32 := Scalar.select v1573 v1574 v1568
  let c1_i32_1200 : BitVec 32 := 1#32
  let v1576 : BitVec 32 := Scalar.muli v1575 c1_i32_1200
  let v1577 : BitVec 32 := Scalar.addi c0_i32_1201 v1576
  v1577.toNat
def k0_dev85 (d0 : Dev nD) : Nat :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1206 : BitVec 32 := 12#32
  let v1585 : BitVec 32 := Scalar.subi v2 c12_i32_1206
  let c32_i32_1207 : BitVec 32 := 32#32
  let c0_i32_1208 : BitVec 32 := 0#32
  let v1586 : BitVec 1 := Scalar.cmpi .eq c32_i32_1207 c0_i32_1208
  let c1_i32_1209 : BitVec 32 := 1#32
  let v1587 : BitVec 32 := Scalar.select v1586 c1_i32_1209 c32_i32_1207
  let v1588 : BitVec 32 := Scalar.remsi v1585 v1587
  let c0_i32_1211 : BitVec 32 := 0#32
  let v1590 : BitVec 1 := Scalar.cmpi .slt v1588 c0_i32_1211
  let c0_i32_1212 : BitVec 32 := 0#32
  let v1591 : BitVec 1 := Scalar.cmpi .slt v1587 c0_i32_1212
  let v1592 : BitVec 1 := Scalar.xori v1590 v1591
  let c0_i32_1210 : BitVec 32 := 0#32
  let v1589 : BitVec 1 := Scalar.cmpi .ne v1588 c0_i32_1210
  let v1593 : BitVec 1 := Scalar.andi v1592 v1589
  let v1594 : BitVec 32 := Scalar.addi v1588 v1587
  let v1595 : BitVec 32 := Scalar.select v1593 v1594 v1588
  let c1_i32_1216 : BitVec 32 := 1#32
  let v1596 : BitVec 32 := Scalar.muli v1595 c1_i32_1216
  let v1597 : BitVec 32 := Scalar.addi c0_i32_1217 v1596
  v1597.toNat
def k0_dev86 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1222 : BitVec 32 := 20#32
  let v1605 : BitVec 32 := Scalar.subi v2 c20_i32_1222
  let c32_i32_1223 : BitVec 32 := 32#32
  let c0_i32_1224 : BitVec 32 := 0#32
  let v1606 : BitVec 1 := Scalar.cmpi .eq c32_i32_1223 c0_i32_1224
  let c1_i32_1225 : BitVec 32 := 1#32
  let v1607 : BitVec 32 := Scalar.select v1606 c1_i32_1225 c32_i32_1223
  let v1608 : BitVec 32 := Scalar.remsi v1605 v1607
  let c0_i32_1227 : BitVec 32 := 0#32
  let v1610 : BitVec 1 := Scalar.cmpi .slt v1608 c0_i32_1227
  let c0_i32_1228 : BitVec 32 := 0#32
  let v1611 : BitVec 1 := Scalar.cmpi .slt v1607 c0_i32_1228
  let v1612 : BitVec 1 := Scalar.xori v1610 v1611
  let c0_i32_1226 : BitVec 32 := 0#32
  let v1609 : BitVec 1 := Scalar.cmpi .ne v1608 c0_i32_1226
  let v1613 : BitVec 1 := Scalar.andi v1612 v1609
  let v1614 : BitVec 32 := Scalar.addi v1608 v1607
  let v1615 : BitVec 32 := Scalar.select v1613 v1614 v1608
  let c1_i32_1232 : BitVec 32 := 1#32
  let v1616 : BitVec 32 := Scalar.muli v1615 c1_i32_1232
  let v1617 : BitVec 32 := Scalar.addi c0_i32_1233 v1616
  v1617.toNat
def k0_dev87 (d0 : Dev nD) : Nat :=
  let c0_i32_1249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1238 : BitVec 32 := 13#32
  let v1625 : BitVec 32 := Scalar.subi v2 c13_i32_1238
  let c32_i32_1239 : BitVec 32 := 32#32
  let c0_i32_1240 : BitVec 32 := 0#32
  let v1626 : BitVec 1 := Scalar.cmpi .eq c32_i32_1239 c0_i32_1240
  let c1_i32_1241 : BitVec 32 := 1#32
  let v1627 : BitVec 32 := Scalar.select v1626 c1_i32_1241 c32_i32_1239
  let v1628 : BitVec 32 := Scalar.remsi v1625 v1627
  let c0_i32_1243 : BitVec 32 := 0#32
  let v1630 : BitVec 1 := Scalar.cmpi .slt v1628 c0_i32_1243
  let c0_i32_1244 : BitVec 32 := 0#32
  let v1631 : BitVec 1 := Scalar.cmpi .slt v1627 c0_i32_1244
  let v1632 : BitVec 1 := Scalar.xori v1630 v1631
  let c0_i32_1242 : BitVec 32 := 0#32
  let v1629 : BitVec 1 := Scalar.cmpi .ne v1628 c0_i32_1242
  let v1633 : BitVec 1 := Scalar.andi v1632 v1629
  let v1634 : BitVec 32 := Scalar.addi v1628 v1627
  let v1635 : BitVec 32 := Scalar.select v1633 v1634 v1628
  let c1_i32_1248 : BitVec 32 := 1#32
  let v1636 : BitVec 32 := Scalar.muli v1635 c1_i32_1248
  let v1637 : BitVec 32 := Scalar.addi c0_i32_1249 v1636
  v1637.toNat
def k0_dev88 (d0 : Dev nD) : Nat :=
  let c0_i32_1265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1254 : BitVec 32 := 19#32
  let v1645 : BitVec 32 := Scalar.subi v2 c19_i32_1254
  let c32_i32_1255 : BitVec 32 := 32#32
  let c0_i32_1256 : BitVec 32 := 0#32
  let v1646 : BitVec 1 := Scalar.cmpi .eq c32_i32_1255 c0_i32_1256
  let c1_i32_1257 : BitVec 32 := 1#32
  let v1647 : BitVec 32 := Scalar.select v1646 c1_i32_1257 c32_i32_1255
  let v1648 : BitVec 32 := Scalar.remsi v1645 v1647
  let c0_i32_1259 : BitVec 32 := 0#32
  let v1650 : BitVec 1 := Scalar.cmpi .slt v1648 c0_i32_1259
  let c0_i32_1260 : BitVec 32 := 0#32
  let v1651 : BitVec 1 := Scalar.cmpi .slt v1647 c0_i32_1260
  let v1652 : BitVec 1 := Scalar.xori v1650 v1651
  let c0_i32_1258 : BitVec 32 := 0#32
  let v1649 : BitVec 1 := Scalar.cmpi .ne v1648 c0_i32_1258
  let v1653 : BitVec 1 := Scalar.andi v1652 v1649
  let v1654 : BitVec 32 := Scalar.addi v1648 v1647
  let v1655 : BitVec 32 := Scalar.select v1653 v1654 v1648
  let c1_i32_1264 : BitVec 32 := 1#32
  let v1656 : BitVec 32 := Scalar.muli v1655 c1_i32_1264
  let v1657 : BitVec 32 := Scalar.addi c0_i32_1265 v1656
  v1657.toNat
def k0_dev89 (d0 : Dev nD) : Nat :=
  let c0_i32_1281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1270 : BitVec 32 := 14#32
  let v1665 : BitVec 32 := Scalar.subi v2 c14_i32_1270
  let c32_i32_1271 : BitVec 32 := 32#32
  let c0_i32_1272 : BitVec 32 := 0#32
  let v1666 : BitVec 1 := Scalar.cmpi .eq c32_i32_1271 c0_i32_1272
  let c1_i32_1273 : BitVec 32 := 1#32
  let v1667 : BitVec 32 := Scalar.select v1666 c1_i32_1273 c32_i32_1271
  let v1668 : BitVec 32 := Scalar.remsi v1665 v1667
  let c0_i32_1275 : BitVec 32 := 0#32
  let v1670 : BitVec 1 := Scalar.cmpi .slt v1668 c0_i32_1275
  let c0_i32_1276 : BitVec 32 := 0#32
  let v1671 : BitVec 1 := Scalar.cmpi .slt v1667 c0_i32_1276
  let v1672 : BitVec 1 := Scalar.xori v1670 v1671
  let c0_i32_1274 : BitVec 32 := 0#32
  let v1669 : BitVec 1 := Scalar.cmpi .ne v1668 c0_i32_1274
  let v1673 : BitVec 1 := Scalar.andi v1672 v1669
  let v1674 : BitVec 32 := Scalar.addi v1668 v1667
  let v1675 : BitVec 32 := Scalar.select v1673 v1674 v1668
  let c1_i32_1280 : BitVec 32 := 1#32
  let v1676 : BitVec 32 := Scalar.muli v1675 c1_i32_1280
  let v1677 : BitVec 32 := Scalar.addi c0_i32_1281 v1676
  v1677.toNat
def k0_dev90 (d0 : Dev nD) : Nat :=
  let c0_i32_1297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1286 : BitVec 32 := 18#32
  let v1685 : BitVec 32 := Scalar.subi v2 c18_i32_1286
  let c32_i32_1287 : BitVec 32 := 32#32
  let c0_i32_1288 : BitVec 32 := 0#32
  let v1686 : BitVec 1 := Scalar.cmpi .eq c32_i32_1287 c0_i32_1288
  let c1_i32_1289 : BitVec 32 := 1#32
  let v1687 : BitVec 32 := Scalar.select v1686 c1_i32_1289 c32_i32_1287
  let v1688 : BitVec 32 := Scalar.remsi v1685 v1687
  let c0_i32_1291 : BitVec 32 := 0#32
  let v1690 : BitVec 1 := Scalar.cmpi .slt v1688 c0_i32_1291
  let c0_i32_1292 : BitVec 32 := 0#32
  let v1691 : BitVec 1 := Scalar.cmpi .slt v1687 c0_i32_1292
  let v1692 : BitVec 1 := Scalar.xori v1690 v1691
  let c0_i32_1290 : BitVec 32 := 0#32
  let v1689 : BitVec 1 := Scalar.cmpi .ne v1688 c0_i32_1290
  let v1693 : BitVec 1 := Scalar.andi v1692 v1689
  let v1694 : BitVec 32 := Scalar.addi v1688 v1687
  let v1695 : BitVec 32 := Scalar.select v1693 v1694 v1688
  let c1_i32_1296 : BitVec 32 := 1#32
  let v1696 : BitVec 32 := Scalar.muli v1695 c1_i32_1296
  let v1697 : BitVec 32 := Scalar.addi c0_i32_1297 v1696
  v1697.toNat
def k0_dev91 (d0 : Dev nD) : Nat :=
  let c0_i32_1313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1302 : BitVec 32 := 15#32
  let v1705 : BitVec 32 := Scalar.subi v2 c15_i32_1302
  let c32_i32_1303 : BitVec 32 := 32#32
  let c0_i32_1304 : BitVec 32 := 0#32
  let v1706 : BitVec 1 := Scalar.cmpi .eq c32_i32_1303 c0_i32_1304
  let c1_i32_1305 : BitVec 32 := 1#32
  let v1707 : BitVec 32 := Scalar.select v1706 c1_i32_1305 c32_i32_1303
  let v1708 : BitVec 32 := Scalar.remsi v1705 v1707
  let c0_i32_1307 : BitVec 32 := 0#32
  let v1710 : BitVec 1 := Scalar.cmpi .slt v1708 c0_i32_1307
  let c0_i32_1308 : BitVec 32 := 0#32
  let v1711 : BitVec 1 := Scalar.cmpi .slt v1707 c0_i32_1308
  let v1712 : BitVec 1 := Scalar.xori v1710 v1711
  let c0_i32_1306 : BitVec 32 := 0#32
  let v1709 : BitVec 1 := Scalar.cmpi .ne v1708 c0_i32_1306
  let v1713 : BitVec 1 := Scalar.andi v1712 v1709
  let v1714 : BitVec 32 := Scalar.addi v1708 v1707
  let v1715 : BitVec 32 := Scalar.select v1713 v1714 v1708
  let c1_i32_1312 : BitVec 32 := 1#32
  let v1716 : BitVec 32 := Scalar.muli v1715 c1_i32_1312
  let v1717 : BitVec 32 := Scalar.addi c0_i32_1313 v1716
  v1717.toNat
def k0_dev92 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1318 : BitVec 32 := 17#32
  let v1725 : BitVec 32 := Scalar.subi v2 c17_i32_1318
  let c32_i32_1319 : BitVec 32 := 32#32
  let c0_i32_1320 : BitVec 32 := 0#32
  let v1726 : BitVec 1 := Scalar.cmpi .eq c32_i32_1319 c0_i32_1320
  let c1_i32_1321 : BitVec 32 := 1#32
  let v1727 : BitVec 32 := Scalar.select v1726 c1_i32_1321 c32_i32_1319
  let v1728 : BitVec 32 := Scalar.remsi v1725 v1727
  let c0_i32_1323 : BitVec 32 := 0#32
  let v1730 : BitVec 1 := Scalar.cmpi .slt v1728 c0_i32_1323
  let c0_i32_1324 : BitVec 32 := 0#32
  let v1731 : BitVec 1 := Scalar.cmpi .slt v1727 c0_i32_1324
  let v1732 : BitVec 1 := Scalar.xori v1730 v1731
  let c0_i32_1322 : BitVec 32 := 0#32
  let v1729 : BitVec 1 := Scalar.cmpi .ne v1728 c0_i32_1322
  let v1733 : BitVec 1 := Scalar.andi v1732 v1729
  let v1734 : BitVec 32 := Scalar.addi v1728 v1727
  let v1735 : BitVec 32 := Scalar.select v1733 v1734 v1728
  let c1_i32_1328 : BitVec 32 := 1#32
  let v1736 : BitVec 32 := Scalar.muli v1735 c1_i32_1328
  let v1737 : BitVec 32 := Scalar.addi c0_i32_1329 v1736
  v1737.toNat
def k0_dev93 (d0 : Dev nD) : Nat :=
  let c0_i32_1345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1334 : BitVec 32 := 16#32
  let v1745 : BitVec 32 := Scalar.subi v2 c16_i32_1334
  let c32_i32_1335 : BitVec 32 := 32#32
  let c0_i32_1336 : BitVec 32 := 0#32
  let v1746 : BitVec 1 := Scalar.cmpi .eq c32_i32_1335 c0_i32_1336
  let c1_i32_1337 : BitVec 32 := 1#32
  let v1747 : BitVec 32 := Scalar.select v1746 c1_i32_1337 c32_i32_1335
  let v1748 : BitVec 32 := Scalar.remsi v1745 v1747
  let c0_i32_1339 : BitVec 32 := 0#32
  let v1750 : BitVec 1 := Scalar.cmpi .slt v1748 c0_i32_1339
  let c0_i32_1340 : BitVec 32 := 0#32
  let v1751 : BitVec 1 := Scalar.cmpi .slt v1747 c0_i32_1340
  let v1752 : BitVec 1 := Scalar.xori v1750 v1751
  let c0_i32_1338 : BitVec 32 := 0#32
  let v1749 : BitVec 1 := Scalar.cmpi .ne v1748 c0_i32_1338
  let v1753 : BitVec 1 := Scalar.andi v1752 v1749
  let v1754 : BitVec 32 := Scalar.addi v1748 v1747
  let v1755 : BitVec 32 := Scalar.select v1753 v1754 v1748
  let c1_i32_1344 : BitVec 32 := 1#32
  let v1756 : BitVec 32 := Scalar.muli v1755 c1_i32_1344
  let v1757 : BitVec 32 := Scalar.addi c0_i32_1345 v1756
  v1757.toNat
def k0_dev94 (d0 : Dev nD) : Nat :=
  let c0_i32_2047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2037 : BitVec 32 := 1#32
  let v2238 : BitVec 32 := Scalar.addi v2 c1_i32_2037
  let c32_i32_2038 : BitVec 32 := 32#32
  let c0_i32_2039 : BitVec 32 := 0#32
  let v2239 : BitVec 1 := Scalar.cmpi .eq c32_i32_2038 c0_i32_2039
  let c1_i32_2040 : BitVec 32 := 1#32
  let v2240 : BitVec 32 := Scalar.select v2239 c1_i32_2040 c32_i32_2038
  let v2241 : BitVec 32 := Scalar.remsi v2238 v2240
  let c0_i32_2042 : BitVec 32 := 0#32
  let v2243 : BitVec 1 := Scalar.cmpi .slt v2241 c0_i32_2042
  let c0_i32_2043 : BitVec 32 := 0#32
  let v2244 : BitVec 1 := Scalar.cmpi .slt v2240 c0_i32_2043
  let v2245 : BitVec 1 := Scalar.xori v2243 v2244
  let c0_i32_2041 : BitVec 32 := 0#32
  let v2242 : BitVec 1 := Scalar.cmpi .ne v2241 c0_i32_2041
  let v2246 : BitVec 1 := Scalar.andi v2245 v2242
  let v2247 : BitVec 32 := Scalar.addi v2241 v2240
  let v2248 : BitVec 32 := Scalar.select v2246 v2247 v2241
  let c1_i32_2046 : BitVec 32 := 1#32
  let v2249 : BitVec 32 := Scalar.muli v2248 c1_i32_2046
  let v2250 : BitVec 32 := Scalar.addi c0_i32_2047 v2249
  v2250.toNat
def k0_dev95 (d0 : Dev nD) : Nat :=
  let c0_i32_2060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2050 : BitVec 32 := 2#32
  let v2256 : BitVec 32 := Scalar.addi v2 c2_i32_2050
  let c32_i32_2051 : BitVec 32 := 32#32
  let c0_i32_2052 : BitVec 32 := 0#32
  let v2257 : BitVec 1 := Scalar.cmpi .eq c32_i32_2051 c0_i32_2052
  let c1_i32_2053 : BitVec 32 := 1#32
  let v2258 : BitVec 32 := Scalar.select v2257 c1_i32_2053 c32_i32_2051
  let v2259 : BitVec 32 := Scalar.remsi v2256 v2258
  let c0_i32_2055 : BitVec 32 := 0#32
  let v2261 : BitVec 1 := Scalar.cmpi .slt v2259 c0_i32_2055
  let c0_i32_2056 : BitVec 32 := 0#32
  let v2262 : BitVec 1 := Scalar.cmpi .slt v2258 c0_i32_2056
  let v2263 : BitVec 1 := Scalar.xori v2261 v2262
  let c0_i32_2054 : BitVec 32 := 0#32
  let v2260 : BitVec 1 := Scalar.cmpi .ne v2259 c0_i32_2054
  let v2264 : BitVec 1 := Scalar.andi v2263 v2260
  let v2265 : BitVec 32 := Scalar.addi v2259 v2258
  let v2266 : BitVec 32 := Scalar.select v2264 v2265 v2259
  let c1_i32_2059 : BitVec 32 := 1#32
  let v2267 : BitVec 32 := Scalar.muli v2266 c1_i32_2059
  let v2268 : BitVec 32 := Scalar.addi c0_i32_2060 v2267
  v2268.toNat
def k0_dev96 (d0 : Dev nD) : Nat :=
  let c0_i32_2073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2063 : BitVec 32 := 3#32
  let v2274 : BitVec 32 := Scalar.addi v2 c3_i32_2063
  let c32_i32_2064 : BitVec 32 := 32#32
  let c0_i32_2065 : BitVec 32 := 0#32
  let v2275 : BitVec 1 := Scalar.cmpi .eq c32_i32_2064 c0_i32_2065
  let c1_i32_2066 : BitVec 32 := 1#32
  let v2276 : BitVec 32 := Scalar.select v2275 c1_i32_2066 c32_i32_2064
  let v2277 : BitVec 32 := Scalar.remsi v2274 v2276
  let c0_i32_2068 : BitVec 32 := 0#32
  let v2279 : BitVec 1 := Scalar.cmpi .slt v2277 c0_i32_2068
  let c0_i32_2069 : BitVec 32 := 0#32
  let v2280 : BitVec 1 := Scalar.cmpi .slt v2276 c0_i32_2069
  let v2281 : BitVec 1 := Scalar.xori v2279 v2280
  let c0_i32_2067 : BitVec 32 := 0#32
  let v2278 : BitVec 1 := Scalar.cmpi .ne v2277 c0_i32_2067
  let v2282 : BitVec 1 := Scalar.andi v2281 v2278
  let v2283 : BitVec 32 := Scalar.addi v2277 v2276
  let v2284 : BitVec 32 := Scalar.select v2282 v2283 v2277
  let c1_i32_2072 : BitVec 32 := 1#32
  let v2285 : BitVec 32 := Scalar.muli v2284 c1_i32_2072
  let v2286 : BitVec 32 := Scalar.addi c0_i32_2073 v2285
  v2286.toNat
def k0_dev97 (d0 : Dev nD) : Nat :=
  let c0_i32_2086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2076 : BitVec 32 := 4#32
  let v2292 : BitVec 32 := Scalar.addi v2 c4_i32_2076
  let c32_i32_2077 : BitVec 32 := 32#32
  let c0_i32_2078 : BitVec 32 := 0#32
  let v2293 : BitVec 1 := Scalar.cmpi .eq c32_i32_2077 c0_i32_2078
  let c1_i32_2079 : BitVec 32 := 1#32
  let v2294 : BitVec 32 := Scalar.select v2293 c1_i32_2079 c32_i32_2077
  let v2295 : BitVec 32 := Scalar.remsi v2292 v2294
  let c0_i32_2081 : BitVec 32 := 0#32
  let v2297 : BitVec 1 := Scalar.cmpi .slt v2295 c0_i32_2081
  let c0_i32_2082 : BitVec 32 := 0#32
  let v2298 : BitVec 1 := Scalar.cmpi .slt v2294 c0_i32_2082
  let v2299 : BitVec 1 := Scalar.xori v2297 v2298
  let c0_i32_2080 : BitVec 32 := 0#32
  let v2296 : BitVec 1 := Scalar.cmpi .ne v2295 c0_i32_2080
  let v2300 : BitVec 1 := Scalar.andi v2299 v2296
  let v2301 : BitVec 32 := Scalar.addi v2295 v2294
  let v2302 : BitVec 32 := Scalar.select v2300 v2301 v2295
  let c1_i32_2085 : BitVec 32 := 1#32
  let v2303 : BitVec 32 := Scalar.muli v2302 c1_i32_2085
  let v2304 : BitVec 32 := Scalar.addi c0_i32_2086 v2303
  v2304.toNat
def k0_dev98 (d0 : Dev nD) : Nat :=
  let c0_i32_2099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2089 : BitVec 32 := 5#32
  let v2310 : BitVec 32 := Scalar.addi v2 c5_i32_2089
  let c32_i32_2090 : BitVec 32 := 32#32
  let c0_i32_2091 : BitVec 32 := 0#32
  let v2311 : BitVec 1 := Scalar.cmpi .eq c32_i32_2090 c0_i32_2091
  let c1_i32_2092 : BitVec 32 := 1#32
  let v2312 : BitVec 32 := Scalar.select v2311 c1_i32_2092 c32_i32_2090
  let v2313 : BitVec 32 := Scalar.remsi v2310 v2312
  let c0_i32_2094 : BitVec 32 := 0#32
  let v2315 : BitVec 1 := Scalar.cmpi .slt v2313 c0_i32_2094
  let c0_i32_2095 : BitVec 32 := 0#32
  let v2316 : BitVec 1 := Scalar.cmpi .slt v2312 c0_i32_2095
  let v2317 : BitVec 1 := Scalar.xori v2315 v2316
  let c0_i32_2093 : BitVec 32 := 0#32
  let v2314 : BitVec 1 := Scalar.cmpi .ne v2313 c0_i32_2093
  let v2318 : BitVec 1 := Scalar.andi v2317 v2314
  let v2319 : BitVec 32 := Scalar.addi v2313 v2312
  let v2320 : BitVec 32 := Scalar.select v2318 v2319 v2313
  let c1_i32_2098 : BitVec 32 := 1#32
  let v2321 : BitVec 32 := Scalar.muli v2320 c1_i32_2098
  let v2322 : BitVec 32 := Scalar.addi c0_i32_2099 v2321
  v2322.toNat
def k0_dev99 (d0 : Dev nD) : Nat :=
  let c0_i32_2112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2102 : BitVec 32 := 6#32
  let v2328 : BitVec 32 := Scalar.addi v2 c6_i32_2102
  let c32_i32_2103 : BitVec 32 := 32#32
  let c0_i32_2104 : BitVec 32 := 0#32
  let v2329 : BitVec 1 := Scalar.cmpi .eq c32_i32_2103 c0_i32_2104
  let c1_i32_2105 : BitVec 32 := 1#32
  let v2330 : BitVec 32 := Scalar.select v2329 c1_i32_2105 c32_i32_2103
  let v2331 : BitVec 32 := Scalar.remsi v2328 v2330
  let c0_i32_2107 : BitVec 32 := 0#32
  let v2333 : BitVec 1 := Scalar.cmpi .slt v2331 c0_i32_2107
  let c0_i32_2108 : BitVec 32 := 0#32
  let v2334 : BitVec 1 := Scalar.cmpi .slt v2330 c0_i32_2108
  let v2335 : BitVec 1 := Scalar.xori v2333 v2334
  let c0_i32_2106 : BitVec 32 := 0#32
  let v2332 : BitVec 1 := Scalar.cmpi .ne v2331 c0_i32_2106
  let v2336 : BitVec 1 := Scalar.andi v2335 v2332
  let v2337 : BitVec 32 := Scalar.addi v2331 v2330
  let v2338 : BitVec 32 := Scalar.select v2336 v2337 v2331
  let c1_i32_2111 : BitVec 32 := 1#32
  let v2339 : BitVec 32 := Scalar.muli v2338 c1_i32_2111
  let v2340 : BitVec 32 := Scalar.addi c0_i32_2112 v2339
  v2340.toNat
def k0_dev100 (d0 : Dev nD) : Nat :=
  let c0_i32_2125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2115 : BitVec 32 := 7#32
  let v2346 : BitVec 32 := Scalar.addi v2 c7_i32_2115
  let c32_i32_2116 : BitVec 32 := 32#32
  let c0_i32_2117 : BitVec 32 := 0#32
  let v2347 : BitVec 1 := Scalar.cmpi .eq c32_i32_2116 c0_i32_2117
  let c1_i32_2118 : BitVec 32 := 1#32
  let v2348 : BitVec 32 := Scalar.select v2347 c1_i32_2118 c32_i32_2116
  let v2349 : BitVec 32 := Scalar.remsi v2346 v2348
  let c0_i32_2120 : BitVec 32 := 0#32
  let v2351 : BitVec 1 := Scalar.cmpi .slt v2349 c0_i32_2120
  let c0_i32_2121 : BitVec 32 := 0#32
  let v2352 : BitVec 1 := Scalar.cmpi .slt v2348 c0_i32_2121
  let v2353 : BitVec 1 := Scalar.xori v2351 v2352
  let c0_i32_2119 : BitVec 32 := 0#32
  let v2350 : BitVec 1 := Scalar.cmpi .ne v2349 c0_i32_2119
  let v2354 : BitVec 1 := Scalar.andi v2353 v2350
  let v2355 : BitVec 32 := Scalar.addi v2349 v2348
  let v2356 : BitVec 32 := Scalar.select v2354 v2355 v2349
  let c1_i32_2124 : BitVec 32 := 1#32
  let v2357 : BitVec 32 := Scalar.muli v2356 c1_i32_2124
  let v2358 : BitVec 32 := Scalar.addi c0_i32_2125 v2357
  v2358.toNat
def k0_dev101 (d0 : Dev nD) : Nat :=
  let c0_i32_2138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2128 : BitVec 32 := 8#32
  let v2364 : BitVec 32 := Scalar.addi v2 c8_i32_2128
  let c32_i32_2129 : BitVec 32 := 32#32
  let c0_i32_2130 : BitVec 32 := 0#32
  let v2365 : BitVec 1 := Scalar.cmpi .eq c32_i32_2129 c0_i32_2130
  let c1_i32_2131 : BitVec 32 := 1#32
  let v2366 : BitVec 32 := Scalar.select v2365 c1_i32_2131 c32_i32_2129
  let v2367 : BitVec 32 := Scalar.remsi v2364 v2366
  let c0_i32_2133 : BitVec 32 := 0#32
  let v2369 : BitVec 1 := Scalar.cmpi .slt v2367 c0_i32_2133
  let c0_i32_2134 : BitVec 32 := 0#32
  let v2370 : BitVec 1 := Scalar.cmpi .slt v2366 c0_i32_2134
  let v2371 : BitVec 1 := Scalar.xori v2369 v2370
  let c0_i32_2132 : BitVec 32 := 0#32
  let v2368 : BitVec 1 := Scalar.cmpi .ne v2367 c0_i32_2132
  let v2372 : BitVec 1 := Scalar.andi v2371 v2368
  let v2373 : BitVec 32 := Scalar.addi v2367 v2366
  let v2374 : BitVec 32 := Scalar.select v2372 v2373 v2367
  let c1_i32_2137 : BitVec 32 := 1#32
  let v2375 : BitVec 32 := Scalar.muli v2374 c1_i32_2137
  let v2376 : BitVec 32 := Scalar.addi c0_i32_2138 v2375
  v2376.toNat
def k0_dev102 (d0 : Dev nD) : Nat :=
  let c0_i32_2151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2141 : BitVec 32 := 9#32
  let v2382 : BitVec 32 := Scalar.addi v2 c9_i32_2141
  let c32_i32_2142 : BitVec 32 := 32#32
  let c0_i32_2143 : BitVec 32 := 0#32
  let v2383 : BitVec 1 := Scalar.cmpi .eq c32_i32_2142 c0_i32_2143
  let c1_i32_2144 : BitVec 32 := 1#32
  let v2384 : BitVec 32 := Scalar.select v2383 c1_i32_2144 c32_i32_2142
  let v2385 : BitVec 32 := Scalar.remsi v2382 v2384
  let c0_i32_2146 : BitVec 32 := 0#32
  let v2387 : BitVec 1 := Scalar.cmpi .slt v2385 c0_i32_2146
  let c0_i32_2147 : BitVec 32 := 0#32
  let v2388 : BitVec 1 := Scalar.cmpi .slt v2384 c0_i32_2147
  let v2389 : BitVec 1 := Scalar.xori v2387 v2388
  let c0_i32_2145 : BitVec 32 := 0#32
  let v2386 : BitVec 1 := Scalar.cmpi .ne v2385 c0_i32_2145
  let v2390 : BitVec 1 := Scalar.andi v2389 v2386
  let v2391 : BitVec 32 := Scalar.addi v2385 v2384
  let v2392 : BitVec 32 := Scalar.select v2390 v2391 v2385
  let c1_i32_2150 : BitVec 32 := 1#32
  let v2393 : BitVec 32 := Scalar.muli v2392 c1_i32_2150
  let v2394 : BitVec 32 := Scalar.addi c0_i32_2151 v2393
  v2394.toNat
def k0_dev103 (d0 : Dev nD) : Nat :=
  let c0_i32_2164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2154 : BitVec 32 := 10#32
  let v2400 : BitVec 32 := Scalar.addi v2 c10_i32_2154
  let c32_i32_2155 : BitVec 32 := 32#32
  let c0_i32_2156 : BitVec 32 := 0#32
  let v2401 : BitVec 1 := Scalar.cmpi .eq c32_i32_2155 c0_i32_2156
  let c1_i32_2157 : BitVec 32 := 1#32
  let v2402 : BitVec 32 := Scalar.select v2401 c1_i32_2157 c32_i32_2155
  let v2403 : BitVec 32 := Scalar.remsi v2400 v2402
  let c0_i32_2159 : BitVec 32 := 0#32
  let v2405 : BitVec 1 := Scalar.cmpi .slt v2403 c0_i32_2159
  let c0_i32_2160 : BitVec 32 := 0#32
  let v2406 : BitVec 1 := Scalar.cmpi .slt v2402 c0_i32_2160
  let v2407 : BitVec 1 := Scalar.xori v2405 v2406
  let c0_i32_2158 : BitVec 32 := 0#32
  let v2404 : BitVec 1 := Scalar.cmpi .ne v2403 c0_i32_2158
  let v2408 : BitVec 1 := Scalar.andi v2407 v2404
  let v2409 : BitVec 32 := Scalar.addi v2403 v2402
  let v2410 : BitVec 32 := Scalar.select v2408 v2409 v2403
  let c1_i32_2163 : BitVec 32 := 1#32
  let v2411 : BitVec 32 := Scalar.muli v2410 c1_i32_2163
  let v2412 : BitVec 32 := Scalar.addi c0_i32_2164 v2411
  v2412.toNat
def k0_dev104 (d0 : Dev nD) : Nat :=
  let c0_i32_2177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2167 : BitVec 32 := 11#32
  let v2418 : BitVec 32 := Scalar.addi v2 c11_i32_2167
  let c32_i32_2168 : BitVec 32 := 32#32
  let c0_i32_2169 : BitVec 32 := 0#32
  let v2419 : BitVec 1 := Scalar.cmpi .eq c32_i32_2168 c0_i32_2169
  let c1_i32_2170 : BitVec 32 := 1#32
  let v2420 : BitVec 32 := Scalar.select v2419 c1_i32_2170 c32_i32_2168
  let v2421 : BitVec 32 := Scalar.remsi v2418 v2420
  let c0_i32_2172 : BitVec 32 := 0#32
  let v2423 : BitVec 1 := Scalar.cmpi .slt v2421 c0_i32_2172
  let c0_i32_2173 : BitVec 32 := 0#32
  let v2424 : BitVec 1 := Scalar.cmpi .slt v2420 c0_i32_2173
  let v2425 : BitVec 1 := Scalar.xori v2423 v2424
  let c0_i32_2171 : BitVec 32 := 0#32
  let v2422 : BitVec 1 := Scalar.cmpi .ne v2421 c0_i32_2171
  let v2426 : BitVec 1 := Scalar.andi v2425 v2422
  let v2427 : BitVec 32 := Scalar.addi v2421 v2420
  let v2428 : BitVec 32 := Scalar.select v2426 v2427 v2421
  let c1_i32_2176 : BitVec 32 := 1#32
  let v2429 : BitVec 32 := Scalar.muli v2428 c1_i32_2176
  let v2430 : BitVec 32 := Scalar.addi c0_i32_2177 v2429
  v2430.toNat
def k0_dev105 (d0 : Dev nD) : Nat :=
  let c0_i32_2190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2180 : BitVec 32 := 12#32
  let v2436 : BitVec 32 := Scalar.addi v2 c12_i32_2180
  let c32_i32_2181 : BitVec 32 := 32#32
  let c0_i32_2182 : BitVec 32 := 0#32
  let v2437 : BitVec 1 := Scalar.cmpi .eq c32_i32_2181 c0_i32_2182
  let c1_i32_2183 : BitVec 32 := 1#32
  let v2438 : BitVec 32 := Scalar.select v2437 c1_i32_2183 c32_i32_2181
  let v2439 : BitVec 32 := Scalar.remsi v2436 v2438
  let c0_i32_2185 : BitVec 32 := 0#32
  let v2441 : BitVec 1 := Scalar.cmpi .slt v2439 c0_i32_2185
  let c0_i32_2186 : BitVec 32 := 0#32
  let v2442 : BitVec 1 := Scalar.cmpi .slt v2438 c0_i32_2186
  let v2443 : BitVec 1 := Scalar.xori v2441 v2442
  let c0_i32_2184 : BitVec 32 := 0#32
  let v2440 : BitVec 1 := Scalar.cmpi .ne v2439 c0_i32_2184
  let v2444 : BitVec 1 := Scalar.andi v2443 v2440
  let v2445 : BitVec 32 := Scalar.addi v2439 v2438
  let v2446 : BitVec 32 := Scalar.select v2444 v2445 v2439
  let c1_i32_2189 : BitVec 32 := 1#32
  let v2447 : BitVec 32 := Scalar.muli v2446 c1_i32_2189
  let v2448 : BitVec 32 := Scalar.addi c0_i32_2190 v2447
  v2448.toNat
def k0_dev106 (d0 : Dev nD) : Nat :=
  let c0_i32_2203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2193 : BitVec 32 := 13#32
  let v2454 : BitVec 32 := Scalar.addi v2 c13_i32_2193
  let c32_i32_2194 : BitVec 32 := 32#32
  let c0_i32_2195 : BitVec 32 := 0#32
  let v2455 : BitVec 1 := Scalar.cmpi .eq c32_i32_2194 c0_i32_2195
  let c1_i32_2196 : BitVec 32 := 1#32
  let v2456 : BitVec 32 := Scalar.select v2455 c1_i32_2196 c32_i32_2194
  let v2457 : BitVec 32 := Scalar.remsi v2454 v2456
  let c0_i32_2198 : BitVec 32 := 0#32
  let v2459 : BitVec 1 := Scalar.cmpi .slt v2457 c0_i32_2198
  let c0_i32_2199 : BitVec 32 := 0#32
  let v2460 : BitVec 1 := Scalar.cmpi .slt v2456 c0_i32_2199
  let v2461 : BitVec 1 := Scalar.xori v2459 v2460
  let c0_i32_2197 : BitVec 32 := 0#32
  let v2458 : BitVec 1 := Scalar.cmpi .ne v2457 c0_i32_2197
  let v2462 : BitVec 1 := Scalar.andi v2461 v2458
  let v2463 : BitVec 32 := Scalar.addi v2457 v2456
  let v2464 : BitVec 32 := Scalar.select v2462 v2463 v2457
  let c1_i32_2202 : BitVec 32 := 1#32
  let v2465 : BitVec 32 := Scalar.muli v2464 c1_i32_2202
  let v2466 : BitVec 32 := Scalar.addi c0_i32_2203 v2465
  v2466.toNat
def k0_dev107 (d0 : Dev nD) : Nat :=
  let c0_i32_2216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2206 : BitVec 32 := 14#32
  let v2472 : BitVec 32 := Scalar.addi v2 c14_i32_2206
  let c32_i32_2207 : BitVec 32 := 32#32
  let c0_i32_2208 : BitVec 32 := 0#32
  let v2473 : BitVec 1 := Scalar.cmpi .eq c32_i32_2207 c0_i32_2208
  let c1_i32_2209 : BitVec 32 := 1#32
  let v2474 : BitVec 32 := Scalar.select v2473 c1_i32_2209 c32_i32_2207
  let v2475 : BitVec 32 := Scalar.remsi v2472 v2474
  let c0_i32_2211 : BitVec 32 := 0#32
  let v2477 : BitVec 1 := Scalar.cmpi .slt v2475 c0_i32_2211
  let c0_i32_2212 : BitVec 32 := 0#32
  let v2478 : BitVec 1 := Scalar.cmpi .slt v2474 c0_i32_2212
  let v2479 : BitVec 1 := Scalar.xori v2477 v2478
  let c0_i32_2210 : BitVec 32 := 0#32
  let v2476 : BitVec 1 := Scalar.cmpi .ne v2475 c0_i32_2210
  let v2480 : BitVec 1 := Scalar.andi v2479 v2476
  let v2481 : BitVec 32 := Scalar.addi v2475 v2474
  let v2482 : BitVec 32 := Scalar.select v2480 v2481 v2475
  let c1_i32_2215 : BitVec 32 := 1#32
  let v2483 : BitVec 32 := Scalar.muli v2482 c1_i32_2215
  let v2484 : BitVec 32 := Scalar.addi c0_i32_2216 v2483
  v2484.toNat
def k0_dev108 (d0 : Dev nD) : Nat :=
  let c0_i32_2229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2219 : BitVec 32 := 15#32
  let v2490 : BitVec 32 := Scalar.addi v2 c15_i32_2219
  let c32_i32_2220 : BitVec 32 := 32#32
  let c0_i32_2221 : BitVec 32 := 0#32
  let v2491 : BitVec 1 := Scalar.cmpi .eq c32_i32_2220 c0_i32_2221
  let c1_i32_2222 : BitVec 32 := 1#32
  let v2492 : BitVec 32 := Scalar.select v2491 c1_i32_2222 c32_i32_2220
  let v2493 : BitVec 32 := Scalar.remsi v2490 v2492
  let c0_i32_2224 : BitVec 32 := 0#32
  let v2495 : BitVec 1 := Scalar.cmpi .slt v2493 c0_i32_2224
  let c0_i32_2225 : BitVec 32 := 0#32
  let v2496 : BitVec 1 := Scalar.cmpi .slt v2492 c0_i32_2225
  let v2497 : BitVec 1 := Scalar.xori v2495 v2496
  let c0_i32_2223 : BitVec 32 := 0#32
  let v2494 : BitVec 1 := Scalar.cmpi .ne v2493 c0_i32_2223
  let v2498 : BitVec 1 := Scalar.andi v2497 v2494
  let v2499 : BitVec 32 := Scalar.addi v2493 v2492
  let v2500 : BitVec 32 := Scalar.select v2498 v2499 v2493
  let c1_i32_2228 : BitVec 32 := 1#32
  let v2501 : BitVec 32 := Scalar.muli v2500 c1_i32_2228
  let v2502 : BitVec 32 := Scalar.addi c0_i32_2229 v2501
  v2502.toNat
def k0_dev109 (d0 : Dev nD) : Nat :=
  let c0_i32_2242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2232 : BitVec 32 := 16#32
  let v2508 : BitVec 32 := Scalar.addi v2 c16_i32_2232
  let c32_i32_2233 : BitVec 32 := 32#32
  let c0_i32_2234 : BitVec 32 := 0#32
  let v2509 : BitVec 1 := Scalar.cmpi .eq c32_i32_2233 c0_i32_2234
  let c1_i32_2235 : BitVec 32 := 1#32
  let v2510 : BitVec 32 := Scalar.select v2509 c1_i32_2235 c32_i32_2233
  let v2511 : BitVec 32 := Scalar.remsi v2508 v2510
  let c0_i32_2237 : BitVec 32 := 0#32
  let v2513 : BitVec 1 := Scalar.cmpi .slt v2511 c0_i32_2237
  let c0_i32_2238 : BitVec 32 := 0#32
  let v2514 : BitVec 1 := Scalar.cmpi .slt v2510 c0_i32_2238
  let v2515 : BitVec 1 := Scalar.xori v2513 v2514
  let c0_i32_2236 : BitVec 32 := 0#32
  let v2512 : BitVec 1 := Scalar.cmpi .ne v2511 c0_i32_2236
  let v2516 : BitVec 1 := Scalar.andi v2515 v2512
  let v2517 : BitVec 32 := Scalar.addi v2511 v2510
  let v2518 : BitVec 32 := Scalar.select v2516 v2517 v2511
  let c1_i32_2241 : BitVec 32 := 1#32
  let v2519 : BitVec 32 := Scalar.muli v2518 c1_i32_2241
  let v2520 : BitVec 32 := Scalar.addi c0_i32_2242 v2519
  v2520.toNat
def k0_dev110 (d0 : Dev nD) : Nat :=
  let c0_i32_2255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2245 : BitVec 32 := 17#32
  let v2526 : BitVec 32 := Scalar.addi v2 c17_i32_2245
  let c32_i32_2246 : BitVec 32 := 32#32
  let c0_i32_2247 : BitVec 32 := 0#32
  let v2527 : BitVec 1 := Scalar.cmpi .eq c32_i32_2246 c0_i32_2247
  let c1_i32_2248 : BitVec 32 := 1#32
  let v2528 : BitVec 32 := Scalar.select v2527 c1_i32_2248 c32_i32_2246
  let v2529 : BitVec 32 := Scalar.remsi v2526 v2528
  let c0_i32_2250 : BitVec 32 := 0#32
  let v2531 : BitVec 1 := Scalar.cmpi .slt v2529 c0_i32_2250
  let c0_i32_2251 : BitVec 32 := 0#32
  let v2532 : BitVec 1 := Scalar.cmpi .slt v2528 c0_i32_2251
  let v2533 : BitVec 1 := Scalar.xori v2531 v2532
  let c0_i32_2249 : BitVec 32 := 0#32
  let v2530 : BitVec 1 := Scalar.cmpi .ne v2529 c0_i32_2249
  let v2534 : BitVec 1 := Scalar.andi v2533 v2530
  let v2535 : BitVec 32 := Scalar.addi v2529 v2528
  let v2536 : BitVec 32 := Scalar.select v2534 v2535 v2529
  let c1_i32_2254 : BitVec 32 := 1#32
  let v2537 : BitVec 32 := Scalar.muli v2536 c1_i32_2254
  let v2538 : BitVec 32 := Scalar.addi c0_i32_2255 v2537
  v2538.toNat
def k0_dev111 (d0 : Dev nD) : Nat :=
  let c0_i32_2268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2258 : BitVec 32 := 18#32
  let v2544 : BitVec 32 := Scalar.addi v2 c18_i32_2258
  let c32_i32_2259 : BitVec 32 := 32#32
  let c0_i32_2260 : BitVec 32 := 0#32
  let v2545 : BitVec 1 := Scalar.cmpi .eq c32_i32_2259 c0_i32_2260
  let c1_i32_2261 : BitVec 32 := 1#32
  let v2546 : BitVec 32 := Scalar.select v2545 c1_i32_2261 c32_i32_2259
  let v2547 : BitVec 32 := Scalar.remsi v2544 v2546
  let c0_i32_2263 : BitVec 32 := 0#32
  let v2549 : BitVec 1 := Scalar.cmpi .slt v2547 c0_i32_2263
  let c0_i32_2264 : BitVec 32 := 0#32
  let v2550 : BitVec 1 := Scalar.cmpi .slt v2546 c0_i32_2264
  let v2551 : BitVec 1 := Scalar.xori v2549 v2550
  let c0_i32_2262 : BitVec 32 := 0#32
  let v2548 : BitVec 1 := Scalar.cmpi .ne v2547 c0_i32_2262
  let v2552 : BitVec 1 := Scalar.andi v2551 v2548
  let v2553 : BitVec 32 := Scalar.addi v2547 v2546
  let v2554 : BitVec 32 := Scalar.select v2552 v2553 v2547
  let c1_i32_2267 : BitVec 32 := 1#32
  let v2555 : BitVec 32 := Scalar.muli v2554 c1_i32_2267
  let v2556 : BitVec 32 := Scalar.addi c0_i32_2268 v2555
  v2556.toNat
def k0_dev112 (d0 : Dev nD) : Nat :=
  let c0_i32_2281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2271 : BitVec 32 := 19#32
  let v2562 : BitVec 32 := Scalar.addi v2 c19_i32_2271
  let c32_i32_2272 : BitVec 32 := 32#32
  let c0_i32_2273 : BitVec 32 := 0#32
  let v2563 : BitVec 1 := Scalar.cmpi .eq c32_i32_2272 c0_i32_2273
  let c1_i32_2274 : BitVec 32 := 1#32
  let v2564 : BitVec 32 := Scalar.select v2563 c1_i32_2274 c32_i32_2272
  let v2565 : BitVec 32 := Scalar.remsi v2562 v2564
  let c0_i32_2276 : BitVec 32 := 0#32
  let v2567 : BitVec 1 := Scalar.cmpi .slt v2565 c0_i32_2276
  let c0_i32_2277 : BitVec 32 := 0#32
  let v2568 : BitVec 1 := Scalar.cmpi .slt v2564 c0_i32_2277
  let v2569 : BitVec 1 := Scalar.xori v2567 v2568
  let c0_i32_2275 : BitVec 32 := 0#32
  let v2566 : BitVec 1 := Scalar.cmpi .ne v2565 c0_i32_2275
  let v2570 : BitVec 1 := Scalar.andi v2569 v2566
  let v2571 : BitVec 32 := Scalar.addi v2565 v2564
  let v2572 : BitVec 32 := Scalar.select v2570 v2571 v2565
  let c1_i32_2280 : BitVec 32 := 1#32
  let v2573 : BitVec 32 := Scalar.muli v2572 c1_i32_2280
  let v2574 : BitVec 32 := Scalar.addi c0_i32_2281 v2573
  v2574.toNat
def k0_dev113 (d0 : Dev nD) : Nat :=
  let c0_i32_2294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2284 : BitVec 32 := 20#32
  let v2580 : BitVec 32 := Scalar.addi v2 c20_i32_2284
  let c32_i32_2285 : BitVec 32 := 32#32
  let c0_i32_2286 : BitVec 32 := 0#32
  let v2581 : BitVec 1 := Scalar.cmpi .eq c32_i32_2285 c0_i32_2286
  let c1_i32_2287 : BitVec 32 := 1#32
  let v2582 : BitVec 32 := Scalar.select v2581 c1_i32_2287 c32_i32_2285
  let v2583 : BitVec 32 := Scalar.remsi v2580 v2582
  let c0_i32_2289 : BitVec 32 := 0#32
  let v2585 : BitVec 1 := Scalar.cmpi .slt v2583 c0_i32_2289
  let c0_i32_2290 : BitVec 32 := 0#32
  let v2586 : BitVec 1 := Scalar.cmpi .slt v2582 c0_i32_2290
  let v2587 : BitVec 1 := Scalar.xori v2585 v2586
  let c0_i32_2288 : BitVec 32 := 0#32
  let v2584 : BitVec 1 := Scalar.cmpi .ne v2583 c0_i32_2288
  let v2588 : BitVec 1 := Scalar.andi v2587 v2584
  let v2589 : BitVec 32 := Scalar.addi v2583 v2582
  let v2590 : BitVec 32 := Scalar.select v2588 v2589 v2583
  let c1_i32_2293 : BitVec 32 := 1#32
  let v2591 : BitVec 32 := Scalar.muli v2590 c1_i32_2293
  let v2592 : BitVec 32 := Scalar.addi c0_i32_2294 v2591
  v2592.toNat
def k0_dev114 (d0 : Dev nD) : Nat :=
  let c0_i32_2307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2297 : BitVec 32 := 21#32
  let v2598 : BitVec 32 := Scalar.addi v2 c21_i32_2297
  let c32_i32_2298 : BitVec 32 := 32#32
  let c0_i32_2299 : BitVec 32 := 0#32
  let v2599 : BitVec 1 := Scalar.cmpi .eq c32_i32_2298 c0_i32_2299
  let c1_i32_2300 : BitVec 32 := 1#32
  let v2600 : BitVec 32 := Scalar.select v2599 c1_i32_2300 c32_i32_2298
  let v2601 : BitVec 32 := Scalar.remsi v2598 v2600
  let c0_i32_2302 : BitVec 32 := 0#32
  let v2603 : BitVec 1 := Scalar.cmpi .slt v2601 c0_i32_2302
  let c0_i32_2303 : BitVec 32 := 0#32
  let v2604 : BitVec 1 := Scalar.cmpi .slt v2600 c0_i32_2303
  let v2605 : BitVec 1 := Scalar.xori v2603 v2604
  let c0_i32_2301 : BitVec 32 := 0#32
  let v2602 : BitVec 1 := Scalar.cmpi .ne v2601 c0_i32_2301
  let v2606 : BitVec 1 := Scalar.andi v2605 v2602
  let v2607 : BitVec 32 := Scalar.addi v2601 v2600
  let v2608 : BitVec 32 := Scalar.select v2606 v2607 v2601
  let c1_i32_2306 : BitVec 32 := 1#32
  let v2609 : BitVec 32 := Scalar.muli v2608 c1_i32_2306
  let v2610 : BitVec 32 := Scalar.addi c0_i32_2307 v2609
  v2610.toNat
def k0_dev115 (d0 : Dev nD) : Nat :=
  let c0_i32_2320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2310 : BitVec 32 := 22#32
  let v2616 : BitVec 32 := Scalar.addi v2 c22_i32_2310
  let c32_i32_2311 : BitVec 32 := 32#32
  let c0_i32_2312 : BitVec 32 := 0#32
  let v2617 : BitVec 1 := Scalar.cmpi .eq c32_i32_2311 c0_i32_2312
  let c1_i32_2313 : BitVec 32 := 1#32
  let v2618 : BitVec 32 := Scalar.select v2617 c1_i32_2313 c32_i32_2311
  let v2619 : BitVec 32 := Scalar.remsi v2616 v2618
  let c0_i32_2315 : BitVec 32 := 0#32
  let v2621 : BitVec 1 := Scalar.cmpi .slt v2619 c0_i32_2315
  let c0_i32_2316 : BitVec 32 := 0#32
  let v2622 : BitVec 1 := Scalar.cmpi .slt v2618 c0_i32_2316
  let v2623 : BitVec 1 := Scalar.xori v2621 v2622
  let c0_i32_2314 : BitVec 32 := 0#32
  let v2620 : BitVec 1 := Scalar.cmpi .ne v2619 c0_i32_2314
  let v2624 : BitVec 1 := Scalar.andi v2623 v2620
  let v2625 : BitVec 32 := Scalar.addi v2619 v2618
  let v2626 : BitVec 32 := Scalar.select v2624 v2625 v2619
  let c1_i32_2319 : BitVec 32 := 1#32
  let v2627 : BitVec 32 := Scalar.muli v2626 c1_i32_2319
  let v2628 : BitVec 32 := Scalar.addi c0_i32_2320 v2627
  v2628.toNat
def k0_dev116 (d0 : Dev nD) : Nat :=
  let c0_i32_2333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2323 : BitVec 32 := 23#32
  let v2634 : BitVec 32 := Scalar.addi v2 c23_i32_2323
  let c32_i32_2324 : BitVec 32 := 32#32
  let c0_i32_2325 : BitVec 32 := 0#32
  let v2635 : BitVec 1 := Scalar.cmpi .eq c32_i32_2324 c0_i32_2325
  let c1_i32_2326 : BitVec 32 := 1#32
  let v2636 : BitVec 32 := Scalar.select v2635 c1_i32_2326 c32_i32_2324
  let v2637 : BitVec 32 := Scalar.remsi v2634 v2636
  let c0_i32_2328 : BitVec 32 := 0#32
  let v2639 : BitVec 1 := Scalar.cmpi .slt v2637 c0_i32_2328
  let c0_i32_2329 : BitVec 32 := 0#32
  let v2640 : BitVec 1 := Scalar.cmpi .slt v2636 c0_i32_2329
  let v2641 : BitVec 1 := Scalar.xori v2639 v2640
  let c0_i32_2327 : BitVec 32 := 0#32
  let v2638 : BitVec 1 := Scalar.cmpi .ne v2637 c0_i32_2327
  let v2642 : BitVec 1 := Scalar.andi v2641 v2638
  let v2643 : BitVec 32 := Scalar.addi v2637 v2636
  let v2644 : BitVec 32 := Scalar.select v2642 v2643 v2637
  let c1_i32_2332 : BitVec 32 := 1#32
  let v2645 : BitVec 32 := Scalar.muli v2644 c1_i32_2332
  let v2646 : BitVec 32 := Scalar.addi c0_i32_2333 v2645
  v2646.toNat
def k0_dev117 (d0 : Dev nD) : Nat :=
  let c0_i32_2346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2336 : BitVec 32 := 24#32
  let v2652 : BitVec 32 := Scalar.addi v2 c24_i32_2336
  let c32_i32_2337 : BitVec 32 := 32#32
  let c0_i32_2338 : BitVec 32 := 0#32
  let v2653 : BitVec 1 := Scalar.cmpi .eq c32_i32_2337 c0_i32_2338
  let c1_i32_2339 : BitVec 32 := 1#32
  let v2654 : BitVec 32 := Scalar.select v2653 c1_i32_2339 c32_i32_2337
  let v2655 : BitVec 32 := Scalar.remsi v2652 v2654
  let c0_i32_2341 : BitVec 32 := 0#32
  let v2657 : BitVec 1 := Scalar.cmpi .slt v2655 c0_i32_2341
  let c0_i32_2342 : BitVec 32 := 0#32
  let v2658 : BitVec 1 := Scalar.cmpi .slt v2654 c0_i32_2342
  let v2659 : BitVec 1 := Scalar.xori v2657 v2658
  let c0_i32_2340 : BitVec 32 := 0#32
  let v2656 : BitVec 1 := Scalar.cmpi .ne v2655 c0_i32_2340
  let v2660 : BitVec 1 := Scalar.andi v2659 v2656
  let v2661 : BitVec 32 := Scalar.addi v2655 v2654
  let v2662 : BitVec 32 := Scalar.select v2660 v2661 v2655
  let c1_i32_2345 : BitVec 32 := 1#32
  let v2663 : BitVec 32 := Scalar.muli v2662 c1_i32_2345
  let v2664 : BitVec 32 := Scalar.addi c0_i32_2346 v2663
  v2664.toNat
def k0_dev118 (d0 : Dev nD) : Nat :=
  let c0_i32_2359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2349 : BitVec 32 := 25#32
  let v2670 : BitVec 32 := Scalar.addi v2 c25_i32_2349
  let c32_i32_2350 : BitVec 32 := 32#32
  let c0_i32_2351 : BitVec 32 := 0#32
  let v2671 : BitVec 1 := Scalar.cmpi .eq c32_i32_2350 c0_i32_2351
  let c1_i32_2352 : BitVec 32 := 1#32
  let v2672 : BitVec 32 := Scalar.select v2671 c1_i32_2352 c32_i32_2350
  let v2673 : BitVec 32 := Scalar.remsi v2670 v2672
  let c0_i32_2354 : BitVec 32 := 0#32
  let v2675 : BitVec 1 := Scalar.cmpi .slt v2673 c0_i32_2354
  let c0_i32_2355 : BitVec 32 := 0#32
  let v2676 : BitVec 1 := Scalar.cmpi .slt v2672 c0_i32_2355
  let v2677 : BitVec 1 := Scalar.xori v2675 v2676
  let c0_i32_2353 : BitVec 32 := 0#32
  let v2674 : BitVec 1 := Scalar.cmpi .ne v2673 c0_i32_2353
  let v2678 : BitVec 1 := Scalar.andi v2677 v2674
  let v2679 : BitVec 32 := Scalar.addi v2673 v2672
  let v2680 : BitVec 32 := Scalar.select v2678 v2679 v2673
  let c1_i32_2358 : BitVec 32 := 1#32
  let v2681 : BitVec 32 := Scalar.muli v2680 c1_i32_2358
  let v2682 : BitVec 32 := Scalar.addi c0_i32_2359 v2681
  v2682.toNat
def k0_dev119 (d0 : Dev nD) : Nat :=
  let c0_i32_2372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2362 : BitVec 32 := 26#32
  let v2688 : BitVec 32 := Scalar.addi v2 c26_i32_2362
  let c32_i32_2363 : BitVec 32 := 32#32
  let c0_i32_2364 : BitVec 32 := 0#32
  let v2689 : BitVec 1 := Scalar.cmpi .eq c32_i32_2363 c0_i32_2364
  let c1_i32_2365 : BitVec 32 := 1#32
  let v2690 : BitVec 32 := Scalar.select v2689 c1_i32_2365 c32_i32_2363
  let v2691 : BitVec 32 := Scalar.remsi v2688 v2690
  let c0_i32_2367 : BitVec 32 := 0#32
  let v2693 : BitVec 1 := Scalar.cmpi .slt v2691 c0_i32_2367
  let c0_i32_2368 : BitVec 32 := 0#32
  let v2694 : BitVec 1 := Scalar.cmpi .slt v2690 c0_i32_2368
  let v2695 : BitVec 1 := Scalar.xori v2693 v2694
  let c0_i32_2366 : BitVec 32 := 0#32
  let v2692 : BitVec 1 := Scalar.cmpi .ne v2691 c0_i32_2366
  let v2696 : BitVec 1 := Scalar.andi v2695 v2692
  let v2697 : BitVec 32 := Scalar.addi v2691 v2690
  let v2698 : BitVec 32 := Scalar.select v2696 v2697 v2691
  let c1_i32_2371 : BitVec 32 := 1#32
  let v2699 : BitVec 32 := Scalar.muli v2698 c1_i32_2371
  let v2700 : BitVec 32 := Scalar.addi c0_i32_2372 v2699
  v2700.toNat
def k0_dev120 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2375 : BitVec 32 := 27#32
  let v2706 : BitVec 32 := Scalar.addi v2 c27_i32_2375
  let c32_i32_2376 : BitVec 32 := 32#32
  let c0_i32_2377 : BitVec 32 := 0#32
  let v2707 : BitVec 1 := Scalar.cmpi .eq c32_i32_2376 c0_i32_2377
  let c1_i32_2378 : BitVec 32 := 1#32
  let v2708 : BitVec 32 := Scalar.select v2707 c1_i32_2378 c32_i32_2376
  let v2709 : BitVec 32 := Scalar.remsi v2706 v2708
  let c0_i32_2380 : BitVec 32 := 0#32
  let v2711 : BitVec 1 := Scalar.cmpi .slt v2709 c0_i32_2380
  let c0_i32_2381 : BitVec 32 := 0#32
  let v2712 : BitVec 1 := Scalar.cmpi .slt v2708 c0_i32_2381
  let v2713 : BitVec 1 := Scalar.xori v2711 v2712
  let c0_i32_2379 : BitVec 32 := 0#32
  let v2710 : BitVec 1 := Scalar.cmpi .ne v2709 c0_i32_2379
  let v2714 : BitVec 1 := Scalar.andi v2713 v2710
  let v2715 : BitVec 32 := Scalar.addi v2709 v2708
  let v2716 : BitVec 32 := Scalar.select v2714 v2715 v2709
  let c1_i32_2384 : BitVec 32 := 1#32
  let v2717 : BitVec 32 := Scalar.muli v2716 c1_i32_2384
  let v2718 : BitVec 32 := Scalar.addi c0_i32_2385 v2717
  v2718.toNat
def k0_dev121 (d0 : Dev nD) : Nat :=
  let c0_i32_2398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2388 : BitVec 32 := 28#32
  let v2724 : BitVec 32 := Scalar.addi v2 c28_i32_2388
  let c32_i32_2389 : BitVec 32 := 32#32
  let c0_i32_2390 : BitVec 32 := 0#32
  let v2725 : BitVec 1 := Scalar.cmpi .eq c32_i32_2389 c0_i32_2390
  let c1_i32_2391 : BitVec 32 := 1#32
  let v2726 : BitVec 32 := Scalar.select v2725 c1_i32_2391 c32_i32_2389
  let v2727 : BitVec 32 := Scalar.remsi v2724 v2726
  let c0_i32_2393 : BitVec 32 := 0#32
  let v2729 : BitVec 1 := Scalar.cmpi .slt v2727 c0_i32_2393
  let c0_i32_2394 : BitVec 32 := 0#32
  let v2730 : BitVec 1 := Scalar.cmpi .slt v2726 c0_i32_2394
  let v2731 : BitVec 1 := Scalar.xori v2729 v2730
  let c0_i32_2392 : BitVec 32 := 0#32
  let v2728 : BitVec 1 := Scalar.cmpi .ne v2727 c0_i32_2392
  let v2732 : BitVec 1 := Scalar.andi v2731 v2728
  let v2733 : BitVec 32 := Scalar.addi v2727 v2726
  let v2734 : BitVec 32 := Scalar.select v2732 v2733 v2727
  let c1_i32_2397 : BitVec 32 := 1#32
  let v2735 : BitVec 32 := Scalar.muli v2734 c1_i32_2397
  let v2736 : BitVec 32 := Scalar.addi c0_i32_2398 v2735
  v2736.toNat
def k0_dev122 (d0 : Dev nD) : Nat :=
  let c0_i32_2411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2401 : BitVec 32 := 29#32
  let v2742 : BitVec 32 := Scalar.addi v2 c29_i32_2401
  let c32_i32_2402 : BitVec 32 := 32#32
  let c0_i32_2403 : BitVec 32 := 0#32
  let v2743 : BitVec 1 := Scalar.cmpi .eq c32_i32_2402 c0_i32_2403
  let c1_i32_2404 : BitVec 32 := 1#32
  let v2744 : BitVec 32 := Scalar.select v2743 c1_i32_2404 c32_i32_2402
  let v2745 : BitVec 32 := Scalar.remsi v2742 v2744
  let c0_i32_2406 : BitVec 32 := 0#32
  let v2747 : BitVec 1 := Scalar.cmpi .slt v2745 c0_i32_2406
  let c0_i32_2407 : BitVec 32 := 0#32
  let v2748 : BitVec 1 := Scalar.cmpi .slt v2744 c0_i32_2407
  let v2749 : BitVec 1 := Scalar.xori v2747 v2748
  let c0_i32_2405 : BitVec 32 := 0#32
  let v2746 : BitVec 1 := Scalar.cmpi .ne v2745 c0_i32_2405
  let v2750 : BitVec 1 := Scalar.andi v2749 v2746
  let v2751 : BitVec 32 := Scalar.addi v2745 v2744
  let v2752 : BitVec 32 := Scalar.select v2750 v2751 v2745
  let c1_i32_2410 : BitVec 32 := 1#32
  let v2753 : BitVec 32 := Scalar.muli v2752 c1_i32_2410
  let v2754 : BitVec 32 := Scalar.addi c0_i32_2411 v2753
  v2754.toNat
def k0_dev123 (d0 : Dev nD) : Nat :=
  let c0_i32_2424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2414 : BitVec 32 := 30#32
  let v2760 : BitVec 32 := Scalar.addi v2 c30_i32_2414
  let c32_i32_2415 : BitVec 32 := 32#32
  let c0_i32_2416 : BitVec 32 := 0#32
  let v2761 : BitVec 1 := Scalar.cmpi .eq c32_i32_2415 c0_i32_2416
  let c1_i32_2417 : BitVec 32 := 1#32
  let v2762 : BitVec 32 := Scalar.select v2761 c1_i32_2417 c32_i32_2415
  let v2763 : BitVec 32 := Scalar.remsi v2760 v2762
  let c0_i32_2419 : BitVec 32 := 0#32
  let v2765 : BitVec 1 := Scalar.cmpi .slt v2763 c0_i32_2419
  let c0_i32_2420 : BitVec 32 := 0#32
  let v2766 : BitVec 1 := Scalar.cmpi .slt v2762 c0_i32_2420
  let v2767 : BitVec 1 := Scalar.xori v2765 v2766
  let c0_i32_2418 : BitVec 32 := 0#32
  let v2764 : BitVec 1 := Scalar.cmpi .ne v2763 c0_i32_2418
  let v2768 : BitVec 1 := Scalar.andi v2767 v2764
  let v2769 : BitVec 32 := Scalar.addi v2763 v2762
  let v2770 : BitVec 32 := Scalar.select v2768 v2769 v2763
  let c1_i32_2423 : BitVec 32 := 1#32
  let v2771 : BitVec 32 := Scalar.muli v2770 c1_i32_2423
  let v2772 : BitVec 32 := Scalar.addi c0_i32_2424 v2771
  v2772.toNat
def k0_dev124 (d0 : Dev nD) : Nat :=
  let c0_i32_2437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2427 : BitVec 32 := 31#32
  let v2778 : BitVec 32 := Scalar.addi v2 c31_i32_2427
  let c32_i32_2428 : BitVec 32 := 32#32
  let c0_i32_2429 : BitVec 32 := 0#32
  let v2779 : BitVec 1 := Scalar.cmpi .eq c32_i32_2428 c0_i32_2429
  let c1_i32_2430 : BitVec 32 := 1#32
  let v2780 : BitVec 32 := Scalar.select v2779 c1_i32_2430 c32_i32_2428
  let v2781 : BitVec 32 := Scalar.remsi v2778 v2780
  let c0_i32_2432 : BitVec 32 := 0#32
  let v2783 : BitVec 1 := Scalar.cmpi .slt v2781 c0_i32_2432
  let c0_i32_2433 : BitVec 32 := 0#32
  let v2784 : BitVec 1 := Scalar.cmpi .slt v2780 c0_i32_2433
  let v2785 : BitVec 1 := Scalar.xori v2783 v2784
  let c0_i32_2431 : BitVec 32 := 0#32
  let v2782 : BitVec 1 := Scalar.cmpi .ne v2781 c0_i32_2431
  let v2786 : BitVec 1 := Scalar.andi v2785 v2782
  let v2787 : BitVec 32 := Scalar.addi v2781 v2780
  let v2788 : BitVec 32 := Scalar.select v2786 v2787 v2781
  let c1_i32_2436 : BitVec 32 := 1#32
  let v2789 : BitVec 32 := Scalar.muli v2788 c1_i32_2436
  let v2790 : BitVec 32 := Scalar.addi c0_i32_2437 v2789
  v2790.toNat
def k0_dev125 (d0 : Dev nD) : Nat :=
  let c0_i32_2651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2640 : BitVec 32 := 1#32
  let v2970 : BitVec 32 := Scalar.subi v2 c1_i32_2640
  let c32_i32_2641 : BitVec 32 := 32#32
  let c0_i32_2642 : BitVec 32 := 0#32
  let v2971 : BitVec 1 := Scalar.cmpi .eq c32_i32_2641 c0_i32_2642
  let c1_i32_2643 : BitVec 32 := 1#32
  let v2972 : BitVec 32 := Scalar.select v2971 c1_i32_2643 c32_i32_2641
  let v2973 : BitVec 32 := Scalar.remsi v2970 v2972
  let c0_i32_2645 : BitVec 32 := 0#32
  let v2975 : BitVec 1 := Scalar.cmpi .slt v2973 c0_i32_2645
  let c0_i32_2646 : BitVec 32 := 0#32
  let v2976 : BitVec 1 := Scalar.cmpi .slt v2972 c0_i32_2646
  let v2977 : BitVec 1 := Scalar.xori v2975 v2976
  let c0_i32_2644 : BitVec 32 := 0#32
  let v2974 : BitVec 1 := Scalar.cmpi .ne v2973 c0_i32_2644
  let v2978 : BitVec 1 := Scalar.andi v2977 v2974
  let v2979 : BitVec 32 := Scalar.addi v2973 v2972
  let v2980 : BitVec 32 := Scalar.select v2978 v2979 v2973
  let c1_i32_2650 : BitVec 32 := 1#32
  let v2981 : BitVec 32 := Scalar.muli v2980 c1_i32_2650
  let v2982 : BitVec 32 := Scalar.addi c0_i32_2651 v2981
  v2982.toNat
def k0_dev126 (d0 : Dev nD) : Nat :=
  let c0_i32_2667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2656 : BitVec 32 := 31#32
  let v2990 : BitVec 32 := Scalar.subi v2 c31_i32_2656
  let c32_i32_2657 : BitVec 32 := 32#32
  let c0_i32_2658 : BitVec 32 := 0#32
  let v2991 : BitVec 1 := Scalar.cmpi .eq c32_i32_2657 c0_i32_2658
  let c1_i32_2659 : BitVec 32 := 1#32
  let v2992 : BitVec 32 := Scalar.select v2991 c1_i32_2659 c32_i32_2657
  let v2993 : BitVec 32 := Scalar.remsi v2990 v2992
  let c0_i32_2661 : BitVec 32 := 0#32
  let v2995 : BitVec 1 := Scalar.cmpi .slt v2993 c0_i32_2661
  let c0_i32_2662 : BitVec 32 := 0#32
  let v2996 : BitVec 1 := Scalar.cmpi .slt v2992 c0_i32_2662
  let v2997 : BitVec 1 := Scalar.xori v2995 v2996
  let c0_i32_2660 : BitVec 32 := 0#32
  let v2994 : BitVec 1 := Scalar.cmpi .ne v2993 c0_i32_2660
  let v2998 : BitVec 1 := Scalar.andi v2997 v2994
  let v2999 : BitVec 32 := Scalar.addi v2993 v2992
  let v3000 : BitVec 32 := Scalar.select v2998 v2999 v2993
  let c1_i32_2666 : BitVec 32 := 1#32
  let v3001 : BitVec 32 := Scalar.muli v3000 c1_i32_2666
  let v3002 : BitVec 32 := Scalar.addi c0_i32_2667 v3001
  v3002.toNat
def k0_dev127 (d0 : Dev nD) : Nat :=
  let c0_i32_2683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2672 : BitVec 32 := 2#32
  let v3010 : BitVec 32 := Scalar.subi v2 c2_i32_2672
  let c32_i32_2673 : BitVec 32 := 32#32
  let c0_i32_2674 : BitVec 32 := 0#32
  let v3011 : BitVec 1 := Scalar.cmpi .eq c32_i32_2673 c0_i32_2674
  let c1_i32_2675 : BitVec 32 := 1#32
  let v3012 : BitVec 32 := Scalar.select v3011 c1_i32_2675 c32_i32_2673
  let v3013 : BitVec 32 := Scalar.remsi v3010 v3012
  let c0_i32_2677 : BitVec 32 := 0#32
  let v3015 : BitVec 1 := Scalar.cmpi .slt v3013 c0_i32_2677
  let c0_i32_2678 : BitVec 32 := 0#32
  let v3016 : BitVec 1 := Scalar.cmpi .slt v3012 c0_i32_2678
  let v3017 : BitVec 1 := Scalar.xori v3015 v3016
  let c0_i32_2676 : BitVec 32 := 0#32
  let v3014 : BitVec 1 := Scalar.cmpi .ne v3013 c0_i32_2676
  let v3018 : BitVec 1 := Scalar.andi v3017 v3014
  let v3019 : BitVec 32 := Scalar.addi v3013 v3012
  let v3020 : BitVec 32 := Scalar.select v3018 v3019 v3013
  let c1_i32_2682 : BitVec 32 := 1#32
  let v3021 : BitVec 32 := Scalar.muli v3020 c1_i32_2682
  let v3022 : BitVec 32 := Scalar.addi c0_i32_2683 v3021
  v3022.toNat
def k0_dev128 (d0 : Dev nD) : Nat :=
  let c0_i32_2699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2688 : BitVec 32 := 30#32
  let v3030 : BitVec 32 := Scalar.subi v2 c30_i32_2688
  let c32_i32_2689 : BitVec 32 := 32#32
  let c0_i32_2690 : BitVec 32 := 0#32
  let v3031 : BitVec 1 := Scalar.cmpi .eq c32_i32_2689 c0_i32_2690
  let c1_i32_2691 : BitVec 32 := 1#32
  let v3032 : BitVec 32 := Scalar.select v3031 c1_i32_2691 c32_i32_2689
  let v3033 : BitVec 32 := Scalar.remsi v3030 v3032
  let c0_i32_2693 : BitVec 32 := 0#32
  let v3035 : BitVec 1 := Scalar.cmpi .slt v3033 c0_i32_2693
  let c0_i32_2694 : BitVec 32 := 0#32
  let v3036 : BitVec 1 := Scalar.cmpi .slt v3032 c0_i32_2694
  let v3037 : BitVec 1 := Scalar.xori v3035 v3036
  let c0_i32_2692 : BitVec 32 := 0#32
  let v3034 : BitVec 1 := Scalar.cmpi .ne v3033 c0_i32_2692
  let v3038 : BitVec 1 := Scalar.andi v3037 v3034
  let v3039 : BitVec 32 := Scalar.addi v3033 v3032
  let v3040 : BitVec 32 := Scalar.select v3038 v3039 v3033
  let c1_i32_2698 : BitVec 32 := 1#32
  let v3041 : BitVec 32 := Scalar.muli v3040 c1_i32_2698
  let v3042 : BitVec 32 := Scalar.addi c0_i32_2699 v3041
  v3042.toNat
def k0_dev129 (d0 : Dev nD) : Nat :=
  let c0_i32_2715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2704 : BitVec 32 := 3#32
  let v3050 : BitVec 32 := Scalar.subi v2 c3_i32_2704
  let c32_i32_2705 : BitVec 32 := 32#32
  let c0_i32_2706 : BitVec 32 := 0#32
  let v3051 : BitVec 1 := Scalar.cmpi .eq c32_i32_2705 c0_i32_2706
  let c1_i32_2707 : BitVec 32 := 1#32
  let v3052 : BitVec 32 := Scalar.select v3051 c1_i32_2707 c32_i32_2705
  let v3053 : BitVec 32 := Scalar.remsi v3050 v3052
  let c0_i32_2709 : BitVec 32 := 0#32
  let v3055 : BitVec 1 := Scalar.cmpi .slt v3053 c0_i32_2709
  let c0_i32_2710 : BitVec 32 := 0#32
  let v3056 : BitVec 1 := Scalar.cmpi .slt v3052 c0_i32_2710
  let v3057 : BitVec 1 := Scalar.xori v3055 v3056
  let c0_i32_2708 : BitVec 32 := 0#32
  let v3054 : BitVec 1 := Scalar.cmpi .ne v3053 c0_i32_2708
  let v3058 : BitVec 1 := Scalar.andi v3057 v3054
  let v3059 : BitVec 32 := Scalar.addi v3053 v3052
  let v3060 : BitVec 32 := Scalar.select v3058 v3059 v3053
  let c1_i32_2714 : BitVec 32 := 1#32
  let v3061 : BitVec 32 := Scalar.muli v3060 c1_i32_2714
  let v3062 : BitVec 32 := Scalar.addi c0_i32_2715 v3061
  v3062.toNat
def k0_dev130 (d0 : Dev nD) : Nat :=
  let c0_i32_2731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2720 : BitVec 32 := 29#32
  let v3070 : BitVec 32 := Scalar.subi v2 c29_i32_2720
  let c32_i32_2721 : BitVec 32 := 32#32
  let c0_i32_2722 : BitVec 32 := 0#32
  let v3071 : BitVec 1 := Scalar.cmpi .eq c32_i32_2721 c0_i32_2722
  let c1_i32_2723 : BitVec 32 := 1#32
  let v3072 : BitVec 32 := Scalar.select v3071 c1_i32_2723 c32_i32_2721
  let v3073 : BitVec 32 := Scalar.remsi v3070 v3072
  let c0_i32_2725 : BitVec 32 := 0#32
  let v3075 : BitVec 1 := Scalar.cmpi .slt v3073 c0_i32_2725
  let c0_i32_2726 : BitVec 32 := 0#32
  let v3076 : BitVec 1 := Scalar.cmpi .slt v3072 c0_i32_2726
  let v3077 : BitVec 1 := Scalar.xori v3075 v3076
  let c0_i32_2724 : BitVec 32 := 0#32
  let v3074 : BitVec 1 := Scalar.cmpi .ne v3073 c0_i32_2724
  let v3078 : BitVec 1 := Scalar.andi v3077 v3074
  let v3079 : BitVec 32 := Scalar.addi v3073 v3072
  let v3080 : BitVec 32 := Scalar.select v3078 v3079 v3073
  let c1_i32_2730 : BitVec 32 := 1#32
  let v3081 : BitVec 32 := Scalar.muli v3080 c1_i32_2730
  let v3082 : BitVec 32 := Scalar.addi c0_i32_2731 v3081
  v3082.toNat
def k0_dev131 (d0 : Dev nD) : Nat :=
  let c0_i32_2747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2736 : BitVec 32 := 4#32
  let v3090 : BitVec 32 := Scalar.subi v2 c4_i32_2736
  let c32_i32_2737 : BitVec 32 := 32#32
  let c0_i32_2738 : BitVec 32 := 0#32
  let v3091 : BitVec 1 := Scalar.cmpi .eq c32_i32_2737 c0_i32_2738
  let c1_i32_2739 : BitVec 32 := 1#32
  let v3092 : BitVec 32 := Scalar.select v3091 c1_i32_2739 c32_i32_2737
  let v3093 : BitVec 32 := Scalar.remsi v3090 v3092
  let c0_i32_2741 : BitVec 32 := 0#32
  let v3095 : BitVec 1 := Scalar.cmpi .slt v3093 c0_i32_2741
  let c0_i32_2742 : BitVec 32 := 0#32
  let v3096 : BitVec 1 := Scalar.cmpi .slt v3092 c0_i32_2742
  let v3097 : BitVec 1 := Scalar.xori v3095 v3096
  let c0_i32_2740 : BitVec 32 := 0#32
  let v3094 : BitVec 1 := Scalar.cmpi .ne v3093 c0_i32_2740
  let v3098 : BitVec 1 := Scalar.andi v3097 v3094
  let v3099 : BitVec 32 := Scalar.addi v3093 v3092
  let v3100 : BitVec 32 := Scalar.select v3098 v3099 v3093
  let c1_i32_2746 : BitVec 32 := 1#32
  let v3101 : BitVec 32 := Scalar.muli v3100 c1_i32_2746
  let v3102 : BitVec 32 := Scalar.addi c0_i32_2747 v3101
  v3102.toNat
def k0_dev132 (d0 : Dev nD) : Nat :=
  let c0_i32_2763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2752 : BitVec 32 := 28#32
  let v3110 : BitVec 32 := Scalar.subi v2 c28_i32_2752
  let c32_i32_2753 : BitVec 32 := 32#32
  let c0_i32_2754 : BitVec 32 := 0#32
  let v3111 : BitVec 1 := Scalar.cmpi .eq c32_i32_2753 c0_i32_2754
  let c1_i32_2755 : BitVec 32 := 1#32
  let v3112 : BitVec 32 := Scalar.select v3111 c1_i32_2755 c32_i32_2753
  let v3113 : BitVec 32 := Scalar.remsi v3110 v3112
  let c0_i32_2757 : BitVec 32 := 0#32
  let v3115 : BitVec 1 := Scalar.cmpi .slt v3113 c0_i32_2757
  let c0_i32_2758 : BitVec 32 := 0#32
  let v3116 : BitVec 1 := Scalar.cmpi .slt v3112 c0_i32_2758
  let v3117 : BitVec 1 := Scalar.xori v3115 v3116
  let c0_i32_2756 : BitVec 32 := 0#32
  let v3114 : BitVec 1 := Scalar.cmpi .ne v3113 c0_i32_2756
  let v3118 : BitVec 1 := Scalar.andi v3117 v3114
  let v3119 : BitVec 32 := Scalar.addi v3113 v3112
  let v3120 : BitVec 32 := Scalar.select v3118 v3119 v3113
  let c1_i32_2762 : BitVec 32 := 1#32
  let v3121 : BitVec 32 := Scalar.muli v3120 c1_i32_2762
  let v3122 : BitVec 32 := Scalar.addi c0_i32_2763 v3121
  v3122.toNat
def k0_dev133 (d0 : Dev nD) : Nat :=
  let c0_i32_2779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2768 : BitVec 32 := 5#32
  let v3130 : BitVec 32 := Scalar.subi v2 c5_i32_2768
  let c32_i32_2769 : BitVec 32 := 32#32
  let c0_i32_2770 : BitVec 32 := 0#32
  let v3131 : BitVec 1 := Scalar.cmpi .eq c32_i32_2769 c0_i32_2770
  let c1_i32_2771 : BitVec 32 := 1#32
  let v3132 : BitVec 32 := Scalar.select v3131 c1_i32_2771 c32_i32_2769
  let v3133 : BitVec 32 := Scalar.remsi v3130 v3132
  let c0_i32_2773 : BitVec 32 := 0#32
  let v3135 : BitVec 1 := Scalar.cmpi .slt v3133 c0_i32_2773
  let c0_i32_2774 : BitVec 32 := 0#32
  let v3136 : BitVec 1 := Scalar.cmpi .slt v3132 c0_i32_2774
  let v3137 : BitVec 1 := Scalar.xori v3135 v3136
  let c0_i32_2772 : BitVec 32 := 0#32
  let v3134 : BitVec 1 := Scalar.cmpi .ne v3133 c0_i32_2772
  let v3138 : BitVec 1 := Scalar.andi v3137 v3134
  let v3139 : BitVec 32 := Scalar.addi v3133 v3132
  let v3140 : BitVec 32 := Scalar.select v3138 v3139 v3133
  let c1_i32_2778 : BitVec 32 := 1#32
  let v3141 : BitVec 32 := Scalar.muli v3140 c1_i32_2778
  let v3142 : BitVec 32 := Scalar.addi c0_i32_2779 v3141
  v3142.toNat
def k0_dev134 (d0 : Dev nD) : Nat :=
  let c0_i32_2795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2784 : BitVec 32 := 27#32
  let v3150 : BitVec 32 := Scalar.subi v2 c27_i32_2784
  let c32_i32_2785 : BitVec 32 := 32#32
  let c0_i32_2786 : BitVec 32 := 0#32
  let v3151 : BitVec 1 := Scalar.cmpi .eq c32_i32_2785 c0_i32_2786
  let c1_i32_2787 : BitVec 32 := 1#32
  let v3152 : BitVec 32 := Scalar.select v3151 c1_i32_2787 c32_i32_2785
  let v3153 : BitVec 32 := Scalar.remsi v3150 v3152
  let c0_i32_2789 : BitVec 32 := 0#32
  let v3155 : BitVec 1 := Scalar.cmpi .slt v3153 c0_i32_2789
  let c0_i32_2790 : BitVec 32 := 0#32
  let v3156 : BitVec 1 := Scalar.cmpi .slt v3152 c0_i32_2790
  let v3157 : BitVec 1 := Scalar.xori v3155 v3156
  let c0_i32_2788 : BitVec 32 := 0#32
  let v3154 : BitVec 1 := Scalar.cmpi .ne v3153 c0_i32_2788
  let v3158 : BitVec 1 := Scalar.andi v3157 v3154
  let v3159 : BitVec 32 := Scalar.addi v3153 v3152
  let v3160 : BitVec 32 := Scalar.select v3158 v3159 v3153
  let c1_i32_2794 : BitVec 32 := 1#32
  let v3161 : BitVec 32 := Scalar.muli v3160 c1_i32_2794
  let v3162 : BitVec 32 := Scalar.addi c0_i32_2795 v3161
  v3162.toNat
def k0_dev135 (d0 : Dev nD) : Nat :=
  let c0_i32_2811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2800 : BitVec 32 := 6#32
  let v3170 : BitVec 32 := Scalar.subi v2 c6_i32_2800
  let c32_i32_2801 : BitVec 32 := 32#32
  let c0_i32_2802 : BitVec 32 := 0#32
  let v3171 : BitVec 1 := Scalar.cmpi .eq c32_i32_2801 c0_i32_2802
  let c1_i32_2803 : BitVec 32 := 1#32
  let v3172 : BitVec 32 := Scalar.select v3171 c1_i32_2803 c32_i32_2801
  let v3173 : BitVec 32 := Scalar.remsi v3170 v3172
  let c0_i32_2805 : BitVec 32 := 0#32
  let v3175 : BitVec 1 := Scalar.cmpi .slt v3173 c0_i32_2805
  let c0_i32_2806 : BitVec 32 := 0#32
  let v3176 : BitVec 1 := Scalar.cmpi .slt v3172 c0_i32_2806
  let v3177 : BitVec 1 := Scalar.xori v3175 v3176
  let c0_i32_2804 : BitVec 32 := 0#32
  let v3174 : BitVec 1 := Scalar.cmpi .ne v3173 c0_i32_2804
  let v3178 : BitVec 1 := Scalar.andi v3177 v3174
  let v3179 : BitVec 32 := Scalar.addi v3173 v3172
  let v3180 : BitVec 32 := Scalar.select v3178 v3179 v3173
  let c1_i32_2810 : BitVec 32 := 1#32
  let v3181 : BitVec 32 := Scalar.muli v3180 c1_i32_2810
  let v3182 : BitVec 32 := Scalar.addi c0_i32_2811 v3181
  v3182.toNat
def k0_dev136 (d0 : Dev nD) : Nat :=
  let c0_i32_2827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2816 : BitVec 32 := 26#32
  let v3190 : BitVec 32 := Scalar.subi v2 c26_i32_2816
  let c32_i32_2817 : BitVec 32 := 32#32
  let c0_i32_2818 : BitVec 32 := 0#32
  let v3191 : BitVec 1 := Scalar.cmpi .eq c32_i32_2817 c0_i32_2818
  let c1_i32_2819 : BitVec 32 := 1#32
  let v3192 : BitVec 32 := Scalar.select v3191 c1_i32_2819 c32_i32_2817
  let v3193 : BitVec 32 := Scalar.remsi v3190 v3192
  let c0_i32_2821 : BitVec 32 := 0#32
  let v3195 : BitVec 1 := Scalar.cmpi .slt v3193 c0_i32_2821
  let c0_i32_2822 : BitVec 32 := 0#32
  let v3196 : BitVec 1 := Scalar.cmpi .slt v3192 c0_i32_2822
  let v3197 : BitVec 1 := Scalar.xori v3195 v3196
  let c0_i32_2820 : BitVec 32 := 0#32
  let v3194 : BitVec 1 := Scalar.cmpi .ne v3193 c0_i32_2820
  let v3198 : BitVec 1 := Scalar.andi v3197 v3194
  let v3199 : BitVec 32 := Scalar.addi v3193 v3192
  let v3200 : BitVec 32 := Scalar.select v3198 v3199 v3193
  let c1_i32_2826 : BitVec 32 := 1#32
  let v3201 : BitVec 32 := Scalar.muli v3200 c1_i32_2826
  let v3202 : BitVec 32 := Scalar.addi c0_i32_2827 v3201
  v3202.toNat
def k0_dev137 (d0 : Dev nD) : Nat :=
  let c0_i32_2843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2832 : BitVec 32 := 7#32
  let v3210 : BitVec 32 := Scalar.subi v2 c7_i32_2832
  let c32_i32_2833 : BitVec 32 := 32#32
  let c0_i32_2834 : BitVec 32 := 0#32
  let v3211 : BitVec 1 := Scalar.cmpi .eq c32_i32_2833 c0_i32_2834
  let c1_i32_2835 : BitVec 32 := 1#32
  let v3212 : BitVec 32 := Scalar.select v3211 c1_i32_2835 c32_i32_2833
  let v3213 : BitVec 32 := Scalar.remsi v3210 v3212
  let c0_i32_2837 : BitVec 32 := 0#32
  let v3215 : BitVec 1 := Scalar.cmpi .slt v3213 c0_i32_2837
  let c0_i32_2838 : BitVec 32 := 0#32
  let v3216 : BitVec 1 := Scalar.cmpi .slt v3212 c0_i32_2838
  let v3217 : BitVec 1 := Scalar.xori v3215 v3216
  let c0_i32_2836 : BitVec 32 := 0#32
  let v3214 : BitVec 1 := Scalar.cmpi .ne v3213 c0_i32_2836
  let v3218 : BitVec 1 := Scalar.andi v3217 v3214
  let v3219 : BitVec 32 := Scalar.addi v3213 v3212
  let v3220 : BitVec 32 := Scalar.select v3218 v3219 v3213
  let c1_i32_2842 : BitVec 32 := 1#32
  let v3221 : BitVec 32 := Scalar.muli v3220 c1_i32_2842
  let v3222 : BitVec 32 := Scalar.addi c0_i32_2843 v3221
  v3222.toNat
def k0_dev138 (d0 : Dev nD) : Nat :=
  let c0_i32_2859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2848 : BitVec 32 := 25#32
  let v3230 : BitVec 32 := Scalar.subi v2 c25_i32_2848
  let c32_i32_2849 : BitVec 32 := 32#32
  let c0_i32_2850 : BitVec 32 := 0#32
  let v3231 : BitVec 1 := Scalar.cmpi .eq c32_i32_2849 c0_i32_2850
  let c1_i32_2851 : BitVec 32 := 1#32
  let v3232 : BitVec 32 := Scalar.select v3231 c1_i32_2851 c32_i32_2849
  let v3233 : BitVec 32 := Scalar.remsi v3230 v3232
  let c0_i32_2853 : BitVec 32 := 0#32
  let v3235 : BitVec 1 := Scalar.cmpi .slt v3233 c0_i32_2853
  let c0_i32_2854 : BitVec 32 := 0#32
  let v3236 : BitVec 1 := Scalar.cmpi .slt v3232 c0_i32_2854
  let v3237 : BitVec 1 := Scalar.xori v3235 v3236
  let c0_i32_2852 : BitVec 32 := 0#32
  let v3234 : BitVec 1 := Scalar.cmpi .ne v3233 c0_i32_2852
  let v3238 : BitVec 1 := Scalar.andi v3237 v3234
  let v3239 : BitVec 32 := Scalar.addi v3233 v3232
  let v3240 : BitVec 32 := Scalar.select v3238 v3239 v3233
  let c1_i32_2858 : BitVec 32 := 1#32
  let v3241 : BitVec 32 := Scalar.muli v3240 c1_i32_2858
  let v3242 : BitVec 32 := Scalar.addi c0_i32_2859 v3241
  v3242.toNat
def k0_dev139 (d0 : Dev nD) : Nat :=
  let c0_i32_2875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2864 : BitVec 32 := 8#32
  let v3250 : BitVec 32 := Scalar.subi v2 c8_i32_2864
  let c32_i32_2865 : BitVec 32 := 32#32
  let c0_i32_2866 : BitVec 32 := 0#32
  let v3251 : BitVec 1 := Scalar.cmpi .eq c32_i32_2865 c0_i32_2866
  let c1_i32_2867 : BitVec 32 := 1#32
  let v3252 : BitVec 32 := Scalar.select v3251 c1_i32_2867 c32_i32_2865
  let v3253 : BitVec 32 := Scalar.remsi v3250 v3252
  let c0_i32_2869 : BitVec 32 := 0#32
  let v3255 : BitVec 1 := Scalar.cmpi .slt v3253 c0_i32_2869
  let c0_i32_2870 : BitVec 32 := 0#32
  let v3256 : BitVec 1 := Scalar.cmpi .slt v3252 c0_i32_2870
  let v3257 : BitVec 1 := Scalar.xori v3255 v3256
  let c0_i32_2868 : BitVec 32 := 0#32
  let v3254 : BitVec 1 := Scalar.cmpi .ne v3253 c0_i32_2868
  let v3258 : BitVec 1 := Scalar.andi v3257 v3254
  let v3259 : BitVec 32 := Scalar.addi v3253 v3252
  let v3260 : BitVec 32 := Scalar.select v3258 v3259 v3253
  let c1_i32_2874 : BitVec 32 := 1#32
  let v3261 : BitVec 32 := Scalar.muli v3260 c1_i32_2874
  let v3262 : BitVec 32 := Scalar.addi c0_i32_2875 v3261
  v3262.toNat
def k0_dev140 (d0 : Dev nD) : Nat :=
  let c0_i32_2891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2880 : BitVec 32 := 24#32
  let v3270 : BitVec 32 := Scalar.subi v2 c24_i32_2880
  let c32_i32_2881 : BitVec 32 := 32#32
  let c0_i32_2882 : BitVec 32 := 0#32
  let v3271 : BitVec 1 := Scalar.cmpi .eq c32_i32_2881 c0_i32_2882
  let c1_i32_2883 : BitVec 32 := 1#32
  let v3272 : BitVec 32 := Scalar.select v3271 c1_i32_2883 c32_i32_2881
  let v3273 : BitVec 32 := Scalar.remsi v3270 v3272
  let c0_i32_2885 : BitVec 32 := 0#32
  let v3275 : BitVec 1 := Scalar.cmpi .slt v3273 c0_i32_2885
  let c0_i32_2886 : BitVec 32 := 0#32
  let v3276 : BitVec 1 := Scalar.cmpi .slt v3272 c0_i32_2886
  let v3277 : BitVec 1 := Scalar.xori v3275 v3276
  let c0_i32_2884 : BitVec 32 := 0#32
  let v3274 : BitVec 1 := Scalar.cmpi .ne v3273 c0_i32_2884
  let v3278 : BitVec 1 := Scalar.andi v3277 v3274
  let v3279 : BitVec 32 := Scalar.addi v3273 v3272
  let v3280 : BitVec 32 := Scalar.select v3278 v3279 v3273
  let c1_i32_2890 : BitVec 32 := 1#32
  let v3281 : BitVec 32 := Scalar.muli v3280 c1_i32_2890
  let v3282 : BitVec 32 := Scalar.addi c0_i32_2891 v3281
  v3282.toNat
def k0_dev141 (d0 : Dev nD) : Nat :=
  let c0_i32_2907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2896 : BitVec 32 := 9#32
  let v3290 : BitVec 32 := Scalar.subi v2 c9_i32_2896
  let c32_i32_2897 : BitVec 32 := 32#32
  let c0_i32_2898 : BitVec 32 := 0#32
  let v3291 : BitVec 1 := Scalar.cmpi .eq c32_i32_2897 c0_i32_2898
  let c1_i32_2899 : BitVec 32 := 1#32
  let v3292 : BitVec 32 := Scalar.select v3291 c1_i32_2899 c32_i32_2897
  let v3293 : BitVec 32 := Scalar.remsi v3290 v3292
  let c0_i32_2901 : BitVec 32 := 0#32
  let v3295 : BitVec 1 := Scalar.cmpi .slt v3293 c0_i32_2901
  let c0_i32_2902 : BitVec 32 := 0#32
  let v3296 : BitVec 1 := Scalar.cmpi .slt v3292 c0_i32_2902
  let v3297 : BitVec 1 := Scalar.xori v3295 v3296
  let c0_i32_2900 : BitVec 32 := 0#32
  let v3294 : BitVec 1 := Scalar.cmpi .ne v3293 c0_i32_2900
  let v3298 : BitVec 1 := Scalar.andi v3297 v3294
  let v3299 : BitVec 32 := Scalar.addi v3293 v3292
  let v3300 : BitVec 32 := Scalar.select v3298 v3299 v3293
  let c1_i32_2906 : BitVec 32 := 1#32
  let v3301 : BitVec 32 := Scalar.muli v3300 c1_i32_2906
  let v3302 : BitVec 32 := Scalar.addi c0_i32_2907 v3301
  v3302.toNat
def k0_dev142 (d0 : Dev nD) : Nat :=
  let c0_i32_2923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2912 : BitVec 32 := 23#32
  let v3310 : BitVec 32 := Scalar.subi v2 c23_i32_2912
  let c32_i32_2913 : BitVec 32 := 32#32
  let c0_i32_2914 : BitVec 32 := 0#32
  let v3311 : BitVec 1 := Scalar.cmpi .eq c32_i32_2913 c0_i32_2914
  let c1_i32_2915 : BitVec 32 := 1#32
  let v3312 : BitVec 32 := Scalar.select v3311 c1_i32_2915 c32_i32_2913
  let v3313 : BitVec 32 := Scalar.remsi v3310 v3312
  let c0_i32_2917 : BitVec 32 := 0#32
  let v3315 : BitVec 1 := Scalar.cmpi .slt v3313 c0_i32_2917
  let c0_i32_2918 : BitVec 32 := 0#32
  let v3316 : BitVec 1 := Scalar.cmpi .slt v3312 c0_i32_2918
  let v3317 : BitVec 1 := Scalar.xori v3315 v3316
  let c0_i32_2916 : BitVec 32 := 0#32
  let v3314 : BitVec 1 := Scalar.cmpi .ne v3313 c0_i32_2916
  let v3318 : BitVec 1 := Scalar.andi v3317 v3314
  let v3319 : BitVec 32 := Scalar.addi v3313 v3312
  let v3320 : BitVec 32 := Scalar.select v3318 v3319 v3313
  let c1_i32_2922 : BitVec 32 := 1#32
  let v3321 : BitVec 32 := Scalar.muli v3320 c1_i32_2922
  let v3322 : BitVec 32 := Scalar.addi c0_i32_2923 v3321
  v3322.toNat
def k0_dev143 (d0 : Dev nD) : Nat :=
  let c0_i32_2939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2928 : BitVec 32 := 10#32
  let v3330 : BitVec 32 := Scalar.subi v2 c10_i32_2928
  let c32_i32_2929 : BitVec 32 := 32#32
  let c0_i32_2930 : BitVec 32 := 0#32
  let v3331 : BitVec 1 := Scalar.cmpi .eq c32_i32_2929 c0_i32_2930
  let c1_i32_2931 : BitVec 32 := 1#32
  let v3332 : BitVec 32 := Scalar.select v3331 c1_i32_2931 c32_i32_2929
  let v3333 : BitVec 32 := Scalar.remsi v3330 v3332
  let c0_i32_2933 : BitVec 32 := 0#32
  let v3335 : BitVec 1 := Scalar.cmpi .slt v3333 c0_i32_2933
  let c0_i32_2934 : BitVec 32 := 0#32
  let v3336 : BitVec 1 := Scalar.cmpi .slt v3332 c0_i32_2934
  let v3337 : BitVec 1 := Scalar.xori v3335 v3336
  let c0_i32_2932 : BitVec 32 := 0#32
  let v3334 : BitVec 1 := Scalar.cmpi .ne v3333 c0_i32_2932
  let v3338 : BitVec 1 := Scalar.andi v3337 v3334
  let v3339 : BitVec 32 := Scalar.addi v3333 v3332
  let v3340 : BitVec 32 := Scalar.select v3338 v3339 v3333
  let c1_i32_2938 : BitVec 32 := 1#32
  let v3341 : BitVec 32 := Scalar.muli v3340 c1_i32_2938
  let v3342 : BitVec 32 := Scalar.addi c0_i32_2939 v3341
  v3342.toNat
def k0_dev144 (d0 : Dev nD) : Nat :=
  let c0_i32_2955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2944 : BitVec 32 := 22#32
  let v3350 : BitVec 32 := Scalar.subi v2 c22_i32_2944
  let c32_i32_2945 : BitVec 32 := 32#32
  let c0_i32_2946 : BitVec 32 := 0#32
  let v3351 : BitVec 1 := Scalar.cmpi .eq c32_i32_2945 c0_i32_2946
  let c1_i32_2947 : BitVec 32 := 1#32
  let v3352 : BitVec 32 := Scalar.select v3351 c1_i32_2947 c32_i32_2945
  let v3353 : BitVec 32 := Scalar.remsi v3350 v3352
  let c0_i32_2949 : BitVec 32 := 0#32
  let v3355 : BitVec 1 := Scalar.cmpi .slt v3353 c0_i32_2949
  let c0_i32_2950 : BitVec 32 := 0#32
  let v3356 : BitVec 1 := Scalar.cmpi .slt v3352 c0_i32_2950
  let v3357 : BitVec 1 := Scalar.xori v3355 v3356
  let c0_i32_2948 : BitVec 32 := 0#32
  let v3354 : BitVec 1 := Scalar.cmpi .ne v3353 c0_i32_2948
  let v3358 : BitVec 1 := Scalar.andi v3357 v3354
  let v3359 : BitVec 32 := Scalar.addi v3353 v3352
  let v3360 : BitVec 32 := Scalar.select v3358 v3359 v3353
  let c1_i32_2954 : BitVec 32 := 1#32
  let v3361 : BitVec 32 := Scalar.muli v3360 c1_i32_2954
  let v3362 : BitVec 32 := Scalar.addi c0_i32_2955 v3361
  v3362.toNat
def k0_dev145 (d0 : Dev nD) : Nat :=
  let c0_i32_2971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2960 : BitVec 32 := 11#32
  let v3370 : BitVec 32 := Scalar.subi v2 c11_i32_2960
  let c32_i32_2961 : BitVec 32 := 32#32
  let c0_i32_2962 : BitVec 32 := 0#32
  let v3371 : BitVec 1 := Scalar.cmpi .eq c32_i32_2961 c0_i32_2962
  let c1_i32_2963 : BitVec 32 := 1#32
  let v3372 : BitVec 32 := Scalar.select v3371 c1_i32_2963 c32_i32_2961
  let v3373 : BitVec 32 := Scalar.remsi v3370 v3372
  let c0_i32_2965 : BitVec 32 := 0#32
  let v3375 : BitVec 1 := Scalar.cmpi .slt v3373 c0_i32_2965
  let c0_i32_2966 : BitVec 32 := 0#32
  let v3376 : BitVec 1 := Scalar.cmpi .slt v3372 c0_i32_2966
  let v3377 : BitVec 1 := Scalar.xori v3375 v3376
  let c0_i32_2964 : BitVec 32 := 0#32
  let v3374 : BitVec 1 := Scalar.cmpi .ne v3373 c0_i32_2964
  let v3378 : BitVec 1 := Scalar.andi v3377 v3374
  let v3379 : BitVec 32 := Scalar.addi v3373 v3372
  let v3380 : BitVec 32 := Scalar.select v3378 v3379 v3373
  let c1_i32_2970 : BitVec 32 := 1#32
  let v3381 : BitVec 32 := Scalar.muli v3380 c1_i32_2970
  let v3382 : BitVec 32 := Scalar.addi c0_i32_2971 v3381
  v3382.toNat
def k0_dev146 (d0 : Dev nD) : Nat :=
  let c0_i32_2987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2976 : BitVec 32 := 21#32
  let v3390 : BitVec 32 := Scalar.subi v2 c21_i32_2976
  let c32_i32_2977 : BitVec 32 := 32#32
  let c0_i32_2978 : BitVec 32 := 0#32
  let v3391 : BitVec 1 := Scalar.cmpi .eq c32_i32_2977 c0_i32_2978
  let c1_i32_2979 : BitVec 32 := 1#32
  let v3392 : BitVec 32 := Scalar.select v3391 c1_i32_2979 c32_i32_2977
  let v3393 : BitVec 32 := Scalar.remsi v3390 v3392
  let c0_i32_2981 : BitVec 32 := 0#32
  let v3395 : BitVec 1 := Scalar.cmpi .slt v3393 c0_i32_2981
  let c0_i32_2982 : BitVec 32 := 0#32
  let v3396 : BitVec 1 := Scalar.cmpi .slt v3392 c0_i32_2982
  let v3397 : BitVec 1 := Scalar.xori v3395 v3396
  let c0_i32_2980 : BitVec 32 := 0#32
  let v3394 : BitVec 1 := Scalar.cmpi .ne v3393 c0_i32_2980
  let v3398 : BitVec 1 := Scalar.andi v3397 v3394
  let v3399 : BitVec 32 := Scalar.addi v3393 v3392
  let v3400 : BitVec 32 := Scalar.select v3398 v3399 v3393
  let c1_i32_2986 : BitVec 32 := 1#32
  let v3401 : BitVec 32 := Scalar.muli v3400 c1_i32_2986
  let v3402 : BitVec 32 := Scalar.addi c0_i32_2987 v3401
  v3402.toNat
def k0_dev147 (d0 : Dev nD) : Nat :=
  let c0_i32_3003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2992 : BitVec 32 := 12#32
  let v3410 : BitVec 32 := Scalar.subi v2 c12_i32_2992
  let c32_i32_2993 : BitVec 32 := 32#32
  let c0_i32_2994 : BitVec 32 := 0#32
  let v3411 : BitVec 1 := Scalar.cmpi .eq c32_i32_2993 c0_i32_2994
  let c1_i32_2995 : BitVec 32 := 1#32
  let v3412 : BitVec 32 := Scalar.select v3411 c1_i32_2995 c32_i32_2993
  let v3413 : BitVec 32 := Scalar.remsi v3410 v3412
  let c0_i32_2997 : BitVec 32 := 0#32
  let v3415 : BitVec 1 := Scalar.cmpi .slt v3413 c0_i32_2997
  let c0_i32_2998 : BitVec 32 := 0#32
  let v3416 : BitVec 1 := Scalar.cmpi .slt v3412 c0_i32_2998
  let v3417 : BitVec 1 := Scalar.xori v3415 v3416
  let c0_i32_2996 : BitVec 32 := 0#32
  let v3414 : BitVec 1 := Scalar.cmpi .ne v3413 c0_i32_2996
  let v3418 : BitVec 1 := Scalar.andi v3417 v3414
  let v3419 : BitVec 32 := Scalar.addi v3413 v3412
  let v3420 : BitVec 32 := Scalar.select v3418 v3419 v3413
  let c1_i32_3002 : BitVec 32 := 1#32
  let v3421 : BitVec 32 := Scalar.muli v3420 c1_i32_3002
  let v3422 : BitVec 32 := Scalar.addi c0_i32_3003 v3421
  v3422.toNat
def k0_dev148 (d0 : Dev nD) : Nat :=
  let c0_i32_3019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3008 : BitVec 32 := 20#32
  let v3430 : BitVec 32 := Scalar.subi v2 c20_i32_3008
  let c32_i32_3009 : BitVec 32 := 32#32
  let c0_i32_3010 : BitVec 32 := 0#32
  let v3431 : BitVec 1 := Scalar.cmpi .eq c32_i32_3009 c0_i32_3010
  let c1_i32_3011 : BitVec 32 := 1#32
  let v3432 : BitVec 32 := Scalar.select v3431 c1_i32_3011 c32_i32_3009
  let v3433 : BitVec 32 := Scalar.remsi v3430 v3432
  let c0_i32_3013 : BitVec 32 := 0#32
  let v3435 : BitVec 1 := Scalar.cmpi .slt v3433 c0_i32_3013
  let c0_i32_3014 : BitVec 32 := 0#32
  let v3436 : BitVec 1 := Scalar.cmpi .slt v3432 c0_i32_3014
  let v3437 : BitVec 1 := Scalar.xori v3435 v3436
  let c0_i32_3012 : BitVec 32 := 0#32
  let v3434 : BitVec 1 := Scalar.cmpi .ne v3433 c0_i32_3012
  let v3438 : BitVec 1 := Scalar.andi v3437 v3434
  let v3439 : BitVec 32 := Scalar.addi v3433 v3432
  let v3440 : BitVec 32 := Scalar.select v3438 v3439 v3433
  let c1_i32_3018 : BitVec 32 := 1#32
  let v3441 : BitVec 32 := Scalar.muli v3440 c1_i32_3018
  let v3442 : BitVec 32 := Scalar.addi c0_i32_3019 v3441
  v3442.toNat
def k0_dev149 (d0 : Dev nD) : Nat :=
  let c0_i32_3035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3024 : BitVec 32 := 13#32
  let v3450 : BitVec 32 := Scalar.subi v2 c13_i32_3024
  let c32_i32_3025 : BitVec 32 := 32#32
  let c0_i32_3026 : BitVec 32 := 0#32
  let v3451 : BitVec 1 := Scalar.cmpi .eq c32_i32_3025 c0_i32_3026
  let c1_i32_3027 : BitVec 32 := 1#32
  let v3452 : BitVec 32 := Scalar.select v3451 c1_i32_3027 c32_i32_3025
  let v3453 : BitVec 32 := Scalar.remsi v3450 v3452
  let c0_i32_3029 : BitVec 32 := 0#32
  let v3455 : BitVec 1 := Scalar.cmpi .slt v3453 c0_i32_3029
  let c0_i32_3030 : BitVec 32 := 0#32
  let v3456 : BitVec 1 := Scalar.cmpi .slt v3452 c0_i32_3030
  let v3457 : BitVec 1 := Scalar.xori v3455 v3456
  let c0_i32_3028 : BitVec 32 := 0#32
  let v3454 : BitVec 1 := Scalar.cmpi .ne v3453 c0_i32_3028
  let v3458 : BitVec 1 := Scalar.andi v3457 v3454
  let v3459 : BitVec 32 := Scalar.addi v3453 v3452
  let v3460 : BitVec 32 := Scalar.select v3458 v3459 v3453
  let c1_i32_3034 : BitVec 32 := 1#32
  let v3461 : BitVec 32 := Scalar.muli v3460 c1_i32_3034
  let v3462 : BitVec 32 := Scalar.addi c0_i32_3035 v3461
  v3462.toNat
def k0_dev150 (d0 : Dev nD) : Nat :=
  let c0_i32_3051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3040 : BitVec 32 := 19#32
  let v3470 : BitVec 32 := Scalar.subi v2 c19_i32_3040
  let c32_i32_3041 : BitVec 32 := 32#32
  let c0_i32_3042 : BitVec 32 := 0#32
  let v3471 : BitVec 1 := Scalar.cmpi .eq c32_i32_3041 c0_i32_3042
  let c1_i32_3043 : BitVec 32 := 1#32
  let v3472 : BitVec 32 := Scalar.select v3471 c1_i32_3043 c32_i32_3041
  let v3473 : BitVec 32 := Scalar.remsi v3470 v3472
  let c0_i32_3045 : BitVec 32 := 0#32
  let v3475 : BitVec 1 := Scalar.cmpi .slt v3473 c0_i32_3045
  let c0_i32_3046 : BitVec 32 := 0#32
  let v3476 : BitVec 1 := Scalar.cmpi .slt v3472 c0_i32_3046
  let v3477 : BitVec 1 := Scalar.xori v3475 v3476
  let c0_i32_3044 : BitVec 32 := 0#32
  let v3474 : BitVec 1 := Scalar.cmpi .ne v3473 c0_i32_3044
  let v3478 : BitVec 1 := Scalar.andi v3477 v3474
  let v3479 : BitVec 32 := Scalar.addi v3473 v3472
  let v3480 : BitVec 32 := Scalar.select v3478 v3479 v3473
  let c1_i32_3050 : BitVec 32 := 1#32
  let v3481 : BitVec 32 := Scalar.muli v3480 c1_i32_3050
  let v3482 : BitVec 32 := Scalar.addi c0_i32_3051 v3481
  v3482.toNat
def k0_dev151 (d0 : Dev nD) : Nat :=
  let c0_i32_3067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3056 : BitVec 32 := 14#32
  let v3490 : BitVec 32 := Scalar.subi v2 c14_i32_3056
  let c32_i32_3057 : BitVec 32 := 32#32
  let c0_i32_3058 : BitVec 32 := 0#32
  let v3491 : BitVec 1 := Scalar.cmpi .eq c32_i32_3057 c0_i32_3058
  let c1_i32_3059 : BitVec 32 := 1#32
  let v3492 : BitVec 32 := Scalar.select v3491 c1_i32_3059 c32_i32_3057
  let v3493 : BitVec 32 := Scalar.remsi v3490 v3492
  let c0_i32_3061 : BitVec 32 := 0#32
  let v3495 : BitVec 1 := Scalar.cmpi .slt v3493 c0_i32_3061
  let c0_i32_3062 : BitVec 32 := 0#32
  let v3496 : BitVec 1 := Scalar.cmpi .slt v3492 c0_i32_3062
  let v3497 : BitVec 1 := Scalar.xori v3495 v3496
  let c0_i32_3060 : BitVec 32 := 0#32
  let v3494 : BitVec 1 := Scalar.cmpi .ne v3493 c0_i32_3060
  let v3498 : BitVec 1 := Scalar.andi v3497 v3494
  let v3499 : BitVec 32 := Scalar.addi v3493 v3492
  let v3500 : BitVec 32 := Scalar.select v3498 v3499 v3493
  let c1_i32_3066 : BitVec 32 := 1#32
  let v3501 : BitVec 32 := Scalar.muli v3500 c1_i32_3066
  let v3502 : BitVec 32 := Scalar.addi c0_i32_3067 v3501
  v3502.toNat
def k0_dev152 (d0 : Dev nD) : Nat :=
  let c0_i32_3083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3072 : BitVec 32 := 18#32
  let v3510 : BitVec 32 := Scalar.subi v2 c18_i32_3072
  let c32_i32_3073 : BitVec 32 := 32#32
  let c0_i32_3074 : BitVec 32 := 0#32
  let v3511 : BitVec 1 := Scalar.cmpi .eq c32_i32_3073 c0_i32_3074
  let c1_i32_3075 : BitVec 32 := 1#32
  let v3512 : BitVec 32 := Scalar.select v3511 c1_i32_3075 c32_i32_3073
  let v3513 : BitVec 32 := Scalar.remsi v3510 v3512
  let c0_i32_3077 : BitVec 32 := 0#32
  let v3515 : BitVec 1 := Scalar.cmpi .slt v3513 c0_i32_3077
  let c0_i32_3078 : BitVec 32 := 0#32
  let v3516 : BitVec 1 := Scalar.cmpi .slt v3512 c0_i32_3078
  let v3517 : BitVec 1 := Scalar.xori v3515 v3516
  let c0_i32_3076 : BitVec 32 := 0#32
  let v3514 : BitVec 1 := Scalar.cmpi .ne v3513 c0_i32_3076
  let v3518 : BitVec 1 := Scalar.andi v3517 v3514
  let v3519 : BitVec 32 := Scalar.addi v3513 v3512
  let v3520 : BitVec 32 := Scalar.select v3518 v3519 v3513
  let c1_i32_3082 : BitVec 32 := 1#32
  let v3521 : BitVec 32 := Scalar.muli v3520 c1_i32_3082
  let v3522 : BitVec 32 := Scalar.addi c0_i32_3083 v3521
  v3522.toNat
def k0_dev153 (d0 : Dev nD) : Nat :=
  let c0_i32_3099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3088 : BitVec 32 := 15#32
  let v3530 : BitVec 32 := Scalar.subi v2 c15_i32_3088
  let c32_i32_3089 : BitVec 32 := 32#32
  let c0_i32_3090 : BitVec 32 := 0#32
  let v3531 : BitVec 1 := Scalar.cmpi .eq c32_i32_3089 c0_i32_3090
  let c1_i32_3091 : BitVec 32 := 1#32
  let v3532 : BitVec 32 := Scalar.select v3531 c1_i32_3091 c32_i32_3089
  let v3533 : BitVec 32 := Scalar.remsi v3530 v3532
  let c0_i32_3093 : BitVec 32 := 0#32
  let v3535 : BitVec 1 := Scalar.cmpi .slt v3533 c0_i32_3093
  let c0_i32_3094 : BitVec 32 := 0#32
  let v3536 : BitVec 1 := Scalar.cmpi .slt v3532 c0_i32_3094
  let v3537 : BitVec 1 := Scalar.xori v3535 v3536
  let c0_i32_3092 : BitVec 32 := 0#32
  let v3534 : BitVec 1 := Scalar.cmpi .ne v3533 c0_i32_3092
  let v3538 : BitVec 1 := Scalar.andi v3537 v3534
  let v3539 : BitVec 32 := Scalar.addi v3533 v3532
  let v3540 : BitVec 32 := Scalar.select v3538 v3539 v3533
  let c1_i32_3098 : BitVec 32 := 1#32
  let v3541 : BitVec 32 := Scalar.muli v3540 c1_i32_3098
  let v3542 : BitVec 32 := Scalar.addi c0_i32_3099 v3541
  v3542.toNat
def k0_dev154 (d0 : Dev nD) : Nat :=
  let c0_i32_3115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3104 : BitVec 32 := 17#32
  let v3550 : BitVec 32 := Scalar.subi v2 c17_i32_3104
  let c32_i32_3105 : BitVec 32 := 32#32
  let c0_i32_3106 : BitVec 32 := 0#32
  let v3551 : BitVec 1 := Scalar.cmpi .eq c32_i32_3105 c0_i32_3106
  let c1_i32_3107 : BitVec 32 := 1#32
  let v3552 : BitVec 32 := Scalar.select v3551 c1_i32_3107 c32_i32_3105
  let v3553 : BitVec 32 := Scalar.remsi v3550 v3552
  let c0_i32_3109 : BitVec 32 := 0#32
  let v3555 : BitVec 1 := Scalar.cmpi .slt v3553 c0_i32_3109
  let c0_i32_3110 : BitVec 32 := 0#32
  let v3556 : BitVec 1 := Scalar.cmpi .slt v3552 c0_i32_3110
  let v3557 : BitVec 1 := Scalar.xori v3555 v3556
  let c0_i32_3108 : BitVec 32 := 0#32
  let v3554 : BitVec 1 := Scalar.cmpi .ne v3553 c0_i32_3108
  let v3558 : BitVec 1 := Scalar.andi v3557 v3554
  let v3559 : BitVec 32 := Scalar.addi v3553 v3552
  let v3560 : BitVec 32 := Scalar.select v3558 v3559 v3553
  let c1_i32_3114 : BitVec 32 := 1#32
  let v3561 : BitVec 32 := Scalar.muli v3560 c1_i32_3114
  let v3562 : BitVec 32 := Scalar.addi c0_i32_3115 v3561
  v3562.toNat
def k0_dev155 (d0 : Dev nD) : Nat :=
  let c0_i32_3131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3120 : BitVec 32 := 16#32
  let v3570 : BitVec 32 := Scalar.subi v2 c16_i32_3120
  let c32_i32_3121 : BitVec 32 := 32#32
  let c0_i32_3122 : BitVec 32 := 0#32
  let v3571 : BitVec 1 := Scalar.cmpi .eq c32_i32_3121 c0_i32_3122
  let c1_i32_3123 : BitVec 32 := 1#32
  let v3572 : BitVec 32 := Scalar.select v3571 c1_i32_3123 c32_i32_3121
  let v3573 : BitVec 32 := Scalar.remsi v3570 v3572
  let c0_i32_3125 : BitVec 32 := 0#32
  let v3575 : BitVec 1 := Scalar.cmpi .slt v3573 c0_i32_3125
  let c0_i32_3126 : BitVec 32 := 0#32
  let v3576 : BitVec 1 := Scalar.cmpi .slt v3572 c0_i32_3126
  let v3577 : BitVec 1 := Scalar.xori v3575 v3576
  let c0_i32_3124 : BitVec 32 := 0#32
  let v3574 : BitVec 1 := Scalar.cmpi .ne v3573 c0_i32_3124
  let v3578 : BitVec 1 := Scalar.andi v3577 v3574
  let v3579 : BitVec 32 := Scalar.addi v3573 v3572
  let v3580 : BitVec 32 := Scalar.select v3578 v3579 v3573
  let c1_i32_3130 : BitVec 32 := 1#32
  let v3581 : BitVec 32 := Scalar.muli v3580 c1_i32_3130
  let v3582 : BitVec 32 := Scalar.addi c0_i32_3131 v3581
  v3582.toNat
def k0_dev156 (d0 : Dev nD) : Nat :=
  let c0_i32_3834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3824 : BitVec 32 := 1#32
  let v4063 : BitVec 32 := Scalar.addi v2 c1_i32_3824
  let c32_i32_3825 : BitVec 32 := 32#32
  let c0_i32_3826 : BitVec 32 := 0#32
  let v4064 : BitVec 1 := Scalar.cmpi .eq c32_i32_3825 c0_i32_3826
  let c1_i32_3827 : BitVec 32 := 1#32
  let v4065 : BitVec 32 := Scalar.select v4064 c1_i32_3827 c32_i32_3825
  let v4066 : BitVec 32 := Scalar.remsi v4063 v4065
  let c0_i32_3829 : BitVec 32 := 0#32
  let v4068 : BitVec 1 := Scalar.cmpi .slt v4066 c0_i32_3829
  let c0_i32_3830 : BitVec 32 := 0#32
  let v4069 : BitVec 1 := Scalar.cmpi .slt v4065 c0_i32_3830
  let v4070 : BitVec 1 := Scalar.xori v4068 v4069
  let c0_i32_3828 : BitVec 32 := 0#32
  let v4067 : BitVec 1 := Scalar.cmpi .ne v4066 c0_i32_3828
  let v4071 : BitVec 1 := Scalar.andi v4070 v4067
  let v4072 : BitVec 32 := Scalar.addi v4066 v4065
  let v4073 : BitVec 32 := Scalar.select v4071 v4072 v4066
  let c1_i32_3833 : BitVec 32 := 1#32
  let v4074 : BitVec 32 := Scalar.muli v4073 c1_i32_3833
  let v4075 : BitVec 32 := Scalar.addi c0_i32_3834 v4074
  v4075.toNat
def k0_dev157 (d0 : Dev nD) : Nat :=
  let c0_i32_3847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3837 : BitVec 32 := 2#32
  let v4081 : BitVec 32 := Scalar.addi v2 c2_i32_3837
  let c32_i32_3838 : BitVec 32 := 32#32
  let c0_i32_3839 : BitVec 32 := 0#32
  let v4082 : BitVec 1 := Scalar.cmpi .eq c32_i32_3838 c0_i32_3839
  let c1_i32_3840 : BitVec 32 := 1#32
  let v4083 : BitVec 32 := Scalar.select v4082 c1_i32_3840 c32_i32_3838
  let v4084 : BitVec 32 := Scalar.remsi v4081 v4083
  let c0_i32_3842 : BitVec 32 := 0#32
  let v4086 : BitVec 1 := Scalar.cmpi .slt v4084 c0_i32_3842
  let c0_i32_3843 : BitVec 32 := 0#32
  let v4087 : BitVec 1 := Scalar.cmpi .slt v4083 c0_i32_3843
  let v4088 : BitVec 1 := Scalar.xori v4086 v4087
  let c0_i32_3841 : BitVec 32 := 0#32
  let v4085 : BitVec 1 := Scalar.cmpi .ne v4084 c0_i32_3841
  let v4089 : BitVec 1 := Scalar.andi v4088 v4085
  let v4090 : BitVec 32 := Scalar.addi v4084 v4083
  let v4091 : BitVec 32 := Scalar.select v4089 v4090 v4084
  let c1_i32_3846 : BitVec 32 := 1#32
  let v4092 : BitVec 32 := Scalar.muli v4091 c1_i32_3846
  let v4093 : BitVec 32 := Scalar.addi c0_i32_3847 v4092
  v4093.toNat
def k0_dev158 (d0 : Dev nD) : Nat :=
  let c0_i32_3860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3850 : BitVec 32 := 3#32
  let v4099 : BitVec 32 := Scalar.addi v2 c3_i32_3850
  let c32_i32_3851 : BitVec 32 := 32#32
  let c0_i32_3852 : BitVec 32 := 0#32
  let v4100 : BitVec 1 := Scalar.cmpi .eq c32_i32_3851 c0_i32_3852
  let c1_i32_3853 : BitVec 32 := 1#32
  let v4101 : BitVec 32 := Scalar.select v4100 c1_i32_3853 c32_i32_3851
  let v4102 : BitVec 32 := Scalar.remsi v4099 v4101
  let c0_i32_3855 : BitVec 32 := 0#32
  let v4104 : BitVec 1 := Scalar.cmpi .slt v4102 c0_i32_3855
  let c0_i32_3856 : BitVec 32 := 0#32
  let v4105 : BitVec 1 := Scalar.cmpi .slt v4101 c0_i32_3856
  let v4106 : BitVec 1 := Scalar.xori v4104 v4105
  let c0_i32_3854 : BitVec 32 := 0#32
  let v4103 : BitVec 1 := Scalar.cmpi .ne v4102 c0_i32_3854
  let v4107 : BitVec 1 := Scalar.andi v4106 v4103
  let v4108 : BitVec 32 := Scalar.addi v4102 v4101
  let v4109 : BitVec 32 := Scalar.select v4107 v4108 v4102
  let c1_i32_3859 : BitVec 32 := 1#32
  let v4110 : BitVec 32 := Scalar.muli v4109 c1_i32_3859
  let v4111 : BitVec 32 := Scalar.addi c0_i32_3860 v4110
  v4111.toNat
def k0_dev159 (d0 : Dev nD) : Nat :=
  let c0_i32_3873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3863 : BitVec 32 := 4#32
  let v4117 : BitVec 32 := Scalar.addi v2 c4_i32_3863
  let c32_i32_3864 : BitVec 32 := 32#32
  let c0_i32_3865 : BitVec 32 := 0#32
  let v4118 : BitVec 1 := Scalar.cmpi .eq c32_i32_3864 c0_i32_3865
  let c1_i32_3866 : BitVec 32 := 1#32
  let v4119 : BitVec 32 := Scalar.select v4118 c1_i32_3866 c32_i32_3864
  let v4120 : BitVec 32 := Scalar.remsi v4117 v4119
  let c0_i32_3868 : BitVec 32 := 0#32
  let v4122 : BitVec 1 := Scalar.cmpi .slt v4120 c0_i32_3868
  let c0_i32_3869 : BitVec 32 := 0#32
  let v4123 : BitVec 1 := Scalar.cmpi .slt v4119 c0_i32_3869
  let v4124 : BitVec 1 := Scalar.xori v4122 v4123
  let c0_i32_3867 : BitVec 32 := 0#32
  let v4121 : BitVec 1 := Scalar.cmpi .ne v4120 c0_i32_3867
  let v4125 : BitVec 1 := Scalar.andi v4124 v4121
  let v4126 : BitVec 32 := Scalar.addi v4120 v4119
  let v4127 : BitVec 32 := Scalar.select v4125 v4126 v4120
  let c1_i32_3872 : BitVec 32 := 1#32
  let v4128 : BitVec 32 := Scalar.muli v4127 c1_i32_3872
  let v4129 : BitVec 32 := Scalar.addi c0_i32_3873 v4128
  v4129.toNat
def k0_dev160 (d0 : Dev nD) : Nat :=
  let c0_i32_3886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3876 : BitVec 32 := 5#32
  let v4135 : BitVec 32 := Scalar.addi v2 c5_i32_3876
  let c32_i32_3877 : BitVec 32 := 32#32
  let c0_i32_3878 : BitVec 32 := 0#32
  let v4136 : BitVec 1 := Scalar.cmpi .eq c32_i32_3877 c0_i32_3878
  let c1_i32_3879 : BitVec 32 := 1#32
  let v4137 : BitVec 32 := Scalar.select v4136 c1_i32_3879 c32_i32_3877
  let v4138 : BitVec 32 := Scalar.remsi v4135 v4137
  let c0_i32_3881 : BitVec 32 := 0#32
  let v4140 : BitVec 1 := Scalar.cmpi .slt v4138 c0_i32_3881
  let c0_i32_3882 : BitVec 32 := 0#32
  let v4141 : BitVec 1 := Scalar.cmpi .slt v4137 c0_i32_3882
  let v4142 : BitVec 1 := Scalar.xori v4140 v4141
  let c0_i32_3880 : BitVec 32 := 0#32
  let v4139 : BitVec 1 := Scalar.cmpi .ne v4138 c0_i32_3880
  let v4143 : BitVec 1 := Scalar.andi v4142 v4139
  let v4144 : BitVec 32 := Scalar.addi v4138 v4137
  let v4145 : BitVec 32 := Scalar.select v4143 v4144 v4138
  let c1_i32_3885 : BitVec 32 := 1#32
  let v4146 : BitVec 32 := Scalar.muli v4145 c1_i32_3885
  let v4147 : BitVec 32 := Scalar.addi c0_i32_3886 v4146
  v4147.toNat
def k0_dev161 (d0 : Dev nD) : Nat :=
  let c0_i32_3899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3889 : BitVec 32 := 6#32
  let v4153 : BitVec 32 := Scalar.addi v2 c6_i32_3889
  let c32_i32_3890 : BitVec 32 := 32#32
  let c0_i32_3891 : BitVec 32 := 0#32
  let v4154 : BitVec 1 := Scalar.cmpi .eq c32_i32_3890 c0_i32_3891
  let c1_i32_3892 : BitVec 32 := 1#32
  let v4155 : BitVec 32 := Scalar.select v4154 c1_i32_3892 c32_i32_3890
  let v4156 : BitVec 32 := Scalar.remsi v4153 v4155
  let c0_i32_3894 : BitVec 32 := 0#32
  let v4158 : BitVec 1 := Scalar.cmpi .slt v4156 c0_i32_3894
  let c0_i32_3895 : BitVec 32 := 0#32
  let v4159 : BitVec 1 := Scalar.cmpi .slt v4155 c0_i32_3895
  let v4160 : BitVec 1 := Scalar.xori v4158 v4159
  let c0_i32_3893 : BitVec 32 := 0#32
  let v4157 : BitVec 1 := Scalar.cmpi .ne v4156 c0_i32_3893
  let v4161 : BitVec 1 := Scalar.andi v4160 v4157
  let v4162 : BitVec 32 := Scalar.addi v4156 v4155
  let v4163 : BitVec 32 := Scalar.select v4161 v4162 v4156
  let c1_i32_3898 : BitVec 32 := 1#32
  let v4164 : BitVec 32 := Scalar.muli v4163 c1_i32_3898
  let v4165 : BitVec 32 := Scalar.addi c0_i32_3899 v4164
  v4165.toNat
def k0_dev162 (d0 : Dev nD) : Nat :=
  let c0_i32_3912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3902 : BitVec 32 := 7#32
  let v4171 : BitVec 32 := Scalar.addi v2 c7_i32_3902
  let c32_i32_3903 : BitVec 32 := 32#32
  let c0_i32_3904 : BitVec 32 := 0#32
  let v4172 : BitVec 1 := Scalar.cmpi .eq c32_i32_3903 c0_i32_3904
  let c1_i32_3905 : BitVec 32 := 1#32
  let v4173 : BitVec 32 := Scalar.select v4172 c1_i32_3905 c32_i32_3903
  let v4174 : BitVec 32 := Scalar.remsi v4171 v4173
  let c0_i32_3907 : BitVec 32 := 0#32
  let v4176 : BitVec 1 := Scalar.cmpi .slt v4174 c0_i32_3907
  let c0_i32_3908 : BitVec 32 := 0#32
  let v4177 : BitVec 1 := Scalar.cmpi .slt v4173 c0_i32_3908
  let v4178 : BitVec 1 := Scalar.xori v4176 v4177
  let c0_i32_3906 : BitVec 32 := 0#32
  let v4175 : BitVec 1 := Scalar.cmpi .ne v4174 c0_i32_3906
  let v4179 : BitVec 1 := Scalar.andi v4178 v4175
  let v4180 : BitVec 32 := Scalar.addi v4174 v4173
  let v4181 : BitVec 32 := Scalar.select v4179 v4180 v4174
  let c1_i32_3911 : BitVec 32 := 1#32
  let v4182 : BitVec 32 := Scalar.muli v4181 c1_i32_3911
  let v4183 : BitVec 32 := Scalar.addi c0_i32_3912 v4182
  v4183.toNat
def k0_dev163 (d0 : Dev nD) : Nat :=
  let c0_i32_3925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3915 : BitVec 32 := 8#32
  let v4189 : BitVec 32 := Scalar.addi v2 c8_i32_3915
  let c32_i32_3916 : BitVec 32 := 32#32
  let c0_i32_3917 : BitVec 32 := 0#32
  let v4190 : BitVec 1 := Scalar.cmpi .eq c32_i32_3916 c0_i32_3917
  let c1_i32_3918 : BitVec 32 := 1#32
  let v4191 : BitVec 32 := Scalar.select v4190 c1_i32_3918 c32_i32_3916
  let v4192 : BitVec 32 := Scalar.remsi v4189 v4191
  let c0_i32_3920 : BitVec 32 := 0#32
  let v4194 : BitVec 1 := Scalar.cmpi .slt v4192 c0_i32_3920
  let c0_i32_3921 : BitVec 32 := 0#32
  let v4195 : BitVec 1 := Scalar.cmpi .slt v4191 c0_i32_3921
  let v4196 : BitVec 1 := Scalar.xori v4194 v4195
  let c0_i32_3919 : BitVec 32 := 0#32
  let v4193 : BitVec 1 := Scalar.cmpi .ne v4192 c0_i32_3919
  let v4197 : BitVec 1 := Scalar.andi v4196 v4193
  let v4198 : BitVec 32 := Scalar.addi v4192 v4191
  let v4199 : BitVec 32 := Scalar.select v4197 v4198 v4192
  let c1_i32_3924 : BitVec 32 := 1#32
  let v4200 : BitVec 32 := Scalar.muli v4199 c1_i32_3924
  let v4201 : BitVec 32 := Scalar.addi c0_i32_3925 v4200
  v4201.toNat
def k0_dev164 (d0 : Dev nD) : Nat :=
  let c0_i32_3938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3928 : BitVec 32 := 9#32
  let v4207 : BitVec 32 := Scalar.addi v2 c9_i32_3928
  let c32_i32_3929 : BitVec 32 := 32#32
  let c0_i32_3930 : BitVec 32 := 0#32
  let v4208 : BitVec 1 := Scalar.cmpi .eq c32_i32_3929 c0_i32_3930
  let c1_i32_3931 : BitVec 32 := 1#32
  let v4209 : BitVec 32 := Scalar.select v4208 c1_i32_3931 c32_i32_3929
  let v4210 : BitVec 32 := Scalar.remsi v4207 v4209
  let c0_i32_3933 : BitVec 32 := 0#32
  let v4212 : BitVec 1 := Scalar.cmpi .slt v4210 c0_i32_3933
  let c0_i32_3934 : BitVec 32 := 0#32
  let v4213 : BitVec 1 := Scalar.cmpi .slt v4209 c0_i32_3934
  let v4214 : BitVec 1 := Scalar.xori v4212 v4213
  let c0_i32_3932 : BitVec 32 := 0#32
  let v4211 : BitVec 1 := Scalar.cmpi .ne v4210 c0_i32_3932
  let v4215 : BitVec 1 := Scalar.andi v4214 v4211
  let v4216 : BitVec 32 := Scalar.addi v4210 v4209
  let v4217 : BitVec 32 := Scalar.select v4215 v4216 v4210
  let c1_i32_3937 : BitVec 32 := 1#32
  let v4218 : BitVec 32 := Scalar.muli v4217 c1_i32_3937
  let v4219 : BitVec 32 := Scalar.addi c0_i32_3938 v4218
  v4219.toNat
def k0_dev165 (d0 : Dev nD) : Nat :=
  let c0_i32_3951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3941 : BitVec 32 := 10#32
  let v4225 : BitVec 32 := Scalar.addi v2 c10_i32_3941
  let c32_i32_3942 : BitVec 32 := 32#32
  let c0_i32_3943 : BitVec 32 := 0#32
  let v4226 : BitVec 1 := Scalar.cmpi .eq c32_i32_3942 c0_i32_3943
  let c1_i32_3944 : BitVec 32 := 1#32
  let v4227 : BitVec 32 := Scalar.select v4226 c1_i32_3944 c32_i32_3942
  let v4228 : BitVec 32 := Scalar.remsi v4225 v4227
  let c0_i32_3946 : BitVec 32 := 0#32
  let v4230 : BitVec 1 := Scalar.cmpi .slt v4228 c0_i32_3946
  let c0_i32_3947 : BitVec 32 := 0#32
  let v4231 : BitVec 1 := Scalar.cmpi .slt v4227 c0_i32_3947
  let v4232 : BitVec 1 := Scalar.xori v4230 v4231
  let c0_i32_3945 : BitVec 32 := 0#32
  let v4229 : BitVec 1 := Scalar.cmpi .ne v4228 c0_i32_3945
  let v4233 : BitVec 1 := Scalar.andi v4232 v4229
  let v4234 : BitVec 32 := Scalar.addi v4228 v4227
  let v4235 : BitVec 32 := Scalar.select v4233 v4234 v4228
  let c1_i32_3950 : BitVec 32 := 1#32
  let v4236 : BitVec 32 := Scalar.muli v4235 c1_i32_3950
  let v4237 : BitVec 32 := Scalar.addi c0_i32_3951 v4236
  v4237.toNat
def k0_dev166 (d0 : Dev nD) : Nat :=
  let c0_i32_3964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3954 : BitVec 32 := 11#32
  let v4243 : BitVec 32 := Scalar.addi v2 c11_i32_3954
  let c32_i32_3955 : BitVec 32 := 32#32
  let c0_i32_3956 : BitVec 32 := 0#32
  let v4244 : BitVec 1 := Scalar.cmpi .eq c32_i32_3955 c0_i32_3956
  let c1_i32_3957 : BitVec 32 := 1#32
  let v4245 : BitVec 32 := Scalar.select v4244 c1_i32_3957 c32_i32_3955
  let v4246 : BitVec 32 := Scalar.remsi v4243 v4245
  let c0_i32_3959 : BitVec 32 := 0#32
  let v4248 : BitVec 1 := Scalar.cmpi .slt v4246 c0_i32_3959
  let c0_i32_3960 : BitVec 32 := 0#32
  let v4249 : BitVec 1 := Scalar.cmpi .slt v4245 c0_i32_3960
  let v4250 : BitVec 1 := Scalar.xori v4248 v4249
  let c0_i32_3958 : BitVec 32 := 0#32
  let v4247 : BitVec 1 := Scalar.cmpi .ne v4246 c0_i32_3958
  let v4251 : BitVec 1 := Scalar.andi v4250 v4247
  let v4252 : BitVec 32 := Scalar.addi v4246 v4245
  let v4253 : BitVec 32 := Scalar.select v4251 v4252 v4246
  let c1_i32_3963 : BitVec 32 := 1#32
  let v4254 : BitVec 32 := Scalar.muli v4253 c1_i32_3963
  let v4255 : BitVec 32 := Scalar.addi c0_i32_3964 v4254
  v4255.toNat
def k0_dev167 (d0 : Dev nD) : Nat :=
  let c0_i32_3977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3967 : BitVec 32 := 12#32
  let v4261 : BitVec 32 := Scalar.addi v2 c12_i32_3967
  let c32_i32_3968 : BitVec 32 := 32#32
  let c0_i32_3969 : BitVec 32 := 0#32
  let v4262 : BitVec 1 := Scalar.cmpi .eq c32_i32_3968 c0_i32_3969
  let c1_i32_3970 : BitVec 32 := 1#32
  let v4263 : BitVec 32 := Scalar.select v4262 c1_i32_3970 c32_i32_3968
  let v4264 : BitVec 32 := Scalar.remsi v4261 v4263
  let c0_i32_3972 : BitVec 32 := 0#32
  let v4266 : BitVec 1 := Scalar.cmpi .slt v4264 c0_i32_3972
  let c0_i32_3973 : BitVec 32 := 0#32
  let v4267 : BitVec 1 := Scalar.cmpi .slt v4263 c0_i32_3973
  let v4268 : BitVec 1 := Scalar.xori v4266 v4267
  let c0_i32_3971 : BitVec 32 := 0#32
  let v4265 : BitVec 1 := Scalar.cmpi .ne v4264 c0_i32_3971
  let v4269 : BitVec 1 := Scalar.andi v4268 v4265
  let v4270 : BitVec 32 := Scalar.addi v4264 v4263
  let v4271 : BitVec 32 := Scalar.select v4269 v4270 v4264
  let c1_i32_3976 : BitVec 32 := 1#32
  let v4272 : BitVec 32 := Scalar.muli v4271 c1_i32_3976
  let v4273 : BitVec 32 := Scalar.addi c0_i32_3977 v4272
  v4273.toNat
def k0_dev168 (d0 : Dev nD) : Nat :=
  let c0_i32_3990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3980 : BitVec 32 := 13#32
  let v4279 : BitVec 32 := Scalar.addi v2 c13_i32_3980
  let c32_i32_3981 : BitVec 32 := 32#32
  let c0_i32_3982 : BitVec 32 := 0#32
  let v4280 : BitVec 1 := Scalar.cmpi .eq c32_i32_3981 c0_i32_3982
  let c1_i32_3983 : BitVec 32 := 1#32
  let v4281 : BitVec 32 := Scalar.select v4280 c1_i32_3983 c32_i32_3981
  let v4282 : BitVec 32 := Scalar.remsi v4279 v4281
  let c0_i32_3985 : BitVec 32 := 0#32
  let v4284 : BitVec 1 := Scalar.cmpi .slt v4282 c0_i32_3985
  let c0_i32_3986 : BitVec 32 := 0#32
  let v4285 : BitVec 1 := Scalar.cmpi .slt v4281 c0_i32_3986
  let v4286 : BitVec 1 := Scalar.xori v4284 v4285
  let c0_i32_3984 : BitVec 32 := 0#32
  let v4283 : BitVec 1 := Scalar.cmpi .ne v4282 c0_i32_3984
  let v4287 : BitVec 1 := Scalar.andi v4286 v4283
  let v4288 : BitVec 32 := Scalar.addi v4282 v4281
  let v4289 : BitVec 32 := Scalar.select v4287 v4288 v4282
  let c1_i32_3989 : BitVec 32 := 1#32
  let v4290 : BitVec 32 := Scalar.muli v4289 c1_i32_3989
  let v4291 : BitVec 32 := Scalar.addi c0_i32_3990 v4290
  v4291.toNat
def k0_dev169 (d0 : Dev nD) : Nat :=
  let c0_i32_4003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3993 : BitVec 32 := 14#32
  let v4297 : BitVec 32 := Scalar.addi v2 c14_i32_3993
  let c32_i32_3994 : BitVec 32 := 32#32
  let c0_i32_3995 : BitVec 32 := 0#32
  let v4298 : BitVec 1 := Scalar.cmpi .eq c32_i32_3994 c0_i32_3995
  let c1_i32_3996 : BitVec 32 := 1#32
  let v4299 : BitVec 32 := Scalar.select v4298 c1_i32_3996 c32_i32_3994
  let v4300 : BitVec 32 := Scalar.remsi v4297 v4299
  let c0_i32_3998 : BitVec 32 := 0#32
  let v4302 : BitVec 1 := Scalar.cmpi .slt v4300 c0_i32_3998
  let c0_i32_3999 : BitVec 32 := 0#32
  let v4303 : BitVec 1 := Scalar.cmpi .slt v4299 c0_i32_3999
  let v4304 : BitVec 1 := Scalar.xori v4302 v4303
  let c0_i32_3997 : BitVec 32 := 0#32
  let v4301 : BitVec 1 := Scalar.cmpi .ne v4300 c0_i32_3997
  let v4305 : BitVec 1 := Scalar.andi v4304 v4301
  let v4306 : BitVec 32 := Scalar.addi v4300 v4299
  let v4307 : BitVec 32 := Scalar.select v4305 v4306 v4300
  let c1_i32_4002 : BitVec 32 := 1#32
  let v4308 : BitVec 32 := Scalar.muli v4307 c1_i32_4002
  let v4309 : BitVec 32 := Scalar.addi c0_i32_4003 v4308
  v4309.toNat
def k0_dev170 (d0 : Dev nD) : Nat :=
  let c0_i32_4016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4006 : BitVec 32 := 15#32
  let v4315 : BitVec 32 := Scalar.addi v2 c15_i32_4006
  let c32_i32_4007 : BitVec 32 := 32#32
  let c0_i32_4008 : BitVec 32 := 0#32
  let v4316 : BitVec 1 := Scalar.cmpi .eq c32_i32_4007 c0_i32_4008
  let c1_i32_4009 : BitVec 32 := 1#32
  let v4317 : BitVec 32 := Scalar.select v4316 c1_i32_4009 c32_i32_4007
  let v4318 : BitVec 32 := Scalar.remsi v4315 v4317
  let c0_i32_4011 : BitVec 32 := 0#32
  let v4320 : BitVec 1 := Scalar.cmpi .slt v4318 c0_i32_4011
  let c0_i32_4012 : BitVec 32 := 0#32
  let v4321 : BitVec 1 := Scalar.cmpi .slt v4317 c0_i32_4012
  let v4322 : BitVec 1 := Scalar.xori v4320 v4321
  let c0_i32_4010 : BitVec 32 := 0#32
  let v4319 : BitVec 1 := Scalar.cmpi .ne v4318 c0_i32_4010
  let v4323 : BitVec 1 := Scalar.andi v4322 v4319
  let v4324 : BitVec 32 := Scalar.addi v4318 v4317
  let v4325 : BitVec 32 := Scalar.select v4323 v4324 v4318
  let c1_i32_4015 : BitVec 32 := 1#32
  let v4326 : BitVec 32 := Scalar.muli v4325 c1_i32_4015
  let v4327 : BitVec 32 := Scalar.addi c0_i32_4016 v4326
  v4327.toNat
def k0_dev171 (d0 : Dev nD) : Nat :=
  let c0_i32_4029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4019 : BitVec 32 := 16#32
  let v4333 : BitVec 32 := Scalar.addi v2 c16_i32_4019
  let c32_i32_4020 : BitVec 32 := 32#32
  let c0_i32_4021 : BitVec 32 := 0#32
  let v4334 : BitVec 1 := Scalar.cmpi .eq c32_i32_4020 c0_i32_4021
  let c1_i32_4022 : BitVec 32 := 1#32
  let v4335 : BitVec 32 := Scalar.select v4334 c1_i32_4022 c32_i32_4020
  let v4336 : BitVec 32 := Scalar.remsi v4333 v4335
  let c0_i32_4024 : BitVec 32 := 0#32
  let v4338 : BitVec 1 := Scalar.cmpi .slt v4336 c0_i32_4024
  let c0_i32_4025 : BitVec 32 := 0#32
  let v4339 : BitVec 1 := Scalar.cmpi .slt v4335 c0_i32_4025
  let v4340 : BitVec 1 := Scalar.xori v4338 v4339
  let c0_i32_4023 : BitVec 32 := 0#32
  let v4337 : BitVec 1 := Scalar.cmpi .ne v4336 c0_i32_4023
  let v4341 : BitVec 1 := Scalar.andi v4340 v4337
  let v4342 : BitVec 32 := Scalar.addi v4336 v4335
  let v4343 : BitVec 32 := Scalar.select v4341 v4342 v4336
  let c1_i32_4028 : BitVec 32 := 1#32
  let v4344 : BitVec 32 := Scalar.muli v4343 c1_i32_4028
  let v4345 : BitVec 32 := Scalar.addi c0_i32_4029 v4344
  v4345.toNat
def k0_dev172 (d0 : Dev nD) : Nat :=
  let c0_i32_4042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4032 : BitVec 32 := 17#32
  let v4351 : BitVec 32 := Scalar.addi v2 c17_i32_4032
  let c32_i32_4033 : BitVec 32 := 32#32
  let c0_i32_4034 : BitVec 32 := 0#32
  let v4352 : BitVec 1 := Scalar.cmpi .eq c32_i32_4033 c0_i32_4034
  let c1_i32_4035 : BitVec 32 := 1#32
  let v4353 : BitVec 32 := Scalar.select v4352 c1_i32_4035 c32_i32_4033
  let v4354 : BitVec 32 := Scalar.remsi v4351 v4353
  let c0_i32_4037 : BitVec 32 := 0#32
  let v4356 : BitVec 1 := Scalar.cmpi .slt v4354 c0_i32_4037
  let c0_i32_4038 : BitVec 32 := 0#32
  let v4357 : BitVec 1 := Scalar.cmpi .slt v4353 c0_i32_4038
  let v4358 : BitVec 1 := Scalar.xori v4356 v4357
  let c0_i32_4036 : BitVec 32 := 0#32
  let v4355 : BitVec 1 := Scalar.cmpi .ne v4354 c0_i32_4036
  let v4359 : BitVec 1 := Scalar.andi v4358 v4355
  let v4360 : BitVec 32 := Scalar.addi v4354 v4353
  let v4361 : BitVec 32 := Scalar.select v4359 v4360 v4354
  let c1_i32_4041 : BitVec 32 := 1#32
  let v4362 : BitVec 32 := Scalar.muli v4361 c1_i32_4041
  let v4363 : BitVec 32 := Scalar.addi c0_i32_4042 v4362
  v4363.toNat
def k0_dev173 (d0 : Dev nD) : Nat :=
  let c0_i32_4055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4045 : BitVec 32 := 18#32
  let v4369 : BitVec 32 := Scalar.addi v2 c18_i32_4045
  let c32_i32_4046 : BitVec 32 := 32#32
  let c0_i32_4047 : BitVec 32 := 0#32
  let v4370 : BitVec 1 := Scalar.cmpi .eq c32_i32_4046 c0_i32_4047
  let c1_i32_4048 : BitVec 32 := 1#32
  let v4371 : BitVec 32 := Scalar.select v4370 c1_i32_4048 c32_i32_4046
  let v4372 : BitVec 32 := Scalar.remsi v4369 v4371
  let c0_i32_4050 : BitVec 32 := 0#32
  let v4374 : BitVec 1 := Scalar.cmpi .slt v4372 c0_i32_4050
  let c0_i32_4051 : BitVec 32 := 0#32
  let v4375 : BitVec 1 := Scalar.cmpi .slt v4371 c0_i32_4051
  let v4376 : BitVec 1 := Scalar.xori v4374 v4375
  let c0_i32_4049 : BitVec 32 := 0#32
  let v4373 : BitVec 1 := Scalar.cmpi .ne v4372 c0_i32_4049
  let v4377 : BitVec 1 := Scalar.andi v4376 v4373
  let v4378 : BitVec 32 := Scalar.addi v4372 v4371
  let v4379 : BitVec 32 := Scalar.select v4377 v4378 v4372
  let c1_i32_4054 : BitVec 32 := 1#32
  let v4380 : BitVec 32 := Scalar.muli v4379 c1_i32_4054
  let v4381 : BitVec 32 := Scalar.addi c0_i32_4055 v4380
  v4381.toNat
def k0_dev174 (d0 : Dev nD) : Nat :=
  let c0_i32_4068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4058 : BitVec 32 := 19#32
  let v4387 : BitVec 32 := Scalar.addi v2 c19_i32_4058
  let c32_i32_4059 : BitVec 32 := 32#32
  let c0_i32_4060 : BitVec 32 := 0#32
  let v4388 : BitVec 1 := Scalar.cmpi .eq c32_i32_4059 c0_i32_4060
  let c1_i32_4061 : BitVec 32 := 1#32
  let v4389 : BitVec 32 := Scalar.select v4388 c1_i32_4061 c32_i32_4059
  let v4390 : BitVec 32 := Scalar.remsi v4387 v4389
  let c0_i32_4063 : BitVec 32 := 0#32
  let v4392 : BitVec 1 := Scalar.cmpi .slt v4390 c0_i32_4063
  let c0_i32_4064 : BitVec 32 := 0#32
  let v4393 : BitVec 1 := Scalar.cmpi .slt v4389 c0_i32_4064
  let v4394 : BitVec 1 := Scalar.xori v4392 v4393
  let c0_i32_4062 : BitVec 32 := 0#32
  let v4391 : BitVec 1 := Scalar.cmpi .ne v4390 c0_i32_4062
  let v4395 : BitVec 1 := Scalar.andi v4394 v4391
  let v4396 : BitVec 32 := Scalar.addi v4390 v4389
  let v4397 : BitVec 32 := Scalar.select v4395 v4396 v4390
  let c1_i32_4067 : BitVec 32 := 1#32
  let v4398 : BitVec 32 := Scalar.muli v4397 c1_i32_4067
  let v4399 : BitVec 32 := Scalar.addi c0_i32_4068 v4398
  v4399.toNat
def k0_dev175 (d0 : Dev nD) : Nat :=
  let c0_i32_4081 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4071 : BitVec 32 := 20#32
  let v4405 : BitVec 32 := Scalar.addi v2 c20_i32_4071
  let c32_i32_4072 : BitVec 32 := 32#32
  let c0_i32_4073 : BitVec 32 := 0#32
  let v4406 : BitVec 1 := Scalar.cmpi .eq c32_i32_4072 c0_i32_4073
  let c1_i32_4074 : BitVec 32 := 1#32
  let v4407 : BitVec 32 := Scalar.select v4406 c1_i32_4074 c32_i32_4072
  let v4408 : BitVec 32 := Scalar.remsi v4405 v4407
  let c0_i32_4076 : BitVec 32 := 0#32
  let v4410 : BitVec 1 := Scalar.cmpi .slt v4408 c0_i32_4076
  let c0_i32_4077 : BitVec 32 := 0#32
  let v4411 : BitVec 1 := Scalar.cmpi .slt v4407 c0_i32_4077
  let v4412 : BitVec 1 := Scalar.xori v4410 v4411
  let c0_i32_4075 : BitVec 32 := 0#32
  let v4409 : BitVec 1 := Scalar.cmpi .ne v4408 c0_i32_4075
  let v4413 : BitVec 1 := Scalar.andi v4412 v4409
  let v4414 : BitVec 32 := Scalar.addi v4408 v4407
  let v4415 : BitVec 32 := Scalar.select v4413 v4414 v4408
  let c1_i32_4080 : BitVec 32 := 1#32
  let v4416 : BitVec 32 := Scalar.muli v4415 c1_i32_4080
  let v4417 : BitVec 32 := Scalar.addi c0_i32_4081 v4416
  v4417.toNat
def k0_dev176 (d0 : Dev nD) : Nat :=
  let c0_i32_4094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4084 : BitVec 32 := 21#32
  let v4423 : BitVec 32 := Scalar.addi v2 c21_i32_4084
  let c32_i32_4085 : BitVec 32 := 32#32
  let c0_i32_4086 : BitVec 32 := 0#32
  let v4424 : BitVec 1 := Scalar.cmpi .eq c32_i32_4085 c0_i32_4086
  let c1_i32_4087 : BitVec 32 := 1#32
  let v4425 : BitVec 32 := Scalar.select v4424 c1_i32_4087 c32_i32_4085
  let v4426 : BitVec 32 := Scalar.remsi v4423 v4425
  let c0_i32_4089 : BitVec 32 := 0#32
  let v4428 : BitVec 1 := Scalar.cmpi .slt v4426 c0_i32_4089
  let c0_i32_4090 : BitVec 32 := 0#32
  let v4429 : BitVec 1 := Scalar.cmpi .slt v4425 c0_i32_4090
  let v4430 : BitVec 1 := Scalar.xori v4428 v4429
  let c0_i32_4088 : BitVec 32 := 0#32
  let v4427 : BitVec 1 := Scalar.cmpi .ne v4426 c0_i32_4088
  let v4431 : BitVec 1 := Scalar.andi v4430 v4427
  let v4432 : BitVec 32 := Scalar.addi v4426 v4425
  let v4433 : BitVec 32 := Scalar.select v4431 v4432 v4426
  let c1_i32_4093 : BitVec 32 := 1#32
  let v4434 : BitVec 32 := Scalar.muli v4433 c1_i32_4093
  let v4435 : BitVec 32 := Scalar.addi c0_i32_4094 v4434
  v4435.toNat
def k0_dev177 (d0 : Dev nD) : Nat :=
  let c0_i32_4107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4097 : BitVec 32 := 22#32
  let v4441 : BitVec 32 := Scalar.addi v2 c22_i32_4097
  let c32_i32_4098 : BitVec 32 := 32#32
  let c0_i32_4099 : BitVec 32 := 0#32
  let v4442 : BitVec 1 := Scalar.cmpi .eq c32_i32_4098 c0_i32_4099
  let c1_i32_4100 : BitVec 32 := 1#32
  let v4443 : BitVec 32 := Scalar.select v4442 c1_i32_4100 c32_i32_4098
  let v4444 : BitVec 32 := Scalar.remsi v4441 v4443
  let c0_i32_4102 : BitVec 32 := 0#32
  let v4446 : BitVec 1 := Scalar.cmpi .slt v4444 c0_i32_4102
  let c0_i32_4103 : BitVec 32 := 0#32
  let v4447 : BitVec 1 := Scalar.cmpi .slt v4443 c0_i32_4103
  let v4448 : BitVec 1 := Scalar.xori v4446 v4447
  let c0_i32_4101 : BitVec 32 := 0#32
  let v4445 : BitVec 1 := Scalar.cmpi .ne v4444 c0_i32_4101
  let v4449 : BitVec 1 := Scalar.andi v4448 v4445
  let v4450 : BitVec 32 := Scalar.addi v4444 v4443
  let v4451 : BitVec 32 := Scalar.select v4449 v4450 v4444
  let c1_i32_4106 : BitVec 32 := 1#32
  let v4452 : BitVec 32 := Scalar.muli v4451 c1_i32_4106
  let v4453 : BitVec 32 := Scalar.addi c0_i32_4107 v4452
  v4453.toNat
def k0_dev178 (d0 : Dev nD) : Nat :=
  let c0_i32_4120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4110 : BitVec 32 := 23#32
  let v4459 : BitVec 32 := Scalar.addi v2 c23_i32_4110
  let c32_i32_4111 : BitVec 32 := 32#32
  let c0_i32_4112 : BitVec 32 := 0#32
  let v4460 : BitVec 1 := Scalar.cmpi .eq c32_i32_4111 c0_i32_4112
  let c1_i32_4113 : BitVec 32 := 1#32
  let v4461 : BitVec 32 := Scalar.select v4460 c1_i32_4113 c32_i32_4111
  let v4462 : BitVec 32 := Scalar.remsi v4459 v4461
  let c0_i32_4115 : BitVec 32 := 0#32
  let v4464 : BitVec 1 := Scalar.cmpi .slt v4462 c0_i32_4115
  let c0_i32_4116 : BitVec 32 := 0#32
  let v4465 : BitVec 1 := Scalar.cmpi .slt v4461 c0_i32_4116
  let v4466 : BitVec 1 := Scalar.xori v4464 v4465
  let c0_i32_4114 : BitVec 32 := 0#32
  let v4463 : BitVec 1 := Scalar.cmpi .ne v4462 c0_i32_4114
  let v4467 : BitVec 1 := Scalar.andi v4466 v4463
  let v4468 : BitVec 32 := Scalar.addi v4462 v4461
  let v4469 : BitVec 32 := Scalar.select v4467 v4468 v4462
  let c1_i32_4119 : BitVec 32 := 1#32
  let v4470 : BitVec 32 := Scalar.muli v4469 c1_i32_4119
  let v4471 : BitVec 32 := Scalar.addi c0_i32_4120 v4470
  v4471.toNat
def k0_dev179 (d0 : Dev nD) : Nat :=
  let c0_i32_4133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4123 : BitVec 32 := 24#32
  let v4477 : BitVec 32 := Scalar.addi v2 c24_i32_4123
  let c32_i32_4124 : BitVec 32 := 32#32
  let c0_i32_4125 : BitVec 32 := 0#32
  let v4478 : BitVec 1 := Scalar.cmpi .eq c32_i32_4124 c0_i32_4125
  let c1_i32_4126 : BitVec 32 := 1#32
  let v4479 : BitVec 32 := Scalar.select v4478 c1_i32_4126 c32_i32_4124
  let v4480 : BitVec 32 := Scalar.remsi v4477 v4479
  let c0_i32_4128 : BitVec 32 := 0#32
  let v4482 : BitVec 1 := Scalar.cmpi .slt v4480 c0_i32_4128
  let c0_i32_4129 : BitVec 32 := 0#32
  let v4483 : BitVec 1 := Scalar.cmpi .slt v4479 c0_i32_4129
  let v4484 : BitVec 1 := Scalar.xori v4482 v4483
  let c0_i32_4127 : BitVec 32 := 0#32
  let v4481 : BitVec 1 := Scalar.cmpi .ne v4480 c0_i32_4127
  let v4485 : BitVec 1 := Scalar.andi v4484 v4481
  let v4486 : BitVec 32 := Scalar.addi v4480 v4479
  let v4487 : BitVec 32 := Scalar.select v4485 v4486 v4480
  let c1_i32_4132 : BitVec 32 := 1#32
  let v4488 : BitVec 32 := Scalar.muli v4487 c1_i32_4132
  let v4489 : BitVec 32 := Scalar.addi c0_i32_4133 v4488
  v4489.toNat
def k0_dev180 (d0 : Dev nD) : Nat :=
  let c0_i32_4146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4136 : BitVec 32 := 25#32
  let v4495 : BitVec 32 := Scalar.addi v2 c25_i32_4136
  let c32_i32_4137 : BitVec 32 := 32#32
  let c0_i32_4138 : BitVec 32 := 0#32
  let v4496 : BitVec 1 := Scalar.cmpi .eq c32_i32_4137 c0_i32_4138
  let c1_i32_4139 : BitVec 32 := 1#32
  let v4497 : BitVec 32 := Scalar.select v4496 c1_i32_4139 c32_i32_4137
  let v4498 : BitVec 32 := Scalar.remsi v4495 v4497
  let c0_i32_4141 : BitVec 32 := 0#32
  let v4500 : BitVec 1 := Scalar.cmpi .slt v4498 c0_i32_4141
  let c0_i32_4142 : BitVec 32 := 0#32
  let v4501 : BitVec 1 := Scalar.cmpi .slt v4497 c0_i32_4142
  let v4502 : BitVec 1 := Scalar.xori v4500 v4501
  let c0_i32_4140 : BitVec 32 := 0#32
  let v4499 : BitVec 1 := Scalar.cmpi .ne v4498 c0_i32_4140
  let v4503 : BitVec 1 := Scalar.andi v4502 v4499
  let v4504 : BitVec 32 := Scalar.addi v4498 v4497
  let v4505 : BitVec 32 := Scalar.select v4503 v4504 v4498
  let c1_i32_4145 : BitVec 32 := 1#32
  let v4506 : BitVec 32 := Scalar.muli v4505 c1_i32_4145
  let v4507 : BitVec 32 := Scalar.addi c0_i32_4146 v4506
  v4507.toNat
def k0_dev181 (d0 : Dev nD) : Nat :=
  let c0_i32_4159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4149 : BitVec 32 := 26#32
  let v4513 : BitVec 32 := Scalar.addi v2 c26_i32_4149
  let c32_i32_4150 : BitVec 32 := 32#32
  let c0_i32_4151 : BitVec 32 := 0#32
  let v4514 : BitVec 1 := Scalar.cmpi .eq c32_i32_4150 c0_i32_4151
  let c1_i32_4152 : BitVec 32 := 1#32
  let v4515 : BitVec 32 := Scalar.select v4514 c1_i32_4152 c32_i32_4150
  let v4516 : BitVec 32 := Scalar.remsi v4513 v4515
  let c0_i32_4154 : BitVec 32 := 0#32
  let v4518 : BitVec 1 := Scalar.cmpi .slt v4516 c0_i32_4154
  let c0_i32_4155 : BitVec 32 := 0#32
  let v4519 : BitVec 1 := Scalar.cmpi .slt v4515 c0_i32_4155
  let v4520 : BitVec 1 := Scalar.xori v4518 v4519
  let c0_i32_4153 : BitVec 32 := 0#32
  let v4517 : BitVec 1 := Scalar.cmpi .ne v4516 c0_i32_4153
  let v4521 : BitVec 1 := Scalar.andi v4520 v4517
  let v4522 : BitVec 32 := Scalar.addi v4516 v4515
  let v4523 : BitVec 32 := Scalar.select v4521 v4522 v4516
  let c1_i32_4158 : BitVec 32 := 1#32
  let v4524 : BitVec 32 := Scalar.muli v4523 c1_i32_4158
  let v4525 : BitVec 32 := Scalar.addi c0_i32_4159 v4524
  v4525.toNat
def k0_dev182 (d0 : Dev nD) : Nat :=
  let c0_i32_4172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4162 : BitVec 32 := 27#32
  let v4531 : BitVec 32 := Scalar.addi v2 c27_i32_4162
  let c32_i32_4163 : BitVec 32 := 32#32
  let c0_i32_4164 : BitVec 32 := 0#32
  let v4532 : BitVec 1 := Scalar.cmpi .eq c32_i32_4163 c0_i32_4164
  let c1_i32_4165 : BitVec 32 := 1#32
  let v4533 : BitVec 32 := Scalar.select v4532 c1_i32_4165 c32_i32_4163
  let v4534 : BitVec 32 := Scalar.remsi v4531 v4533
  let c0_i32_4167 : BitVec 32 := 0#32
  let v4536 : BitVec 1 := Scalar.cmpi .slt v4534 c0_i32_4167
  let c0_i32_4168 : BitVec 32 := 0#32
  let v4537 : BitVec 1 := Scalar.cmpi .slt v4533 c0_i32_4168
  let v4538 : BitVec 1 := Scalar.xori v4536 v4537
  let c0_i32_4166 : BitVec 32 := 0#32
  let v4535 : BitVec 1 := Scalar.cmpi .ne v4534 c0_i32_4166
  let v4539 : BitVec 1 := Scalar.andi v4538 v4535
  let v4540 : BitVec 32 := Scalar.addi v4534 v4533
  let v4541 : BitVec 32 := Scalar.select v4539 v4540 v4534
  let c1_i32_4171 : BitVec 32 := 1#32
  let v4542 : BitVec 32 := Scalar.muli v4541 c1_i32_4171
  let v4543 : BitVec 32 := Scalar.addi c0_i32_4172 v4542
  v4543.toNat
def k0_dev183 (d0 : Dev nD) : Nat :=
  let c0_i32_4185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4175 : BitVec 32 := 28#32
  let v4549 : BitVec 32 := Scalar.addi v2 c28_i32_4175
  let c32_i32_4176 : BitVec 32 := 32#32
  let c0_i32_4177 : BitVec 32 := 0#32
  let v4550 : BitVec 1 := Scalar.cmpi .eq c32_i32_4176 c0_i32_4177
  let c1_i32_4178 : BitVec 32 := 1#32
  let v4551 : BitVec 32 := Scalar.select v4550 c1_i32_4178 c32_i32_4176
  let v4552 : BitVec 32 := Scalar.remsi v4549 v4551
  let c0_i32_4180 : BitVec 32 := 0#32
  let v4554 : BitVec 1 := Scalar.cmpi .slt v4552 c0_i32_4180
  let c0_i32_4181 : BitVec 32 := 0#32
  let v4555 : BitVec 1 := Scalar.cmpi .slt v4551 c0_i32_4181
  let v4556 : BitVec 1 := Scalar.xori v4554 v4555
  let c0_i32_4179 : BitVec 32 := 0#32
  let v4553 : BitVec 1 := Scalar.cmpi .ne v4552 c0_i32_4179
  let v4557 : BitVec 1 := Scalar.andi v4556 v4553
  let v4558 : BitVec 32 := Scalar.addi v4552 v4551
  let v4559 : BitVec 32 := Scalar.select v4557 v4558 v4552
  let c1_i32_4184 : BitVec 32 := 1#32
  let v4560 : BitVec 32 := Scalar.muli v4559 c1_i32_4184
  let v4561 : BitVec 32 := Scalar.addi c0_i32_4185 v4560
  v4561.toNat
def k0_dev184 (d0 : Dev nD) : Nat :=
  let c0_i32_4198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4188 : BitVec 32 := 29#32
  let v4567 : BitVec 32 := Scalar.addi v2 c29_i32_4188
  let c32_i32_4189 : BitVec 32 := 32#32
  let c0_i32_4190 : BitVec 32 := 0#32
  let v4568 : BitVec 1 := Scalar.cmpi .eq c32_i32_4189 c0_i32_4190
  let c1_i32_4191 : BitVec 32 := 1#32
  let v4569 : BitVec 32 := Scalar.select v4568 c1_i32_4191 c32_i32_4189
  let v4570 : BitVec 32 := Scalar.remsi v4567 v4569
  let c0_i32_4193 : BitVec 32 := 0#32
  let v4572 : BitVec 1 := Scalar.cmpi .slt v4570 c0_i32_4193
  let c0_i32_4194 : BitVec 32 := 0#32
  let v4573 : BitVec 1 := Scalar.cmpi .slt v4569 c0_i32_4194
  let v4574 : BitVec 1 := Scalar.xori v4572 v4573
  let c0_i32_4192 : BitVec 32 := 0#32
  let v4571 : BitVec 1 := Scalar.cmpi .ne v4570 c0_i32_4192
  let v4575 : BitVec 1 := Scalar.andi v4574 v4571
  let v4576 : BitVec 32 := Scalar.addi v4570 v4569
  let v4577 : BitVec 32 := Scalar.select v4575 v4576 v4570
  let c1_i32_4197 : BitVec 32 := 1#32
  let v4578 : BitVec 32 := Scalar.muli v4577 c1_i32_4197
  let v4579 : BitVec 32 := Scalar.addi c0_i32_4198 v4578
  v4579.toNat
def k0_dev185 (d0 : Dev nD) : Nat :=
  let c0_i32_4211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4201 : BitVec 32 := 30#32
  let v4585 : BitVec 32 := Scalar.addi v2 c30_i32_4201
  let c32_i32_4202 : BitVec 32 := 32#32
  let c0_i32_4203 : BitVec 32 := 0#32
  let v4586 : BitVec 1 := Scalar.cmpi .eq c32_i32_4202 c0_i32_4203
  let c1_i32_4204 : BitVec 32 := 1#32
  let v4587 : BitVec 32 := Scalar.select v4586 c1_i32_4204 c32_i32_4202
  let v4588 : BitVec 32 := Scalar.remsi v4585 v4587
  let c0_i32_4206 : BitVec 32 := 0#32
  let v4590 : BitVec 1 := Scalar.cmpi .slt v4588 c0_i32_4206
  let c0_i32_4207 : BitVec 32 := 0#32
  let v4591 : BitVec 1 := Scalar.cmpi .slt v4587 c0_i32_4207
  let v4592 : BitVec 1 := Scalar.xori v4590 v4591
  let c0_i32_4205 : BitVec 32 := 0#32
  let v4589 : BitVec 1 := Scalar.cmpi .ne v4588 c0_i32_4205
  let v4593 : BitVec 1 := Scalar.andi v4592 v4589
  let v4594 : BitVec 32 := Scalar.addi v4588 v4587
  let v4595 : BitVec 32 := Scalar.select v4593 v4594 v4588
  let c1_i32_4210 : BitVec 32 := 1#32
  let v4596 : BitVec 32 := Scalar.muli v4595 c1_i32_4210
  let v4597 : BitVec 32 := Scalar.addi c0_i32_4211 v4596
  v4597.toNat
def k0_dev186 (d0 : Dev nD) : Nat :=
  let c0_i32_4224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4214 : BitVec 32 := 31#32
  let v4603 : BitVec 32 := Scalar.addi v2 c31_i32_4214
  let c32_i32_4215 : BitVec 32 := 32#32
  let c0_i32_4216 : BitVec 32 := 0#32
  let v4604 : BitVec 1 := Scalar.cmpi .eq c32_i32_4215 c0_i32_4216
  let c1_i32_4217 : BitVec 32 := 1#32
  let v4605 : BitVec 32 := Scalar.select v4604 c1_i32_4217 c32_i32_4215
  let v4606 : BitVec 32 := Scalar.remsi v4603 v4605
  let c0_i32_4219 : BitVec 32 := 0#32
  let v4608 : BitVec 1 := Scalar.cmpi .slt v4606 c0_i32_4219
  let c0_i32_4220 : BitVec 32 := 0#32
  let v4609 : BitVec 1 := Scalar.cmpi .slt v4605 c0_i32_4220
  let v4610 : BitVec 1 := Scalar.xori v4608 v4609
  let c0_i32_4218 : BitVec 32 := 0#32
  let v4607 : BitVec 1 := Scalar.cmpi .ne v4606 c0_i32_4218
  let v4611 : BitVec 1 := Scalar.andi v4610 v4607
  let v4612 : BitVec 32 := Scalar.addi v4606 v4605
  let v4613 : BitVec 32 := Scalar.select v4611 v4612 v4606
  let c1_i32_4223 : BitVec 32 := 1#32
  let v4614 : BitVec 32 := Scalar.muli v4613 c1_i32_4223
  let v4615 : BitVec 32 := Scalar.addi c0_i32_4224 v4614
  v4615.toNat
def k0_dev187 (d0 : Dev nD) : Nat :=
  let c0_i32_4438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4427 : BitVec 32 := 1#32
  let v4795 : BitVec 32 := Scalar.subi v2 c1_i32_4427
  let c32_i32_4428 : BitVec 32 := 32#32
  let c0_i32_4429 : BitVec 32 := 0#32
  let v4796 : BitVec 1 := Scalar.cmpi .eq c32_i32_4428 c0_i32_4429
  let c1_i32_4430 : BitVec 32 := 1#32
  let v4797 : BitVec 32 := Scalar.select v4796 c1_i32_4430 c32_i32_4428
  let v4798 : BitVec 32 := Scalar.remsi v4795 v4797
  let c0_i32_4432 : BitVec 32 := 0#32
  let v4800 : BitVec 1 := Scalar.cmpi .slt v4798 c0_i32_4432
  let c0_i32_4433 : BitVec 32 := 0#32
  let v4801 : BitVec 1 := Scalar.cmpi .slt v4797 c0_i32_4433
  let v4802 : BitVec 1 := Scalar.xori v4800 v4801
  let c0_i32_4431 : BitVec 32 := 0#32
  let v4799 : BitVec 1 := Scalar.cmpi .ne v4798 c0_i32_4431
  let v4803 : BitVec 1 := Scalar.andi v4802 v4799
  let v4804 : BitVec 32 := Scalar.addi v4798 v4797
  let v4805 : BitVec 32 := Scalar.select v4803 v4804 v4798
  let c1_i32_4437 : BitVec 32 := 1#32
  let v4806 : BitVec 32 := Scalar.muli v4805 c1_i32_4437
  let v4807 : BitVec 32 := Scalar.addi c0_i32_4438 v4806
  v4807.toNat
def k0_dev188 (d0 : Dev nD) : Nat :=
  let c0_i32_4454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4443 : BitVec 32 := 31#32
  let v4815 : BitVec 32 := Scalar.subi v2 c31_i32_4443
  let c32_i32_4444 : BitVec 32 := 32#32
  let c0_i32_4445 : BitVec 32 := 0#32
  let v4816 : BitVec 1 := Scalar.cmpi .eq c32_i32_4444 c0_i32_4445
  let c1_i32_4446 : BitVec 32 := 1#32
  let v4817 : BitVec 32 := Scalar.select v4816 c1_i32_4446 c32_i32_4444
  let v4818 : BitVec 32 := Scalar.remsi v4815 v4817
  let c0_i32_4448 : BitVec 32 := 0#32
  let v4820 : BitVec 1 := Scalar.cmpi .slt v4818 c0_i32_4448
  let c0_i32_4449 : BitVec 32 := 0#32
  let v4821 : BitVec 1 := Scalar.cmpi .slt v4817 c0_i32_4449
  let v4822 : BitVec 1 := Scalar.xori v4820 v4821
  let c0_i32_4447 : BitVec 32 := 0#32
  let v4819 : BitVec 1 := Scalar.cmpi .ne v4818 c0_i32_4447
  let v4823 : BitVec 1 := Scalar.andi v4822 v4819
  let v4824 : BitVec 32 := Scalar.addi v4818 v4817
  let v4825 : BitVec 32 := Scalar.select v4823 v4824 v4818
  let c1_i32_4453 : BitVec 32 := 1#32
  let v4826 : BitVec 32 := Scalar.muli v4825 c1_i32_4453
  let v4827 : BitVec 32 := Scalar.addi c0_i32_4454 v4826
  v4827.toNat
def k0_dev189 (d0 : Dev nD) : Nat :=
  let c0_i32_4470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4459 : BitVec 32 := 2#32
  let v4835 : BitVec 32 := Scalar.subi v2 c2_i32_4459
  let c32_i32_4460 : BitVec 32 := 32#32
  let c0_i32_4461 : BitVec 32 := 0#32
  let v4836 : BitVec 1 := Scalar.cmpi .eq c32_i32_4460 c0_i32_4461
  let c1_i32_4462 : BitVec 32 := 1#32
  let v4837 : BitVec 32 := Scalar.select v4836 c1_i32_4462 c32_i32_4460
  let v4838 : BitVec 32 := Scalar.remsi v4835 v4837
  let c0_i32_4464 : BitVec 32 := 0#32
  let v4840 : BitVec 1 := Scalar.cmpi .slt v4838 c0_i32_4464
  let c0_i32_4465 : BitVec 32 := 0#32
  let v4841 : BitVec 1 := Scalar.cmpi .slt v4837 c0_i32_4465
  let v4842 : BitVec 1 := Scalar.xori v4840 v4841
  let c0_i32_4463 : BitVec 32 := 0#32
  let v4839 : BitVec 1 := Scalar.cmpi .ne v4838 c0_i32_4463
  let v4843 : BitVec 1 := Scalar.andi v4842 v4839
  let v4844 : BitVec 32 := Scalar.addi v4838 v4837
  let v4845 : BitVec 32 := Scalar.select v4843 v4844 v4838
  let c1_i32_4469 : BitVec 32 := 1#32
  let v4846 : BitVec 32 := Scalar.muli v4845 c1_i32_4469
  let v4847 : BitVec 32 := Scalar.addi c0_i32_4470 v4846
  v4847.toNat
def k0_dev190 (d0 : Dev nD) : Nat :=
  let c0_i32_4486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4475 : BitVec 32 := 30#32
  let v4855 : BitVec 32 := Scalar.subi v2 c30_i32_4475
  let c32_i32_4476 : BitVec 32 := 32#32
  let c0_i32_4477 : BitVec 32 := 0#32
  let v4856 : BitVec 1 := Scalar.cmpi .eq c32_i32_4476 c0_i32_4477
  let c1_i32_4478 : BitVec 32 := 1#32
  let v4857 : BitVec 32 := Scalar.select v4856 c1_i32_4478 c32_i32_4476
  let v4858 : BitVec 32 := Scalar.remsi v4855 v4857
  let c0_i32_4480 : BitVec 32 := 0#32
  let v4860 : BitVec 1 := Scalar.cmpi .slt v4858 c0_i32_4480
  let c0_i32_4481 : BitVec 32 := 0#32
  let v4861 : BitVec 1 := Scalar.cmpi .slt v4857 c0_i32_4481
  let v4862 : BitVec 1 := Scalar.xori v4860 v4861
  let c0_i32_4479 : BitVec 32 := 0#32
  let v4859 : BitVec 1 := Scalar.cmpi .ne v4858 c0_i32_4479
  let v4863 : BitVec 1 := Scalar.andi v4862 v4859
  let v4864 : BitVec 32 := Scalar.addi v4858 v4857
  let v4865 : BitVec 32 := Scalar.select v4863 v4864 v4858
  let c1_i32_4485 : BitVec 32 := 1#32
  let v4866 : BitVec 32 := Scalar.muli v4865 c1_i32_4485
  let v4867 : BitVec 32 := Scalar.addi c0_i32_4486 v4866
  v4867.toNat
def k0_dev191 (d0 : Dev nD) : Nat :=
  let c0_i32_4502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_4491 : BitVec 32 := 3#32
  let v4875 : BitVec 32 := Scalar.subi v2 c3_i32_4491
  let c32_i32_4492 : BitVec 32 := 32#32
  let c0_i32_4493 : BitVec 32 := 0#32
  let v4876 : BitVec 1 := Scalar.cmpi .eq c32_i32_4492 c0_i32_4493
  let c1_i32_4494 : BitVec 32 := 1#32
  let v4877 : BitVec 32 := Scalar.select v4876 c1_i32_4494 c32_i32_4492
  let v4878 : BitVec 32 := Scalar.remsi v4875 v4877
  let c0_i32_4496 : BitVec 32 := 0#32
  let v4880 : BitVec 1 := Scalar.cmpi .slt v4878 c0_i32_4496
  let c0_i32_4497 : BitVec 32 := 0#32
  let v4881 : BitVec 1 := Scalar.cmpi .slt v4877 c0_i32_4497
  let v4882 : BitVec 1 := Scalar.xori v4880 v4881
  let c0_i32_4495 : BitVec 32 := 0#32
  let v4879 : BitVec 1 := Scalar.cmpi .ne v4878 c0_i32_4495
  let v4883 : BitVec 1 := Scalar.andi v4882 v4879
  let v4884 : BitVec 32 := Scalar.addi v4878 v4877
  let v4885 : BitVec 32 := Scalar.select v4883 v4884 v4878
  let c1_i32_4501 : BitVec 32 := 1#32
  let v4886 : BitVec 32 := Scalar.muli v4885 c1_i32_4501
  let v4887 : BitVec 32 := Scalar.addi c0_i32_4502 v4886
  v4887.toNat
def k0_dev192 (d0 : Dev nD) : Nat :=
  let c0_i32_4518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4507 : BitVec 32 := 29#32
  let v4895 : BitVec 32 := Scalar.subi v2 c29_i32_4507
  let c32_i32_4508 : BitVec 32 := 32#32
  let c0_i32_4509 : BitVec 32 := 0#32
  let v4896 : BitVec 1 := Scalar.cmpi .eq c32_i32_4508 c0_i32_4509
  let c1_i32_4510 : BitVec 32 := 1#32
  let v4897 : BitVec 32 := Scalar.select v4896 c1_i32_4510 c32_i32_4508
  let v4898 : BitVec 32 := Scalar.remsi v4895 v4897
  let c0_i32_4512 : BitVec 32 := 0#32
  let v4900 : BitVec 1 := Scalar.cmpi .slt v4898 c0_i32_4512
  let c0_i32_4513 : BitVec 32 := 0#32
  let v4901 : BitVec 1 := Scalar.cmpi .slt v4897 c0_i32_4513
  let v4902 : BitVec 1 := Scalar.xori v4900 v4901
  let c0_i32_4511 : BitVec 32 := 0#32
  let v4899 : BitVec 1 := Scalar.cmpi .ne v4898 c0_i32_4511
  let v4903 : BitVec 1 := Scalar.andi v4902 v4899
  let v4904 : BitVec 32 := Scalar.addi v4898 v4897
  let v4905 : BitVec 32 := Scalar.select v4903 v4904 v4898
  let c1_i32_4517 : BitVec 32 := 1#32
  let v4906 : BitVec 32 := Scalar.muli v4905 c1_i32_4517
  let v4907 : BitVec 32 := Scalar.addi c0_i32_4518 v4906
  v4907.toNat
def k0_dev193 (d0 : Dev nD) : Nat :=
  let c0_i32_4534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4523 : BitVec 32 := 4#32
  let v4915 : BitVec 32 := Scalar.subi v2 c4_i32_4523
  let c32_i32_4524 : BitVec 32 := 32#32
  let c0_i32_4525 : BitVec 32 := 0#32
  let v4916 : BitVec 1 := Scalar.cmpi .eq c32_i32_4524 c0_i32_4525
  let c1_i32_4526 : BitVec 32 := 1#32
  let v4917 : BitVec 32 := Scalar.select v4916 c1_i32_4526 c32_i32_4524
  let v4918 : BitVec 32 := Scalar.remsi v4915 v4917
  let c0_i32_4528 : BitVec 32 := 0#32
  let v4920 : BitVec 1 := Scalar.cmpi .slt v4918 c0_i32_4528
  let c0_i32_4529 : BitVec 32 := 0#32
  let v4921 : BitVec 1 := Scalar.cmpi .slt v4917 c0_i32_4529
  let v4922 : BitVec 1 := Scalar.xori v4920 v4921
  let c0_i32_4527 : BitVec 32 := 0#32
  let v4919 : BitVec 1 := Scalar.cmpi .ne v4918 c0_i32_4527
  let v4923 : BitVec 1 := Scalar.andi v4922 v4919
  let v4924 : BitVec 32 := Scalar.addi v4918 v4917
  let v4925 : BitVec 32 := Scalar.select v4923 v4924 v4918
  let c1_i32_4533 : BitVec 32 := 1#32
  let v4926 : BitVec 32 := Scalar.muli v4925 c1_i32_4533
  let v4927 : BitVec 32 := Scalar.addi c0_i32_4534 v4926
  v4927.toNat
def k0_dev194 (d0 : Dev nD) : Nat :=
  let c0_i32_4550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4539 : BitVec 32 := 28#32
  let v4935 : BitVec 32 := Scalar.subi v2 c28_i32_4539
  let c32_i32_4540 : BitVec 32 := 32#32
  let c0_i32_4541 : BitVec 32 := 0#32
  let v4936 : BitVec 1 := Scalar.cmpi .eq c32_i32_4540 c0_i32_4541
  let c1_i32_4542 : BitVec 32 := 1#32
  let v4937 : BitVec 32 := Scalar.select v4936 c1_i32_4542 c32_i32_4540
  let v4938 : BitVec 32 := Scalar.remsi v4935 v4937
  let c0_i32_4544 : BitVec 32 := 0#32
  let v4940 : BitVec 1 := Scalar.cmpi .slt v4938 c0_i32_4544
  let c0_i32_4545 : BitVec 32 := 0#32
  let v4941 : BitVec 1 := Scalar.cmpi .slt v4937 c0_i32_4545
  let v4942 : BitVec 1 := Scalar.xori v4940 v4941
  let c0_i32_4543 : BitVec 32 := 0#32
  let v4939 : BitVec 1 := Scalar.cmpi .ne v4938 c0_i32_4543
  let v4943 : BitVec 1 := Scalar.andi v4942 v4939
  let v4944 : BitVec 32 := Scalar.addi v4938 v4937
  let v4945 : BitVec 32 := Scalar.select v4943 v4944 v4938
  let c1_i32_4549 : BitVec 32 := 1#32
  let v4946 : BitVec 32 := Scalar.muli v4945 c1_i32_4549
  let v4947 : BitVec 32 := Scalar.addi c0_i32_4550 v4946
  v4947.toNat
def k0_dev195 (d0 : Dev nD) : Nat :=
  let c0_i32_4566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_4555 : BitVec 32 := 5#32
  let v4955 : BitVec 32 := Scalar.subi v2 c5_i32_4555
  let c32_i32_4556 : BitVec 32 := 32#32
  let c0_i32_4557 : BitVec 32 := 0#32
  let v4956 : BitVec 1 := Scalar.cmpi .eq c32_i32_4556 c0_i32_4557
  let c1_i32_4558 : BitVec 32 := 1#32
  let v4957 : BitVec 32 := Scalar.select v4956 c1_i32_4558 c32_i32_4556
  let v4958 : BitVec 32 := Scalar.remsi v4955 v4957
  let c0_i32_4560 : BitVec 32 := 0#32
  let v4960 : BitVec 1 := Scalar.cmpi .slt v4958 c0_i32_4560
  let c0_i32_4561 : BitVec 32 := 0#32
  let v4961 : BitVec 1 := Scalar.cmpi .slt v4957 c0_i32_4561
  let v4962 : BitVec 1 := Scalar.xori v4960 v4961
  let c0_i32_4559 : BitVec 32 := 0#32
  let v4959 : BitVec 1 := Scalar.cmpi .ne v4958 c0_i32_4559
  let v4963 : BitVec 1 := Scalar.andi v4962 v4959
  let v4964 : BitVec 32 := Scalar.addi v4958 v4957
  let v4965 : BitVec 32 := Scalar.select v4963 v4964 v4958
  let c1_i32_4565 : BitVec 32 := 1#32
  let v4966 : BitVec 32 := Scalar.muli v4965 c1_i32_4565
  let v4967 : BitVec 32 := Scalar.addi c0_i32_4566 v4966
  v4967.toNat
def k0_dev196 (d0 : Dev nD) : Nat :=
  let c0_i32_4582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4571 : BitVec 32 := 27#32
  let v4975 : BitVec 32 := Scalar.subi v2 c27_i32_4571
  let c32_i32_4572 : BitVec 32 := 32#32
  let c0_i32_4573 : BitVec 32 := 0#32
  let v4976 : BitVec 1 := Scalar.cmpi .eq c32_i32_4572 c0_i32_4573
  let c1_i32_4574 : BitVec 32 := 1#32
  let v4977 : BitVec 32 := Scalar.select v4976 c1_i32_4574 c32_i32_4572
  let v4978 : BitVec 32 := Scalar.remsi v4975 v4977
  let c0_i32_4576 : BitVec 32 := 0#32
  let v4980 : BitVec 1 := Scalar.cmpi .slt v4978 c0_i32_4576
  let c0_i32_4577 : BitVec 32 := 0#32
  let v4981 : BitVec 1 := Scalar.cmpi .slt v4977 c0_i32_4577
  let v4982 : BitVec 1 := Scalar.xori v4980 v4981
  let c0_i32_4575 : BitVec 32 := 0#32
  let v4979 : BitVec 1 := Scalar.cmpi .ne v4978 c0_i32_4575
  let v4983 : BitVec 1 := Scalar.andi v4982 v4979
  let v4984 : BitVec 32 := Scalar.addi v4978 v4977
  let v4985 : BitVec 32 := Scalar.select v4983 v4984 v4978
  let c1_i32_4581 : BitVec 32 := 1#32
  let v4986 : BitVec 32 := Scalar.muli v4985 c1_i32_4581
  let v4987 : BitVec 32 := Scalar.addi c0_i32_4582 v4986
  v4987.toNat
def k0_dev197 (d0 : Dev nD) : Nat :=
  let c0_i32_4598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_4587 : BitVec 32 := 6#32
  let v4995 : BitVec 32 := Scalar.subi v2 c6_i32_4587
  let c32_i32_4588 : BitVec 32 := 32#32
  let c0_i32_4589 : BitVec 32 := 0#32
  let v4996 : BitVec 1 := Scalar.cmpi .eq c32_i32_4588 c0_i32_4589
  let c1_i32_4590 : BitVec 32 := 1#32
  let v4997 : BitVec 32 := Scalar.select v4996 c1_i32_4590 c32_i32_4588
  let v4998 : BitVec 32 := Scalar.remsi v4995 v4997
  let c0_i32_4592 : BitVec 32 := 0#32
  let v5000 : BitVec 1 := Scalar.cmpi .slt v4998 c0_i32_4592
  let c0_i32_4593 : BitVec 32 := 0#32
  let v5001 : BitVec 1 := Scalar.cmpi .slt v4997 c0_i32_4593
  let v5002 : BitVec 1 := Scalar.xori v5000 v5001
  let c0_i32_4591 : BitVec 32 := 0#32
  let v4999 : BitVec 1 := Scalar.cmpi .ne v4998 c0_i32_4591
  let v5003 : BitVec 1 := Scalar.andi v5002 v4999
  let v5004 : BitVec 32 := Scalar.addi v4998 v4997
  let v5005 : BitVec 32 := Scalar.select v5003 v5004 v4998
  let c1_i32_4597 : BitVec 32 := 1#32
  let v5006 : BitVec 32 := Scalar.muli v5005 c1_i32_4597
  let v5007 : BitVec 32 := Scalar.addi c0_i32_4598 v5006
  v5007.toNat
def k0_dev198 (d0 : Dev nD) : Nat :=
  let c0_i32_4614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4603 : BitVec 32 := 26#32
  let v5015 : BitVec 32 := Scalar.subi v2 c26_i32_4603
  let c32_i32_4604 : BitVec 32 := 32#32
  let c0_i32_4605 : BitVec 32 := 0#32
  let v5016 : BitVec 1 := Scalar.cmpi .eq c32_i32_4604 c0_i32_4605
  let c1_i32_4606 : BitVec 32 := 1#32
  let v5017 : BitVec 32 := Scalar.select v5016 c1_i32_4606 c32_i32_4604
  let v5018 : BitVec 32 := Scalar.remsi v5015 v5017
  let c0_i32_4608 : BitVec 32 := 0#32
  let v5020 : BitVec 1 := Scalar.cmpi .slt v5018 c0_i32_4608
  let c0_i32_4609 : BitVec 32 := 0#32
  let v5021 : BitVec 1 := Scalar.cmpi .slt v5017 c0_i32_4609
  let v5022 : BitVec 1 := Scalar.xori v5020 v5021
  let c0_i32_4607 : BitVec 32 := 0#32
  let v5019 : BitVec 1 := Scalar.cmpi .ne v5018 c0_i32_4607
  let v5023 : BitVec 1 := Scalar.andi v5022 v5019
  let v5024 : BitVec 32 := Scalar.addi v5018 v5017
  let v5025 : BitVec 32 := Scalar.select v5023 v5024 v5018
  let c1_i32_4613 : BitVec 32 := 1#32
  let v5026 : BitVec 32 := Scalar.muli v5025 c1_i32_4613
  let v5027 : BitVec 32 := Scalar.addi c0_i32_4614 v5026
  v5027.toNat
def k0_dev199 (d0 : Dev nD) : Nat :=
  let c0_i32_4630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_4619 : BitVec 32 := 7#32
  let v5035 : BitVec 32 := Scalar.subi v2 c7_i32_4619
  let c32_i32_4620 : BitVec 32 := 32#32
  let c0_i32_4621 : BitVec 32 := 0#32
  let v5036 : BitVec 1 := Scalar.cmpi .eq c32_i32_4620 c0_i32_4621
  let c1_i32_4622 : BitVec 32 := 1#32
  let v5037 : BitVec 32 := Scalar.select v5036 c1_i32_4622 c32_i32_4620
  let v5038 : BitVec 32 := Scalar.remsi v5035 v5037
  let c0_i32_4624 : BitVec 32 := 0#32
  let v5040 : BitVec 1 := Scalar.cmpi .slt v5038 c0_i32_4624
  let c0_i32_4625 : BitVec 32 := 0#32
  let v5041 : BitVec 1 := Scalar.cmpi .slt v5037 c0_i32_4625
  let v5042 : BitVec 1 := Scalar.xori v5040 v5041
  let c0_i32_4623 : BitVec 32 := 0#32
  let v5039 : BitVec 1 := Scalar.cmpi .ne v5038 c0_i32_4623
  let v5043 : BitVec 1 := Scalar.andi v5042 v5039
  let v5044 : BitVec 32 := Scalar.addi v5038 v5037
  let v5045 : BitVec 32 := Scalar.select v5043 v5044 v5038
  let c1_i32_4629 : BitVec 32 := 1#32
  let v5046 : BitVec 32 := Scalar.muli v5045 c1_i32_4629
  let v5047 : BitVec 32 := Scalar.addi c0_i32_4630 v5046
  v5047.toNat
def k0_dev200 (d0 : Dev nD) : Nat :=
  let c0_i32_4646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4635 : BitVec 32 := 25#32
  let v5055 : BitVec 32 := Scalar.subi v2 c25_i32_4635
  let c32_i32_4636 : BitVec 32 := 32#32
  let c0_i32_4637 : BitVec 32 := 0#32
  let v5056 : BitVec 1 := Scalar.cmpi .eq c32_i32_4636 c0_i32_4637
  let c1_i32_4638 : BitVec 32 := 1#32
  let v5057 : BitVec 32 := Scalar.select v5056 c1_i32_4638 c32_i32_4636
  let v5058 : BitVec 32 := Scalar.remsi v5055 v5057
  let c0_i32_4640 : BitVec 32 := 0#32
  let v5060 : BitVec 1 := Scalar.cmpi .slt v5058 c0_i32_4640
  let c0_i32_4641 : BitVec 32 := 0#32
  let v5061 : BitVec 1 := Scalar.cmpi .slt v5057 c0_i32_4641
  let v5062 : BitVec 1 := Scalar.xori v5060 v5061
  let c0_i32_4639 : BitVec 32 := 0#32
  let v5059 : BitVec 1 := Scalar.cmpi .ne v5058 c0_i32_4639
  let v5063 : BitVec 1 := Scalar.andi v5062 v5059
  let v5064 : BitVec 32 := Scalar.addi v5058 v5057
  let v5065 : BitVec 32 := Scalar.select v5063 v5064 v5058
  let c1_i32_4645 : BitVec 32 := 1#32
  let v5066 : BitVec 32 := Scalar.muli v5065 c1_i32_4645
  let v5067 : BitVec 32 := Scalar.addi c0_i32_4646 v5066
  v5067.toNat
def k0_dev201 (d0 : Dev nD) : Nat :=
  let c0_i32_4662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4651 : BitVec 32 := 8#32
  let v5075 : BitVec 32 := Scalar.subi v2 c8_i32_4651
  let c32_i32_4652 : BitVec 32 := 32#32
  let c0_i32_4653 : BitVec 32 := 0#32
  let v5076 : BitVec 1 := Scalar.cmpi .eq c32_i32_4652 c0_i32_4653
  let c1_i32_4654 : BitVec 32 := 1#32
  let v5077 : BitVec 32 := Scalar.select v5076 c1_i32_4654 c32_i32_4652
  let v5078 : BitVec 32 := Scalar.remsi v5075 v5077
  let c0_i32_4656 : BitVec 32 := 0#32
  let v5080 : BitVec 1 := Scalar.cmpi .slt v5078 c0_i32_4656
  let c0_i32_4657 : BitVec 32 := 0#32
  let v5081 : BitVec 1 := Scalar.cmpi .slt v5077 c0_i32_4657
  let v5082 : BitVec 1 := Scalar.xori v5080 v5081
  let c0_i32_4655 : BitVec 32 := 0#32
  let v5079 : BitVec 1 := Scalar.cmpi .ne v5078 c0_i32_4655
  let v5083 : BitVec 1 := Scalar.andi v5082 v5079
  let v5084 : BitVec 32 := Scalar.addi v5078 v5077
  let v5085 : BitVec 32 := Scalar.select v5083 v5084 v5078
  let c1_i32_4661 : BitVec 32 := 1#32
  let v5086 : BitVec 32 := Scalar.muli v5085 c1_i32_4661
  let v5087 : BitVec 32 := Scalar.addi c0_i32_4662 v5086
  v5087.toNat
def k0_dev202 (d0 : Dev nD) : Nat :=
  let c0_i32_4678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4667 : BitVec 32 := 24#32
  let v5095 : BitVec 32 := Scalar.subi v2 c24_i32_4667
  let c32_i32_4668 : BitVec 32 := 32#32
  let c0_i32_4669 : BitVec 32 := 0#32
  let v5096 : BitVec 1 := Scalar.cmpi .eq c32_i32_4668 c0_i32_4669
  let c1_i32_4670 : BitVec 32 := 1#32
  let v5097 : BitVec 32 := Scalar.select v5096 c1_i32_4670 c32_i32_4668
  let v5098 : BitVec 32 := Scalar.remsi v5095 v5097
  let c0_i32_4672 : BitVec 32 := 0#32
  let v5100 : BitVec 1 := Scalar.cmpi .slt v5098 c0_i32_4672
  let c0_i32_4673 : BitVec 32 := 0#32
  let v5101 : BitVec 1 := Scalar.cmpi .slt v5097 c0_i32_4673
  let v5102 : BitVec 1 := Scalar.xori v5100 v5101
  let c0_i32_4671 : BitVec 32 := 0#32
  let v5099 : BitVec 1 := Scalar.cmpi .ne v5098 c0_i32_4671
  let v5103 : BitVec 1 := Scalar.andi v5102 v5099
  let v5104 : BitVec 32 := Scalar.addi v5098 v5097
  let v5105 : BitVec 32 := Scalar.select v5103 v5104 v5098
  let c1_i32_4677 : BitVec 32 := 1#32
  let v5106 : BitVec 32 := Scalar.muli v5105 c1_i32_4677
  let v5107 : BitVec 32 := Scalar.addi c0_i32_4678 v5106
  v5107.toNat
def k0_dev203 (d0 : Dev nD) : Nat :=
  let c0_i32_4694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_4683 : BitVec 32 := 9#32
  let v5115 : BitVec 32 := Scalar.subi v2 c9_i32_4683
  let c32_i32_4684 : BitVec 32 := 32#32
  let c0_i32_4685 : BitVec 32 := 0#32
  let v5116 : BitVec 1 := Scalar.cmpi .eq c32_i32_4684 c0_i32_4685
  let c1_i32_4686 : BitVec 32 := 1#32
  let v5117 : BitVec 32 := Scalar.select v5116 c1_i32_4686 c32_i32_4684
  let v5118 : BitVec 32 := Scalar.remsi v5115 v5117
  let c0_i32_4688 : BitVec 32 := 0#32
  let v5120 : BitVec 1 := Scalar.cmpi .slt v5118 c0_i32_4688
  let c0_i32_4689 : BitVec 32 := 0#32
  let v5121 : BitVec 1 := Scalar.cmpi .slt v5117 c0_i32_4689
  let v5122 : BitVec 1 := Scalar.xori v5120 v5121
  let c0_i32_4687 : BitVec 32 := 0#32
  let v5119 : BitVec 1 := Scalar.cmpi .ne v5118 c0_i32_4687
  let v5123 : BitVec 1 := Scalar.andi v5122 v5119
  let v5124 : BitVec 32 := Scalar.addi v5118 v5117
  let v5125 : BitVec 32 := Scalar.select v5123 v5124 v5118
  let c1_i32_4693 : BitVec 32 := 1#32
  let v5126 : BitVec 32 := Scalar.muli v5125 c1_i32_4693
  let v5127 : BitVec 32 := Scalar.addi c0_i32_4694 v5126
  v5127.toNat
def k0_dev204 (d0 : Dev nD) : Nat :=
  let c0_i32_4710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4699 : BitVec 32 := 23#32
  let v5135 : BitVec 32 := Scalar.subi v2 c23_i32_4699
  let c32_i32_4700 : BitVec 32 := 32#32
  let c0_i32_4701 : BitVec 32 := 0#32
  let v5136 : BitVec 1 := Scalar.cmpi .eq c32_i32_4700 c0_i32_4701
  let c1_i32_4702 : BitVec 32 := 1#32
  let v5137 : BitVec 32 := Scalar.select v5136 c1_i32_4702 c32_i32_4700
  let v5138 : BitVec 32 := Scalar.remsi v5135 v5137
  let c0_i32_4704 : BitVec 32 := 0#32
  let v5140 : BitVec 1 := Scalar.cmpi .slt v5138 c0_i32_4704
  let c0_i32_4705 : BitVec 32 := 0#32
  let v5141 : BitVec 1 := Scalar.cmpi .slt v5137 c0_i32_4705
  let v5142 : BitVec 1 := Scalar.xori v5140 v5141
  let c0_i32_4703 : BitVec 32 := 0#32
  let v5139 : BitVec 1 := Scalar.cmpi .ne v5138 c0_i32_4703
  let v5143 : BitVec 1 := Scalar.andi v5142 v5139
  let v5144 : BitVec 32 := Scalar.addi v5138 v5137
  let v5145 : BitVec 32 := Scalar.select v5143 v5144 v5138
  let c1_i32_4709 : BitVec 32 := 1#32
  let v5146 : BitVec 32 := Scalar.muli v5145 c1_i32_4709
  let v5147 : BitVec 32 := Scalar.addi c0_i32_4710 v5146
  v5147.toNat
def k0_dev205 (d0 : Dev nD) : Nat :=
  let c0_i32_4726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4715 : BitVec 32 := 10#32
  let v5155 : BitVec 32 := Scalar.subi v2 c10_i32_4715
  let c32_i32_4716 : BitVec 32 := 32#32
  let c0_i32_4717 : BitVec 32 := 0#32
  let v5156 : BitVec 1 := Scalar.cmpi .eq c32_i32_4716 c0_i32_4717
  let c1_i32_4718 : BitVec 32 := 1#32
  let v5157 : BitVec 32 := Scalar.select v5156 c1_i32_4718 c32_i32_4716
  let v5158 : BitVec 32 := Scalar.remsi v5155 v5157
  let c0_i32_4720 : BitVec 32 := 0#32
  let v5160 : BitVec 1 := Scalar.cmpi .slt v5158 c0_i32_4720
  let c0_i32_4721 : BitVec 32 := 0#32
  let v5161 : BitVec 1 := Scalar.cmpi .slt v5157 c0_i32_4721
  let v5162 : BitVec 1 := Scalar.xori v5160 v5161
  let c0_i32_4719 : BitVec 32 := 0#32
  let v5159 : BitVec 1 := Scalar.cmpi .ne v5158 c0_i32_4719
  let v5163 : BitVec 1 := Scalar.andi v5162 v5159
  let v5164 : BitVec 32 := Scalar.addi v5158 v5157
  let v5165 : BitVec 32 := Scalar.select v5163 v5164 v5158
  let c1_i32_4725 : BitVec 32 := 1#32
  let v5166 : BitVec 32 := Scalar.muli v5165 c1_i32_4725
  let v5167 : BitVec 32 := Scalar.addi c0_i32_4726 v5166
  v5167.toNat
def k0_dev206 (d0 : Dev nD) : Nat :=
  let c0_i32_4742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4731 : BitVec 32 := 22#32
  let v5175 : BitVec 32 := Scalar.subi v2 c22_i32_4731
  let c32_i32_4732 : BitVec 32 := 32#32
  let c0_i32_4733 : BitVec 32 := 0#32
  let v5176 : BitVec 1 := Scalar.cmpi .eq c32_i32_4732 c0_i32_4733
  let c1_i32_4734 : BitVec 32 := 1#32
  let v5177 : BitVec 32 := Scalar.select v5176 c1_i32_4734 c32_i32_4732
  let v5178 : BitVec 32 := Scalar.remsi v5175 v5177
  let c0_i32_4736 : BitVec 32 := 0#32
  let v5180 : BitVec 1 := Scalar.cmpi .slt v5178 c0_i32_4736
  let c0_i32_4737 : BitVec 32 := 0#32
  let v5181 : BitVec 1 := Scalar.cmpi .slt v5177 c0_i32_4737
  let v5182 : BitVec 1 := Scalar.xori v5180 v5181
  let c0_i32_4735 : BitVec 32 := 0#32
  let v5179 : BitVec 1 := Scalar.cmpi .ne v5178 c0_i32_4735
  let v5183 : BitVec 1 := Scalar.andi v5182 v5179
  let v5184 : BitVec 32 := Scalar.addi v5178 v5177
  let v5185 : BitVec 32 := Scalar.select v5183 v5184 v5178
  let c1_i32_4741 : BitVec 32 := 1#32
  let v5186 : BitVec 32 := Scalar.muli v5185 c1_i32_4741
  let v5187 : BitVec 32 := Scalar.addi c0_i32_4742 v5186
  v5187.toNat
def k0_dev207 (d0 : Dev nD) : Nat :=
  let c0_i32_4758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_4747 : BitVec 32 := 11#32
  let v5195 : BitVec 32 := Scalar.subi v2 c11_i32_4747
  let c32_i32_4748 : BitVec 32 := 32#32
  let c0_i32_4749 : BitVec 32 := 0#32
  let v5196 : BitVec 1 := Scalar.cmpi .eq c32_i32_4748 c0_i32_4749
  let c1_i32_4750 : BitVec 32 := 1#32
  let v5197 : BitVec 32 := Scalar.select v5196 c1_i32_4750 c32_i32_4748
  let v5198 : BitVec 32 := Scalar.remsi v5195 v5197
  let c0_i32_4752 : BitVec 32 := 0#32
  let v5200 : BitVec 1 := Scalar.cmpi .slt v5198 c0_i32_4752
  let c0_i32_4753 : BitVec 32 := 0#32
  let v5201 : BitVec 1 := Scalar.cmpi .slt v5197 c0_i32_4753
  let v5202 : BitVec 1 := Scalar.xori v5200 v5201
  let c0_i32_4751 : BitVec 32 := 0#32
  let v5199 : BitVec 1 := Scalar.cmpi .ne v5198 c0_i32_4751
  let v5203 : BitVec 1 := Scalar.andi v5202 v5199
  let v5204 : BitVec 32 := Scalar.addi v5198 v5197
  let v5205 : BitVec 32 := Scalar.select v5203 v5204 v5198
  let c1_i32_4757 : BitVec 32 := 1#32
  let v5206 : BitVec 32 := Scalar.muli v5205 c1_i32_4757
  let v5207 : BitVec 32 := Scalar.addi c0_i32_4758 v5206
  v5207.toNat
def k0_dev208 (d0 : Dev nD) : Nat :=
  let c0_i32_4774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4763 : BitVec 32 := 21#32
  let v5215 : BitVec 32 := Scalar.subi v2 c21_i32_4763
  let c32_i32_4764 : BitVec 32 := 32#32
  let c0_i32_4765 : BitVec 32 := 0#32
  let v5216 : BitVec 1 := Scalar.cmpi .eq c32_i32_4764 c0_i32_4765
  let c1_i32_4766 : BitVec 32 := 1#32
  let v5217 : BitVec 32 := Scalar.select v5216 c1_i32_4766 c32_i32_4764
  let v5218 : BitVec 32 := Scalar.remsi v5215 v5217
  let c0_i32_4768 : BitVec 32 := 0#32
  let v5220 : BitVec 1 := Scalar.cmpi .slt v5218 c0_i32_4768
  let c0_i32_4769 : BitVec 32 := 0#32
  let v5221 : BitVec 1 := Scalar.cmpi .slt v5217 c0_i32_4769
  let v5222 : BitVec 1 := Scalar.xori v5220 v5221
  let c0_i32_4767 : BitVec 32 := 0#32
  let v5219 : BitVec 1 := Scalar.cmpi .ne v5218 c0_i32_4767
  let v5223 : BitVec 1 := Scalar.andi v5222 v5219
  let v5224 : BitVec 32 := Scalar.addi v5218 v5217
  let v5225 : BitVec 32 := Scalar.select v5223 v5224 v5218
  let c1_i32_4773 : BitVec 32 := 1#32
  let v5226 : BitVec 32 := Scalar.muli v5225 c1_i32_4773
  let v5227 : BitVec 32 := Scalar.addi c0_i32_4774 v5226
  v5227.toNat
def k0_dev209 (d0 : Dev nD) : Nat :=
  let c0_i32_4790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4779 : BitVec 32 := 12#32
  let v5235 : BitVec 32 := Scalar.subi v2 c12_i32_4779
  let c32_i32_4780 : BitVec 32 := 32#32
  let c0_i32_4781 : BitVec 32 := 0#32
  let v5236 : BitVec 1 := Scalar.cmpi .eq c32_i32_4780 c0_i32_4781
  let c1_i32_4782 : BitVec 32 := 1#32
  let v5237 : BitVec 32 := Scalar.select v5236 c1_i32_4782 c32_i32_4780
  let v5238 : BitVec 32 := Scalar.remsi v5235 v5237
  let c0_i32_4784 : BitVec 32 := 0#32
  let v5240 : BitVec 1 := Scalar.cmpi .slt v5238 c0_i32_4784
  let c0_i32_4785 : BitVec 32 := 0#32
  let v5241 : BitVec 1 := Scalar.cmpi .slt v5237 c0_i32_4785
  let v5242 : BitVec 1 := Scalar.xori v5240 v5241
  let c0_i32_4783 : BitVec 32 := 0#32
  let v5239 : BitVec 1 := Scalar.cmpi .ne v5238 c0_i32_4783
  let v5243 : BitVec 1 := Scalar.andi v5242 v5239
  let v5244 : BitVec 32 := Scalar.addi v5238 v5237
  let v5245 : BitVec 32 := Scalar.select v5243 v5244 v5238
  let c1_i32_4789 : BitVec 32 := 1#32
  let v5246 : BitVec 32 := Scalar.muli v5245 c1_i32_4789
  let v5247 : BitVec 32 := Scalar.addi c0_i32_4790 v5246
  v5247.toNat
def k0_dev210 (d0 : Dev nD) : Nat :=
  let c0_i32_4806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4795 : BitVec 32 := 20#32
  let v5255 : BitVec 32 := Scalar.subi v2 c20_i32_4795
  let c32_i32_4796 : BitVec 32 := 32#32
  let c0_i32_4797 : BitVec 32 := 0#32
  let v5256 : BitVec 1 := Scalar.cmpi .eq c32_i32_4796 c0_i32_4797
  let c1_i32_4798 : BitVec 32 := 1#32
  let v5257 : BitVec 32 := Scalar.select v5256 c1_i32_4798 c32_i32_4796
  let v5258 : BitVec 32 := Scalar.remsi v5255 v5257
  let c0_i32_4800 : BitVec 32 := 0#32
  let v5260 : BitVec 1 := Scalar.cmpi .slt v5258 c0_i32_4800
  let c0_i32_4801 : BitVec 32 := 0#32
  let v5261 : BitVec 1 := Scalar.cmpi .slt v5257 c0_i32_4801
  let v5262 : BitVec 1 := Scalar.xori v5260 v5261
  let c0_i32_4799 : BitVec 32 := 0#32
  let v5259 : BitVec 1 := Scalar.cmpi .ne v5258 c0_i32_4799
  let v5263 : BitVec 1 := Scalar.andi v5262 v5259
  let v5264 : BitVec 32 := Scalar.addi v5258 v5257
  let v5265 : BitVec 32 := Scalar.select v5263 v5264 v5258
  let c1_i32_4805 : BitVec 32 := 1#32
  let v5266 : BitVec 32 := Scalar.muli v5265 c1_i32_4805
  let v5267 : BitVec 32 := Scalar.addi c0_i32_4806 v5266
  v5267.toNat
def k0_dev211 (d0 : Dev nD) : Nat :=
  let c0_i32_4822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_4811 : BitVec 32 := 13#32
  let v5275 : BitVec 32 := Scalar.subi v2 c13_i32_4811
  let c32_i32_4812 : BitVec 32 := 32#32
  let c0_i32_4813 : BitVec 32 := 0#32
  let v5276 : BitVec 1 := Scalar.cmpi .eq c32_i32_4812 c0_i32_4813
  let c1_i32_4814 : BitVec 32 := 1#32
  let v5277 : BitVec 32 := Scalar.select v5276 c1_i32_4814 c32_i32_4812
  let v5278 : BitVec 32 := Scalar.remsi v5275 v5277
  let c0_i32_4816 : BitVec 32 := 0#32
  let v5280 : BitVec 1 := Scalar.cmpi .slt v5278 c0_i32_4816
  let c0_i32_4817 : BitVec 32 := 0#32
  let v5281 : BitVec 1 := Scalar.cmpi .slt v5277 c0_i32_4817
  let v5282 : BitVec 1 := Scalar.xori v5280 v5281
  let c0_i32_4815 : BitVec 32 := 0#32
  let v5279 : BitVec 1 := Scalar.cmpi .ne v5278 c0_i32_4815
  let v5283 : BitVec 1 := Scalar.andi v5282 v5279
  let v5284 : BitVec 32 := Scalar.addi v5278 v5277
  let v5285 : BitVec 32 := Scalar.select v5283 v5284 v5278
  let c1_i32_4821 : BitVec 32 := 1#32
  let v5286 : BitVec 32 := Scalar.muli v5285 c1_i32_4821
  let v5287 : BitVec 32 := Scalar.addi c0_i32_4822 v5286
  v5287.toNat
def k0_dev212 (d0 : Dev nD) : Nat :=
  let c0_i32_4838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4827 : BitVec 32 := 19#32
  let v5295 : BitVec 32 := Scalar.subi v2 c19_i32_4827
  let c32_i32_4828 : BitVec 32 := 32#32
  let c0_i32_4829 : BitVec 32 := 0#32
  let v5296 : BitVec 1 := Scalar.cmpi .eq c32_i32_4828 c0_i32_4829
  let c1_i32_4830 : BitVec 32 := 1#32
  let v5297 : BitVec 32 := Scalar.select v5296 c1_i32_4830 c32_i32_4828
  let v5298 : BitVec 32 := Scalar.remsi v5295 v5297
  let c0_i32_4832 : BitVec 32 := 0#32
  let v5300 : BitVec 1 := Scalar.cmpi .slt v5298 c0_i32_4832
  let c0_i32_4833 : BitVec 32 := 0#32
  let v5301 : BitVec 1 := Scalar.cmpi .slt v5297 c0_i32_4833
  let v5302 : BitVec 1 := Scalar.xori v5300 v5301
  let c0_i32_4831 : BitVec 32 := 0#32
  let v5299 : BitVec 1 := Scalar.cmpi .ne v5298 c0_i32_4831
  let v5303 : BitVec 1 := Scalar.andi v5302 v5299
  let v5304 : BitVec 32 := Scalar.addi v5298 v5297
  let v5305 : BitVec 32 := Scalar.select v5303 v5304 v5298
  let c1_i32_4837 : BitVec 32 := 1#32
  let v5306 : BitVec 32 := Scalar.muli v5305 c1_i32_4837
  let v5307 : BitVec 32 := Scalar.addi c0_i32_4838 v5306
  v5307.toNat
def k0_dev213 (d0 : Dev nD) : Nat :=
  let c0_i32_4854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4843 : BitVec 32 := 14#32
  let v5315 : BitVec 32 := Scalar.subi v2 c14_i32_4843
  let c32_i32_4844 : BitVec 32 := 32#32
  let c0_i32_4845 : BitVec 32 := 0#32
  let v5316 : BitVec 1 := Scalar.cmpi .eq c32_i32_4844 c0_i32_4845
  let c1_i32_4846 : BitVec 32 := 1#32
  let v5317 : BitVec 32 := Scalar.select v5316 c1_i32_4846 c32_i32_4844
  let v5318 : BitVec 32 := Scalar.remsi v5315 v5317
  let c0_i32_4848 : BitVec 32 := 0#32
  let v5320 : BitVec 1 := Scalar.cmpi .slt v5318 c0_i32_4848
  let c0_i32_4849 : BitVec 32 := 0#32
  let v5321 : BitVec 1 := Scalar.cmpi .slt v5317 c0_i32_4849
  let v5322 : BitVec 1 := Scalar.xori v5320 v5321
  let c0_i32_4847 : BitVec 32 := 0#32
  let v5319 : BitVec 1 := Scalar.cmpi .ne v5318 c0_i32_4847
  let v5323 : BitVec 1 := Scalar.andi v5322 v5319
  let v5324 : BitVec 32 := Scalar.addi v5318 v5317
  let v5325 : BitVec 32 := Scalar.select v5323 v5324 v5318
  let c1_i32_4853 : BitVec 32 := 1#32
  let v5326 : BitVec 32 := Scalar.muli v5325 c1_i32_4853
  let v5327 : BitVec 32 := Scalar.addi c0_i32_4854 v5326
  v5327.toNat
def k0_dev214 (d0 : Dev nD) : Nat :=
  let c0_i32_4870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4859 : BitVec 32 := 18#32
  let v5335 : BitVec 32 := Scalar.subi v2 c18_i32_4859
  let c32_i32_4860 : BitVec 32 := 32#32
  let c0_i32_4861 : BitVec 32 := 0#32
  let v5336 : BitVec 1 := Scalar.cmpi .eq c32_i32_4860 c0_i32_4861
  let c1_i32_4862 : BitVec 32 := 1#32
  let v5337 : BitVec 32 := Scalar.select v5336 c1_i32_4862 c32_i32_4860
  let v5338 : BitVec 32 := Scalar.remsi v5335 v5337
  let c0_i32_4864 : BitVec 32 := 0#32
  let v5340 : BitVec 1 := Scalar.cmpi .slt v5338 c0_i32_4864
  let c0_i32_4865 : BitVec 32 := 0#32
  let v5341 : BitVec 1 := Scalar.cmpi .slt v5337 c0_i32_4865
  let v5342 : BitVec 1 := Scalar.xori v5340 v5341
  let c0_i32_4863 : BitVec 32 := 0#32
  let v5339 : BitVec 1 := Scalar.cmpi .ne v5338 c0_i32_4863
  let v5343 : BitVec 1 := Scalar.andi v5342 v5339
  let v5344 : BitVec 32 := Scalar.addi v5338 v5337
  let v5345 : BitVec 32 := Scalar.select v5343 v5344 v5338
  let c1_i32_4869 : BitVec 32 := 1#32
  let v5346 : BitVec 32 := Scalar.muli v5345 c1_i32_4869
  let v5347 : BitVec 32 := Scalar.addi c0_i32_4870 v5346
  v5347.toNat
def k0_dev215 (d0 : Dev nD) : Nat :=
  let c0_i32_4886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4875 : BitVec 32 := 15#32
  let v5355 : BitVec 32 := Scalar.subi v2 c15_i32_4875
  let c32_i32_4876 : BitVec 32 := 32#32
  let c0_i32_4877 : BitVec 32 := 0#32
  let v5356 : BitVec 1 := Scalar.cmpi .eq c32_i32_4876 c0_i32_4877
  let c1_i32_4878 : BitVec 32 := 1#32
  let v5357 : BitVec 32 := Scalar.select v5356 c1_i32_4878 c32_i32_4876
  let v5358 : BitVec 32 := Scalar.remsi v5355 v5357
  let c0_i32_4880 : BitVec 32 := 0#32
  let v5360 : BitVec 1 := Scalar.cmpi .slt v5358 c0_i32_4880
  let c0_i32_4881 : BitVec 32 := 0#32
  let v5361 : BitVec 1 := Scalar.cmpi .slt v5357 c0_i32_4881
  let v5362 : BitVec 1 := Scalar.xori v5360 v5361
  let c0_i32_4879 : BitVec 32 := 0#32
  let v5359 : BitVec 1 := Scalar.cmpi .ne v5358 c0_i32_4879
  let v5363 : BitVec 1 := Scalar.andi v5362 v5359
  let v5364 : BitVec 32 := Scalar.addi v5358 v5357
  let v5365 : BitVec 32 := Scalar.select v5363 v5364 v5358
  let c1_i32_4885 : BitVec 32 := 1#32
  let v5366 : BitVec 32 := Scalar.muli v5365 c1_i32_4885
  let v5367 : BitVec 32 := Scalar.addi c0_i32_4886 v5366
  v5367.toNat
def k0_dev216 (d0 : Dev nD) : Nat :=
  let c0_i32_4902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4891 : BitVec 32 := 17#32
  let v5375 : BitVec 32 := Scalar.subi v2 c17_i32_4891
  let c32_i32_4892 : BitVec 32 := 32#32
  let c0_i32_4893 : BitVec 32 := 0#32
  let v5376 : BitVec 1 := Scalar.cmpi .eq c32_i32_4892 c0_i32_4893
  let c1_i32_4894 : BitVec 32 := 1#32
  let v5377 : BitVec 32 := Scalar.select v5376 c1_i32_4894 c32_i32_4892
  let v5378 : BitVec 32 := Scalar.remsi v5375 v5377
  let c0_i32_4896 : BitVec 32 := 0#32
  let v5380 : BitVec 1 := Scalar.cmpi .slt v5378 c0_i32_4896
  let c0_i32_4897 : BitVec 32 := 0#32
  let v5381 : BitVec 1 := Scalar.cmpi .slt v5377 c0_i32_4897
  let v5382 : BitVec 1 := Scalar.xori v5380 v5381
  let c0_i32_4895 : BitVec 32 := 0#32
  let v5379 : BitVec 1 := Scalar.cmpi .ne v5378 c0_i32_4895
  let v5383 : BitVec 1 := Scalar.andi v5382 v5379
  let v5384 : BitVec 32 := Scalar.addi v5378 v5377
  let v5385 : BitVec 32 := Scalar.select v5383 v5384 v5378
  let c1_i32_4901 : BitVec 32 := 1#32
  let v5386 : BitVec 32 := Scalar.muli v5385 c1_i32_4901
  let v5387 : BitVec 32 := Scalar.addi c0_i32_4902 v5386
  v5387.toNat
def k0_dev217 (d0 : Dev nD) : Nat :=
  let c0_i32_4918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4907 : BitVec 32 := 16#32
  let v5395 : BitVec 32 := Scalar.subi v2 c16_i32_4907
  let c32_i32_4908 : BitVec 32 := 32#32
  let c0_i32_4909 : BitVec 32 := 0#32
  let v5396 : BitVec 1 := Scalar.cmpi .eq c32_i32_4908 c0_i32_4909
  let c1_i32_4910 : BitVec 32 := 1#32
  let v5397 : BitVec 32 := Scalar.select v5396 c1_i32_4910 c32_i32_4908
  let v5398 : BitVec 32 := Scalar.remsi v5395 v5397
  let c0_i32_4912 : BitVec 32 := 0#32
  let v5400 : BitVec 1 := Scalar.cmpi .slt v5398 c0_i32_4912
  let c0_i32_4913 : BitVec 32 := 0#32
  let v5401 : BitVec 1 := Scalar.cmpi .slt v5397 c0_i32_4913
  let v5402 : BitVec 1 := Scalar.xori v5400 v5401
  let c0_i32_4911 : BitVec 32 := 0#32
  let v5399 : BitVec 1 := Scalar.cmpi .ne v5398 c0_i32_4911
  let v5403 : BitVec 1 := Scalar.andi v5402 v5399
  let v5404 : BitVec 32 := Scalar.addi v5398 v5397
  let v5405 : BitVec 32 := Scalar.select v5403 v5404 v5398
  let c1_i32_4917 : BitVec 32 := 1#32
  let v5406 : BitVec 32 := Scalar.muli v5405 c1_i32_4917
  let v5407 : BitVec 32 := Scalar.addi c0_i32_4918 v5406
  v5407.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v3 : BitVec 32 := Scalar.muli v2 c128_i32
  let c0_i32_5622 : BitVec 32 := 0#32
  ![v3.toNat, 0]
def k0_dev218 (d0 : Dev nD) : Nat :=
  let c0_i32_5621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5611 : BitVec 32 := 1#32
  let v5888 : BitVec 32 := Scalar.addi v2 c1_i32_5611
  let c32_i32_5612 : BitVec 32 := 32#32
  let c0_i32_5613 : BitVec 32 := 0#32
  let v5889 : BitVec 1 := Scalar.cmpi .eq c32_i32_5612 c0_i32_5613
  let c1_i32_5614 : BitVec 32 := 1#32
  let v5890 : BitVec 32 := Scalar.select v5889 c1_i32_5614 c32_i32_5612
  let v5891 : BitVec 32 := Scalar.remsi v5888 v5890
  let c0_i32_5616 : BitVec 32 := 0#32
  let v5893 : BitVec 1 := Scalar.cmpi .slt v5891 c0_i32_5616
  let c0_i32_5617 : BitVec 32 := 0#32
  let v5894 : BitVec 1 := Scalar.cmpi .slt v5890 c0_i32_5617
  let v5895 : BitVec 1 := Scalar.xori v5893 v5894
  let c0_i32_5615 : BitVec 32 := 0#32
  let v5892 : BitVec 1 := Scalar.cmpi .ne v5891 c0_i32_5615
  let v5896 : BitVec 1 := Scalar.andi v5895 v5892
  let v5897 : BitVec 32 := Scalar.addi v5891 v5890
  let v5898 : BitVec 32 := Scalar.select v5896 v5897 v5891
  let c1_i32_5620 : BitVec 32 := 1#32
  let v5899 : BitVec 32 := Scalar.muli v5898 c1_i32_5620
  let v5900 : BitVec 32 := Scalar.addi c0_i32_5621 v5899
  v5900.toNat
def k0_dev219 (d0 : Dev nD) : Nat :=
  let c0_i32_5633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5623 : BitVec 32 := 2#32
  let v5906 : BitVec 32 := Scalar.addi v2 c2_i32_5623
  let c32_i32_5624 : BitVec 32 := 32#32
  let c0_i32_5625 : BitVec 32 := 0#32
  let v5907 : BitVec 1 := Scalar.cmpi .eq c32_i32_5624 c0_i32_5625
  let c1_i32_5626 : BitVec 32 := 1#32
  let v5908 : BitVec 32 := Scalar.select v5907 c1_i32_5626 c32_i32_5624
  let v5909 : BitVec 32 := Scalar.remsi v5906 v5908
  let c0_i32_5628 : BitVec 32 := 0#32
  let v5911 : BitVec 1 := Scalar.cmpi .slt v5909 c0_i32_5628
  let c0_i32_5629 : BitVec 32 := 0#32
  let v5912 : BitVec 1 := Scalar.cmpi .slt v5908 c0_i32_5629
  let v5913 : BitVec 1 := Scalar.xori v5911 v5912
  let c0_i32_5627 : BitVec 32 := 0#32
  let v5910 : BitVec 1 := Scalar.cmpi .ne v5909 c0_i32_5627
  let v5914 : BitVec 1 := Scalar.andi v5913 v5910
  let v5915 : BitVec 32 := Scalar.addi v5909 v5908
  let v5916 : BitVec 32 := Scalar.select v5914 v5915 v5909
  let c1_i32_5632 : BitVec 32 := 1#32
  let v5917 : BitVec 32 := Scalar.muli v5916 c1_i32_5632
  let v5918 : BitVec 32 := Scalar.addi c0_i32_5633 v5917
  v5918.toNat
def k0_dev220 (d0 : Dev nD) : Nat :=
  let c0_i32_5645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_5635 : BitVec 32 := 3#32
  let v5924 : BitVec 32 := Scalar.addi v2 c3_i32_5635
  let c32_i32_5636 : BitVec 32 := 32#32
  let c0_i32_5637 : BitVec 32 := 0#32
  let v5925 : BitVec 1 := Scalar.cmpi .eq c32_i32_5636 c0_i32_5637
  let c1_i32_5638 : BitVec 32 := 1#32
  let v5926 : BitVec 32 := Scalar.select v5925 c1_i32_5638 c32_i32_5636
  let v5927 : BitVec 32 := Scalar.remsi v5924 v5926
  let c0_i32_5640 : BitVec 32 := 0#32
  let v5929 : BitVec 1 := Scalar.cmpi .slt v5927 c0_i32_5640
  let c0_i32_5641 : BitVec 32 := 0#32
  let v5930 : BitVec 1 := Scalar.cmpi .slt v5926 c0_i32_5641
  let v5931 : BitVec 1 := Scalar.xori v5929 v5930
  let c0_i32_5639 : BitVec 32 := 0#32
  let v5928 : BitVec 1 := Scalar.cmpi .ne v5927 c0_i32_5639
  let v5932 : BitVec 1 := Scalar.andi v5931 v5928
  let v5933 : BitVec 32 := Scalar.addi v5927 v5926
  let v5934 : BitVec 32 := Scalar.select v5932 v5933 v5927
  let c1_i32_5644 : BitVec 32 := 1#32
  let v5935 : BitVec 32 := Scalar.muli v5934 c1_i32_5644
  let v5936 : BitVec 32 := Scalar.addi c0_i32_5645 v5935
  v5936.toNat
def k0_dev221 (d0 : Dev nD) : Nat :=
  let c0_i32_5657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_5647 : BitVec 32 := 4#32
  let v5942 : BitVec 32 := Scalar.addi v2 c4_i32_5647
  let c32_i32_5648 : BitVec 32 := 32#32
  let c0_i32_5649 : BitVec 32 := 0#32
  let v5943 : BitVec 1 := Scalar.cmpi .eq c32_i32_5648 c0_i32_5649
  let c1_i32_5650 : BitVec 32 := 1#32
  let v5944 : BitVec 32 := Scalar.select v5943 c1_i32_5650 c32_i32_5648
  let v5945 : BitVec 32 := Scalar.remsi v5942 v5944
  let c0_i32_5652 : BitVec 32 := 0#32
  let v5947 : BitVec 1 := Scalar.cmpi .slt v5945 c0_i32_5652
  let c0_i32_5653 : BitVec 32 := 0#32
  let v5948 : BitVec 1 := Scalar.cmpi .slt v5944 c0_i32_5653
  let v5949 : BitVec 1 := Scalar.xori v5947 v5948
  let c0_i32_5651 : BitVec 32 := 0#32
  let v5946 : BitVec 1 := Scalar.cmpi .ne v5945 c0_i32_5651
  let v5950 : BitVec 1 := Scalar.andi v5949 v5946
  let v5951 : BitVec 32 := Scalar.addi v5945 v5944
  let v5952 : BitVec 32 := Scalar.select v5950 v5951 v5945
  let c1_i32_5656 : BitVec 32 := 1#32
  let v5953 : BitVec 32 := Scalar.muli v5952 c1_i32_5656
  let v5954 : BitVec 32 := Scalar.addi c0_i32_5657 v5953
  v5954.toNat
def k0_dev222 (d0 : Dev nD) : Nat :=
  let c0_i32_5669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_5659 : BitVec 32 := 5#32
  let v5960 : BitVec 32 := Scalar.addi v2 c5_i32_5659
  let c32_i32_5660 : BitVec 32 := 32#32
  let c0_i32_5661 : BitVec 32 := 0#32
  let v5961 : BitVec 1 := Scalar.cmpi .eq c32_i32_5660 c0_i32_5661
  let c1_i32_5662 : BitVec 32 := 1#32
  let v5962 : BitVec 32 := Scalar.select v5961 c1_i32_5662 c32_i32_5660
  let v5963 : BitVec 32 := Scalar.remsi v5960 v5962
  let c0_i32_5664 : BitVec 32 := 0#32
  let v5965 : BitVec 1 := Scalar.cmpi .slt v5963 c0_i32_5664
  let c0_i32_5665 : BitVec 32 := 0#32
  let v5966 : BitVec 1 := Scalar.cmpi .slt v5962 c0_i32_5665
  let v5967 : BitVec 1 := Scalar.xori v5965 v5966
  let c0_i32_5663 : BitVec 32 := 0#32
  let v5964 : BitVec 1 := Scalar.cmpi .ne v5963 c0_i32_5663
  let v5968 : BitVec 1 := Scalar.andi v5967 v5964
  let v5969 : BitVec 32 := Scalar.addi v5963 v5962
  let v5970 : BitVec 32 := Scalar.select v5968 v5969 v5963
  let c1_i32_5668 : BitVec 32 := 1#32
  let v5971 : BitVec 32 := Scalar.muli v5970 c1_i32_5668
  let v5972 : BitVec 32 := Scalar.addi c0_i32_5669 v5971
  v5972.toNat
def k0_dev223 (d0 : Dev nD) : Nat :=
  let c0_i32_5681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_5671 : BitVec 32 := 6#32
  let v5978 : BitVec 32 := Scalar.addi v2 c6_i32_5671
  let c32_i32_5672 : BitVec 32 := 32#32
  let c0_i32_5673 : BitVec 32 := 0#32
  let v5979 : BitVec 1 := Scalar.cmpi .eq c32_i32_5672 c0_i32_5673
  let c1_i32_5674 : BitVec 32 := 1#32
  let v5980 : BitVec 32 := Scalar.select v5979 c1_i32_5674 c32_i32_5672
  let v5981 : BitVec 32 := Scalar.remsi v5978 v5980
  let c0_i32_5676 : BitVec 32 := 0#32
  let v5983 : BitVec 1 := Scalar.cmpi .slt v5981 c0_i32_5676
  let c0_i32_5677 : BitVec 32 := 0#32
  let v5984 : BitVec 1 := Scalar.cmpi .slt v5980 c0_i32_5677
  let v5985 : BitVec 1 := Scalar.xori v5983 v5984
  let c0_i32_5675 : BitVec 32 := 0#32
  let v5982 : BitVec 1 := Scalar.cmpi .ne v5981 c0_i32_5675
  let v5986 : BitVec 1 := Scalar.andi v5985 v5982
  let v5987 : BitVec 32 := Scalar.addi v5981 v5980
  let v5988 : BitVec 32 := Scalar.select v5986 v5987 v5981
  let c1_i32_5680 : BitVec 32 := 1#32
  let v5989 : BitVec 32 := Scalar.muli v5988 c1_i32_5680
  let v5990 : BitVec 32 := Scalar.addi c0_i32_5681 v5989
  v5990.toNat
def k0_dev224 (d0 : Dev nD) : Nat :=
  let c0_i32_5693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_5683 : BitVec 32 := 7#32
  let v5996 : BitVec 32 := Scalar.addi v2 c7_i32_5683
  let c32_i32_5684 : BitVec 32 := 32#32
  let c0_i32_5685 : BitVec 32 := 0#32
  let v5997 : BitVec 1 := Scalar.cmpi .eq c32_i32_5684 c0_i32_5685
  let c1_i32_5686 : BitVec 32 := 1#32
  let v5998 : BitVec 32 := Scalar.select v5997 c1_i32_5686 c32_i32_5684
  let v5999 : BitVec 32 := Scalar.remsi v5996 v5998
  let c0_i32_5688 : BitVec 32 := 0#32
  let v6001 : BitVec 1 := Scalar.cmpi .slt v5999 c0_i32_5688
  let c0_i32_5689 : BitVec 32 := 0#32
  let v6002 : BitVec 1 := Scalar.cmpi .slt v5998 c0_i32_5689
  let v6003 : BitVec 1 := Scalar.xori v6001 v6002
  let c0_i32_5687 : BitVec 32 := 0#32
  let v6000 : BitVec 1 := Scalar.cmpi .ne v5999 c0_i32_5687
  let v6004 : BitVec 1 := Scalar.andi v6003 v6000
  let v6005 : BitVec 32 := Scalar.addi v5999 v5998
  let v6006 : BitVec 32 := Scalar.select v6004 v6005 v5999
  let c1_i32_5692 : BitVec 32 := 1#32
  let v6007 : BitVec 32 := Scalar.muli v6006 c1_i32_5692
  let v6008 : BitVec 32 := Scalar.addi c0_i32_5693 v6007
  v6008.toNat
def k0_dev225 (d0 : Dev nD) : Nat :=
  let c0_i32_5705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5695 : BitVec 32 := 8#32
  let v6014 : BitVec 32 := Scalar.addi v2 c8_i32_5695
  let c32_i32_5696 : BitVec 32 := 32#32
  let c0_i32_5697 : BitVec 32 := 0#32
  let v6015 : BitVec 1 := Scalar.cmpi .eq c32_i32_5696 c0_i32_5697
  let c1_i32_5698 : BitVec 32 := 1#32
  let v6016 : BitVec 32 := Scalar.select v6015 c1_i32_5698 c32_i32_5696
  let v6017 : BitVec 32 := Scalar.remsi v6014 v6016
  let c0_i32_5700 : BitVec 32 := 0#32
  let v6019 : BitVec 1 := Scalar.cmpi .slt v6017 c0_i32_5700
  let c0_i32_5701 : BitVec 32 := 0#32
  let v6020 : BitVec 1 := Scalar.cmpi .slt v6016 c0_i32_5701
  let v6021 : BitVec 1 := Scalar.xori v6019 v6020
  let c0_i32_5699 : BitVec 32 := 0#32
  let v6018 : BitVec 1 := Scalar.cmpi .ne v6017 c0_i32_5699
  let v6022 : BitVec 1 := Scalar.andi v6021 v6018
  let v6023 : BitVec 32 := Scalar.addi v6017 v6016
  let v6024 : BitVec 32 := Scalar.select v6022 v6023 v6017
  let c1_i32_5704 : BitVec 32 := 1#32
  let v6025 : BitVec 32 := Scalar.muli v6024 c1_i32_5704
  let v6026 : BitVec 32 := Scalar.addi c0_i32_5705 v6025
  v6026.toNat
def k0_dev226 (d0 : Dev nD) : Nat :=
  let c0_i32_5717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_5707 : BitVec 32 := 9#32
  let v6032 : BitVec 32 := Scalar.addi v2 c9_i32_5707
  let c32_i32_5708 : BitVec 32 := 32#32
  let c0_i32_5709 : BitVec 32 := 0#32
  let v6033 : BitVec 1 := Scalar.cmpi .eq c32_i32_5708 c0_i32_5709
  let c1_i32_5710 : BitVec 32 := 1#32
  let v6034 : BitVec 32 := Scalar.select v6033 c1_i32_5710 c32_i32_5708
  let v6035 : BitVec 32 := Scalar.remsi v6032 v6034
  let c0_i32_5712 : BitVec 32 := 0#32
  let v6037 : BitVec 1 := Scalar.cmpi .slt v6035 c0_i32_5712
  let c0_i32_5713 : BitVec 32 := 0#32
  let v6038 : BitVec 1 := Scalar.cmpi .slt v6034 c0_i32_5713
  let v6039 : BitVec 1 := Scalar.xori v6037 v6038
  let c0_i32_5711 : BitVec 32 := 0#32
  let v6036 : BitVec 1 := Scalar.cmpi .ne v6035 c0_i32_5711
  let v6040 : BitVec 1 := Scalar.andi v6039 v6036
  let v6041 : BitVec 32 := Scalar.addi v6035 v6034
  let v6042 : BitVec 32 := Scalar.select v6040 v6041 v6035
  let c1_i32_5716 : BitVec 32 := 1#32
  let v6043 : BitVec 32 := Scalar.muli v6042 c1_i32_5716
  let v6044 : BitVec 32 := Scalar.addi c0_i32_5717 v6043
  v6044.toNat
def k0_dev227 (d0 : Dev nD) : Nat :=
  let c0_i32_5729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_5719 : BitVec 32 := 10#32
  let v6050 : BitVec 32 := Scalar.addi v2 c10_i32_5719
  let c32_i32_5720 : BitVec 32 := 32#32
  let c0_i32_5721 : BitVec 32 := 0#32
  let v6051 : BitVec 1 := Scalar.cmpi .eq c32_i32_5720 c0_i32_5721
  let c1_i32_5722 : BitVec 32 := 1#32
  let v6052 : BitVec 32 := Scalar.select v6051 c1_i32_5722 c32_i32_5720
  let v6053 : BitVec 32 := Scalar.remsi v6050 v6052
  let c0_i32_5724 : BitVec 32 := 0#32
  let v6055 : BitVec 1 := Scalar.cmpi .slt v6053 c0_i32_5724
  let c0_i32_5725 : BitVec 32 := 0#32
  let v6056 : BitVec 1 := Scalar.cmpi .slt v6052 c0_i32_5725
  let v6057 : BitVec 1 := Scalar.xori v6055 v6056
  let c0_i32_5723 : BitVec 32 := 0#32
  let v6054 : BitVec 1 := Scalar.cmpi .ne v6053 c0_i32_5723
  let v6058 : BitVec 1 := Scalar.andi v6057 v6054
  let v6059 : BitVec 32 := Scalar.addi v6053 v6052
  let v6060 : BitVec 32 := Scalar.select v6058 v6059 v6053
  let c1_i32_5728 : BitVec 32 := 1#32
  let v6061 : BitVec 32 := Scalar.muli v6060 c1_i32_5728
  let v6062 : BitVec 32 := Scalar.addi c0_i32_5729 v6061
  v6062.toNat
def k0_dev228 (d0 : Dev nD) : Nat :=
  let c0_i32_5741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_5731 : BitVec 32 := 11#32
  let v6068 : BitVec 32 := Scalar.addi v2 c11_i32_5731
  let c32_i32_5732 : BitVec 32 := 32#32
  let c0_i32_5733 : BitVec 32 := 0#32
  let v6069 : BitVec 1 := Scalar.cmpi .eq c32_i32_5732 c0_i32_5733
  let c1_i32_5734 : BitVec 32 := 1#32
  let v6070 : BitVec 32 := Scalar.select v6069 c1_i32_5734 c32_i32_5732
  let v6071 : BitVec 32 := Scalar.remsi v6068 v6070
  let c0_i32_5736 : BitVec 32 := 0#32
  let v6073 : BitVec 1 := Scalar.cmpi .slt v6071 c0_i32_5736
  let c0_i32_5737 : BitVec 32 := 0#32
  let v6074 : BitVec 1 := Scalar.cmpi .slt v6070 c0_i32_5737
  let v6075 : BitVec 1 := Scalar.xori v6073 v6074
  let c0_i32_5735 : BitVec 32 := 0#32
  let v6072 : BitVec 1 := Scalar.cmpi .ne v6071 c0_i32_5735
  let v6076 : BitVec 1 := Scalar.andi v6075 v6072
  let v6077 : BitVec 32 := Scalar.addi v6071 v6070
  let v6078 : BitVec 32 := Scalar.select v6076 v6077 v6071
  let c1_i32_5740 : BitVec 32 := 1#32
  let v6079 : BitVec 32 := Scalar.muli v6078 c1_i32_5740
  let v6080 : BitVec 32 := Scalar.addi c0_i32_5741 v6079
  v6080.toNat
def k0_dev229 (d0 : Dev nD) : Nat :=
  let c0_i32_5753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_5743 : BitVec 32 := 12#32
  let v6086 : BitVec 32 := Scalar.addi v2 c12_i32_5743
  let c32_i32_5744 : BitVec 32 := 32#32
  let c0_i32_5745 : BitVec 32 := 0#32
  let v6087 : BitVec 1 := Scalar.cmpi .eq c32_i32_5744 c0_i32_5745
  let c1_i32_5746 : BitVec 32 := 1#32
  let v6088 : BitVec 32 := Scalar.select v6087 c1_i32_5746 c32_i32_5744
  let v6089 : BitVec 32 := Scalar.remsi v6086 v6088
  let c0_i32_5748 : BitVec 32 := 0#32
  let v6091 : BitVec 1 := Scalar.cmpi .slt v6089 c0_i32_5748
  let c0_i32_5749 : BitVec 32 := 0#32
  let v6092 : BitVec 1 := Scalar.cmpi .slt v6088 c0_i32_5749
  let v6093 : BitVec 1 := Scalar.xori v6091 v6092
  let c0_i32_5747 : BitVec 32 := 0#32
  let v6090 : BitVec 1 := Scalar.cmpi .ne v6089 c0_i32_5747
  let v6094 : BitVec 1 := Scalar.andi v6093 v6090
  let v6095 : BitVec 32 := Scalar.addi v6089 v6088
  let v6096 : BitVec 32 := Scalar.select v6094 v6095 v6089
  let c1_i32_5752 : BitVec 32 := 1#32
  let v6097 : BitVec 32 := Scalar.muli v6096 c1_i32_5752
  let v6098 : BitVec 32 := Scalar.addi c0_i32_5753 v6097
  v6098.toNat
def k0_dev230 (d0 : Dev nD) : Nat :=
  let c0_i32_5765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_5755 : BitVec 32 := 13#32
  let v6104 : BitVec 32 := Scalar.addi v2 c13_i32_5755
  let c32_i32_5756 : BitVec 32 := 32#32
  let c0_i32_5757 : BitVec 32 := 0#32
  let v6105 : BitVec 1 := Scalar.cmpi .eq c32_i32_5756 c0_i32_5757
  let c1_i32_5758 : BitVec 32 := 1#32
  let v6106 : BitVec 32 := Scalar.select v6105 c1_i32_5758 c32_i32_5756
  let v6107 : BitVec 32 := Scalar.remsi v6104 v6106
  let c0_i32_5760 : BitVec 32 := 0#32
  let v6109 : BitVec 1 := Scalar.cmpi .slt v6107 c0_i32_5760
  let c0_i32_5761 : BitVec 32 := 0#32
  let v6110 : BitVec 1 := Scalar.cmpi .slt v6106 c0_i32_5761
  let v6111 : BitVec 1 := Scalar.xori v6109 v6110
  let c0_i32_5759 : BitVec 32 := 0#32
  let v6108 : BitVec 1 := Scalar.cmpi .ne v6107 c0_i32_5759
  let v6112 : BitVec 1 := Scalar.andi v6111 v6108
  let v6113 : BitVec 32 := Scalar.addi v6107 v6106
  let v6114 : BitVec 32 := Scalar.select v6112 v6113 v6107
  let c1_i32_5764 : BitVec 32 := 1#32
  let v6115 : BitVec 32 := Scalar.muli v6114 c1_i32_5764
  let v6116 : BitVec 32 := Scalar.addi c0_i32_5765 v6115
  v6116.toNat
def k0_dev231 (d0 : Dev nD) : Nat :=
  let c0_i32_5777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_5767 : BitVec 32 := 14#32
  let v6122 : BitVec 32 := Scalar.addi v2 c14_i32_5767
  let c32_i32_5768 : BitVec 32 := 32#32
  let c0_i32_5769 : BitVec 32 := 0#32
  let v6123 : BitVec 1 := Scalar.cmpi .eq c32_i32_5768 c0_i32_5769
  let c1_i32_5770 : BitVec 32 := 1#32
  let v6124 : BitVec 32 := Scalar.select v6123 c1_i32_5770 c32_i32_5768
  let v6125 : BitVec 32 := Scalar.remsi v6122 v6124
  let c0_i32_5772 : BitVec 32 := 0#32
  let v6127 : BitVec 1 := Scalar.cmpi .slt v6125 c0_i32_5772
  let c0_i32_5773 : BitVec 32 := 0#32
  let v6128 : BitVec 1 := Scalar.cmpi .slt v6124 c0_i32_5773
  let v6129 : BitVec 1 := Scalar.xori v6127 v6128
  let c0_i32_5771 : BitVec 32 := 0#32
  let v6126 : BitVec 1 := Scalar.cmpi .ne v6125 c0_i32_5771
  let v6130 : BitVec 1 := Scalar.andi v6129 v6126
  let v6131 : BitVec 32 := Scalar.addi v6125 v6124
  let v6132 : BitVec 32 := Scalar.select v6130 v6131 v6125
  let c1_i32_5776 : BitVec 32 := 1#32
  let v6133 : BitVec 32 := Scalar.muli v6132 c1_i32_5776
  let v6134 : BitVec 32 := Scalar.addi c0_i32_5777 v6133
  v6134.toNat
def k0_dev232 (d0 : Dev nD) : Nat :=
  let c0_i32_5789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_5779 : BitVec 32 := 15#32
  let v6140 : BitVec 32 := Scalar.addi v2 c15_i32_5779
  let c32_i32_5780 : BitVec 32 := 32#32
  let c0_i32_5781 : BitVec 32 := 0#32
  let v6141 : BitVec 1 := Scalar.cmpi .eq c32_i32_5780 c0_i32_5781
  let c1_i32_5782 : BitVec 32 := 1#32
  let v6142 : BitVec 32 := Scalar.select v6141 c1_i32_5782 c32_i32_5780
  let v6143 : BitVec 32 := Scalar.remsi v6140 v6142
  let c0_i32_5784 : BitVec 32 := 0#32
  let v6145 : BitVec 1 := Scalar.cmpi .slt v6143 c0_i32_5784
  let c0_i32_5785 : BitVec 32 := 0#32
  let v6146 : BitVec 1 := Scalar.cmpi .slt v6142 c0_i32_5785
  let v6147 : BitVec 1 := Scalar.xori v6145 v6146
  let c0_i32_5783 : BitVec 32 := 0#32
  let v6144 : BitVec 1 := Scalar.cmpi .ne v6143 c0_i32_5783
  let v6148 : BitVec 1 := Scalar.andi v6147 v6144
  let v6149 : BitVec 32 := Scalar.addi v6143 v6142
  let v6150 : BitVec 32 := Scalar.select v6148 v6149 v6143
  let c1_i32_5788 : BitVec 32 := 1#32
  let v6151 : BitVec 32 := Scalar.muli v6150 c1_i32_5788
  let v6152 : BitVec 32 := Scalar.addi c0_i32_5789 v6151
  v6152.toNat
def k0_dev233 (d0 : Dev nD) : Nat :=
  let c0_i32_5801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_5791 : BitVec 32 := 16#32
  let v6158 : BitVec 32 := Scalar.addi v2 c16_i32_5791
  let c32_i32_5792 : BitVec 32 := 32#32
  let c0_i32_5793 : BitVec 32 := 0#32
  let v6159 : BitVec 1 := Scalar.cmpi .eq c32_i32_5792 c0_i32_5793
  let c1_i32_5794 : BitVec 32 := 1#32
  let v6160 : BitVec 32 := Scalar.select v6159 c1_i32_5794 c32_i32_5792
  let v6161 : BitVec 32 := Scalar.remsi v6158 v6160
  let c0_i32_5796 : BitVec 32 := 0#32
  let v6163 : BitVec 1 := Scalar.cmpi .slt v6161 c0_i32_5796
  let c0_i32_5797 : BitVec 32 := 0#32
  let v6164 : BitVec 1 := Scalar.cmpi .slt v6160 c0_i32_5797
  let v6165 : BitVec 1 := Scalar.xori v6163 v6164
  let c0_i32_5795 : BitVec 32 := 0#32
  let v6162 : BitVec 1 := Scalar.cmpi .ne v6161 c0_i32_5795
  let v6166 : BitVec 1 := Scalar.andi v6165 v6162
  let v6167 : BitVec 32 := Scalar.addi v6161 v6160
  let v6168 : BitVec 32 := Scalar.select v6166 v6167 v6161
  let c1_i32_5800 : BitVec 32 := 1#32
  let v6169 : BitVec 32 := Scalar.muli v6168 c1_i32_5800
  let v6170 : BitVec 32 := Scalar.addi c0_i32_5801 v6169
  v6170.toNat
def k0_dev234 (d0 : Dev nD) : Nat :=
  let c0_i32_5813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_5803 : BitVec 32 := 17#32
  let v6176 : BitVec 32 := Scalar.addi v2 c17_i32_5803
  let c32_i32_5804 : BitVec 32 := 32#32
  let c0_i32_5805 : BitVec 32 := 0#32
  let v6177 : BitVec 1 := Scalar.cmpi .eq c32_i32_5804 c0_i32_5805
  let c1_i32_5806 : BitVec 32 := 1#32
  let v6178 : BitVec 32 := Scalar.select v6177 c1_i32_5806 c32_i32_5804
  let v6179 : BitVec 32 := Scalar.remsi v6176 v6178
  let c0_i32_5808 : BitVec 32 := 0#32
  let v6181 : BitVec 1 := Scalar.cmpi .slt v6179 c0_i32_5808
  let c0_i32_5809 : BitVec 32 := 0#32
  let v6182 : BitVec 1 := Scalar.cmpi .slt v6178 c0_i32_5809
  let v6183 : BitVec 1 := Scalar.xori v6181 v6182
  let c0_i32_5807 : BitVec 32 := 0#32
  let v6180 : BitVec 1 := Scalar.cmpi .ne v6179 c0_i32_5807
  let v6184 : BitVec 1 := Scalar.andi v6183 v6180
  let v6185 : BitVec 32 := Scalar.addi v6179 v6178
  let v6186 : BitVec 32 := Scalar.select v6184 v6185 v6179
  let c1_i32_5812 : BitVec 32 := 1#32
  let v6187 : BitVec 32 := Scalar.muli v6186 c1_i32_5812
  let v6188 : BitVec 32 := Scalar.addi c0_i32_5813 v6187
  v6188.toNat
def k0_dev235 (d0 : Dev nD) : Nat :=
  let c0_i32_5825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_5815 : BitVec 32 := 18#32
  let v6194 : BitVec 32 := Scalar.addi v2 c18_i32_5815
  let c32_i32_5816 : BitVec 32 := 32#32
  let c0_i32_5817 : BitVec 32 := 0#32
  let v6195 : BitVec 1 := Scalar.cmpi .eq c32_i32_5816 c0_i32_5817
  let c1_i32_5818 : BitVec 32 := 1#32
  let v6196 : BitVec 32 := Scalar.select v6195 c1_i32_5818 c32_i32_5816
  let v6197 : BitVec 32 := Scalar.remsi v6194 v6196
  let c0_i32_5820 : BitVec 32 := 0#32
  let v6199 : BitVec 1 := Scalar.cmpi .slt v6197 c0_i32_5820
  let c0_i32_5821 : BitVec 32 := 0#32
  let v6200 : BitVec 1 := Scalar.cmpi .slt v6196 c0_i32_5821
  let v6201 : BitVec 1 := Scalar.xori v6199 v6200
  let c0_i32_5819 : BitVec 32 := 0#32
  let v6198 : BitVec 1 := Scalar.cmpi .ne v6197 c0_i32_5819
  let v6202 : BitVec 1 := Scalar.andi v6201 v6198
  let v6203 : BitVec 32 := Scalar.addi v6197 v6196
  let v6204 : BitVec 32 := Scalar.select v6202 v6203 v6197
  let c1_i32_5824 : BitVec 32 := 1#32
  let v6205 : BitVec 32 := Scalar.muli v6204 c1_i32_5824
  let v6206 : BitVec 32 := Scalar.addi c0_i32_5825 v6205
  v6206.toNat
def k0_dev236 (d0 : Dev nD) : Nat :=
  let c0_i32_5837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_5827 : BitVec 32 := 19#32
  let v6212 : BitVec 32 := Scalar.addi v2 c19_i32_5827
  let c32_i32_5828 : BitVec 32 := 32#32
  let c0_i32_5829 : BitVec 32 := 0#32
  let v6213 : BitVec 1 := Scalar.cmpi .eq c32_i32_5828 c0_i32_5829
  let c1_i32_5830 : BitVec 32 := 1#32
  let v6214 : BitVec 32 := Scalar.select v6213 c1_i32_5830 c32_i32_5828
  let v6215 : BitVec 32 := Scalar.remsi v6212 v6214
  let c0_i32_5832 : BitVec 32 := 0#32
  let v6217 : BitVec 1 := Scalar.cmpi .slt v6215 c0_i32_5832
  let c0_i32_5833 : BitVec 32 := 0#32
  let v6218 : BitVec 1 := Scalar.cmpi .slt v6214 c0_i32_5833
  let v6219 : BitVec 1 := Scalar.xori v6217 v6218
  let c0_i32_5831 : BitVec 32 := 0#32
  let v6216 : BitVec 1 := Scalar.cmpi .ne v6215 c0_i32_5831
  let v6220 : BitVec 1 := Scalar.andi v6219 v6216
  let v6221 : BitVec 32 := Scalar.addi v6215 v6214
  let v6222 : BitVec 32 := Scalar.select v6220 v6221 v6215
  let c1_i32_5836 : BitVec 32 := 1#32
  let v6223 : BitVec 32 := Scalar.muli v6222 c1_i32_5836
  let v6224 : BitVec 32 := Scalar.addi c0_i32_5837 v6223
  v6224.toNat
def k0_dev237 (d0 : Dev nD) : Nat :=
  let c0_i32_5849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_5839 : BitVec 32 := 20#32
  let v6230 : BitVec 32 := Scalar.addi v2 c20_i32_5839
  let c32_i32_5840 : BitVec 32 := 32#32
  let c0_i32_5841 : BitVec 32 := 0#32
  let v6231 : BitVec 1 := Scalar.cmpi .eq c32_i32_5840 c0_i32_5841
  let c1_i32_5842 : BitVec 32 := 1#32
  let v6232 : BitVec 32 := Scalar.select v6231 c1_i32_5842 c32_i32_5840
  let v6233 : BitVec 32 := Scalar.remsi v6230 v6232
  let c0_i32_5844 : BitVec 32 := 0#32
  let v6235 : BitVec 1 := Scalar.cmpi .slt v6233 c0_i32_5844
  let c0_i32_5845 : BitVec 32 := 0#32
  let v6236 : BitVec 1 := Scalar.cmpi .slt v6232 c0_i32_5845
  let v6237 : BitVec 1 := Scalar.xori v6235 v6236
  let c0_i32_5843 : BitVec 32 := 0#32
  let v6234 : BitVec 1 := Scalar.cmpi .ne v6233 c0_i32_5843
  let v6238 : BitVec 1 := Scalar.andi v6237 v6234
  let v6239 : BitVec 32 := Scalar.addi v6233 v6232
  let v6240 : BitVec 32 := Scalar.select v6238 v6239 v6233
  let c1_i32_5848 : BitVec 32 := 1#32
  let v6241 : BitVec 32 := Scalar.muli v6240 c1_i32_5848
  let v6242 : BitVec 32 := Scalar.addi c0_i32_5849 v6241
  v6242.toNat
def k0_dev238 (d0 : Dev nD) : Nat :=
  let c0_i32_5861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_5851 : BitVec 32 := 21#32
  let v6248 : BitVec 32 := Scalar.addi v2 c21_i32_5851
  let c32_i32_5852 : BitVec 32 := 32#32
  let c0_i32_5853 : BitVec 32 := 0#32
  let v6249 : BitVec 1 := Scalar.cmpi .eq c32_i32_5852 c0_i32_5853
  let c1_i32_5854 : BitVec 32 := 1#32
  let v6250 : BitVec 32 := Scalar.select v6249 c1_i32_5854 c32_i32_5852
  let v6251 : BitVec 32 := Scalar.remsi v6248 v6250
  let c0_i32_5856 : BitVec 32 := 0#32
  let v6253 : BitVec 1 := Scalar.cmpi .slt v6251 c0_i32_5856
  let c0_i32_5857 : BitVec 32 := 0#32
  let v6254 : BitVec 1 := Scalar.cmpi .slt v6250 c0_i32_5857
  let v6255 : BitVec 1 := Scalar.xori v6253 v6254
  let c0_i32_5855 : BitVec 32 := 0#32
  let v6252 : BitVec 1 := Scalar.cmpi .ne v6251 c0_i32_5855
  let v6256 : BitVec 1 := Scalar.andi v6255 v6252
  let v6257 : BitVec 32 := Scalar.addi v6251 v6250
  let v6258 : BitVec 32 := Scalar.select v6256 v6257 v6251
  let c1_i32_5860 : BitVec 32 := 1#32
  let v6259 : BitVec 32 := Scalar.muli v6258 c1_i32_5860
  let v6260 : BitVec 32 := Scalar.addi c0_i32_5861 v6259
  v6260.toNat
def k0_dev239 (d0 : Dev nD) : Nat :=
  let c0_i32_5873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_5863 : BitVec 32 := 22#32
  let v6266 : BitVec 32 := Scalar.addi v2 c22_i32_5863
  let c32_i32_5864 : BitVec 32 := 32#32
  let c0_i32_5865 : BitVec 32 := 0#32
  let v6267 : BitVec 1 := Scalar.cmpi .eq c32_i32_5864 c0_i32_5865
  let c1_i32_5866 : BitVec 32 := 1#32
  let v6268 : BitVec 32 := Scalar.select v6267 c1_i32_5866 c32_i32_5864
  let v6269 : BitVec 32 := Scalar.remsi v6266 v6268
  let c0_i32_5868 : BitVec 32 := 0#32
  let v6271 : BitVec 1 := Scalar.cmpi .slt v6269 c0_i32_5868
  let c0_i32_5869 : BitVec 32 := 0#32
  let v6272 : BitVec 1 := Scalar.cmpi .slt v6268 c0_i32_5869
  let v6273 : BitVec 1 := Scalar.xori v6271 v6272
  let c0_i32_5867 : BitVec 32 := 0#32
  let v6270 : BitVec 1 := Scalar.cmpi .ne v6269 c0_i32_5867
  let v6274 : BitVec 1 := Scalar.andi v6273 v6270
  let v6275 : BitVec 32 := Scalar.addi v6269 v6268
  let v6276 : BitVec 32 := Scalar.select v6274 v6275 v6269
  let c1_i32_5872 : BitVec 32 := 1#32
  let v6277 : BitVec 32 := Scalar.muli v6276 c1_i32_5872
  let v6278 : BitVec 32 := Scalar.addi c0_i32_5873 v6277
  v6278.toNat
def k0_dev240 (d0 : Dev nD) : Nat :=
  let c0_i32_5885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_5875 : BitVec 32 := 23#32
  let v6284 : BitVec 32 := Scalar.addi v2 c23_i32_5875
  let c32_i32_5876 : BitVec 32 := 32#32
  let c0_i32_5877 : BitVec 32 := 0#32
  let v6285 : BitVec 1 := Scalar.cmpi .eq c32_i32_5876 c0_i32_5877
  let c1_i32_5878 : BitVec 32 := 1#32
  let v6286 : BitVec 32 := Scalar.select v6285 c1_i32_5878 c32_i32_5876
  let v6287 : BitVec 32 := Scalar.remsi v6284 v6286
  let c0_i32_5880 : BitVec 32 := 0#32
  let v6289 : BitVec 1 := Scalar.cmpi .slt v6287 c0_i32_5880
  let c0_i32_5881 : BitVec 32 := 0#32
  let v6290 : BitVec 1 := Scalar.cmpi .slt v6286 c0_i32_5881
  let v6291 : BitVec 1 := Scalar.xori v6289 v6290
  let c0_i32_5879 : BitVec 32 := 0#32
  let v6288 : BitVec 1 := Scalar.cmpi .ne v6287 c0_i32_5879
  let v6292 : BitVec 1 := Scalar.andi v6291 v6288
  let v6293 : BitVec 32 := Scalar.addi v6287 v6286
  let v6294 : BitVec 32 := Scalar.select v6292 v6293 v6287
  let c1_i32_5884 : BitVec 32 := 1#32
  let v6295 : BitVec 32 := Scalar.muli v6294 c1_i32_5884
  let v6296 : BitVec 32 := Scalar.addi c0_i32_5885 v6295
  v6296.toNat
def k0_dev241 (d0 : Dev nD) : Nat :=
  let c0_i32_5897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_5887 : BitVec 32 := 24#32
  let v6302 : BitVec 32 := Scalar.addi v2 c24_i32_5887
  let c32_i32_5888 : BitVec 32 := 32#32
  let c0_i32_5889 : BitVec 32 := 0#32
  let v6303 : BitVec 1 := Scalar.cmpi .eq c32_i32_5888 c0_i32_5889
  let c1_i32_5890 : BitVec 32 := 1#32
  let v6304 : BitVec 32 := Scalar.select v6303 c1_i32_5890 c32_i32_5888
  let v6305 : BitVec 32 := Scalar.remsi v6302 v6304
  let c0_i32_5892 : BitVec 32 := 0#32
  let v6307 : BitVec 1 := Scalar.cmpi .slt v6305 c0_i32_5892
  let c0_i32_5893 : BitVec 32 := 0#32
  let v6308 : BitVec 1 := Scalar.cmpi .slt v6304 c0_i32_5893
  let v6309 : BitVec 1 := Scalar.xori v6307 v6308
  let c0_i32_5891 : BitVec 32 := 0#32
  let v6306 : BitVec 1 := Scalar.cmpi .ne v6305 c0_i32_5891
  let v6310 : BitVec 1 := Scalar.andi v6309 v6306
  let v6311 : BitVec 32 := Scalar.addi v6305 v6304
  let v6312 : BitVec 32 := Scalar.select v6310 v6311 v6305
  let c1_i32_5896 : BitVec 32 := 1#32
  let v6313 : BitVec 32 := Scalar.muli v6312 c1_i32_5896
  let v6314 : BitVec 32 := Scalar.addi c0_i32_5897 v6313
  v6314.toNat
def k0_dev242 (d0 : Dev nD) : Nat :=
  let c0_i32_5909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_5899 : BitVec 32 := 25#32
  let v6320 : BitVec 32 := Scalar.addi v2 c25_i32_5899
  let c32_i32_5900 : BitVec 32 := 32#32
  let c0_i32_5901 : BitVec 32 := 0#32
  let v6321 : BitVec 1 := Scalar.cmpi .eq c32_i32_5900 c0_i32_5901
  let c1_i32_5902 : BitVec 32 := 1#32
  let v6322 : BitVec 32 := Scalar.select v6321 c1_i32_5902 c32_i32_5900
  let v6323 : BitVec 32 := Scalar.remsi v6320 v6322
  let c0_i32_5904 : BitVec 32 := 0#32
  let v6325 : BitVec 1 := Scalar.cmpi .slt v6323 c0_i32_5904
  let c0_i32_5905 : BitVec 32 := 0#32
  let v6326 : BitVec 1 := Scalar.cmpi .slt v6322 c0_i32_5905
  let v6327 : BitVec 1 := Scalar.xori v6325 v6326
  let c0_i32_5903 : BitVec 32 := 0#32
  let v6324 : BitVec 1 := Scalar.cmpi .ne v6323 c0_i32_5903
  let v6328 : BitVec 1 := Scalar.andi v6327 v6324
  let v6329 : BitVec 32 := Scalar.addi v6323 v6322
  let v6330 : BitVec 32 := Scalar.select v6328 v6329 v6323
  let c1_i32_5908 : BitVec 32 := 1#32
  let v6331 : BitVec 32 := Scalar.muli v6330 c1_i32_5908
  let v6332 : BitVec 32 := Scalar.addi c0_i32_5909 v6331
  v6332.toNat
def k0_dev243 (d0 : Dev nD) : Nat :=
  let c0_i32_5921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_5911 : BitVec 32 := 26#32
  let v6338 : BitVec 32 := Scalar.addi v2 c26_i32_5911
  let c32_i32_5912 : BitVec 32 := 32#32
  let c0_i32_5913 : BitVec 32 := 0#32
  let v6339 : BitVec 1 := Scalar.cmpi .eq c32_i32_5912 c0_i32_5913
  let c1_i32_5914 : BitVec 32 := 1#32
  let v6340 : BitVec 32 := Scalar.select v6339 c1_i32_5914 c32_i32_5912
  let v6341 : BitVec 32 := Scalar.remsi v6338 v6340
  let c0_i32_5916 : BitVec 32 := 0#32
  let v6343 : BitVec 1 := Scalar.cmpi .slt v6341 c0_i32_5916
  let c0_i32_5917 : BitVec 32 := 0#32
  let v6344 : BitVec 1 := Scalar.cmpi .slt v6340 c0_i32_5917
  let v6345 : BitVec 1 := Scalar.xori v6343 v6344
  let c0_i32_5915 : BitVec 32 := 0#32
  let v6342 : BitVec 1 := Scalar.cmpi .ne v6341 c0_i32_5915
  let v6346 : BitVec 1 := Scalar.andi v6345 v6342
  let v6347 : BitVec 32 := Scalar.addi v6341 v6340
  let v6348 : BitVec 32 := Scalar.select v6346 v6347 v6341
  let c1_i32_5920 : BitVec 32 := 1#32
  let v6349 : BitVec 32 := Scalar.muli v6348 c1_i32_5920
  let v6350 : BitVec 32 := Scalar.addi c0_i32_5921 v6349
  v6350.toNat
def k0_dev244 (d0 : Dev nD) : Nat :=
  let c0_i32_5933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_5923 : BitVec 32 := 27#32
  let v6356 : BitVec 32 := Scalar.addi v2 c27_i32_5923
  let c32_i32_5924 : BitVec 32 := 32#32
  let c0_i32_5925 : BitVec 32 := 0#32
  let v6357 : BitVec 1 := Scalar.cmpi .eq c32_i32_5924 c0_i32_5925
  let c1_i32_5926 : BitVec 32 := 1#32
  let v6358 : BitVec 32 := Scalar.select v6357 c1_i32_5926 c32_i32_5924
  let v6359 : BitVec 32 := Scalar.remsi v6356 v6358
  let c0_i32_5928 : BitVec 32 := 0#32
  let v6361 : BitVec 1 := Scalar.cmpi .slt v6359 c0_i32_5928
  let c0_i32_5929 : BitVec 32 := 0#32
  let v6362 : BitVec 1 := Scalar.cmpi .slt v6358 c0_i32_5929
  let v6363 : BitVec 1 := Scalar.xori v6361 v6362
  let c0_i32_5927 : BitVec 32 := 0#32
  let v6360 : BitVec 1 := Scalar.cmpi .ne v6359 c0_i32_5927
  let v6364 : BitVec 1 := Scalar.andi v6363 v6360
  let v6365 : BitVec 32 := Scalar.addi v6359 v6358
  let v6366 : BitVec 32 := Scalar.select v6364 v6365 v6359
  let c1_i32_5932 : BitVec 32 := 1#32
  let v6367 : BitVec 32 := Scalar.muli v6366 c1_i32_5932
  let v6368 : BitVec 32 := Scalar.addi c0_i32_5933 v6367
  v6368.toNat
def k0_dev245 (d0 : Dev nD) : Nat :=
  let c0_i32_5945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_5935 : BitVec 32 := 28#32
  let v6374 : BitVec 32 := Scalar.addi v2 c28_i32_5935
  let c32_i32_5936 : BitVec 32 := 32#32
  let c0_i32_5937 : BitVec 32 := 0#32
  let v6375 : BitVec 1 := Scalar.cmpi .eq c32_i32_5936 c0_i32_5937
  let c1_i32_5938 : BitVec 32 := 1#32
  let v6376 : BitVec 32 := Scalar.select v6375 c1_i32_5938 c32_i32_5936
  let v6377 : BitVec 32 := Scalar.remsi v6374 v6376
  let c0_i32_5940 : BitVec 32 := 0#32
  let v6379 : BitVec 1 := Scalar.cmpi .slt v6377 c0_i32_5940
  let c0_i32_5941 : BitVec 32 := 0#32
  let v6380 : BitVec 1 := Scalar.cmpi .slt v6376 c0_i32_5941
  let v6381 : BitVec 1 := Scalar.xori v6379 v6380
  let c0_i32_5939 : BitVec 32 := 0#32
  let v6378 : BitVec 1 := Scalar.cmpi .ne v6377 c0_i32_5939
  let v6382 : BitVec 1 := Scalar.andi v6381 v6378
  let v6383 : BitVec 32 := Scalar.addi v6377 v6376
  let v6384 : BitVec 32 := Scalar.select v6382 v6383 v6377
  let c1_i32_5944 : BitVec 32 := 1#32
  let v6385 : BitVec 32 := Scalar.muli v6384 c1_i32_5944
  let v6386 : BitVec 32 := Scalar.addi c0_i32_5945 v6385
  v6386.toNat
def k0_dev246 (d0 : Dev nD) : Nat :=
  let c0_i32_5957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_5947 : BitVec 32 := 29#32
  let v6392 : BitVec 32 := Scalar.addi v2 c29_i32_5947
  let c32_i32_5948 : BitVec 32 := 32#32
  let c0_i32_5949 : BitVec 32 := 0#32
  let v6393 : BitVec 1 := Scalar.cmpi .eq c32_i32_5948 c0_i32_5949
  let c1_i32_5950 : BitVec 32 := 1#32
  let v6394 : BitVec 32 := Scalar.select v6393 c1_i32_5950 c32_i32_5948
  let v6395 : BitVec 32 := Scalar.remsi v6392 v6394
  let c0_i32_5952 : BitVec 32 := 0#32
  let v6397 : BitVec 1 := Scalar.cmpi .slt v6395 c0_i32_5952
  let c0_i32_5953 : BitVec 32 := 0#32
  let v6398 : BitVec 1 := Scalar.cmpi .slt v6394 c0_i32_5953
  let v6399 : BitVec 1 := Scalar.xori v6397 v6398
  let c0_i32_5951 : BitVec 32 := 0#32
  let v6396 : BitVec 1 := Scalar.cmpi .ne v6395 c0_i32_5951
  let v6400 : BitVec 1 := Scalar.andi v6399 v6396
  let v6401 : BitVec 32 := Scalar.addi v6395 v6394
  let v6402 : BitVec 32 := Scalar.select v6400 v6401 v6395
  let c1_i32_5956 : BitVec 32 := 1#32
  let v6403 : BitVec 32 := Scalar.muli v6402 c1_i32_5956
  let v6404 : BitVec 32 := Scalar.addi c0_i32_5957 v6403
  v6404.toNat
def k0_dev247 (d0 : Dev nD) : Nat :=
  let c0_i32_5969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_5959 : BitVec 32 := 30#32
  let v6410 : BitVec 32 := Scalar.addi v2 c30_i32_5959
  let c32_i32_5960 : BitVec 32 := 32#32
  let c0_i32_5961 : BitVec 32 := 0#32
  let v6411 : BitVec 1 := Scalar.cmpi .eq c32_i32_5960 c0_i32_5961
  let c1_i32_5962 : BitVec 32 := 1#32
  let v6412 : BitVec 32 := Scalar.select v6411 c1_i32_5962 c32_i32_5960
  let v6413 : BitVec 32 := Scalar.remsi v6410 v6412
  let c0_i32_5964 : BitVec 32 := 0#32
  let v6415 : BitVec 1 := Scalar.cmpi .slt v6413 c0_i32_5964
  let c0_i32_5965 : BitVec 32 := 0#32
  let v6416 : BitVec 1 := Scalar.cmpi .slt v6412 c0_i32_5965
  let v6417 : BitVec 1 := Scalar.xori v6415 v6416
  let c0_i32_5963 : BitVec 32 := 0#32
  let v6414 : BitVec 1 := Scalar.cmpi .ne v6413 c0_i32_5963
  let v6418 : BitVec 1 := Scalar.andi v6417 v6414
  let v6419 : BitVec 32 := Scalar.addi v6413 v6412
  let v6420 : BitVec 32 := Scalar.select v6418 v6419 v6413
  let c1_i32_5968 : BitVec 32 := 1#32
  let v6421 : BitVec 32 := Scalar.muli v6420 c1_i32_5968
  let v6422 : BitVec 32 := Scalar.addi c0_i32_5969 v6421
  v6422.toNat
def k0_dev248 (d0 : Dev nD) : Nat :=
  let c0_i32_5981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_5971 : BitVec 32 := 31#32
  let v6428 : BitVec 32 := Scalar.addi v2 c31_i32_5971
  let c32_i32_5972 : BitVec 32 := 32#32
  let c0_i32_5973 : BitVec 32 := 0#32
  let v6429 : BitVec 1 := Scalar.cmpi .eq c32_i32_5972 c0_i32_5973
  let c1_i32_5974 : BitVec 32 := 1#32
  let v6430 : BitVec 32 := Scalar.select v6429 c1_i32_5974 c32_i32_5972
  let v6431 : BitVec 32 := Scalar.remsi v6428 v6430
  let c0_i32_5976 : BitVec 32 := 0#32
  let v6433 : BitVec 1 := Scalar.cmpi .slt v6431 c0_i32_5976
  let c0_i32_5977 : BitVec 32 := 0#32
  let v6434 : BitVec 1 := Scalar.cmpi .slt v6430 c0_i32_5977
  let v6435 : BitVec 1 := Scalar.xori v6433 v6434
  let c0_i32_5975 : BitVec 32 := 0#32
  let v6432 : BitVec 1 := Scalar.cmpi .ne v6431 c0_i32_5975
  let v6436 : BitVec 1 := Scalar.andi v6435 v6432
  let v6437 : BitVec 32 := Scalar.addi v6431 v6430
  let v6438 : BitVec 32 := Scalar.select v6436 v6437 v6431
  let c1_i32_5980 : BitVec 32 := 1#32
  let v6439 : BitVec 32 := Scalar.muli v6438 c1_i32_5980
  let v6440 : BitVec 32 := Scalar.addi c0_i32_5981 v6439
  v6440.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v3 : BitVec 32 := Scalar.muli v2 c128_i32
  let v6447 : Index := Scalar.indexCast v3
  let c0_5985 : Index := 0#32
  ![v6447.toNat, 0]
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x128 : Shape := ⟨2, ![4096, 128]⟩
abbrev S128x8192 : Shape := ⟨2, ![128, 8192]⟩
abbrev S8192x128 : Shape := ⟨2, ![8192, 128]⟩
abbrev S4096x8192 : Shape := ⟨2, ![4096, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x8192, .bf16⟩
  | .hbm, ⟨2, _⟩ => ⟨S8192x128, .bf16⟩
  | .hbm, ⟨3, _⟩ => ⟨S128x8192, .bf16⟩
  | .hbm, ⟨4, _⟩ => ⟨S8192x128, .bf16⟩
  | .hbm, ⟨5, _⟩ => ⟨S128x8192, .bf16⟩
  | .hbm, ⟨6, _⟩ => ⟨S8192x128, .bf16⟩
  | .hbm, ⟨7, _⟩ => ⟨S4096x8192, .f32⟩
  | .hbm, ⟨8, _⟩ => ⟨S4096x8192, .bf16⟩
  | .hbm, ⟨9, _⟩ => ⟨S_, .bf16⟩
  | .hbm, ⟨10, _⟩ => ⟨S4096x8192, .bf16⟩
  | .hbm, ⟨11, _⟩ => ⟨S4096x8192, .bf16⟩
  | .hbm, ⟨12, _⟩ => ⟨S4096x128, .f32⟩
  | .hbm, ⟨13, _⟩ => ⟨S4096x128, .bf16⟩
  | .hbm, ⟨14, _⟩ => ⟨S4096x8192, .f32⟩
  | .hbm, ⟨15, _⟩ => ⟨S4096x8192, .bf16⟩
  | .hbm, ⟨16, _⟩ => ⟨S_, .bf16⟩
  | .hbm, ⟨17, _⟩ => ⟨S4096x8192, .bf16⟩
  | .hbm, ⟨18, _⟩ => ⟨S4096x8192, .bf16⟩
  | .hbm, ⟨19, _⟩ => ⟨S4096x128, .f32⟩
  | .hbm, ⟨20, _⟩ => ⟨S4096x128, .bf16⟩
  | .hbm, ⟨21, _⟩ => ⟨S4096x8192, .f32⟩
  | .hbm, ⟨22, _⟩ => ⟨S4096x8192, .bf16⟩
  | .hbm, ⟨23, _⟩ => ⟨S_, .bf16⟩
  | .hbm, ⟨24, _⟩ => ⟨S4096x8192, .bf16⟩
  | .hbm, ⟨25, _⟩ => ⟨S4096x8192, .bf16⟩
  | .hbm, ⟨26, _⟩ => ⟨S4096x128, .f32⟩
  | .hbm, ⟨27, _⟩ => ⟨S4096x128, .bf16⟩
  | .hbm, ⟨28, _⟩ => ⟨S4096x128, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Flat.lean ====
module

public import proofs.«01_k».proof.Proof.Gen.KernelIdeal.Skeleton
public import Idealize.ShloMosaic.Lib.Pipeline.Regions

/-! The kernel body as loops over slots.

The printed body is one straight line of some seven hundred memory operations. Here it is written again as a handful
of loops over the thirty-one peers, with each printed operation a case of one definition, and the two are
definitionally equal. -/

@[expose] public section

noncomputable section

namespace Cert.KernelIdeal.Tp

open Idealize.ShloMosaic Idealize.SL.Sem Cert.KernelIdeal.Gen

variable {F : FTy → Type} [FloatOps F]

/-! ### Slots

A device keeps one slot per peer in each of its two receive buffers. Slot `s` of device `b` belongs to the device
`kOf s` places below it. -/

/-- How far below a device the peer of its slot `s` stands. -/
def kOf (s : Fin 32) : ℕ := if s.val % 2 = 1 then (s.val + 1) / 2 else (32 - s.val / 2) % 32

/-- The slot of the peer that stands as far above as the peer of `s` stands below. -/
def partner (s : Fin 32) : Fin 32 :=
  ⟨if s.val = 31 then 31 else if s.val = 0 then 0 else if s.val % 2 = 1 then s.val + 1 else s.val - 1, by
    have := s.isLt; split <;> (try split) <;> (try split) <;> omega⟩

/-- The device whose slot `s` belongs to `d`. -/
def up (d : Dev nD) (s : Fin 32) : Dev nD := ⟨(d.val + kOf s) % 32, Nat.mod_lt _ (by decide)⟩

/-- The device that slot `s` of `d` belongs to. -/
def dn (d : Dev nD) (s : Fin 32) : Dev nD := ⟨(d.val + 32 - kOf s) % 32, Nat.mod_lt _ (by decide)⟩

/-- The slots in the order of the peers' distance. -/
def ordK : List (Fin 32) :=
  [1, 3, 5, 7, 9, 11, 13, 15, 17, 19, 21, 23, 25, 27, 29, 31,
   30, 28, 26, 24, 22, 20, 18, 16, 14, 12, 10, 8, 6, 4, 2]

/-- The slots in their own order. -/
def ordS : List (Fin 32) :=
  [1, 2, 3, 4, 5, 6, 7, 8, 9, 10, 11, 12, 13, 14, 15, 16,
   17, 18, 19, 20, 21, 22, 23, 24, 25, 26, 27, 28, 29, 30, 31]

/-! ### Views -/

theorem inbRow (s : Fin 32) : ∀ a, (![128 * s.val, 0] : Fin 2 → Nat) a + S128x128.size a ≤ S4096x128.size a := by
  revert s; decide

theorem inbBuf (s : Fin 32) : ∀ a, (![s.val, 0, 0] : Fin 3 → Nat) a + S1x128x128.size a ≤ S32x128x128.size a := by
  revert s; decide

theorem inbSem (s : Fin 32) : ∀ a, (![s.val] : Fin 1 → Nat) a + S1.size a ≤ S32.size a := by
  revert s; decide

/-- Rows `128 s` to `128 s + 128` of a buffer of 4096 rows. -/
def rowRect (s : Fin 32) : Rect S4096x128 := Rect.unit (s := S4096x128) ![128 * s.val, 0] S128x128.size (inbRow s)

/-- Slot `s` of the scatter's receive buffer. -/
def bufRect (s : Fin 32) : Rect S32x128x128 := Rect.unit (s := S32x128x128) ![s.val, 0, 0] S1x128x128.size (inbBuf s)

theorem rowRect_words (s : Fin 32) : (rowRect s).WholeWords (EltTy.packing .bf16) := by revert s; decide

theorem bufRect_words (s : Fin 32) : (bufRect s).WholeWords (EltTy.packing .bf16) := by revert s; decide

/-- Those rows as a view. -/
def rows (m : Memref sig .tc .vmem S4096x128 .bf16) (s : Fin 32) : Memref sig .tc .vmem S128x128 .bf16 :=
  m.slice (Rect.unit (s := S4096x128) ![128 * s.val, 0] S128x128.size (inbRow s)) (fun _ => rfl)

/-- That slot as a view of a matrix. -/
def buf (m : Memref sig .tc .vmem S32x128x128 .bf16) (s : Fin 32) : Memref sig .tc .vmem S128x128 .bf16 :=
  (m.slice (Rect.unit (s := S32x128x128) ![s.val, 0, 0] S1x128x128.size (inbBuf s)) (fun _ => rfl)).squeeze S128x128
    squeezes_S1x128x128_S128x128

/-- The rows that the closing gather writes on every device: those of device `d`'s own number. -/
def mine (m : Memref sig .tc .vmem S4096x128 .bf16) (d : Dev nD) : Memref sig .tc .vmem S128x128 .bf16 :=
  m.slice (Rect.unit (s := S4096x128) (k0_off1 d) S128x128.size (k0_off1_inb d)) (fun _ => rfl)

/-- Semaphore `s` of an array of thirty-two. -/
def at32 (a : DmaSems sig S32) (s : Fin 32) : DmaSem sig :=
  ((a.slice (Rect.unit (s := S32) ![s.val] S1.size (inbSem s))).squeeze S_ squeezes_S1_S_).sem

theorem rows_words {m : Memref sig .tc .vmem S4096x128 .bf16} (h : m.IsWhole) (s : Fin 32) : (rows m s).view.WordExact :=
  h.wordExact_slice rfl _ (rowRect_words s)

theorem buf_words {m : Memref sig .tc .vmem S32x128x128 .bf16} (h : m.IsWhole) (s : Fin 32) : (buf m s).view.WordExact :=
  (h.wordExact_slice rfl _ (bufRect_words s)).reshape _ _

theorem mine_words {m : Memref sig .tc .vmem S4096x128 .bf16} (h : m.IsWhole) (d : Dev nD) : (mine m d).view.WordExact :=
  h.wordExact_slice rfl _ (k0_off1_wordsbf16 d)

/-- The printed words of the targets of the entry signals, in program order. -/
def sigDevs (d : Dev nD) : List (Dev nD) :=
  [⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩, ⟨k0_dev16 d, k0_dev16_lt d⟩, ⟨k0_dev17 d, k0_dev17_lt d⟩, ⟨k0_dev18 d, k0_dev18_lt d⟩, ⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩, ⟨k0_dev31 d, k0_dev31_lt d⟩]

/-- The printed words of the targets of the first layer's gather, in program order. -/
def agDevs0 (d : Dev nD) : List (Dev nD) :=
  [⟨k0_dev32 d, k0_dev32_lt d⟩, ⟨k0_dev33 d, k0_dev33_lt d⟩, ⟨k0_dev34 d, k0_dev34_lt d⟩, ⟨k0_dev35 d, k0_dev35_lt d⟩, ⟨k0_dev36 d, k0_dev36_lt d⟩, ⟨k0_dev37 d, k0_dev37_lt d⟩, ⟨k0_dev38 d, k0_dev38_lt d⟩, ⟨k0_dev39 d, k0_dev39_lt d⟩, ⟨k0_dev40 d, k0_dev40_lt d⟩, ⟨k0_dev41 d, k0_dev41_lt d⟩, ⟨k0_dev42 d, k0_dev42_lt d⟩, ⟨k0_dev43 d, k0_dev43_lt d⟩, ⟨k0_dev44 d, k0_dev44_lt d⟩, ⟨k0_dev45 d, k0_dev45_lt d⟩, ⟨k0_dev46 d, k0_dev46_lt d⟩, ⟨k0_dev47 d, k0_dev47_lt d⟩, ⟨k0_dev48 d, k0_dev48_lt d⟩, ⟨k0_dev49 d, k0_dev49_lt d⟩, ⟨k0_dev50 d, k0_dev50_lt d⟩, ⟨k0_dev51 d, k0_dev51_lt d⟩, ⟨k0_dev52 d, k0_dev52_lt d⟩, ⟨k0_dev53 d, k0_dev53_lt d⟩, ⟨k0_dev54 d, k0_dev54_lt d⟩, ⟨k0_dev55 d, k0_dev55_lt d⟩, ⟨k0_dev56 d, k0_dev56_lt d⟩, ⟨k0_dev57 d, k0_dev57_lt d⟩, ⟨k0_dev58 d, k0_dev58_lt d⟩, ⟨k0_dev59 d, k0_dev59_lt d⟩, ⟨k0_dev60 d, k0_dev60_lt d⟩, ⟨k0_dev61 d, k0_dev61_lt d⟩, ⟨k0_dev62 d, k0_dev62_lt d⟩]

/-- The printed words of the targets of the first layer's scatter, in program order. -/
def rsDevs0 (d : Dev nD) : List (Dev nD) :=
  [⟨k0_dev63 d, k0_dev63_lt d⟩, ⟨k0_dev64 d, k0_dev64_lt d⟩, ⟨k0_dev65 d, k0_dev65_lt d⟩, ⟨k0_dev66 d, k0_dev66_lt d⟩, ⟨k0_dev67 d, k0_dev67_lt d⟩, ⟨k0_dev68 d, k0_dev68_lt d⟩, ⟨k0_dev69 d, k0_dev69_lt d⟩, ⟨k0_dev70 d, k0_dev70_lt d⟩, ⟨k0_dev71 d, k0_dev71_lt d⟩, ⟨k0_dev72 d, k0_dev72_lt d⟩, ⟨k0_dev73 d, k0_dev73_lt d⟩, ⟨k0_dev74 d, k0_dev74_lt d⟩, ⟨k0_dev75 d, k0_dev75_lt d⟩, ⟨k0_dev76 d, k0_dev76_lt d⟩, ⟨k0_dev77 d, k0_dev77_lt d⟩, ⟨k0_dev78 d, k0_dev78_lt d⟩, ⟨k0_dev79 d, k0_dev79_lt d⟩, ⟨k0_dev80 d, k0_dev80_lt d⟩, ⟨k0_dev81 d, k0_dev81_lt d⟩, ⟨k0_dev82 d, k0_dev82_lt d⟩, ⟨k0_dev83 d, k0_dev83_lt d⟩, ⟨k0_dev84 d, k0_dev84_lt d⟩, ⟨k0_dev85 d, k0_dev85_lt d⟩, ⟨k0_dev86 d, k0_dev86_lt d⟩, ⟨k0_dev87 d, k0_dev87_lt d⟩, ⟨k0_dev88 d, k0_dev88_lt d⟩, ⟨k0_dev89 d, k0_dev89_lt d⟩, ⟨k0_dev90 d, k0_dev90_lt d⟩, ⟨k0_dev91 d, k0_dev91_lt d⟩, ⟨k0_dev92 d, k0_dev92_lt d⟩, ⟨k0_dev93 d, k0_dev93_lt d⟩]

/-- The printed words of the targets of the second layer's gather, in program order. -/
def agDevs1 (d : Dev nD) : List (Dev nD) :=
  [⟨k0_dev94 d, k0_dev94_lt d⟩, ⟨k0_dev95 d, k0_dev95_lt d⟩, ⟨k0_dev96 d, k0_dev96_lt d⟩, ⟨k0_dev97 d, k0_dev97_lt d⟩, ⟨k0_dev98 d, k0_dev98_lt d⟩, ⟨k0_dev99 d, k0_dev99_lt d⟩, ⟨k0_dev100 d, k0_dev100_lt d⟩, ⟨k0_dev101 d, k0_dev101_lt d⟩, ⟨k0_dev102 d, k0_dev102_lt d⟩, ⟨k0_dev103 d, k0_dev103_lt d⟩, ⟨k0_dev104 d, k0_dev104_lt d⟩, ⟨k0_dev105 d, k0_dev105_lt d⟩, ⟨k0_dev106 d, k0_dev106_lt d⟩, ⟨k0_dev107 d, k0_dev107_lt d⟩, ⟨k0_dev108 d, k0_dev108_lt d⟩, ⟨k0_dev109 d, k0_dev109_lt d⟩, ⟨k0_dev110 d, k0_dev110_lt d⟩, ⟨k0_dev111 d, k0_dev111_lt d⟩, ⟨k0_dev112 d, k0_dev112_lt d⟩, ⟨k0_dev113 d, k0_dev113_lt d⟩, ⟨k0_dev114 d, k0_dev114_lt d⟩, ⟨k0_dev115 d, k0_dev115_lt d⟩, ⟨k0_dev116 d, k0_dev116_lt d⟩, ⟨k0_dev117 d, k0_dev117_lt d⟩, ⟨k0_dev118 d, k0_dev118_lt d⟩, ⟨k0_dev119 d, k0_dev119_lt d⟩, ⟨k0_dev120 d, k0_dev120_lt d⟩, ⟨k0_dev121 d, k0_dev121_lt d⟩, ⟨k0_dev122 d, k0_dev122_lt d⟩, ⟨k0_dev123 d, k0_dev123_lt d⟩, ⟨k0_dev124 d, k0_dev124_lt d⟩]

/-- The printed words of the targets of the second layer's scatter, in program order. -/
def rsDevs1 (d : Dev nD) : List (Dev nD) :=
  [⟨k0_dev125 d, k0_dev125_lt d⟩, ⟨k0_dev126 d, k0_dev126_lt d⟩, ⟨k0_dev127 d, k0_dev127_lt d⟩, ⟨k0_dev128 d, k0_dev128_lt d⟩, ⟨k0_dev129 d, k0_dev129_lt d⟩, ⟨k0_dev130 d, k0_dev130_lt d⟩, ⟨k0_dev131 d, k0_dev131_lt d⟩, ⟨k0_dev132 d, k0_dev132_lt d⟩, ⟨k0_dev133 d, k0_dev133_lt d⟩, ⟨k0_dev134 d, k0_dev134_lt d⟩, ⟨k0_dev135 d, k0_dev135_lt d⟩, ⟨k0_dev136 d, k0_dev136_lt d⟩, ⟨k0_dev137 d, k0_dev137_lt d⟩, ⟨k0_dev138 d, k0_dev138_lt d⟩, ⟨k0_dev139 d, k0_dev139_lt d⟩, ⟨k0_dev140 d, k0_dev140_lt d⟩, ⟨k0_dev141 d, k0_dev141_lt d⟩, ⟨k0_dev142 d, k0_dev142_lt d⟩, ⟨k0_dev143 d, k0_dev143_lt d⟩, ⟨k0_dev144 d, k0_dev144_lt d⟩, ⟨k0_dev145 d, k0_dev145_lt d⟩, ⟨k0_dev146 d, k0_dev146_lt d⟩, ⟨k0_dev147 d, k0_dev147_lt d⟩, ⟨k0_dev148 d, k0_dev148_lt d⟩, ⟨k0_dev149 d, k0_dev149_lt d⟩, ⟨k0_dev150 d, k0_dev150_lt d⟩, ⟨k0_dev151 d, k0_dev151_lt d⟩, ⟨k0_dev152 d, k0_dev152_lt d⟩, ⟨k0_dev153 d, k0_dev153_lt d⟩, ⟨k0_dev154 d, k0_dev154_lt d⟩, ⟨k0_dev155 d, k0_dev155_lt d⟩]

/-- The printed words of the targets of the third layer's gather, in program order. -/
def agDevs2 (d : Dev nD) : List (Dev nD) :=
  [⟨k0_dev156 d, k0_dev156_lt d⟩, ⟨k0_dev157 d, k0_dev157_lt d⟩, ⟨k0_dev158 d, k0_dev158_lt d⟩, ⟨k0_dev159 d, k0_dev159_lt d⟩, ⟨k0_dev160 d, k0_dev160_lt d⟩, ⟨k0_dev161 d, k0_dev161_lt d⟩, ⟨k0_dev162 d, k0_dev162_lt d⟩, ⟨k0_dev163 d, k0_dev163_lt d⟩, ⟨k0_dev164 d, k0_dev164_lt d⟩, ⟨k0_dev165 d, k0_dev165_lt d⟩, ⟨k0_dev166 d, k0_dev166_lt d⟩, ⟨k0_dev167 d, k0_dev167_lt d⟩, ⟨k0_dev168 d, k0_dev168_lt d⟩, ⟨k0_dev169 d, k0_dev169_lt d⟩, ⟨k0_dev170 d, k0_dev170_lt d⟩, ⟨k0_dev171 d, k0_dev171_lt d⟩, ⟨k0_dev172 d, k0_dev172_lt d⟩, ⟨k0_dev173 d, k0_dev173_lt d⟩, ⟨k0_dev174 d, k0_dev174_lt d⟩, ⟨k0_dev175 d, k0_dev175_lt d⟩, ⟨k0_dev176 d, k0_dev176_lt d⟩, ⟨k0_dev177 d, k0_dev177_lt d⟩, ⟨k0_dev178 d, k0_dev178_lt d⟩, ⟨k0_dev179 d, k0_dev179_lt d⟩, ⟨k0_dev180 d, k0_dev180_lt d⟩, ⟨k0_dev181 d, k0_dev181_lt d⟩, ⟨k0_dev182 d, k0_dev182_lt d⟩, ⟨k0_dev183 d, k0_dev183_lt d⟩, ⟨k0_dev184 d, k0_dev184_lt d⟩, ⟨k0_dev185 d, k0_dev185_lt d⟩, ⟨k0_dev186 d, k0_dev186_lt d⟩]

/-- The printed words of the targets of the third layer's scatter, in program order. -/
def rsDevs2 (d : Dev nD) : List (Dev nD) :=
  [⟨k0_dev187 d, k0_dev187_lt d⟩, ⟨k0_dev188 d, k0_dev188_lt d⟩, ⟨k0_dev189 d, k0_dev189_lt d⟩, ⟨k0_dev190 d, k0_dev190_lt d⟩, ⟨k0_dev191 d, k0_dev191_lt d⟩, ⟨k0_dev192 d, k0_dev192_lt d⟩, ⟨k0_dev193 d, k0_dev193_lt d⟩, ⟨k0_dev194 d, k0_dev194_lt d⟩, ⟨k0_dev195 d, k0_dev195_lt d⟩, ⟨k0_dev196 d, k0_dev196_lt d⟩, ⟨k0_dev197 d, k0_dev197_lt d⟩, ⟨k0_dev198 d, k0_dev198_lt d⟩, ⟨k0_dev199 d, k0_dev199_lt d⟩, ⟨k0_dev200 d, k0_dev200_lt d⟩, ⟨k0_dev201 d, k0_dev201_lt d⟩, ⟨k0_dev202 d, k0_dev202_lt d⟩, ⟨k0_dev203 d, k0_dev203_lt d⟩, ⟨k0_dev204 d, k0_dev204_lt d⟩, ⟨k0_dev205 d, k0_dev205_lt d⟩, ⟨k0_dev206 d, k0_dev206_lt d⟩, ⟨k0_dev207 d, k0_dev207_lt d⟩, ⟨k0_dev208 d, k0_dev208_lt d⟩, ⟨k0_dev209 d, k0_dev209_lt d⟩, ⟨k0_dev210 d, k0_dev210_lt d⟩, ⟨k0_dev211 d, k0_dev211_lt d⟩, ⟨k0_dev212 d, k0_dev212_lt d⟩, ⟨k0_dev213 d, k0_dev213_lt d⟩, ⟨k0_dev214 d, k0_dev214_lt d⟩, ⟨k0_dev215 d, k0_dev215_lt d⟩, ⟨k0_dev216 d, k0_dev216_lt d⟩, ⟨k0_dev217 d, k0_dev217_lt d⟩]

/-- The printed words of the targets of the closing gather, in program order. -/
def finDevs (d : Dev nD) : List (Dev nD) :=
  [⟨k0_dev218 d, k0_dev218_lt d⟩, ⟨k0_dev219 d, k0_dev219_lt d⟩, ⟨k0_dev220 d, k0_dev220_lt d⟩, ⟨k0_dev221 d, k0_dev221_lt d⟩, ⟨k0_dev222 d, k0_dev222_lt d⟩, ⟨k0_dev223 d, k0_dev223_lt d⟩, ⟨k0_dev224 d, k0_dev224_lt d⟩, ⟨k0_dev225 d, k0_dev225_lt d⟩, ⟨k0_dev226 d, k0_dev226_lt d⟩, ⟨k0_dev227 d, k0_dev227_lt d⟩, ⟨k0_dev228 d, k0_dev228_lt d⟩, ⟨k0_dev229 d, k0_dev229_lt d⟩, ⟨k0_dev230 d, k0_dev230_lt d⟩, ⟨k0_dev231 d, k0_dev231_lt d⟩, ⟨k0_dev232 d, k0_dev232_lt d⟩, ⟨k0_dev233 d, k0_dev233_lt d⟩, ⟨k0_dev234 d, k0_dev234_lt d⟩, ⟨k0_dev235 d, k0_dev235_lt d⟩, ⟨k0_dev236 d, k0_dev236_lt d⟩, ⟨k0_dev237 d, k0_dev237_lt d⟩, ⟨k0_dev238 d, k0_dev238_lt d⟩, ⟨k0_dev239 d, k0_dev239_lt d⟩, ⟨k0_dev240 d, k0_dev240_lt d⟩, ⟨k0_dev241 d, k0_dev241_lt d⟩, ⟨k0_dev242 d, k0_dev242_lt d⟩, ⟨k0_dev243 d, k0_dev243_lt d⟩, ⟨k0_dev244 d, k0_dev244_lt d⟩, ⟨k0_dev245 d, k0_dev245_lt d⟩, ⟨k0_dev246 d, k0_dev246_lt d⟩, ⟨k0_dev247 d, k0_dev247_lt d⟩, ⟨k0_dev248 d, k0_dev248_lt d⟩]

/-! ### The loops -/

/-- One step per item of a list, then the rest. -/
def forL {E : Type → Type} {α β : Type} (L : List α) (f : α → Prog E β → Prog E β) (k : Prog E β) : Prog E β :=
  L.foldr f k

/-- The barrier semaphore. -/
def barSem : Sem sig := (SemArray.scalar (sig.barrier 0 rfl) : Sems sig S_).sem

/-- The thirty-one entry signals, then the wait for as many. -/
def entryP (dv : List (Fin 32 × Dev nD)) (k : Prog (TpuEff nD τ sig (Elt F) Λ₀ .tc) PUnit) : Prog (TpuEff nD τ sig (Elt F) Λ₀ .tc) PUnit :=
  forL dv (fun e k => semSignalWord e.2 barSem 1#32 >>= fun _ => k) (semWaitWord barSem 31#32 >>= fun _ => k)

section
variable (st : Memref sig .tc .vmem S128x128 .bf16) (hst : st.IsWhole) (xf : Memref sig .tc .vmem S4096x128 .bf16)
  (hxf : xf.IsWhole) (pt : Memref sig .tc .vmem S4096x128 .bf16) (hpt : pt.IsWhole)
  (rb : Memref sig .tc .vmem S32x128x128 .bf16) (hrb : rb.IsWhole) (aS aR rS rR : DmaSems sig S32)

/-- The gather's sends: the staged block into the peers' slots. -/
def gatherP (dv : List (Fin 32 × Dev nD)) (k : Prog (TpuEff nD τ sig (Elt F) Λ₀ .tc) PUnit) : Prog (TpuEff nD τ sig (Elt F) Λ₀ .tc) PUnit :=
  forL dv (fun e k => .op (.enqueueDma st (.remote (Dev.tc e.2) (rows xf e.1) (.dma (at32 aS e.1))) (.dma (at32 aR e.1))
    hst.wordExact (rows_words hxf e.1) ⟨⟨rfl, Or.inl rfl⟩, trivial⟩) fun _ => k) k

/-- The waits for the gathered blocks. -/
def gatheredP (k : Prog (TpuEff nD τ sig (Elt F) Λ₀ .tc) PUnit) : Prog (TpuEff nD τ sig (Elt F) Λ₀ .tc) PUnit :=
  forL ordS (fun s k => .op (.waitDma2 (at32 aR s) st (rows xf s) hst.wordExact (rows_words hxf s)) fun _ => k) k

/-- The scatter's sends: the peers' shares of the partial product. -/
def scatterP (dv : List (Fin 32 × Dev nD)) (k : Prog (TpuEff nD τ sig (Elt F) Λ₀ .tc) PUnit) : Prog (TpuEff nD τ sig (Elt F) Λ₀ .tc) PUnit :=
  forL dv (fun e k => .op (.enqueueDma (rows pt e.1) (.remote (Dev.tc e.2) (buf rb (partner e.1))
    (.dma (at32 rS (partner e.1)))) (.dma (at32 rR (partner e.1))) (rows_words hpt e.1) (buf_words hrb (partner e.1))
    ⟨⟨rfl, Or.inl rfl⟩, trivial⟩) fun _ => k) k

/-- The waits for the gather's sends to be done with the staged block. -/
def gatherSentP (k : Prog (TpuEff nD τ sig (Elt F) Λ₀ .tc) PUnit) : Prog (TpuEff nD τ sig (Elt F) Λ₀ .tc) PUnit :=
  forL ordK (fun s k => .op (.waitDma2 (at32 aS s) (rows xf s) st (rows_words hxf s) hst.wordExact) fun _ => k) k

/-- The waits for the scatter's sends and for the peers' shares of this device's rows. -/
def scatteredP (k : Prog (TpuEff nD τ sig (Elt F) Λ₀ .tc) PUnit) : Prog (TpuEff nD τ sig (Elt F) Λ₀ .tc) PUnit :=
  forL ordS (fun s k =>
    .op (.waitDma2 (at32 rS (partner s)) (buf rb (partner s)) (rows pt s) (buf_words hrb (partner s)) (rows_words hpt s))
      fun _ => .op (.waitDma2 (at32 rR (partner s)) (rows pt s) (buf rb (partner s)) (rows_words hpt s)
        (buf_words hrb (partner s))) fun _ => k) k

/-- One layer: gather, both products on the gathered rows, scatter, and the sum of what came back. `fp` is the partial
    product of the gathered rows, `fr` the device's next block; `k` goes on with the weights and the summands. -/
def layerP (win : Memref sig .tc .vmem S128x256 .bf16) (wout : Memref sig .tc .vmem S256x128 .bf16)
    (ag rs : List (Fin 32 × Dev nD))
    (fp : Vec F S128x256 .bf16 → Vec F S256x128 .bf16 → Vec F S3968x128 .bf16 → FVec F S3968x128 .bf16)
    (fr : Vec F S128x256 .bf16 → Vec F S256x128 .bf16 → Vec F S31x128x128 .bf16 → FVec F S128x128 .bf16)
    (k : Vec F S128x256 .bf16 → Vec F S256x128 .bf16 → Vec F S31x128x128 .bf16 → Prog (TpuEff nD τ sig (Elt F) Λ₀ .tc) PUnit) : Prog (TpuEff nD τ sig (Elt F) Λ₀ .tc) PUnit :=
  gatherP st hst xf hxf aS aR ag <|
  .op (.load win (Rect.unit (s := S128x256) ![0, 0] S128x256.size inb_S128x256_S128x256_0_0).toLoadRect (View.loadsAt_vmem h_S128x256)) fun w₁ =>
  .op (.load wout (Rect.unit (s := S256x128) ![0, 0] S256x128.size inb_S256x128_S256x128_0_0).toLoadRect (View.loadsAt_vmem h_S256x128)) fun w₂ =>
  gatheredP st hst xf hxf aR <|
  .op (.load xf (Rect.unit (s := S4096x128) ![128, 0] S3968x128.size inb_S4096x128_S3968x128_128_0).toLoadRect (View.loadsAt_vmem h_S3968x128)) fun g =>
  .op (.load pt (Rect.unit (s := S4096x128) ![128, 0] S3968x128.size inb_S4096x128_S3968x128_128_0).toLoadRect (View.loadsAt_vmem h_S3968x128)) fun _ =>
  .op (.store pt (Rect.unit (s := S4096x128) ![128, 0] S3968x128.size inb_S4096x128_S3968x128_128_0) (fp w₁ w₂ g) Finset.univ
    (View.stores_vmem h_S3968x128 (hpt.storeExact_slice rfl _ packedbf16_S4096x128_S3968x128_128_0) (fun _ => rfl)) (.inl rfl)) fun _ =>
  scatterP pt hpt rb hrb rS rR rs <|
  gatherSentP st hst xf hxf aS <|
  scatteredP pt hpt rb hrb rS rR <|
  .op (.load rb (Rect.unit (s := S32x128x128) ![1, 0, 0] S31x128x128.size inb_S32x128x128_S31x128x128_1_0_0).toLoadRect (View.loadsAt_vmem h_S31x128x128)) fun r =>
  .op (.load st (Rect.unit (s := S128x128) ![0, 0] S128x128.size inb_S128x128_S128x128_0_0).toLoadRect (View.loadsAt_vmem h_S128x128)) fun _ =>
  .op (.store st (Rect.unit (s := S128x128) ![0, 0] S128x128.size inb_S128x128_S128x128_0_0) (fr w₁ w₂ r) Finset.univ
    (View.stores_vmem h_S128x128 (hst.storeExact_slice rfl _ packedbf16_S128x128_S128x128_0_0) (fun _ => rfl)) (.inl rfl)) fun _ =>
  k w₁ w₂ r

/-- The closing gather's sends, into the rows of this device's own number. -/
def closeP (d : Dev nD) (dv : List (Fin 32 × Dev nD)) (k : Prog (TpuEff nD τ sig (Elt F) Λ₀ .tc) PUnit) : Prog (TpuEff nD τ sig (Elt F) Λ₀ .tc) PUnit :=
  forL dv (fun e k => .op (.enqueueDma st (.remote (Dev.tc e.2) (mine xf d) (.dma (at32 aS e.1))) (.dma (at32 aR e.1))
    hst.wordExact (mine_words hxf d) ⟨⟨rfl, Or.inl rfl⟩, trivial⟩) fun _ => k) k

/-- The waits of the closing gather. -/
def closedP (d : Dev nD) (k : Prog (TpuEff nD τ sig (Elt F) Λ₀ .tc) PUnit) : Prog (TpuEff nD τ sig (Elt F) Λ₀ .tc) PUnit :=
  forL ordK (fun s k => .op (.waitDma2 (at32 aS s) (mine xf d) st (mine_words hxf d) hst.wordExact) fun _ =>
    .op (.waitDma2 (at32 aR s) st (mine xf d) hst.wordExact (mine_words hxf d)) fun _ => k) k

/-- The last phase: the closing gather, and the gathered rows into the result's window. -/
def finalP (out : Memref sig .tc .vmem S4096x128 .f32) (d : Dev nD) (dv : List (Fin 32 × Dev nD)) : Prog (TpuEff nD τ sig (Elt F) Λ₀ .tc) PUnit :=
  closeP st hst xf hxf aS aR d dv <|
  .op (.load st (Rect.unit (s := S128x128) ![0, 0] S128x128.size inb_S128x128_S128x128_0_0).toLoadRect (View.loadsAt_vmem h_S128x128)) fun x =>
  .op (.load xf (Rect.unit (s := S4096x128) (k0_off2 d) S128x128.size (k0_off2_inb d)).toLoadRect (View.loadsAt_vmem h_S128x128)) fun _ =>
  .op (.store xf (Rect.unit (s := S4096x128) (k0_off2 d) S128x128.size (k0_off2_inb d)) (k0_pay22 x) Finset.univ
    (View.stores_vmem h_S128x128 (hxf.storeExact_slice rfl _ (k0_off2_packedbf16 d)) (fun _ => rfl)) (.inl rfl)) fun _ =>
  closedP st hst xf hxf aS aR d <|
  .op (.load xf (Rect.unit (s := S4096x128) ![0, 0] S4096x128.size inb_S4096x128_S4096x128_0_0).toLoadRect (View.loadsAt_vmem h_S4096x128)) fun y =>
  .op (.load out (Rect.unit (s := S4096x128) ![0, 0] S4096x128.size inb_S4096x128_S4096x128_0_0).toLoadRect (View.loadsAt_vmem h_S4096x128)) fun _ =>
  .op (.store out (Rect.unit (s := S4096x128) ![0, 0] S4096x128.size inb_S4096x128_S4096x128_0_0) (k0_pay1 y) Finset.univ
    (View.stores_vmem_bits_univ h_S4096x128 rfl) (.inl rfl)) fun _ =>
  .ret ⟨⟩

end

/-- The partial product of the gathered rows. -/
def fpart (w₁ : Vec F S128x256 .bf16) (w₂ : Vec F S256x128 .bf16) (g : Vec F S3968x128 .bf16) : FVec F S3968x128 .bf16 :=
  k0_pay8 (k0_pay7 (k0_pay4 w₁) (k0_pay5 w₂) g)

/-- The device's next block: its own partial product and the peers'. -/
def fnext (x : FVec F S128x128 .bf16) (w₁ : Vec F S128x256 .bf16) (w₂ : Vec F S256x128 .bf16) (r : Vec F S31x128x128 .bf16) :
    FVec F S128x128 .bf16 :=
  k0_pay9 (k0_pay6 x w₁ w₂) r

/-- The body, from the tables of the sends' targets. -/
def bodyP (arg0 : Memref sig .tc .vmem S128x128 .bf16) (arg1 : Memref sig .tc .vmem S128x256 .bf16) (arg2 : Memref sig .tc .vmem S256x128 .bf16)
    (arg3 : Memref sig .tc .vmem S128x256 .bf16) (arg4 : Memref sig .tc .vmem S256x128 .bf16) (arg5 : Memref sig .tc .vmem S128x256 .bf16)
    (arg6 : Memref sig .tc .vmem S256x128 .bf16) (arg7 : Memref sig .tc .vmem S4096x128 .f32)
    (xf : Memref sig .tc .vmem S4096x128 .bf16) (hxf : xf.IsWhole) (pt : Memref sig .tc .vmem S4096x128 .bf16) (hpt : pt.IsWhole)
    (rb : Memref sig .tc .vmem S32x128x128 .bf16) (hrb : rb.IsWhole) (st : Memref sig .tc .vmem S128x128 .bf16) (hst : st.IsWhole)
    (aS aR rS rR : DmaSems sig S32) (t₀ a₀ r₀ a₁ r₁ a₂ r₂ a₃ : Dev nD → List (Fin 32 × Dev nD)) : Prog (TpuEff nD τ sig (Elt F) Λ₀ .tc) PUnit :=
  .op .deviceId fun d =>
  entryP (t₀ d) <|
  .op (.load arg0 (Rect.unit (s := S128x128) ![0, 0] S128x128.size inb_S128x128_S128x128_0_0).toLoadRect (View.loadsAt_vmem h_S128x128)) fun x =>
  .op (.load st (Rect.unit (s := S128x128) ![0, 0] S128x128.size inb_S128x128_S128x128_0_0).toLoadRect (View.loadsAt_vmem h_S128x128)) fun _ =>
  .op (.store st (Rect.unit (s := S128x128) ![0, 0] S128x128.size inb_S128x128_S128x128_0_0) (k0_pay3 x) Finset.univ
    (View.stores_vmem h_S128x128 (hst.storeExact_slice rfl _ packedbf16_S128x128_S128x128_0_0) (fun _ => rfl)) (.inl rfl)) fun _ =>
  layerP st hst xf hxf pt hpt rb hrb aS aR rS rR arg1 arg2 (a₀ d) (r₀ d) fpart (fun w₁ w₂ r => k0_pay10 (fnext (k0_pay2 x) w₁ w₂ r)) fun w₁ w₂ r =>
  layerP st hst xf hxf pt hpt rb hrb aS aR rS rR arg3 arg4 (a₁ d) (r₁ d) fpart (fun u₁ u₂ q => k0_pay10 (fnext (fnext (k0_pay2 x) w₁ w₂ r) u₁ u₂ q)) fun u₁ u₂ q =>
  layerP st hst xf hxf pt hpt rb hrb aS aR rS rR arg5 arg6 (a₂ d) (r₂ d) fpart
    (fun z₁ z₂ p => k0_pay10 (fnext (fnext (fnext (k0_pay2 x) w₁ w₂ r) u₁ u₂ q) z₁ z₂ p)) fun _ _ _ =>
  finalP st hst xf hxf aS aR arg7 d (a₃ d)

/-- The printed body is those loops. -/
theorem body_eq (arg0 : Memref sig .tc .vmem S128x128 .bf16) (harg0 : arg0.IsWhole) (arg1 : Memref sig .tc .vmem S128x256 .bf16) (harg1 : arg1.IsWhole) (arg2 : Memref sig .tc .vmem S256x128 .bf16) (harg2 : arg2.IsWhole) (arg3 : Memref sig .tc .vmem S128x256 .bf16) (harg3 : arg3.IsWhole) (arg4 : Memref sig .tc .vmem S256x128 .bf16) (harg4 : arg4.IsWhole) (arg5 : Memref sig .tc .vmem S128x256 .bf16) (harg5 : arg5.IsWhole) (arg6 : Memref sig .tc .vmem S256x128 .bf16) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S32x128x128 .bf16) (harg10 : arg10.IsWhole) (arg11 : Memref sig .tc .vmem S128x128 .bf16) (harg11 : arg11.IsWhole) (arg12 : DmaSems sig S32) (arg13 : DmaSems sig S32) (arg14 : DmaSems sig S32) (arg15 : DmaSems sig S32) :
    cc0_body (F := F) arg0 harg0 arg1 harg1 arg2 harg2 arg3 harg3 arg4 harg4 arg5 harg5 arg6 harg6 arg7 harg7 arg8 harg8 arg9 harg9 arg10 harg10 arg11 harg11 arg12 arg13 arg14 arg15
      = bodyP arg0 arg1 arg2 arg3 arg4 arg5 arg6 arg7 arg8 harg8 arg9 harg9 arg10 harg10 arg11 harg11 arg12 arg13 arg14 arg15
          (fun d => ordK.zip (sigDevs d)) (fun d => ordK.zip (agDevs0 d)) (fun d => ordS.zip (rsDevs0 d)) (fun d => ordK.zip (agDevs1 d))
          (fun d => ordS.zip (rsDevs1 d)) (fun d => ordK.zip (agDevs2 d)) (fun d => ordS.zip (rsDevs2 d)) (fun d => ordK.zip (finDevs d)) := by
  chain_rfl

end Cert.KernelIdeal.Tp

end
-- ==== Proof.Slots.lean ====
module

public import proofs.«01_k».proof.Proof.Flat

/-! The arithmetic of slots and peers, and the closed forms of the printed targets and offsets. -/

@[expose] public section

noncomputable section

namespace Cert.KernelIdeal.Tp

open Idealize.ShloMosaic Idealize.SL.Sem Cert.KernelIdeal.Gen

/-! ### Slots and peers -/

theorem partner_partner : ∀ s : Fin 32, partner (partner s) = s := by decide

theorem partner_ne_zero : ∀ s : Fin 32, s ≠ 0 → partner s ≠ 0 := by decide

theorem kOf_lt : ∀ s : Fin 32, kOf s < 32 := by decide

theorem kOf_pos : ∀ s : Fin 32, s ≠ 0 → 0 < kOf s := by decide

theorem kOf_partner : ∀ s : Fin 32, s ≠ 0 → kOf (partner s) = 32 - kOf s := by decide

theorem kOf_inj : ∀ s t : Fin 32, kOf s = kOf t → s = t := by decide +kernel

theorem up_val (d : Dev nD) (s : Fin 32) : (up d s).val = (d.val + kOf s) % 32 := rfl

theorem dn_val (d : Dev nD) (s : Fin 32) : (dn d s).val = (d.val + 32 - kOf s) % 32 := rfl

theorem dev_lt (d : Dev nD) : d.val < 32 := d.isLt

theorem dn_up (d : Dev nD) (s : Fin 32) : dn (up d s) s = d := by
  have h := kOf_lt s; have h' := dev_lt d
  apply Fin.ext; rw [dn_val, up_val]; omega

theorem up_dn (d : Dev nD) (s : Fin 32) : up (dn d s) s = d := by
  have h := kOf_lt s; have h' := dev_lt d
  apply Fin.ext; rw [up_val, dn_val]; omega

theorem up_partner (d : Dev nD) (s : Fin 32) : up d (partner s) = dn d s := by
  have h := kOf_lt s; have h' := dev_lt d
  apply Fin.ext; rw [up_val, dn_val]
  by_cases hs : s = 0
  · subst hs; simp [kOf, partner]
  · rw [kOf_partner s hs]; congr 1; omega

theorem dn_partner (d : Dev nD) (s : Fin 32) : dn d (partner s) = up d s := by
  rw [← up_partner, partner_partner]

theorem dn_zero (d : Dev nD) : dn d 0 = d := by
  have h' := dev_lt d
  apply Fin.ext; rw [dn_val]; simp [kOf]

theorem dn_inj (d : Dev nD) {s t : Fin 32} (h : dn d s = dn d t) : s = t := by
  have hs := kOf_lt s; have ht := kOf_lt t; have h' := dev_lt d
  apply kOf_inj
  have := congrArg Fin.val h; rw [dn_val, dn_val] at this
  omega

theorem dn_ne (d : Dev nD) {s : Fin 32} (h : s ≠ 0) : dn d s ≠ d := fun e =>
  h (dn_inj d (e.trans (dn_zero d).symm))

/-- Every device is the peer of one slot, the slot `0` being a device's own. -/
def dnEquiv (d : Dev nD) : Fin 32 ≃ Dev nD :=
  Equiv.ofBijective (dn d) ((Fintype.bijective_iff_injective_and_card _).2 ⟨fun _ _ h => dn_inj d h, rfl⟩)

theorem ordK_nodup : ordK.Nodup := by decide

theorem ordS_nodup : ordS.Nodup := by decide

/-- The slots in use. -/
def slots : Finset (Fin 32) := Finset.univ.erase 0

theorem ordK_slots : ordK.toFinset = slots := by decide

theorem ordS_slots : ordS.toFinset = slots := by decide

theorem mem_slots {s : Fin 32} : s ∈ slots ↔ s ≠ 0 := by simp [slots]

theorem mem_ordK {s : Fin 32} : s ∈ ordK ↔ s ≠ 0 := by rw [← mem_slots, ← ordK_slots, List.mem_toFinset]

theorem mem_ordS {s : Fin 32} : s ∈ ordS ↔ s ≠ 0 := by rw [← mem_slots, ← ordS_slots, List.mem_toFinset]

/-! ### The printed targets and offsets -/

/-- The targets upward, in the order of distance. -/
def upTab (d : Dev nD) : List (Fin 32 × Dev nD) := ordK.map fun s => (s, up d s)

/-- The targets downward, in the order of slots. -/
def dnTab (d : Dev nD) : List (Fin 32 × Dev nD) := ordS.map fun s => (s, dn d s)

theorem sigDevs_eq (d : Dev nD) : ordK.zip (sigDevs d) = upTab d := by revert d; decide +kernel
theorem agDevs0_eq (d : Dev nD) : ordK.zip (agDevs0 d) = upTab d := by revert d; decide +kernel
theorem agDevs1_eq (d : Dev nD) : ordK.zip (agDevs1 d) = upTab d := by revert d; decide +kernel
theorem agDevs2_eq (d : Dev nD) : ordK.zip (agDevs2 d) = upTab d := by revert d; decide +kernel
theorem finDevs_eq (d : Dev nD) : ordK.zip (finDevs d) = upTab d := by revert d; decide +kernel
theorem rsDevs0_eq (d : Dev nD) : ordS.zip (rsDevs0 d) = dnTab d := by revert d; decide +kernel
theorem rsDevs1_eq (d : Dev nD) : ordS.zip (rsDevs1 d) = dnTab d := by revert d; decide +kernel
theorem rsDevs2_eq (d : Dev nD) : ordS.zip (rsDevs2 d) = dnTab d := by revert d; decide +kernel

theorem off1_eq (d : Dev nD) : k0_off1 d = ![128 * d.val, 0] := by revert d; decide +kernel
theorem off2_eq (d : Dev nD) : k0_off2 d = ![128 * d.val, 0] := by revert d; decide +kernel

theorem slice_rows (m : Memref sig .tc .vmem S4096x128 .bf16) (s : Fin 32) (o : Fin 2 → Nat) (h : ∀ a, o a + S128x128.size a ≤ S4096x128.size a)
    (e : o = ![128 * s.val, 0]) : m.slice (Rect.unit (s := S4096x128) o S128x128.size h) (fun _ => rfl) = rows m s := by subst e; rfl

theorem mine_eq (m : Memref sig .tc .vmem S4096x128 .bf16) (d : Dev nD) : mine m d = rows m d := slice_rows m d _ _ (off1_eq d)

theorem off2_rect (d : Dev nD) : Rect.unit (s := S4096x128) (k0_off2 d) S128x128.size (k0_off2_inb d) = rowRect d := by
  unfold rowRect; simp only [off2_eq]

end Cert.KernelIdeal.Tp

end
-- ==== Proof.Cells.lean ====
module

public import proofs.«01_k».proof.Proof.Slots
public import Idealize.ShloMosaic.Lib.ValueLayout
public import Idealize.ShloMosaic.Lib.Pipeline.Kit

/-! The buffers cut into slots, and what each holds in every round. -/

@[expose] public section

noncomputable section

namespace Cert.KernelIdeal.Tp

open Idealize.ShloMosaic Idealize.ShloMosaic.TcCoe Idealize.ShloMosaic.ValueIdx Idealize.SL.Sem Cert.KernelIdeal.Gen

variable {F : FTy → Type} [FloatOps F]

/-! ### The four scratch buffers -/

abbrev xfM : Memref sig .tc .vmem S4096x128 .bf16 := Memref.whole cc0_scratch0
abbrev ptM : Memref sig .tc .vmem S4096x128 .bf16 := Memref.whole cc0_scratch1
abbrev rbM : Memref sig .tc .vmem S32x128x128 .bf16 := Memref.whole cc0_scratch2
abbrev stM : Memref sig .tc .vmem S128x128 .bf16 := Memref.whole cc0_scratch3

/-- Every row but the first block's. -/
abbrev tailRect : Rect S4096x128 := Rect.unit (s := S4096x128) ![128, 0] S3968x128.size inb_S4096x128_S3968x128_128_0

/-- Every slot but the first. -/
abbrev tailBuf : Rect S32x128x128 := Rect.unit (s := S32x128x128) ![1, 0, 0] S31x128x128.size inb_S32x128x128_S31x128x128_1_0_0

/-- What one copy of a block of 128 rows credits. -/
abbrev N : ℕ := stM.view.dmaCredit

theorem N_pos : 0 < N := View.dmaCredit_pos _ (by decide)

/-! ### Their cut into slots -/

theorem xf_set (s : Fin 32) : (rows xfM s).view.set = (rowRect s).set := View.set_slice_whole cc0_scratch0 (rowRect s)

theorem pt_set (s : Fin 32) : (rows ptM s).view.set = (rowRect s).set := View.set_slice_whole cc0_scratch1 (rowRect s)

theorem rb_set (s : Fin 32) : (buf rbM s).view.set = (bufRect s).set :=
  (View.set_reshape _ _).trans (View.set_slice_whole cc0_scratch2 (bufRect s))

theorem mem_row {s : Fin 32} {i : S4096x128.Idx} : i ∈ (rowRect s).set ↔ (i 0).val / 128 = s.val := by
  have h0 : (i 0).val < 4096 := (i 0).isLt
  have h1 : (i 1).val < 128 := (i 1).isLt
  rw [rowRect, Rect.mem_set_unit, Fin.forall_fin_two]
  show (128 * s.val ≤ (i 0).val ∧ (i 0).val < 128 * s.val + 128) ∧ (0 ≤ (i 1).val ∧ (i 1).val < 0 + 128) ↔ _
  omega

theorem mem_buf {s : Fin 32} {i : S32x128x128.Idx} : i ∈ (bufRect s).set ↔ (i 0).val = s.val := by
  have h0 : (i 1).val < 128 := (i 1).isLt
  have h1 : (i 2).val < 128 := (i 2).isLt
  rw [bufRect, Rect.mem_set_unit, Fin.forall_fin_succ, Fin.forall_fin_two]
  show (s.val ≤ (i 0).val ∧ (i 0).val < s.val + 1) ∧ (0 ≤ (i 1).val ∧ (i 1).val < 0 + 128) ∧ (0 ≤ (i 2).val ∧ (i 2).val < 0 + 128) ↔ _
  omega

theorem row_disjoint {s t : Fin 32} (h : s ≠ t) : Disjoint (rowRect s).set (rowRect t).set :=
  Finset.disjoint_left.mpr fun _ hi hj => h (Fin.ext ((mem_row.mp hi).symm.trans (mem_row.mp hj)))

theorem buf_disjoint {s t : Fin 32} (h : s ≠ t) : Disjoint (bufRect s).set (bufRect t).set :=
  Finset.disjoint_left.mpr fun _ hi hj => h (Fin.ext ((mem_buf.mp hi).symm.trans (mem_buf.mp hj)))

theorem rows_univ : Finset.univ.biUnion (fun s => (rowRect s).set) = Finset.univ :=
  Finset.eq_univ_iff_forall.mpr fun i => Finset.mem_biUnion.mpr
    ⟨⟨(i 0).val / 128, by have h0 : (i 0).val < 4096 := (i 0).isLt; omega⟩, Finset.mem_univ _, mem_row.mpr rfl⟩

theorem bufs_univ : Finset.univ.biUnion (fun s => (bufRect s).set) = Finset.univ :=
  Finset.eq_univ_iff_forall.mpr fun i => Finset.mem_biUnion.mpr ⟨i 0, Finset.mem_univ _, mem_buf.mpr rfl⟩

theorem rows_tail : slots.biUnion (fun s => (rowRect s).set) = tailRect.set := by
  ext i
  have h0 : (i 0).val < 4096 := (i 0).isLt
  have h1 : (i 1).val < 128 := (i 1).isLt
  rw [Finset.mem_biUnion, Rect.mem_set_unit, Fin.forall_fin_two]
  show _ ↔ (128 ≤ (i 0).val ∧ (i 0).val < 128 + 3968) ∧ (0 ≤ (i 1).val ∧ (i 1).val < 0 + 128)
  constructor
  · rintro ⟨s, hs, hi⟩
    have := mem_row.mp hi
    have h : s.val ≠ 0 := fun e => mem_slots.mp hs (Fin.ext e)
    omega
  · intro h
    exact ⟨⟨(i 0).val / 128, by omega⟩, mem_slots.mpr fun e => by have := congrArg Fin.val e; simp at this; omega, mem_row.mpr rfl⟩

theorem bufs_tail : slots.biUnion (fun s => (bufRect s).set) = tailBuf.set := by
  ext i
  have h0 : (i 0).val < 32 := (i 0).isLt
  have h1 : (i 1).val < 128 := (i 1).isLt
  have h2 : (i 2).val < 128 := (i 2).isLt
  rw [Finset.mem_biUnion, Rect.mem_set_unit, Fin.forall_fin_succ, Fin.forall_fin_two]
  show _ ↔ (1 ≤ (i 0).val ∧ (i 0).val < 1 + 31) ∧ (0 ≤ (i 1).val ∧ (i 1).val < 0 + 128) ∧ (0 ≤ (i 2).val ∧ (i 2).val < 0 + 128)
  constructor
  · rintro ⟨s, hs, hi⟩
    have := mem_buf.mp hi
    have h : s.val ≠ 0 := fun e => mem_slots.mp hs (Fin.ext e)
    omega
  · intro h
    exact ⟨i 0, mem_slots.mpr fun e => by have := congrArg Fin.val e; change (i 0).val = 0 at this; omega, mem_buf.mpr rfl⟩

/-! ### Contents -/

/-- The block of 128 rows that a row stands in. -/
def hi (i : S4096x128.Idx) : Fin 32 := ⟨(i 0).val / 128, by have h0 : (i 0).val < 4096 := (i 0).isLt; omega⟩

/-- Its place within the block. -/
def lo (i : S4096x128.Idx) : S128x128.Idx := ix2 ⟨(i 0).val % 128, Nat.mod_lt _ (by decide)⟩ (i 1)

/-- The place `j` of block `s`. -/
def at2 (s : Fin 32) (j : S128x128.Idx) : S4096x128.Idx :=
  ix2 ⟨128 * s.val + (j 0).val, by have h0 : (j 0).val < 128 := (j 0).isLt; have := s.isLt; omega⟩ (j 1)

theorem hi_at2 (s : Fin 32) (j : S128x128.Idx) : hi (at2 s j) = s := by
  have h0 : (j 0).val < 128 := (j 0).isLt
  apply Fin.ext; show (128 * s.val + (j 0).val) / 128 = s.val; omega

theorem lo_at2 (s : Fin 32) (j : S128x128.Idx) : lo (at2 s j) = j := by
  have h0 : (j 0).val < 128 := (j 0).isLt
  refine Eq.trans ?_ (eq_ix2 (n0 := 128) (n1 := 128) j).symm
  refine congrArg (fun a => ix2 a (j 1)) (Fin.ext ?_)
  show (128 * s.val + (j 0).val) % 128 = (j 0).val; omega

theorem row_emb (s : Fin 32) (j : S128x128.Idx) : (rowRect s).emb j = at2 s j := by
  funext a
  apply Fin.ext
  match a with
  | 0 => show 128 * s.val + 1 * (j 0).val = 128 * s.val + (j 0).val; omega
  | 1 => show 0 + 1 * (j 1).val = (j 1).val; omega

theorem rows_emb_xf (s : Fin 32) (j : S128x128.Idx) : (rows xfM s).view.emb j = at2 s j := row_emb s j

theorem rows_emb_pt (s : Fin 32) (j : S128x128.Idx) : (rows ptM s).view.emb j = at2 s j := row_emb s j

theorem buf_emb (s : Fin 32) (j : S128x128.Idx) : (buf rbM s).view.emb j = ix3 s (j 0) (j 1) := by
  have e : (buf rbM s).view.emb j = (bufRect s).emb (Shape.reshapeEquiv squeezes_S1x128x128_S128x128.numel_eq j) := rfl
  rw [e]
  refine (congrArg (bufRect s).emb ((congrArg (Shape.reshapeEquiv _) (eq_ix2 (n0 := 128) (n1 := 128) j)).trans
    (reshapeEquiv_ix2_1ab (a := 128) (b := 128) squeezes_S1x128x128_S128x128.numel_eq (j 0) (j 1)))).trans ?_
  funext a
  apply Fin.ext
  match a with
  | 0 => show s.val + 1 * 0 = s.val; omega
  | 1 => show 0 + 1 * (j 0).val = (j 0).val; omega
  | 2 => show 0 + 1 * (j 1).val = (j 1).val; omega

/-- The arrays a launch finds on each device: its rows of the input and its columns and rows of each layer's weights. -/
structure Inp (F : FTy → Type) where
  x : Dev nD → Vec F S128x128 .bf16
  win : ℕ → Dev nD → Vec F S128x256 .bf16
  wout : ℕ → Dev nD → Vec F S256x128 .bf16

/-- Whose block stands in block `s` of the gathered rows on `c`: while a layer runs, the peer of slot `s`; at the close,
    the device of that number. -/
def owner (l : ℕ) (c : Dev nD) (s : Fin 32) : Dev nD := if l < 3 then dn c s else s

/-- Which block of `c`'s gathered rows the peer of slot `s` writes. -/
def xblk (l : ℕ) (c : Dev nD) (s : Fin 32) : Fin 32 := if l < 3 then s else dn c s

theorem owner_xblk (l : ℕ) (c : Dev nD) (s : Fin 32) : owner l c (xblk l c s) = dn c s := by
  unfold owner xblk; split <;> rfl

theorem xblk_inj (l : ℕ) (c : Dev nD) {s t : Fin 32} (h : xblk l c s = xblk l c t) : s = t := by
  unfold xblk at h; split at h
  · exact h
  · exact dn_inj c h

/-- The gathered rows on `c`, from every device's block. -/
def gath (l : ℕ) (X : Dev nD → Vec F S128x128 .bf16) (c : Dev nD) : Vec F S4096x128 .bf16 := fun i => X (owner l c (hi i)) (lo i)

/-- The rows but the first block's. -/
def tailOf (g : Vec F S4096x128 .bf16) : Vec F S3968x128 .bf16 := xfM.view.readAt (Elt F) tailRect.toLoadRect g

/-- The partial product of gathered rows, kept from the second block on. -/
def part (w₁ : Vec F S128x256 .bf16) (w₂ : Vec F S256x128 .bf16) (g : Vec F S4096x128 .bf16) : Vec F S4096x128 .bf16 :=
  (ptM.access tailRect).write (Elt F) g (fpart w₁ w₂ (tailOf g)) Finset.univ

/-- What comes back to `c` from the partial products `P`: in slot `s` the peer's rows for this device. -/
def back (P : Dev nD → Vec F S4096x128 .bf16) (c : Dev nD) : Vec F S32x128x128 .bf16 :=
  fun i => P (dn c (i 0)) (at2 (partner (i 0)) (ix2 (i 1) (i 2)))

/-- The slots but the first. -/
def tailSlots (r : Vec F S32x128x128 .bf16) : Vec F S31x128x128 .bf16 := rbM.view.readAt (Elt F) tailBuf.toLoadRect r

/-- A device's block as its layer starts from it, and as it is staged for the gather. -/
def blocks (I : Inp F) : ℕ → Dev nD → FVec F S128x128 .bf16 × FVec F S128x128 .bf16
  | 0, c => (k0_pay2 (I.x c), k0_pay3 (I.x c))
  | l + 1, c =>
    let n := fnext (blocks I l c).1 (I.win l c) (I.wout l c)
      (tailSlots (back (fun d => part (I.win l d) (I.wout l d) (gath l (fun e => (blocks I l e).2) d)) c))
    (n, k0_pay10 n)

def own (I : Inp F) (l : ℕ) (c : Dev nD) : FVec F S128x128 .bf16 := (blocks I l c).1
def X (I : Inp F) (l : ℕ) (c : Dev nD) : FVec F S128x128 .bf16 := (blocks I l c).2

/-- The gathered rows, the partial products and what comes back, in round `l`. -/
def GX (I : Inp F) (l : ℕ) (c : Dev nD) : Vec F S4096x128 .bf16 := gath l (X I l) c
def PB (I : Inp F) (l : ℕ) (c : Dev nD) : Vec F S4096x128 .bf16 := part (I.win l c) (I.wout l c) (GX I l c)
def RB (I : Inp F) (l : ℕ) (c : Dev nD) : Vec F S32x128x128 .bf16 := back (PB I l) c

theorem own_zero (I : Inp F) (c : Dev nD) : own I 0 c = k0_pay2 (I.x c) := rfl
theorem X_zero (I : Inp F) (c : Dev nD) : X I 0 c = k0_pay3 (I.x c) := rfl
theorem own_succ (I : Inp F) (l : ℕ) (c : Dev nD) :
    own I (l + 1) c = fnext (own I l c) (I.win l c) (I.wout l c) (tailSlots (RB I l c)) := rfl
theorem X_succ (I : Inp F) (l : ℕ) (c : Dev nD) : X I (l + 1) c = k0_pay10 (own I (l + 1) c) := rfl

/-! ### Copies leave those contents -/

theorem write_agree {κ : Kind} {sp : Space} {s : Shape} {e : EltTy} (v : View sig κ sp s e) {Val : EltTy → Type} (f g : v.ty.Contents Val)
    (w : s.Idx → Val e) (h : ∀ x, g (v.emb x) = _root_.cast (congrArg Val v.elt_eq.symm) (w x)) :
    ∀ i ∈ v.set, v.write Val f w Finset.univ i = g i := by
  intro i hi
  obtain ⟨x, -, rfl⟩ := Finset.mem_map.mp hi
  rw [View.write_emb_of_mem _ _ (Finset.mem_univ x), h x]

theorem gather_agree (I : Inp F) (l : ℕ) (c : Dev nD) (s : Fin 32) (f : Vec F S4096x128 .bf16) :
    ∀ i ∈ (rows xfM s).view.set, (rows xfM s).view.write (Elt F) f (stM.view.read (Elt F) (X I l (owner l c s))) Finset.univ i = GX I l c i :=
  write_agree (rows xfM s).view f (GX I l c) _ fun x => by
    rw [rows_emb_xf]
    show X I l (owner l c (hi (at2 s x))) (lo (at2 s x)) = X I l (owner l c s) x
    rw [hi_at2, lo_at2]

theorem scatter_agree (I : Inp F) (l : ℕ) (c : Dev nD) (s : Fin 32) (f : Vec F S32x128x128 .bf16) :
    ∀ i ∈ (buf rbM s).view.set, (buf rbM s).view.write (Elt F) f ((rows ptM (partner s)).view.read (Elt F) (PB I l (dn c s))) Finset.univ i = RB I l c i :=
  write_agree (buf rbM s).view f (RB I l c) _ fun x => by
    rw [buf_emb]
    show PB I l (dn c s) (at2 (partner s) (ix2 (x 0) (x 1))) = PB I l (dn c s) ((rows ptM (partner s)).view.emb x)
    rw [rows_emb_pt]
    exact congrArg (fun j => PB I l (dn c s) (at2 (partner s) j)) (eq_ix2 (n0 := 128) (n1 := 128) x).symm

/-- The store of the partial product leaves it in every slot, whatever was there. -/
theorem part_agree (w₁ : Vec F S128x256 .bf16) (w₂ : Vec F S256x128 .bf16) (g f : Vec F S4096x128 .bf16) :
    ∀ i ∈ (ptM.access tailRect).set, (ptM.access tailRect).write (Elt F) f (fpart w₁ w₂ (tailOf g)) Finset.univ i = part w₁ w₂ g i :=
  write_agree (ptM.access tailRect) f _ _ fun x => View.write_emb_of_mem _ _ (Finset.mem_univ x)

/-- The store of a device's own block leaves the closing contents there. -/
theorem mine_agree (I : Inp F) (c : Dev nD) (f : Vec F S4096x128 .bf16) :
    ∀ i ∈ (xfM.access (rowRect c)).set, (xfM.access (rowRect c)).write (Elt F) f (X I 3 c) Finset.univ i = GX I 3 c i :=
  write_agree (xfM.access (rowRect c)) f (GX I 3 c) _ fun (x : S128x128.Idx) => by
    rw [show (xfM.access (rowRect c)).emb x = at2 c x from row_emb c x]
    show X I 3 (owner 3 c (hi (at2 c x))) (lo (at2 c x)) = X I 3 c x
    rw [hi_at2, lo_at2]; rfl

theorem credit_rows_xf (s : Fin 32) : (rows xfM s).view.dmaCredit = N := rfl
theorem credit_rows_pt (s : Fin 32) : (rows ptM s).view.dmaCredit = N := rfl
theorem credit_buf (s : Fin 32) : (buf rbM s).view.dmaCredit = N := rfl

end Cert.KernelIdeal.Tp

end
-- ==== Proof.Sched.lean ====
module

public import proofs.«01_k».proof.Proof.Cells
public import proofs.«01_k».proof.Proof.Gen.KernelIdeal.Launch
public import Idealize.ShloMosaic.Lib.Pipeline.Launch
public import Idealize.ShloMosaic.Lib.Tactic

/-! The protocol: which cell is credited by whom in which round, and what passes with the credit. -/

@[expose] public section

noncomputable section

namespace Cert.KernelIdeal.Tp

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 32)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ### Cells -/

abbrev barC (c : Dev nD) : GSem nD τ sig := ((c : Thread nD τ), .reg barSem)
abbrev agS (c : Dev nD) (s : Fin 32) : GSem nD τ sig := ((c : Thread nD τ), .dma (at32 cc0_scratch4 s))
abbrev agR (c : Dev nD) (s : Fin 32) : GSem nD τ sig := ((c : Thread nD τ), .dma (at32 cc0_scratch5 s))
abbrev rsS (c : Dev nD) (s : Fin 32) : GSem nD τ sig := ((c : Thread nD τ), .dma (at32 cc0_scratch6 s))
abbrev rsR (c : Dev nD) (s : Fin 32) : GSem nD τ sig := ((c : Thread nD τ), .dma (at32 cc0_scratch7 s))

/-- The names of a device's cells: the barrier, and slot `s` of array `k`. -/
abbrev Cx : Type := Option (Fin 4 × Fin 32)

def arr : Fin 4 → DmaSems sig S32
  | 0 => cc0_scratch4
  | 1 => cc0_scratch5
  | 2 => cc0_scratch6
  | 3 => cc0_scratch7

def osem (x : Fin 4 × Fin 32) : SemLoc sig := .dma (at32 (arr x.1) x.2)

def csem : Cx → SemLoc sig
  | none => .reg barSem
  | some x => osem x

abbrev kcell (ck : Dev nD × Cx) : GSem nD τ sig := ((ck.1 : Thread nD τ), csem ck.2)

/-- The part a semaphore plays. -/
inductive Role
  | bar
  | agS (s : Fin 32)
  | agR (s : Fin 32)
  | rsS (s : Fin 32)
  | rsR (s : Fin 32)
  | other
  deriving DecidableEq

/-- The part of the DMA semaphore of number `n`. -/
def roleN (n : ℕ) : Role :=
  if n < 8 then .other
  else if n < 40 then .agS ⟨(n - 8) % 32, Nat.mod_lt _ (by decide)⟩
  else if n < 72 then .agR ⟨(n - 8) % 32, Nat.mod_lt _ (by decide)⟩
  else if n < 104 then .rsS ⟨(n - 8) % 32, Nat.mod_lt _ (by decide)⟩
  else .rsR ⟨(n - 8) % 32, Nat.mod_lt _ (by decide)⟩

def role : SemLoc sig → Role
  | .reg _ => .bar
  | .dma n => roleN n.val

theorem role_bar : role (.reg barSem) = .bar := rfl
theorem role_agS : ∀ s, role (.dma (at32 cc0_scratch4 s)) = .agS s := by decide +kernel
theorem role_agR : ∀ s, role (.dma (at32 cc0_scratch5 s)) = .agR s := by decide +kernel
theorem role_rsS : ∀ s, role (.dma (at32 cc0_scratch6 s)) = .rsS s := by decide +kernel
theorem role_rsR : ∀ s, role (.dma (at32 cc0_scratch7 s)) = .rsR s := by decide +kernel

/-! ### Ownership of a slot -/

/-- The share of the staged block lent to the gather's copy of slot `s`. -/
def shr (s : Fin 32) : PosShare TreeShare := Transfers.dealOf fullShare Finset.univ s

def xsP (c : Dev nD) (i : Fin 32) (f : Vec F S4096x128 .bf16) : sProp 𝕄 :=
  (rows xfM i).view.loc (c : Thread nD τ) ↦[(rows xfM i).view.set]{fullShare} f

def ptP (c : Dev nD) (i : Fin 32) (f : Vec F S4096x128 .bf16) : sProp 𝕄 :=
  (rows ptM i).view.loc (c : Thread nD τ) ↦[(rows ptM i).view.set]{fullShare} f

def rbP (c : Dev nD) (i : Fin 32) (f : Vec F S32x128x128 .bf16) : sProp 𝕄 :=
  (buf rbM i).view.loc (c : Thread nD τ) ↦[(buf rbM i).view.set]{fullShare} f

def stP (c : Dev nD) (q : PosShare TreeShare) (f : Vec F S128x128 .bf16) : sProp 𝕄 :=
  stM.view.loc (c : Thread nD τ) ↦[stM.view.set]{q} f

theorem pts_storable (ℓ : Loc nD τ sig) (S : Finset (Idx ℓ)) (q : PosShare TreeShare) (f : Buf (Elt F) ℓ) :
    BI.Storable (upEmb : UEmb _ 𝕄) (ℓ ↦[S]{q} f) := inferInstance

instance xsP_storable (c : Dev nD) (i) (f) : BI.Storable (upEmb : UEmb _ 𝕄) (xsP (F := F) c i f) := pts_storable _ _ _ _
instance ptP_storable (c : Dev nD) (i) (f) : BI.Storable (upEmb : UEmb _ 𝕄) (ptP (F := F) c i f) := pts_storable _ _ _ _
instance rbP_storable (c : Dev nD) (i) (f) : BI.Storable (upEmb : UEmb _ 𝕄) (rbP (F := F) c i f) := pts_storable _ _ _ _
instance stP_storable (c : Dev nD) (q) (f) : BI.Storable (upEmb : UEmb _ 𝕄) (stP (F := F) c q f) := by unfold stP; infer_instance

/-- Leave for the peer of slot `s` to write its block of `c`'s gathered rows in round `l`. -/
def xLeave (l : ℕ) (c : Dev nD) (s : Fin 32) : sProp 𝕄 := iprop(∃ f, xsP c (xblk l c s) f)

/-- Leave for that peer to write slot `s` of `c`'s receive buffer in round `l`; the closing round needs none. -/
def bLeave (l : ℕ) (c : Dev nD) (s : Fin 32) : sProp 𝕄 :=
  if l < 3 then iprop((∃ f, rbP c s f) ∗ reached ER (rsR c s) l) else iprop(emp)

instance xLeave_storable (l) (c : Dev nD) (s) : BI.Storable (upEmb : UEmb _ 𝕄) (xLeave (F := F) l c s) := by unfold xLeave; infer_instance
instance bLeave_storable (l) (c : Dev nD) (s) : BI.Storable (upEmb : UEmb _ 𝕄) (bLeave (F := F) l c s) := by
  unfold bLeave; split <;> infer_instance

/-! ### The schedule -/

variable (I : Inp F)

def dutiesOf : Role → ℕ → Finset (Fin 32)
  | .bar, r => if r = 0 then slots else ∅
  | .agS s, r => if s ≠ 0 ∧ r < 4 then {0} else ∅
  | .agR s, r => if s ≠ 0 ∧ r < 4 then {0} else ∅
  | .rsS s, r => if s ≠ 0 ∧ r < 3 then {0} else ∅
  | .rsR s, r => if s ≠ 0 ∧ r < 3 then {0} else ∅
  | .other, _ => ∅

def payOf (c : Dev nD) : Role → ℕ → Fin 32 → sProp 𝕄
  | .bar, _, s => xLeave 0 (dn c s) (partner s)
  | .agS s, l, _ => stP c (shr s) (X I l c)
  | .agR s, l, _ => iprop(xsP c (xblk l c s) (GX I l c) ∗ bLeave l (dn c s) (partner s))
  | .rsS s, l, _ => ptP c (partner s) (PB I l c)
  | .rsR s, l, _ => iprop(rbP c s (RB I l c) ∗ (xLeave (l + 1) (dn c s) (partner s) ∗ reached ER (agR (dn c s) (partner s)) (l + 1)))
  | .other, _, _ => iprop(emp)

instance payOf_storable (c : Dev nD) (ro : Role) (l : ℕ) (d : Fin 32) : BI.Storable (upEmb : UEmb _ 𝕄) (payOf I c ro l d) := by
  cases ro <;> unfold payOf <;> infer_instance

def Rd : Rounds.Schedule (GSem nD τ sig) (Fin 32) 𝕄 where
  duties g r := if g.1.2 = .tc then dutiesOf (role g.2) r else ∅
  unitless _ := False
  amount g _ _ := if role g.2 = .bar then 1 else N
  payload g r d := payOf I g.1.1 (role g.2) r d
  amount_pos g _ _ _ := by
    by_cases h : role g.2 = .bar
    · rw [if_pos h]; exact Nat.one_pos
    · rw [if_neg h]; exact N_pos

instance Rd_storable (g : GSem nD τ sig) (r : ℕ) (d : Fin 32) : BI.Storable (upEmb : UEmb _ 𝕄) ((Rd (F := F) I).payload g r d) :=
  payOf_storable I g.1.1 (role g.2) r d

section Facts
variable (c : Dev nD) {s : Fin 32} {l : ℕ}

theorem duties_tc (sm : SemLoc sig) (r : ℕ) : (Rd (F := F) I).duties ((c : Thread nD τ), sm) r = dutiesOf (role sm) r := by
  dsimp only [Rd]; exact if_pos rfl

theorem duties_bar : (Rd (F := F) I).duties (barC c) 0 = slots := duties_tc I c _ 0
theorem duties_agS (hs : s ≠ 0) (hl : l < 4) : (Rd (F := F) I).duties (agS c s) l = {0} := by
  rw [duties_tc, role_agS]; exact if_pos ⟨hs, hl⟩
theorem duties_agR (hs : s ≠ 0) (hl : l < 4) : (Rd (F := F) I).duties (agR c s) l = {0} := by
  rw [duties_tc, role_agR]; exact if_pos ⟨hs, hl⟩
theorem duties_rsS (hs : s ≠ 0) (hl : l < 3) : (Rd (F := F) I).duties (rsS c s) l = {0} := by
  rw [duties_tc, role_rsS]; exact if_pos ⟨hs, hl⟩
theorem duties_rsR (hs : s ≠ 0) (hl : l < 3) : (Rd (F := F) I).duties (rsR c s) l = {0} := by
  rw [duties_tc, role_rsR]; exact if_pos ⟨hs, hl⟩

theorem duties_end (g : GSem nD τ sig) : ∀ r, 4 ≤ r → (Rd (F := F) I).duties g r = ∅ := by
  intro r hr
  show (if g.1.2 = .tc then dutiesOf (role g.2) r else ∅) = ∅
  split
  · cases role g.2 <;> unfold dutiesOf
    · exact if_neg (by omega)
    · exact if_neg (by omega)
    · exact if_neg (by omega)
    · exact if_neg (by omega)
    · exact if_neg (by omega)
    · rfl
  · rfl
theorem duties_bar_end : ∀ r, 1 ≤ r → (Rd (F := F) I).duties (barC c) r = ∅ := fun r hr => by
  rw [duties_tc]; exact if_neg (by omega)
theorem duties_rsS_end : ∀ r, 3 ≤ r → (Rd (F := F) I).duties (rsS c s) r = ∅ := fun r hr => by
  rw [duties_tc, role_rsS]; exact if_neg (by omega)
theorem duties_rsR_end : ∀ r, 3 ≤ r → (Rd (F := F) I).duties (rsR c s) r = ∅ := fun r hr => by
  rw [duties_tc, role_rsR]; exact if_neg (by omega)
theorem duties_dma_zero (k : Fin 4) : ∀ r, 0 ≤ r → (Rd (F := F) I).duties (kcell (c, some (k, 0))) r = ∅ := fun r _ => by
  rw [duties_tc]
  have h : ∀ k : Fin 4, role (csem (some (k, 0))) = .agS 0 ∨ role (csem (some (k, 0))) = .agR 0 ∨ role (csem (some (k, 0))) = .rsS 0
      ∨ role (csem (some (k, 0))) = .rsR 0 := by decide +kernel
  rcases h k with h | h | h | h <;> rw [h] <;> simp [dutiesOf]

theorem amount_bar (r : ℕ) (d : Fin 32) : (Rd (F := F) I).amount (barC c) r d = 1 := by dsimp only [Rd]; exact if_pos rfl
theorem amount_agS (r : ℕ) (d : Fin 32) : (Rd (F := F) I).amount (agS c s) r d = N := by
  dsimp only [Rd]; rw [role_agS]; exact if_neg (fun h => by cases h)
theorem amount_agR (r : ℕ) (d : Fin 32) : (Rd (F := F) I).amount (agR c s) r d = N := by
  dsimp only [Rd]; rw [role_agR]; exact if_neg (fun h => by cases h)
theorem amount_rsS (r : ℕ) (d : Fin 32) : (Rd (F := F) I).amount (rsS c s) r d = N := by
  dsimp only [Rd]; rw [role_rsS]; exact if_neg (fun h => by cases h)
theorem amount_rsR (r : ℕ) (d : Fin 32) : (Rd (F := F) I).amount (rsR c s) r d = N := by
  dsimp only [Rd]; rw [role_rsR]; exact if_neg (fun h => by cases h)

theorem expect_bar : (Rd (F := F) I).expect (barC c) 0 = 31 := by
  unfold Schedule.expect Schedule.amountOf
  rw [duties_bar, Finset.sum_congr rfl fun d _ => amount_bar I c 0 d, Finset.sum_const]; decide

theorem expect_one {g : GSem nD τ sig} (hd : (Rd (F := F) I).duties g l = {0}) (ha : (Rd (F := F) I).amount g l 0 = N) : 0 + N = (Rd (F := F) I).expect g l := by
  unfold Schedule.expect Schedule.amountOf; rw [hd, Finset.sum_singleton, ha, Nat.zero_add]

theorem pay_bar (r : ℕ) (d : Fin 32) : (Rd (F := F) I).payload (barC c) r d = xLeave 0 (dn c d) (partner d) := rfl
theorem pay_agS (d : Fin 32) : (Rd (F := F) I).payload (agS c s) l d = stP c (shr s) (X I l c) := by
  show payOf I c (role _) l d = _; rw [role_agS]; rfl
theorem pay_agR (d : Fin 32) : (Rd (F := F) I).payload (agR c s) l d = iprop(xsP c (xblk l c s) (GX I l c) ∗ bLeave l (dn c s) (partner s)) := by
  show payOf I c (role _) l d = _; rw [role_agR]; rfl
theorem pay_rsS (d : Fin 32) : (Rd (F := F) I).payload (rsS c s) l d = ptP c (partner s) (PB I l c) := by
  show payOf I c (role _) l d = _; rw [role_rsS]; rfl
theorem pay_rsR (d : Fin 32) : (Rd (F := F) I).payload (rsR c s) l d
    = iprop(rbP c s (RB I l c) ∗ (xLeave (l + 1) (dn c s) (partner s) ∗ reached ER (agR (dn c s) (partner s)) (l + 1))) := by
  show payOf I c (role _) l d = _; rw [role_rsR]; rfl

theorem rest_one {g : GSem nD τ sig} (hd : (Rd (F := F) I).duties g l = {0}) :
    bigSep ((Rd (F := F) I).duties g l \ ∅) (fun d => (Rd (F := F) I).payload g l d) = (Rd (F := F) I).payload g l 0 := by
  rw [Finset.sdiff_empty, hd, bigSep_singleton]

theorem rest_bar : bigSep ((Rd (F := F) I).duties (barC c) 0 \ ∅) (fun d => (Rd (F := F) I).payload (barC c) 0 d)
    = bigSep slots fun s => xLeave 0 (dn c s) (partner s) := by
  rw [Finset.sdiff_empty, duties_bar]; rfl

end Facts

/-! ### What is owed, in program order -/

/-- A list of remote credits: the cell, the round, the amount. -/
abbrev Owed : Type := List (GSem nD τ sig × ℕ × ℕ)

def tot : Owed → CellTallies nD τ sig ℕ
  | [] => 0
  | e :: es => tot es + tallyAt e.1 e.2.1 e.2.2

def sigL (c : Dev nD) : Owed := ordK.map fun s => (barC (up c s), 0, 1)
def agL (l : ℕ) (c : Dev nD) : Owed := ordK.map fun s => (agR (up c s) s, l, N)
def rsL (l : ℕ) (c : Dev nD) : Owed := ordS.map fun s => (rsR (dn c s) (partner s), l, N)

/-- Everything after the barrier. -/
def restL (c : Dev nD) : Owed := agL 0 c ++ (rsL 0 c ++ (agL 1 c ++ (rsL 1 c ++ (agL 2 c ++ (rsL 2 c ++ agL 3 c)))))

def lvl (ro : Role) (ι : ℕ) : ℕ := match ro with
  | .bar => 1
  | .agR _ => 2 + 2 * ι
  | .rsR _ => 3 + 2 * ι
  | _ => 0

def L (g : GSem nD τ sig) : Finset ℕ := if g.1.2 = .tc then Finset.range 4 else ∅
def lv (g : GSem nD τ sig) (ι : ℕ) : ℕ := lvl (role g.2) ι

theorem L_of_ne (g : GSem nD τ sig) (h : g.1.2 ≠ .tc) : L g = ∅ := if_neg h
theorem L_tc (c : Dev nD) (sm : SemLoc sig) : L ((c : Thread nD τ), sm) = Finset.range 4 := if_pos rfl

/-- All of the list stands above level `b`, on TensorCores and in the rounds there are. -/
def Above (b : ℕ) (es : Owed) : Prop := ∀ e ∈ es, e.1.1.2 = .tc ∧ e.2.1 < 4 ∧ b < lv e.1 e.2.1

theorem tot_pos {es : Owed} {g : GSem nD τ sig} {u : ℕ} (h : 0 < tot es g u) : ∃ e ∈ es, e.1 = g ∧ e.2.1 = u := by
  induction es with
  | nil => exact absurd h (Nat.lt_irrefl 0)
  | cons e es ih =>
    unfold tot at h
    rw [Pi.add_apply, Finsupp.add_apply, tallyAt_apply] at h
    by_cases he : g = e.1 ∧ u = e.2.1
    · exact ⟨e, List.mem_cons_self, he.1.symm, he.2.symm⟩
    · rw [if_neg he] at h
      obtain ⟨e', h₁, h₂⟩ := ih h
      exact ⟨e', List.mem_cons_of_mem _ h₁, h₂⟩

theorem mayWait (c : Dev nD) (sm : SemLoc sig) {ι : ℕ} (hι : ι < 4) {es : Owed} (h : Above (lv ((c : Thread nD τ), sm) ι) es) :
    (levAts L lv : sProp 𝕄) ⊢ MayWait (c : Thread nD τ) sm ι (tot es) :=
  MayOwe.of_cut (L := L) (lev := lv) (lv ((c : Thread nD τ), sm) ι)
    (fun p hp => by rw [Finset.mem_singleton.mp hp, L_tc]; exact Finset.mem_range.mpr hι)
    (fun g u hg => by
      obtain ⟨e, he, rfl, rfl⟩ := tot_pos hg
      unfold L; rw [if_pos (h e he).1]; exact Finset.mem_range.mpr (h e he).2.1)
    (fun p hp => by rw [Finset.mem_singleton.mp hp])
    (fun g u hg => by
      obtain ⟨e, he, rfl, rfl⟩ := tot_pos hg
      exact (h e he).2.2)

theorem Above.append {b : ℕ} {es es' : Owed} (h : Above b es) (h' : Above b es') : Above b (es ++ es') := fun e he =>
  (List.mem_append.mp he).elim (h e) (h' e)

theorem Above.mono {a b : ℕ} {es : Owed} (hab : a ≤ b) (h : Above b es) : Above a es := fun e he =>
  ⟨(h e he).1, (h e he).2.1, lt_of_le_of_lt hab (h e he).2.2⟩

theorem above_sig (c : Dev nD) : Above 0 (sigL c) := fun e he => by
  obtain ⟨s, -, rfl⟩ := List.mem_map.mp he
  exact ⟨rfl, by show 0 < 4; decide, Nat.one_pos⟩

theorem above_ag (l : ℕ) (hl : l < 4) (c : Dev nD) : Above (1 + 2 * l) (agL l c) := fun e he => by
  obtain ⟨s, -, rfl⟩ := List.mem_map.mp he
  refine ⟨rfl, hl, ?_⟩
  show 1 + 2 * l < lvl (role (.dma (at32 cc0_scratch5 s))) l
  rw [role_agR]; show 1 + 2 * l < 2 + 2 * l; omega

theorem above_rs (l : ℕ) (hl : l < 3) (c : Dev nD) : Above (2 + 2 * l) (rsL l c) := fun e he => by
  obtain ⟨s, -, rfl⟩ := List.mem_map.mp he
  refine ⟨rfl, by show l < 4; omega, ?_⟩
  show 2 + 2 * l < lvl (role (.dma (at32 cc0_scratch7 (partner s)))) l
  rw [role_rsR]; show 2 + 2 * l < 3 + 2 * l; omega

theorem lv_bar (c : Dev nD) (ι : ℕ) : lv (barC c) ι = 1 := rfl
theorem lv_agS (c : Dev nD) (s : Fin 32) (ι : ℕ) : lv (agS c s) ι = 0 := by unfold lv; rw [role_agS]; rfl
theorem lv_agR (c : Dev nD) (s : Fin 32) (ι : ℕ) : lv (agR c s) ι = 2 + 2 * ι := by unfold lv; rw [role_agR]; rfl
theorem lv_rsS (c : Dev nD) (s : Fin 32) (ι : ℕ) : lv (rsS c s) ι = 0 := by unfold lv; rw [role_rsS]; rfl
theorem lv_rsR (c : Dev nD) (s : Fin 32) (ι : ℕ) : lv (rsR c s) ι = 3 + 2 * ι := by unfold lv; rw [role_rsR]; rfl

/-- What is owed from the start of layer `l` on stands above the waits before it. -/
theorem above_rest (c : Dev nD) : Above 1 (restL c) := by
  refine (above_ag 0 (by decide) c).append ?_
  refine ((above_rs 0 (by decide) c).mono (by decide)).append ?_
  refine ((above_ag 1 (by decide) c).mono (by decide)).append ?_
  refine ((above_rs 1 (by decide) c).mono (by decide)).append ?_
  refine ((above_ag 2 (by decide) c).mono (by decide)).append ?_
  exact ((above_rs 2 (by decide) c).mono (by decide)).append ((above_ag 3 (by decide) c).mono (by decide))

end Cert.KernelIdeal.Tp

end
-- ==== Proof.Steps.lean ====
module

public import proofs.«01_k».proof.Proof.Sched
public import Idealize.ShloMosaic.Lib.Pipeline.BigSepL

/-! One send, one wait, one signal of the protocol, and loops of them. -/

@[expose] public section

noncomputable section

namespace Cert.KernelIdeal.Tp

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- A piece of the body on device `c`, with what holds after it. -/
abbrev wpT (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ### Loops -/

/-- A loop that needs `Pre a` and leaves `Post a` at each item, `C` standing between the items. -/
theorem wp_forL {α : Type} (c : Dev nD) (f : α → Prog (TpuEff nD τ sig (Elt F) Λ₀ .tc) PUnit → Prog (TpuEff nD τ sig (Elt F) Λ₀ .tc) PUnit)
    (Pre Post : α → sProp 𝕄) (C : List α → sProp 𝕄) (k : Prog (TpuEff nD τ sig (Elt F) Λ₀ .tc) PUnit) (Q : PUnit → sProp 𝕄) (L : List α)
    (step : ∀ a ∈ L, ∀ tl k Q, iprop(Pre a ∗ C (a :: tl)) ⊢ iprop(((Post a ∗ C tl) -∗ wpT c k Q) -∗ wpT c (f a k) Q)) :
    iprop(bigSepL L Pre ∗ C L) ⊢ iprop(((bigSepL L Post ∗ C []) -∗ wpT c k Q) -∗ wpT c (forL L f k) Q) := by
  induction L with
  | nil =>
    iintro ⟨Hp, HC⟩ Hk
    iapply Hk
    isplitl [Hp]; · iexact Hp
    iexact HC
  | cons a L ih =>
    rw [bigSepL_cons', bigSepL_cons']
    iintro ⟨⟨Ha, HL⟩, HC⟩ Hk
    iapply (step a List.mem_cons_self L (forL L f k) Q) $$ [Ha HC]
    · isplitl [Ha]; · iexact Ha
      iexact HC
    iintro ⟨Ha, HC⟩
    iapply (ih fun b hb => step b (List.mem_cons_of_mem _ hb)) $$ [HL HC]
    · isplitl [HL]; · iexact HL
      iexact HC
    iintro ⟨HL, HC⟩
    iapply Hk
    isplitl [Ha HL]
    · isplitl [Ha]; · iexact Ha
      iexact HL
    iexact HC

/-- The same over the slots, in an order that names each once. -/
theorem wp_slots (c : Dev nD) (f : Fin 32 → Prog (TpuEff nD τ sig (Elt F) Λ₀ .tc) PUnit → Prog (TpuEff nD τ sig (Elt F) Λ₀ .tc) PUnit)
    (Pre Post : Fin 32 → sProp 𝕄) (C : List (Fin 32) → sProp 𝕄) (k : Prog (TpuEff nD τ sig (Elt F) Λ₀ .tc) PUnit) (Q : PUnit → sProp 𝕄)
    (ord : List (Fin 32)) (hn : ord.Nodup) (ho : ord.toFinset = slots)
    (step : ∀ s, s ≠ 0 → ∀ tl k Q, iprop(Pre s ∗ C (s :: tl)) ⊢ iprop(((Post s ∗ C tl) -∗ wpT c k Q) -∗ wpT c (f s k) Q)) :
    iprop(bigSep slots Pre ∗ C ord) ⊢ iprop(((bigSep slots Post ∗ C []) -∗ wpT c k Q) -∗ wpT c (forL ord f k) Q) := by
  have e : ∀ Φ : Fin 32 → sProp 𝕄, bigSep slots Φ = bigSepL ord Φ :=
    bigSep_eq_bigSepL_of_eq ord ho.symm hn
  rw [e, e]
  exact wp_forL c f Pre Post C k Q ord fun s hs => step s (mem_slots.mp (ho ▸ List.mem_toFinset.mpr hs))

theorem forL_map {α β : Type} (g : α → β) (L : List α) (f : β → Prog (TpuEff nD τ sig (Elt F) Λ₀ .tc) PUnit → Prog (TpuEff nD τ sig (Elt F) Λ₀ .tc) PUnit)
    (k : Prog (TpuEff nD τ sig (Elt F) Λ₀ .tc) PUnit) : forL (L.map g) f k = forL L (fun a => f (g a)) k := List.foldr_map ..

/-! ### The records every device may look up -/

variable (I : Inp F) (K : Dev nD × Cx → ℕ)

/-- The levels of all cells, as the device that waits consults them. -/
def Lev : sProp 𝕄 := levAts L lv

instance Lev_persistent : BI.Persistent (Lev (F := F)) := by unfold Lev; infer_instance

def recs : sProp 𝕄 :=
  iprop((bigSep Finset.univ fun ck : Dev nD × Cx => cellInv ER (Rd I) (K ck) (kcell ck))
    ∗ (bigSep Finset.univ fun ck : Dev nD × Cx => reached ER (kcell ck) 0) ∗ Lev (F := F))

instance recs_persistent : BI.Persistent (recs I K) := by unfold recs; infer_instance

theorem inv_at' (ck : Dev nD × Cx) :
    (bigSep Finset.univ fun ck : Dev nD × Cx => (cellInv ER (Rd I) (K ck) (kcell ck) : sProp 𝕄)) ⊢ cellInv ER (Rd I) (K ck) (kcell ck) :=
  bigSep_elim (Finset.mem_univ ck)

theorem reached_at' (ck : Dev nD × Cx) :
    (bigSep Finset.univ fun ck : Dev nD × Cx => (reached ER (kcell ck) 0 : sProp 𝕄)) ⊢ reached ER (kcell ck) 0 :=
  bigSep_elim (Finset.mem_univ ck)

theorem inv_at (ck : Dev nD × Cx) : recs I K ⊢ cellInv ER (Rd I) (K ck) (kcell ck) := by
  unfold recs
  iintro ⟨#H, -⟩
  iapply (inv_at' I K ck); iexact H

theorem reached_at (ck : Dev nD × Cx) : recs I K ⊢ reached ER (kcell ck) 0 := by
  unfold recs
  iintro ⟨-, #H, -⟩
  iapply (reached_at' ck); iexact H

/-- Between two operations device `c` owes the credits `es`. -/
def Owes (c : Dev nD) (es : Owed) : sProp 𝕄 := iprop(recs I K ∗ ∃ W, owes (c : Thread nD τ) (tot es) W)

/-! ### One operation -/

section Step
variable (c : Dev nD) {s : Fin 32} (hs : s ≠ 0) (es : Owed) (k : Prog (TpuEff nD τ sig (Elt F) Λ₀ .tc) PUnit)
  (Q : PUnit.{1} → sProp (MT nD τ sig ℕ (Elt F) ℕ UU ℕ))

include hs

/-- An entry signal: it hands the peer the leave to write its block here. -/
theorem step_signal :
    iprop((dutyTok ER (barC (up c s)) 0 s ∗ xLeave 0 c (partner s)) ∗ Owes I K c ((barC (up c s), 0, 1) :: es))
      ⊢ iprop((Owes I K c es -∗ wpT c k Q) -∗ wpT c (semSignalWord (up c s) barSem 1#32 >>= fun _ => k) Q) := by
  simp only [semSignalWord, Prog.lift, Prog.bind_op, Prog.bind_ret]
  unfold Owes
  iintro ⟨⟨Ht, Hx⟩, #HR, ⟨%W, HO⟩⟩ Hk
  iapply (Rounds.wp_signal 𝒱₀ ER (Rd I) (c : Thread nD τ) none (dst := (up c s : Thread nD τ)) (κ := K (up c s, none))
      (r := 0) (d := s) (by rw [duties_bar]; exact mem_slots.mpr hs) ((amount_bar I (up c s) 0 s).trans (by decide)) 0 (tot es) rfl) $$ [Ht Hx HO]
  · isplitr; · iapply (inv_at I K (up c s, none)); iexact HR
    isplitl [HO]; · iexact HO
    isplitl [Ht]; · iexact Ht
    isplitl [Hx]; · rw [pay_bar, dn_up]; iexact Hx
    iapply (reached_at I K (up c s, none)); iexact HR
  iintro HO
  iapply Hk
  isplitr; · iexact HR
  iexists W; iexact HO

/-- A send of the staged block into a peer's gathered rows, in round `l`. -/
theorem step_gather {l : ℕ} (hl : l < 4) {b : Fin 32} (hb : b = xblk l (up c s) s) {h₁ h₂ h₃} :
    iprop((stP c (shr s) (X I l c) ∗ (xLeave l (up c s) s ∗ reached ER (agR (up c s) s) l) ∗ bLeave l c (partner s)
        ∗ dutyTok ER (agS c s) l 0 ∗ reached ER (agS c s) l ∗ dutyTok ER (agR (up c s) s) l 0) ∗ Owes I K c ((agR (up c s) s, l, N) :: es))
      ⊢ iprop(((cred (tallyAt (agS c s) l N) ∗ Owes I K c es) -∗ wpT c k Q) -∗ wpT c (.op (.enqueueDma stM
          (.remote (Dev.tc (up c s)) (rows xfM b) (.dma (at32 cc0_scratch4 s))) (.dma (at32 cc0_scratch5 s)) h₁ h₂ h₃) fun _ => k) Q) := by
  subst hb
  unfold Owes xLeave
  iintro ⟨⟨Hst, ⟨⟨%f, Hx⟩, #Hr⟩, Hb, HtS, #HrS, HtR⟩, #HR, ⟨%W, HO⟩⟩ Hk
  unfold stP xsP
  iapply (Rounds.wp_send_pointsTo_with 𝒱₀ ER (Rd I) (c : Thread nD τ) none (κ₁ := K (c, some (0, s))) (κ₂ := K (up c s, some (1, s)))
      (c' := (up c s : Thread nD τ)) (src := stM) (dst := rows xfM (xblk l (up c s) s)) (sS := .dma (at32 cc0_scratch4 s)) (sem := .dma (at32 cc0_scratch5 s))
      (hsc := rfl) (hsrc := h₁) (hdst := h₂) (hsem := h₃) (defs := defs₀ (F := F)) (Es := Set.univ) (k := fun _ => k) (Q := Q) (q := shr s) (fs := X I l c)
      (r₁ := l) (r₂ := l) (d₁ := 0) (d₂ := 0) (fd := f) (F := bLeave l c (partner s))
      (by rw [duties_agS I c hs hl]; exact Finset.mem_singleton_self _) (by rw [duties_agR I (up c s) hs hl]; exact Finset.mem_singleton_self _)
      l l N (credit_rows_xf _) (amount_agS I c l 0) (amount_agR I (up c s) l 0) (O₀ := tot ((agR (up c s) s, l, N) :: es)) (tot es) rfl (W := W)
      (by rw [pay_agS]; exact BI.Entails.refl _)
      (by
        rw [pay_agR, dn_up]
        refine sep_mono_left ?_
        unfold xsP
        refine Entails.of_eq (pointsTo_congr ?_)
        have h := gather_agree I l (up c s) (xblk l (up c s) s) f
        rw [owner_xblk, dn_up] at h
        exact h)) $$ [Hst Hx Hb HtS HtR HO]
  · isplitr; · iapply (inv_at I K (c, some (0, s))); iexact HR
    isplitr; · iapply (inv_at I K (up c s, some (1, s))); iexact HR
    isplitl [Hst]; · iexact Hst
    isplitl [Hx Hb]
    · isplitl [Hx]; · iexact Hx
      iexact Hb
    isplitl [HO]; · iexact HO
    isplitl [HtS]; · iexact HtS
    isplitr; · iexact HrS
    isplitl [HtR]; · iexact HtR
    iexact Hr
  iintro ⟨Hc, HO⟩
  iapply Hk
  isplitl [Hc]; · iexact Hc
  isplitr; · iexact HR
  iexists W; iexact HO

/-- A send of a peer's share of the partial product, in round `l`: with it goes the leave for the peer's next block. -/
theorem step_scatter {l : ℕ} (hl : l < 3) {h₁ h₂ h₃} :
    iprop((ptP c s (PB I l c) ∗ ((∃ f, rbP (dn c s) (partner s) f) ∗ reached ER (rsR (dn c s) (partner s)) l)
        ∗ (xLeave (l + 1) c s ∗ reached ER (agR c s) (l + 1))
        ∗ dutyTok ER (rsS c (partner s)) l 0 ∗ reached ER (rsS c (partner s)) l ∗ dutyTok ER (rsR (dn c s) (partner s)) l 0)
        ∗ Owes I K c ((rsR (dn c s) (partner s), l, N) :: es))
      ⊢ iprop(((cred (tallyAt (rsS c (partner s)) l N) ∗ Owes I K c es) -∗ wpT c k Q) -∗ wpT c (.op (.enqueueDma (rows ptM s)
          (.remote (Dev.tc (dn c s)) (buf rbM (partner s)) (.dma (at32 cc0_scratch6 (partner s)))) (.dma (at32 cc0_scratch7 (partner s))) h₁ h₂ h₃)
            fun _ => k) Q) := by
  have hp := partner_ne_zero s hs
  have hd : dn (dn c s) (partner s) = c := by rw [dn_partner, up_dn]
  unfold Owes
  iintro ⟨⟨Hpt, ⟨⟨%f, Hb⟩, #Hr⟩, Hx, HtS, #HrS, HtR⟩, #HR, ⟨%W, HO⟩⟩ Hk
  unfold ptP rbP
  iapply (Rounds.wp_send_pointsTo_with 𝒱₀ ER (Rd I) (c : Thread nD τ) none (κ₁ := K (c, some (2, partner s))) (κ₂ := K (dn c s, some (3, partner s)))
      (c' := (dn c s : Thread nD τ)) (src := rows ptM s) (dst := buf rbM (partner s)) (sS := .dma (at32 cc0_scratch6 (partner s))) (sem := .dma (at32 cc0_scratch7 (partner s)))
      (hsc := rfl) (hsrc := h₁) (hdst := h₂) (hsem := h₃) (defs := defs₀ (F := F)) (Es := Set.univ) (k := fun _ => k) (Q := Q) (q := fullShare) (fs := PB I l c)
      (r₁ := l) (r₂ := l) (d₁ := 0) (d₂ := 0) (fd := f) (F := iprop(xLeave (l + 1) c s ∗ reached ER (agR c s) (l + 1)))
      (by rw [duties_rsS I c hp hl]; exact Finset.mem_singleton_self _) (by rw [duties_rsR I (dn c s) hp hl]; exact Finset.mem_singleton_self _)
      l l N (credit_buf _) (amount_rsS I c l 0) (amount_rsR I (dn c s) l 0) (O₀ := tot ((rsR (dn c s) (partner s), l, N) :: es)) (tot es) rfl (W := W)
      (by rw [pay_rsS, partner_partner]; exact BI.Entails.refl _)
      (by
        rw [pay_rsR, hd, partner_partner]
        refine sep_mono_left ?_
        unfold rbP
        refine Entails.of_eq (pointsTo_congr ?_)
        have h := scatter_agree I l (dn c s) (partner s) f
        rw [hd, partner_partner] at h
        exact h)) $$ [Hpt Hb Hx HtS HtR HO]
  · isplitr; · iapply (inv_at I K (c, some (2, partner s))); iexact HR
    isplitr; · iapply (inv_at I K (dn c s, some (3, partner s))); iexact HR
    isplitl [Hpt]; · iexact Hpt
    isplitl [Hb Hx]
    · isplitl [Hb]; · iexact Hb
      iexact Hx
    isplitl [HO]; · iexact HO
    isplitl [HtS]; · iexact HtS
    isplitr; · iexact HrS
    isplitl [HtR]; · iexact HtR
    iexact Hr
  iintro ⟨Hc, HO⟩
  iapply Hk
  isplitl [Hc]; · iexact Hc
  isplitr; · iexact HR
  iexists W; iexact HO

omit hs in
/-- A wait for one copy's credit on a DMA cell, at the head of round `l`. -/
theorem step_wait {sem : DmaSem sig} {l : ℕ} (ck : Cx) (hck : csem ck = .dma sem) (hι : l < 4)
    (hd : (Rd (F := F) I).duties ((c : Thread nD τ), .dma sem) l = {0}) (ha : (Rd (F := F) I).amount ((c : Thread nD τ), .dma sem) l 0 = N)
    (hA : Above (lv ((c : Thread nD τ), .dma sem) l) es)
    {κ : Kind} {sp sp' : Space} {sh sh' : Shape} {e e' : EltTy} {src : Memref sig Kind.tc sp' sh' e'} {dst : Memref sig κ sp sh e} {h₁ h₂}
    (hN : dst.view.dmaCredit = N) :
    iprop((cred (tallyAt ((c : Thread nD τ), .dma sem) l N) ∗ atPos ER ((c : Thread nD τ), .dma sem) l ∅ 0) ∗ Owes I K c es)
      ⊢ iprop((((atPos ER ((c : Thread nD τ), .dma sem) (l + 1) ∅ 0 ∗ reached ER ((c : Thread nD τ), .dma sem) (l + 1)
            ∗ (Rd (F := F) I).payload ((c : Thread nD τ), .dma sem) l 0) ∗ Owes I K c es) -∗ wpT c k Q)
          -∗ wpT c (.op (.waitDma2 sem src dst h₁ h₂) fun _ => k) Q) := by
  have hlv : Lev (F := F) ⊢ MayWait (c : Thread nD τ) (.dma sem) l (tot es) := mayWait c (.dma sem) hι hA
  have hmw : recs I K ⊢ MayWait (c : Thread nD τ) (.dma sem) l (tot es) := by
    unfold recs
    iintro ⟨-, -, #H⟩
    iapply hlv; iexact H
  unfold Owes
  iintro ⟨⟨Hc, Hat⟩, #HR, ⟨%W, HO⟩⟩ Hk
  iapply (Rounds.wp_wait_rest_token 𝒱₀ ER (Rd I) (c : Thread nD τ) none (κ := K (c, ck))
      (wpE_waitDma2_eq 𝒱₀ (c : Thread nD τ) none Set.univ) (Set.mem_univ _) l (O := tot es) (W := W) (R := l) (m := 0) (T := ∅)
      ((congrArg (0 + ·) hN).trans (expect_one I hd ha))) $$ [Hc Hat HO]
  · isplitr
    · have h := inv_at I K (c, ck)
      unfold kcell at h
      dsimp only at h
      rw [hck] at h
      iapply h; iexact HR
    isplitl [Hc]; · ihave H := (Entails.of_eq (show _ = (cred (tallyAt ((c : Thread nD τ), .dma sem) l dst.view.dmaCredit) : sProp 𝕄) by rw [hN])) $$ Hc; iexact H
    isplitl [HO]; · iexact HO
    isplitr; · iapply hmw; iexact HR
    iexact Hat
  iintro ⟨HO, Hat, Hr, Hp⟩
  ihave Hp := (Entails.of_eq (rest_one I hd)) $$ Hp
  iapply Hk
  isplitl [Hat Hr Hp]
  · isplitl [Hat]; · iexact Hat
    isplitl [Hr]; · iexact Hr
    iexact Hp
  isplitr; · iexact HR
  iexists _; iexact HO

end Step

end Cert.KernelIdeal.Tp

end
-- ==== Proof.Bufs.lean ====
module

public import proofs.«01_k».proof.Proof.Steps

/-! The scratch buffers as wholes and as slots, and the loads and stores on them. -/

@[expose] public section

noncomputable section

namespace Cert.KernelIdeal.Tp

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ### All slots but the first, taken together -/

def xtP (c : Dev nD) (f : Vec F S4096x128 .bf16) : sProp 𝕄 := xfM.view.loc (c : Thread nD τ) ↦[tailRect.set]{fullShare} f
def ptT (c : Dev nD) (f : Vec F S4096x128 .bf16) : sProp 𝕄 := ptM.view.loc (c : Thread nD τ) ↦[tailRect.set]{fullShare} f
def rbT (c : Dev nD) (f : Vec F S32x128x128 .bf16) : sProp 𝕄 := rbM.view.loc (c : Thread nD τ) ↦[tailBuf.set]{fullShare} f

theorem xsP_eq (c : Dev nD) (i : Fin 32) (f : Vec F S4096x128 .bf16) :
    xsP c i f = (xfM.view.loc (c : Thread nD τ) ↦[(rowRect i).set]{fullShare} f : sProp 𝕄) := by unfold xsP; rw [xf_set]; rfl
theorem ptP_eq (c : Dev nD) (i : Fin 32) (f : Vec F S4096x128 .bf16) :
    ptP c i f = (ptM.view.loc (c : Thread nD τ) ↦[(rowRect i).set]{fullShare} f : sProp 𝕄) := by unfold ptP; rw [pt_set]; rfl
theorem rbP_eq (c : Dev nD) (i : Fin 32) (f : Vec F S32x128x128 .bf16) :
    rbP c i f = (rbM.view.loc (c : Thread nD τ) ↦[(bufRect i).set]{fullShare} f : sProp 𝕄) := by unfold rbP; rw [rb_set]; rfl

theorem xs_join (c : Dev nD) (f : Vec F S4096x128 .bf16) : bigSep slots (fun i => (xsP c i f : sProp 𝕄)) = xtP c f := by
  unfold xtP; rw [← rows_tail]
  exact (bigSep_congr fun i _ => xsP_eq c i f).trans (pointsTo_biUnion slots _ fun t _ t' _ h => row_disjoint h).symm
theorem pt_join (c : Dev nD) (f : Vec F S4096x128 .bf16) : bigSep slots (fun i => (ptP c i f : sProp 𝕄)) = ptT c f := by
  unfold ptT; rw [← rows_tail]
  exact (bigSep_congr fun i _ => ptP_eq c i f).trans (pointsTo_biUnion slots _ fun t _ t' _ h => row_disjoint h).symm
theorem rb_join (c : Dev nD) (f : Vec F S32x128x128 .bf16) : bigSep slots (fun i => (rbP c i f : sProp 𝕄)) = rbT c f := by
  unfold rbT; rw [← bufs_tail]
  exact (bigSep_congr fun i _ => rbP_eq c i f).trans (pointsTo_biUnion slots _ fun t _ t' _ h => buf_disjoint h).symm

/-- All slots are the buffer. -/
theorem xs_whole (c : Dev nD) (f : Vec F S4096x128 .bf16) :
    bigSep Finset.univ (fun i => (xsP c i f : sProp 𝕄)) = (xfM.view.loc (c : Thread nD τ) ↦[Finset.univ]{fullShare} f) := by
  rw [show (Finset.univ : Finset (Idx (xfM.view.loc (c : Thread nD τ)))) = _ from rows_univ.symm]
  exact (bigSep_congr fun i _ => xsP_eq c i f).trans (pointsTo_biUnion Finset.univ _ fun t _ t' _ h => row_disjoint h).symm
theorem pt_whole (c : Dev nD) (f : Vec F S4096x128 .bf16) :
    bigSep Finset.univ (fun i => (ptP c i f : sProp 𝕄)) = (ptM.view.loc (c : Thread nD τ) ↦[Finset.univ]{fullShare} f) := by
  rw [show (Finset.univ : Finset (Idx (ptM.view.loc (c : Thread nD τ)))) = _ from rows_univ.symm]
  exact (bigSep_congr fun i _ => ptP_eq c i f).trans (pointsTo_biUnion Finset.univ _ fun t _ t' _ h => row_disjoint h).symm
theorem rb_whole (c : Dev nD) (f : Vec F S32x128x128 .bf16) :
    bigSep Finset.univ (fun i => (rbP c i f : sProp 𝕄)) = (rbM.view.loc (c : Thread nD τ) ↦[Finset.univ]{fullShare} f) := by
  rw [show (Finset.univ : Finset (Idx (rbM.view.loc (c : Thread nD τ)))) = _ from bufs_univ.symm]
  exact (bigSep_congr fun i _ => rbP_eq c i f).trans (pointsTo_biUnion Finset.univ _ fun t _ t' _ h => buf_disjoint h).symm

/-- Slots with whatever each holds are the buffer with something in it. -/
theorem pt_whole_any (c : Dev nD) : bigSep Finset.univ (fun i => (iprop(∃ f, ptP c i f) : sProp 𝕄))
    ⊢ iprop(∃ f : Vec F S4096x128 .bf16, ptM.view.loc (c : Thread nD τ) ↦[Finset.univ]{fullShare} f) := by
  haveI : Nonempty (Vec F S4096x128 .bf16) := ⟨fun _ => FloatOps.ofBits .bf16 0⟩
  refine (bigSep_exists_pi (Y := fun _ => _) _ _).trans ?_
  iintro ⟨%y, H⟩
  ihave H := (Entails.of_eq (bigSep_congr fun i _ => ptP_eq c i (y i))) $$ H
  ihave H := (pointsTo_biUnion_join Finset.univ _ y (y 0) fun t _ t' _ h => row_disjoint h) $$ H
  icases H with ⟨%g, -, H⟩
  iexists g
  ihave H := (Entails.of_eq (congrArg (fun S => (ptM.view.loc (c : Thread nD τ) ↦[S]{fullShare} g : sProp 𝕄)) rows_univ)) $$ H
  iexact H
theorem rb_whole_any (c : Dev nD) : bigSep Finset.univ (fun i => (iprop(∃ f, rbP c i f) : sProp 𝕄))
    ⊢ iprop(∃ f : Vec F S32x128x128 .bf16, rbM.view.loc (c : Thread nD τ) ↦[Finset.univ]{fullShare} f) := by
  haveI : Nonempty (Vec F S32x128x128 .bf16) := ⟨fun _ => FloatOps.ofBits .bf16 0⟩
  refine (bigSep_exists_pi (Y := fun _ => _) _ _).trans ?_
  iintro ⟨%y, H⟩
  ihave H := (Entails.of_eq (bigSep_congr fun i _ => rbP_eq c i (y i))) $$ H
  ihave H := (pointsTo_biUnion_join Finset.univ _ y (y 0) fun t _ t' _ h => buf_disjoint h) $$ H
  icases H with ⟨%g, -, H⟩
  iexists g
  ihave H := (Entails.of_eq (congrArg (fun S => (rbM.view.loc (c : Thread nD τ) ↦[S]{fullShare} g : sProp 𝕄)) bufs_univ)) $$ H
  iexact H

/-- The staged block at one share per slot. -/
theorem st_deal (c : Dev nD) (f : Vec F S128x128 .bf16) :
    (stP c fullShare f : sProp 𝕄) = iprop(stP c (shr 0) f ∗ bigSep slots fun s => stP c (shr s) f) := by
  unfold stP shr slots
  rw [Transfers.pointsTo_deal (Finset.univ : Finset (Fin 32)) ⟨0, Finset.mem_univ _⟩ fullShare, bigSep_erase (Finset.mem_univ (0 : Fin 32))]
  rfl

/-! ### Loads and stores -/

section Mem
variable (c : Dev nD)

theorem zz : (![0, 0] : Fin 2 → Nat) = fun _ => 0 := by decide

/-- A load of `r` of `m` reads `v` while `P` is held. -/
def Loads {s : Shape} {e : EltTy} (m : Memref sig .tc .vmem s e) (r : LoadRect s) (P : sProp (MT nD τ sig ℕ (Elt F) ℕ UU ℕ)) (v : r.shape.Idx → Elt F e) : Prop :=
  ∀ (h : m.view.LoadsAt r) (k : (r.shape.Idx → Elt F e) → Prog (TpuEff nD τ sig (Elt F) Λ₀ .tc) PUnit)
    (Q : PUnit.{1} → sProp (MT nD τ sig ℕ (Elt F) ℕ UU ℕ)),
    P ⊢ iprop((P -∗ wpT c (k v) Q) -∗ wpT c (.op (.load m r h) k) Q)

theorem loads_of {s : Shape} {e : EltTy} {m : Memref sig .tc .vmem s e} {r : LoadRect s} {S : Finset (Idx (m.view.loc (c : Thread nD τ)))}
    {q : PosShare TreeShare} {f : Buf (Elt F) (m.view.loc (c : Thread nD τ))} {v : r.shape.Idx → Elt F e}
    (hS : m.view.setOn r.set ⊆ S) (hv : m.view.readAt (Elt F) r f = v) : Loads c m r (m.view.loc (c : Thread nD τ) ↦[S]{q} f) v := by
  subst hv
  exact fun _ _ _ => wp_load 𝒱₀ (c : Thread nD τ) none Set.univ (m := m) hS

/-- A store that makes `P` of a buffer's part. -/
theorem stores_of {s : Shape} {e : EltTy} {m : Memref sig .tc .vmem s e} {r : Rect s} {w : r.shape.Idx → Elt F e} {Mk : Finset r.shape.Idx}
    {hx : (m.access r).Stores Mk} {hm : Mk = Finset.univ ∨ ∀ a, r.stride a = 1} {k : PUnit → Prog (TpuEff nD τ sig (Elt F) Λ₀ .tc) PUnit}
    {Q : PUnit.{1} → sProp (MT nD τ sig ℕ (Elt F) ℕ UU ℕ)} {S : Finset (Idx ((m.access r).loc (c : Thread nD τ)))} {f : Buf (Elt F) ((m.access r).loc (c : Thread nD τ))}
    {P : sProp (MT nD τ sig ℕ (Elt F) ℕ UU ℕ)} (hS : (m.access r).setOn Mk ⊆ S)
    (hP : ((m.access r).loc (c : Thread nD τ) ↦[S]{fullShare} ((m.access r).write (Elt F) f w Mk) : sProp 𝕄) = P) :
    ((m.access r).loc (c : Thread nD τ) ↦[S]{fullShare} f) ⊢ iprop((P -∗ wpT c (k ⟨⟩) Q) -∗ wpT c (.op (.store m r w Mk hx hm) k) Q) := by
  subst hP
  exact wp_store 𝒱₀ (c : Thread nD τ) none Set.univ (m := m) (r := r) hS

theorem whole_setOn {b : Ref sig .tc} (S : Finset b.ty.shape.Idx) : (Memref.whole b).view.setOn S ⊆ S := fun i hi => by
  obtain ⟨x, hx, rfl⟩ := Finset.mem_map.mp hi; exact hx

theorem load_xt (f : Vec F S4096x128 .bf16) : Loads c xfM tailRect.toLoadRect (xtP c f) (tailOf f) :=
  loads_of c (whole_setOn (b := cc0_scratch0) _) rfl

theorem load_pt (f : Vec F S4096x128 .bf16) : Loads c ptM tailRect.toLoadRect (ptT c f) (ptM.view.readAt (Elt F) tailRect.toLoadRect f) :=
  loads_of c (whole_setOn (b := cc0_scratch1) _) rfl

theorem load_rb (f : Vec F S32x128x128 .bf16) : Loads c rbM tailBuf.toLoadRect (rbT c f) (tailSlots f) :=
  loads_of c (whole_setOn (b := cc0_scratch2) _) rfl

abbrev stRect : Rect S128x128 := Rect.unit (s := S128x128) ![0, 0] S128x128.size inb_S128x128_S128x128_0_0

theorem st_sub (S : Finset S128x128.Idx) : S ⊆ stM.view.set := fun i _ => by
  rw [show stM.view.set = Finset.univ from View.set_whole _]; exact Finset.mem_univ _

theorem load_st (q : PosShare TreeShare) (f : Vec F S128x128 .bf16) : Loads c stM stRect.toLoadRect (stP c q f) f :=
  loads_of c (st_sub _) (Memref.readAt_unit_zero (Elt F) cc0_scratch3 zz _ f)

theorem store_st (f v : Vec F S128x128 .bf16) {hx hm} (k : Prog (TpuEff nD τ sig (Elt F) Λ₀ .tc) PUnit)
    (Q : PUnit.{1} → sProp (MT nD τ sig ℕ (Elt F) ℕ UU ℕ)) :
    (stP c fullShare f) ⊢ iprop((stP c fullShare v -∗ wpT c k Q) -∗ wpT c (.op (.store stM stRect v Finset.univ hx hm) fun _ => k) Q) :=
  stores_of (Q := Q) (k := fun _ => k) (hx := hx) (hm := hm) c (m := stM) (r := stRect) (st_sub _)
    (congrArg (fun f => stP c fullShare f) (Memref.write_access_unit_zero_univ (Elt F) cc0_scratch3 zz _ f v))

theorem store_pt (f g : Vec F S4096x128 .bf16) (w₁ : Vec F S128x256 .bf16) (w₂ : Vec F S256x128 .bf16) {hx hm} (k : Prog (TpuEff nD τ sig (Elt F) Λ₀ .tc) PUnit)
    (Q : PUnit.{1} → sProp (MT nD τ sig ℕ (Elt F) ℕ UU ℕ)) :
    (ptT c f) ⊢ iprop((ptT c (part w₁ w₂ g) -∗ wpT c k Q)
      -∗ wpT c (.op (.store ptM tailRect (fpart w₁ w₂ (tailOf g)) Finset.univ hx hm) fun _ => k) Q) := by
  have hS : (ptM.access tailRect).set = tailRect.set := View.set_slice_whole cc0_scratch1 tailRect
  exact stores_of (Q := Q) (k := fun _ => k) (hx := hx) (hm := hm) c (m := ptM) (r := tailRect) (le_of_eq hS) (pointsTo_congr fun i hi => part_agree w₁ w₂ g f i (hS ▸ hi))

end Mem

end Cert.KernelIdeal.Tp

end
-- ==== Proof.Layer.lean ====
module

public import proofs.«01_k».proof.Proof.Bufs

/-! One layer: the loops of its exchanges, and what a device holds before and after it. -/

@[expose] public section

noncomputable section

namespace Cert.KernelIdeal.Tp

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### What a device holds, one family per slot -/

/-- The cell stands at the head of round `l`. -/
def At (g : GSem nD τ sig) (l : ℕ) : sProp 𝕄 := iprop(atPos ER g l ∅ 0 ∗ reached ER g l)

/-- The leave to write one's block on the peer of slot `s`, which is ready for it. -/
def xOk (l : ℕ) (c : Dev nD) (s : Fin 32) : sProp 𝕄 := iprop(xLeave l (up c s) s ∗ reached ER (agR (up c s) s) l)

/-- The leave to write one's share on the peer of slot `s`, which is ready for it. -/
def bOk (l : ℕ) (c : Dev nD) (s : Fin 32) : sProp 𝕄 := iprop((∃ f, rbP (dn c s) (partner s) f) ∗ reached ER (rsR (dn c s) (partner s)) l)

theorem bOk_eq {l : ℕ} (hl : l < 3) (c : Dev nD) (s : Fin 32) : (bLeave l (dn c s) (partner s) : sProp 𝕄) = bOk l c s := by
  unfold bLeave bOk; exact if_pos hl

theorem bLeave_low {l : ℕ} (hl : l < 3) (c : Dev nD) (s : Fin 32) :
    (bLeave l c s : sProp 𝕄) = iprop((∃ f, rbP c s f) ∗ reached ER (rsR c s) l) := by unfold bLeave; exact if_pos hl

theorem at_dup1 (g : GSem nD τ sig) (l : ℕ) : (At g l : sProp 𝕄) ⊢ iprop(At g l ∗ reached ER g l) := by
  unfold At
  iintro ⟨H, #Hr⟩
  isplitl
  · isplitl; · iexact H
    iexact Hr
  iexact Hr

theorem at_dup (g : Fin 32 → GSem nD τ sig) (l : ℕ) :
    bigSep slots (fun s => (At (g s) l : sProp 𝕄)) ⊢ iprop(bigSep slots (fun s => (At (g s) l : sProp 𝕄)) ∗ bigSep slots fun s => reached ER (g s) l) := by
  rw [← bigSep_sep']
  exact bigSep_mono fun s _ => at_dup1 (g s) l

variable (I : Inp F) (K : Dev nD × Cx → ℕ)

/-! ### The waits -/

section Wait
variable (c : Dev nD) {s : Fin 32} (hs : s ≠ 0) (es : Owed) (k : Prog (TpuEff nD τ sig (Elt F) Λ₀ .tc) PUnit)
  (Q : PUnit.{1} → sProp (MT nD τ sig ℕ (Elt F) ℕ UU ℕ)) {l : ℕ}

theorem wait_cell {sem : DmaSem sig} (ck : Cx) (hck : csem ck = .dma sem) (hι : l < 4)
    (hd : (Rd (F := F) I).duties ((c : Thread nD τ), .dma sem) l = {0}) (ha : (Rd (F := F) I).amount ((c : Thread nD τ), .dma sem) l 0 = N)
    {P : sProp (MT nD τ sig ℕ (Elt F) ℕ UU ℕ)} (hp : (Rd (F := F) I).payload ((c : Thread nD τ), .dma sem) l 0 = P)
    (hA : Above (lv ((c : Thread nD τ), .dma sem) l) es)
    {κ : Kind} {sp sp' : Space} {sh sh' : Shape} {e e' : EltTy} {src : Memref sig Kind.tc sp' sh' e'} {dst : Memref sig κ sp sh e} {h₁ h₂}
    (hN : dst.view.dmaCredit = N) :
    iprop((cred (tallyAt ((c : Thread nD τ), .dma sem) l N) ∗ At ((c : Thread nD τ), .dma sem) l) ∗ Owes I K c es)
      ⊢ iprop((((At ((c : Thread nD τ), .dma sem) (l + 1) ∗ P) ∗ Owes I K c es) -∗ wpT c k Q)
          -∗ wpT c (.op (.waitDma2 sem src dst h₁ h₂) fun _ => k) Q) := by
  subst hp
  unfold At
  iintro ⟨⟨Hc, ⟨Ha, -⟩⟩, HO⟩ Hk
  iapply (step_wait I K c es k Q ck hck hι hd ha hA hN) $$ [Hc Ha HO]
  · isplitl [Hc Ha]
    · isplitl [Hc]; · iexact Hc
      iexact Ha
    iexact HO
  iintro ⟨⟨Ha, Hr, Hp⟩, HO⟩
  iapply Hk
  isplitr [HO]
  · isplitl [Ha Hr]
    · isplitl [Ha]; · iexact Ha
      iexact Hr
    iexact Hp
  iexact HO

variable {κ : Kind} {sp sp' : Space} {sh sh' : Shape} {e e' : EltTy} {src : Memref sig Kind.tc sp' sh' e'} {dst : Memref sig κ sp sh e}

include hs

theorem wait_agS (hl : l < 4) (hA : Above 0 es) (hN : dst.view.dmaCredit = N) {h₁ h₂} :
    iprop((cred (tallyAt (agS c s) l N) ∗ At (agS c s) l) ∗ Owes I K c es)
      ⊢ iprop((((At (agS c s) (l + 1) ∗ stP c (shr s) (X I l c)) ∗ Owes I K c es) -∗ wpT c k Q)
          -∗ wpT c (.op (.waitDma2 (at32 cc0_scratch4 s) src dst h₁ h₂) fun _ => k) Q) :=
  wait_cell I K c es k Q (some (0, s)) rfl hl (duties_agS I c hs hl) (amount_agS I c l 0) (pay_agS I c 0) (by show Above (lv (agS c s) l) es; rw [lv_agS]; exact hA) hN

theorem wait_agR (hl : l < 4) (hA : Above (2 + 2 * l) es) (hN : dst.view.dmaCredit = N) {h₁ h₂} :
    iprop((cred (tallyAt (agR c s) l N) ∗ At (agR c s) l) ∗ Owes I K c es)
      ⊢ iprop((((At (agR c s) (l + 1) ∗ xsP c (xblk l c s) (GX I l c) ∗ bLeave l (dn c s) (partner s)) ∗ Owes I K c es) -∗ wpT c k Q)
          -∗ wpT c (.op (.waitDma2 (at32 cc0_scratch5 s) src dst h₁ h₂) fun _ => k) Q) :=
  wait_cell I K c es k Q (some (1, s)) rfl hl (duties_agR I c hs hl) (amount_agR I c l 0) (pay_agR I c 0) (by show Above (lv (agR c s) l) es; rw [lv_agR]; exact hA) hN

theorem wait_rsS (hl : l < 3) (hA : Above 0 es) (hN : dst.view.dmaCredit = N) {h₁ h₂} :
    iprop((cred (tallyAt (rsS c (partner s)) l N) ∗ At (rsS c (partner s)) l) ∗ Owes I K c es)
      ⊢ iprop((((At (rsS c (partner s)) (l + 1) ∗ ptP c s (PB I l c)) ∗ Owes I K c es) -∗ wpT c k Q)
          -∗ wpT c (.op (.waitDma2 (at32 cc0_scratch6 (partner s)) src dst h₁ h₂) fun _ => k) Q) :=
  wait_cell I K c es k Q (some (2, partner s)) rfl (by omega) (duties_rsS I c (partner_ne_zero s hs) hl) (amount_rsS I c l 0)
    ((pay_rsS I c 0).trans (by rw [partner_partner])) (by show Above (lv (rsS c (partner s)) l) es; rw [lv_rsS]; exact hA) hN

theorem wait_rsR (hl : l < 3) (hA : Above (3 + 2 * l) es) (hN : dst.view.dmaCredit = N) {h₁ h₂} :
    iprop((cred (tallyAt (rsR c (partner s)) l N) ∗ At (rsR c (partner s)) l) ∗ Owes I K c es)
      ⊢ iprop((((At (rsR c (partner s)) (l + 1) ∗ rbP c (partner s) (RB I l c) ∗ xOk (l + 1) c s) ∗ Owes I K c es) -∗ wpT c k Q)
          -∗ wpT c (.op (.waitDma2 (at32 cc0_scratch7 (partner s)) src dst h₁ h₂) fun _ => k) Q) :=
  wait_cell I K c es k Q (some (3, partner s)) rfl (by omega) (duties_rsR I c (partner_ne_zero s hs) hl) (amount_rsR I c l 0)
    ((pay_rsR I c 0).trans (by rw [partner_partner, dn_partner]; rfl)) (by show Above (lv (rsR c (partner s)) l) es; rw [lv_rsR]; exact hA) hN

end Wait

/-! ### The loops -/

section Loops
variable (c : Dev nD) (es : Owed) (k : Prog (TpuEff nD τ sig (Elt F) Λ₀ .tc) PUnit)
  (Q : PUnit.{1} → sProp (MT nD τ sig ℕ (Elt F) ℕ UU ℕ)) {l : ℕ}

abbrev hxf : xfM.IsWhole := Memref.isWhole_whole _
abbrev hpt : ptM.IsWhole := Memref.isWhole_whole _
abbrev hrb : rbM.IsWhole := Memref.isWhole_whole _
abbrev hst : stM.IsWhole := Memref.isWhole_whole _

theorem loop_signal :
    iprop(bigSep slots (fun s => iprop(dutyTok ER (barC (up c s)) 0 s ∗ xLeave 0 c (partner s))) ∗ Owes I K c (sigL c ++ es))
      ⊢ iprop(((bigSep slots (fun _ => iprop(emp)) ∗ Owes I K c es) -∗ wpT c k Q)
        -∗ wpT c (forL (upTab c) (fun e k => semSignalWord e.2 barSem 1#32 >>= fun _ => k) k) Q) := by
  unfold upTab
  rw [forL_map]
  refine wp_slots c _ _ _ (fun tl => Owes I K c (tl.map (fun s => (barC (up c s), 0, 1)) ++ es)) k Q ordK ordK_nodup ordK_slots fun s hs tl k Q => ?_
  iintro ⟨Hp, HO⟩ Hk
  iapply (step_signal I K c hs (tl.map (fun s => (barC (up c s), 0, 1)) ++ es) k Q) $$ [Hp HO]
  · isplitl [Hp]; · iexact Hp
    iexact HO
  iintro HO
  iapply Hk
  isplitr; · iempintro
  iexact HO

theorem loop_gather (hl : l < 4) (hl3 : l < 3) :
    iprop(bigSep slots (fun s => iprop(stP c (shr s) (X I l c) ∗ xOk l c s ∗ bLeave l c (partner s)
        ∗ dutyTok ER (agS c s) l 0 ∗ reached ER (agS c s) l ∗ dutyTok ER (agR (up c s) s) l 0)) ∗ Owes I K c (agL l c ++ es))
      ⊢ iprop(((bigSep slots (fun s => (cred (tallyAt (agS c s) l N) : sProp 𝕄)) ∗ Owes I K c es) -∗ wpT c k Q)
        -∗ wpT c (gatherP stM hst xfM hxf cc0_scratch4 cc0_scratch5 (upTab c) k) Q) := by
  unfold gatherP upTab
  rw [forL_map]
  refine wp_slots c _ _ _ (fun tl => Owes I K c (tl.map (fun s => (agR (up c s) s, l, N)) ++ es)) k Q ordK ordK_nodup ordK_slots fun s hs tl k Q => ?_
  exact step_gather I K c hs (tl.map (fun s => (agR (up c s) s, l, N)) ++ es) k Q hl (by unfold xblk; exact (if_pos hl3).symm)

theorem loop_close :
    iprop(bigSep slots (fun s => iprop(stP c (shr s) (X I 3 c) ∗ xOk 3 c s ∗ bLeave 3 c (partner s)
        ∗ dutyTok ER (agS c s) 3 0 ∗ reached ER (agS c s) 3 ∗ dutyTok ER (agR (up c s) s) 3 0)) ∗ Owes I K c (agL 3 c ++ es))
      ⊢ iprop(((bigSep slots (fun s => (cred (tallyAt (agS c s) 3 N) : sProp 𝕄)) ∗ Owes I K c es) -∗ wpT c k Q)
        -∗ wpT c (closeP stM hst xfM hxf cc0_scratch4 cc0_scratch5 c (upTab c) k) Q) := by
  unfold closeP upTab
  rw [forL_map]
  refine wp_slots c _ _ _ (fun tl => Owes I K c (tl.map (fun s => (agR (up c s) s, 3, N)) ++ es)) k Q ordK ordK_nodup ordK_slots fun s hs tl k Q => ?_
  have e : c = xblk 3 (up c s) s := (dn_up c s).symm
  have := fun h₁ h₂ h₃ => step_gather I K c hs (tl.map (fun s => (agR (up c s) s, 3, N)) ++ es) k Q (l := 3) (by decide) e (h₁ := h₁) (h₂ := h₂) (h₃ := h₃)
  simp only [mine_eq]
  exact this _ _ _

theorem loop_gathered (hl : l < 3) (hA : Above (2 + 2 * l) es) :
    iprop(bigSep slots (fun s => iprop(cred (tallyAt (agR c s) l N) ∗ At (agR c s) l)) ∗ Owes I K c es)
      ⊢ iprop(((bigSep slots (fun s => (iprop(At (agR c s) (l + 1) ∗ xsP c s (GX I l c) ∗ bOk l c s) : sProp 𝕄)) ∗ Owes I K c es) -∗ wpT c k Q)
        -∗ wpT c (gatheredP stM hst xfM hxf cc0_scratch5 k) Q) := by
  unfold gatheredP
  refine wp_slots c _ _ _ (fun _ => Owes I K c es) k Q ordS ordS_nodup ordS_slots fun s hs tl k Q => ?_
  have e : xblk l c s = s := if_pos hl
  have := fun h₁ h₂ => wait_agR I K c hs es k Q (l := l) (by omega) hA (src := stM) (dst := rows xfM s) (credit_rows_xf s) (h₁ := h₁) (h₂ := h₂)
  rw [e, bOk_eq hl] at this
  exact this _ _

theorem loop_scatter (hl : l < 3) :
    iprop(bigSep slots (fun s => iprop(ptP c s (PB I l c) ∗ bOk l c s ∗ (xLeave (l + 1) c s ∗ reached ER (agR c s) (l + 1))
        ∗ dutyTok ER (rsS c (partner s)) l 0 ∗ reached ER (rsS c (partner s)) l ∗ dutyTok ER (rsR (dn c s) (partner s)) l 0)) ∗ Owes I K c (rsL l c ++ es))
      ⊢ iprop(((bigSep slots (fun s => (cred (tallyAt (rsS c (partner s)) l N) : sProp 𝕄)) ∗ Owes I K c es) -∗ wpT c k Q)
        -∗ wpT c (scatterP ptM hpt rbM hrb cc0_scratch6 cc0_scratch7 (dnTab c) k) Q) := by
  unfold scatterP dnTab
  rw [forL_map]
  refine wp_slots c _ _ _ (fun tl => Owes I K c (tl.map (fun s => (rsR (dn c s) (partner s), l, N)) ++ es)) k Q ordS ordS_nodup ordS_slots fun s hs tl k Q => ?_
  exact step_scatter I K c hs (tl.map (fun s => (rsR (dn c s) (partner s), l, N)) ++ es) k Q hl

theorem loop_gatherSent (hl : l < 4) (hA : Above 0 es) :
    iprop(bigSep slots (fun s => iprop(cred (tallyAt (agS c s) l N) ∗ At (agS c s) l)) ∗ Owes I K c es)
      ⊢ iprop(((bigSep slots (fun s => (iprop(At (agS c s) (l + 1) ∗ stP c (shr s) (X I l c)) : sProp 𝕄)) ∗ Owes I K c es) -∗ wpT c k Q)
        -∗ wpT c (gatherSentP stM hst xfM hxf cc0_scratch4 k) Q) := by
  unfold gatherSentP
  refine wp_slots c _ _ _ (fun _ => Owes I K c es) k Q ordK ordK_nodup ordK_slots fun s hs tl k Q => ?_
  exact wait_agS I K c hs es k Q (l := l) hl hA (src := rows xfM s) (dst := stM) rfl

theorem loop_scattered (hl : l < 3) (hA : Above (3 + 2 * l) es) :
    iprop(bigSep slots (fun s => iprop((cred (tallyAt (rsS c (partner s)) l N) ∗ At (rsS c (partner s)) l)
        ∗ (cred (tallyAt (rsR c (partner s)) l N) ∗ At (rsR c (partner s)) l))) ∗ Owes I K c es)
      ⊢ iprop(((bigSep slots (fun s => (iprop((At (rsS c (partner s)) (l + 1) ∗ ptP c s (PB I l c))
          ∗ (At (rsR c (partner s)) (l + 1) ∗ rbP c (partner s) (RB I l c) ∗ xOk (l + 1) c s)) : sProp 𝕄)) ∗ Owes I K c es) -∗ wpT c k Q)
        -∗ wpT c (scatteredP ptM hpt rbM hrb cc0_scratch6 cc0_scratch7 k) Q) := by
  unfold scatteredP
  refine wp_slots c _ _ _ (fun _ => Owes I K c es) k Q ordS ordS_nodup ordS_slots fun s hs tl k Q => ?_
  iintro ⟨⟨H₁, H₂⟩, HO⟩ Hk
  iapply (wait_rsS I K c hs es _ Q hl (hA.mono (by omega)) (src := buf rbM (partner s)) (dst := rows ptM s) (credit_rows_pt s)) $$ [H₁ HO]
  · isplitl [H₁]; · iexact H₁
    iexact HO
  iintro ⟨H₁, HO⟩
  iapply (wait_rsR I K c hs es _ Q hl hA (src := rows ptM s) (dst := buf rbM (partner s)) (credit_buf (partner s))) $$ [H₂ HO]
  · isplitl [H₂]; · iexact H₂
    iexact HO
  iintro ⟨H₂, HO⟩
  iapply Hk
  isplitr [HO]
  · isplitl [H₁]; · iexact H₁
    iexact H₂
  iexact HO

theorem loop_closed (hA : Above 8 es) :
    iprop(bigSep slots (fun s => iprop((cred (tallyAt (agS c s) 3 N) ∗ At (agS c s) 3) ∗ (cred (tallyAt (agR c s) 3 N) ∗ At (agR c s) 3))) ∗ Owes I K c es)
      ⊢ iprop(((bigSep slots (fun s => (iprop((At (agS c s) 4 ∗ stP c (shr s) (X I 3 c))
          ∗ (At (agR c s) 4 ∗ xsP c (dn c s) (GX I 3 c) ∗ bLeave 3 (dn c s) (partner s))) : sProp 𝕄)) ∗ Owes I K c es) -∗ wpT c k Q)
        -∗ wpT c (closedP stM hst xfM hxf cc0_scratch4 cc0_scratch5 c k) Q) := by
  unfold closedP
  simp only [mine_eq]
  refine wp_slots c _ _ _ (fun _ => Owes I K c es) k Q ordK ordK_nodup ordK_slots fun s hs tl k Q => ?_
  iintro ⟨⟨H₁, H₂⟩, HO⟩ Hk
  iapply (wait_agS I K c hs es _ Q (l := 3) (by decide) (hA.mono (by omega)) (src := rows xfM c) (dst := stM) rfl) $$ [H₁ HO]
  · isplitl [H₁]; · iexact H₁
    iexact HO
  iintro ⟨H₁, HO⟩
  iapply (wait_agR I K c hs es _ Q (l := 3) (by decide) hA (src := stM) (dst := rows xfM c) (credit_rows_xf c)) $$ [H₂ HO]
  · isplitl [H₂]; · iexact H₂
    iexact HO
  iintro ⟨H₂, HO⟩
  iapply Hk
  isplitr [HO]
  · isplitl [H₁]; · iexact H₁
    iexact H₂
  iexact HO

end Loops

end Cert.KernelIdeal.Tp

end
-- ==== Proof.Round.lean ====
module

public import proofs.«01_k».proof.Proof.Layer

/-! A whole layer, from what a device holds at its head to what it holds at the next one's. -/

@[expose] public section

noncomputable section

namespace Cert.KernelIdeal.Tp

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### Families over the slots -/

theorem partner_slots (Φ : Fin 32 → sProp (MT nD τ sig ℕ (Elt F) ℕ UU ℕ)) :
    bigSep slots (fun s => Φ (partner s)) = bigSep slots Φ := by
  have h : slots.map ⟨partner, fun a b h => by rw [← partner_partner a, h, partner_partner]⟩ = slots := by decide +kernel
  have := bigSep_map (s := slots) (Φ := Φ) ⟨partner, fun a b h => by rw [← partner_partner a, h, partner_partner]⟩
  rw [h] at this
  exact this.symm

theorem slots_univ (Φ : Fin 32 → sProp (MT nD τ sig ℕ (Elt F) ℕ UU ℕ)) :
    bigSep Finset.univ Φ = iprop(Φ 0 ∗ bigSep slots Φ) := bigSep_erase (Finset.mem_univ 0)

section Zip
variable (A B C D E G : Fin 32 → sProp (MT nD τ sig ℕ (Elt F) ℕ UU ℕ))

theorem zip2 : bigSep slots (fun s => iprop(A s ∗ B s)) = iprop(bigSep slots A ∗ bigSep slots B) := bigSep_sep' ..
theorem zip3 : bigSep slots (fun s => iprop(A s ∗ B s ∗ C s)) = iprop(bigSep slots A ∗ bigSep slots B ∗ bigSep slots C) := by
  rw [zip2, zip2]
theorem zip22 : bigSep slots (fun s => iprop((A s ∗ B s) ∗ (C s ∗ D s)))
    = iprop((bigSep slots A ∗ bigSep slots B) ∗ (bigSep slots C ∗ bigSep slots D)) := by rw [zip2, zip2, zip2]
theorem zip23 : bigSep slots (fun s => iprop((A s ∗ B s) ∗ (C s ∗ D s ∗ E s)))
    = iprop((bigSep slots A ∗ bigSep slots B) ∗ (bigSep slots C ∗ bigSep slots D ∗ bigSep slots E)) := by rw [zip2, zip2, zip3]
theorem zip6 : bigSep slots (fun s => iprop(A s ∗ B s ∗ C s ∗ D s ∗ E s ∗ G s))
    = iprop(bigSep slots A ∗ bigSep slots B ∗ bigSep slots C ∗ bigSep slots D ∗ bigSep slots E ∗ bigSep slots G) := by
  rw [zip3, zip2, zip3]

end Zip

def xblkEquiv (l : ℕ) (c : Dev nD) : Fin 32 ≃ Fin 32 :=
  Equiv.ofBijective (xblk l c) (Finite.injective_iff_bijective.1 fun _ _ h => xblk_inj l c h)

/-- All the leaves of a round are the rows with whatever they hold. -/
theorem leaves (l : ℕ) (c : Dev nD) :
    iprop(xLeave l c 0 ∗ bigSep slots (fun s => xLeave l c s)) = bigSep Finset.univ fun i => (iprop(∃ f, xsP c i f) : sProp 𝕄) := by
  rw [bigSep_univ_equiv (xblkEquiv l c) (fun i => (iprop(∃ f, xsP c i f) : sProp 𝕄)), slots_univ]; rfl

theorem xs_any1 (c : Dev nD) (s : Fin 32) (g : Vec F S4096x128 .bf16) : (xsP c s g : sProp 𝕄) ⊢ iprop(∃ f, xsP c s f) := by
  iintro H; iexists g; iexact H

/-- The rows that a layer has read are leave for the next one's writes. -/
theorem leave_next {l : ℕ} (hl : l < 3) (c : Dev nD) (g : Vec F S4096x128 .bf16) :
    iprop(xLeave l c 0 ∗ bigSep slots (fun s => xsP c s g)) ⊢ (iprop(xLeave (l + 1) c 0 ∗ bigSep slots (fun s => xLeave (l + 1) c s)) : sProp 𝕄) := by
  rw [leaves, slots_univ]
  refine sep_mono (Entails.of_eq ?_) (bigSep_mono fun s _ => xs_any1 c s g)
  unfold xLeave xblk; rw [if_pos hl]

theorem rb_any1 (c : Dev nD) (s : Fin 32) (g : Vec F S32x128x128 .bf16) : (rbP c s g : sProp 𝕄) ⊢ iprop(∃ f, rbP c s f) := by
  iintro H; iexists g; iexact H

theorem bl_make {l : ℕ} (hl : l < 3) (c : Dev nD) :
    iprop(bigSep slots (fun s => iprop(∃ f, rbP c (partner s) f)) ∗ bigSep slots (fun s => reached ER (rsR c (partner s)) l))
      ⊢ (bigSep slots fun s => bLeave l c (partner s) : sProp 𝕄) := by
  rw [← zip2]
  exact Entails.of_eq (bigSep_congr fun s _ => (bLeave_low hl c (partner s)).symm)

variable (I : Inp F) (K : Dev nD × Cx → ℕ)

/-- What a device holds at the head of round `l`. -/
def Lst (l : ℕ) (c : Dev nD) : sProp 𝕄 :=
  iprop(stP c fullShare (X I l c) ∗ bigSep slots (fun s => xOk l c s)
    ∗ bigSep slots (fun s => At (agS c s) l) ∗ bigSep slots (fun s => At (agR c s) l)
    ∗ bigSep slots (fun s => At (rsS c (partner s)) l) ∗ bigSep slots (fun s => At (rsR c (partner s)) l)
    ∗ bigSep slots (fun s => iprop(∃ f, rbP c (partner s) f)) ∗ (∃ f, ptT c f) ∗ xLeave l c 0)

/-- What it spends in a layer: the tokens of its copies and the credits of its waits. -/
def Tk (l : ℕ) (c : Dev nD) : sProp 𝕄 :=
  iprop(bigSep slots (fun s => dutyTok ER (agS c s) l 0) ∗ bigSep slots (fun s => dutyTok ER (agR (up c s) s) l 0)
    ∗ bigSep slots (fun s => dutyTok ER (rsS c (partner s)) l 0) ∗ bigSep slots (fun s => dutyTok ER (rsR (dn c s) (partner s)) l 0)
    ∗ bigSep slots (fun s => cred (tallyAt (agR c s) l N)) ∗ bigSep slots (fun s => cred (tallyAt (rsR c (partner s)) l N)))

abbrev winR : LoadRect S128x256 := (Rect.unit (s := S128x256) ![0, 0] S128x256.size inb_S128x256_S128x256_0_0).toLoadRect
abbrev woutR : LoadRect S256x128 := (Rect.unit (s := S256x128) ![0, 0] S256x128.size inb_S256x128_S256x128_0_0).toLoadRect

theorem layer (c : Dev nD) {l : ℕ} (hl : l < 3) (rest : Owed) (hA : Above (3 + 2 * l) rest)
    {wm : Memref sig .tc .vmem S128x256 .bf16} {wo : Memref sig .tc .vmem S256x128 .bf16}
    {P₁ P₂ : sProp (MT nD τ sig ℕ (Elt F) ℕ UU ℕ)} (h₁ : Loads c wm winR P₁ (I.win l c)) (h₂ : Loads c wo woutR P₂ (I.wout l c))
    (fr : Vec F S128x256 .bf16 → Vec F S256x128 .bf16 → Vec F S31x128x128 .bf16 → FVec F S128x128 .bf16)
    (hfr : fr (I.win l c) (I.wout l c) (tailSlots (RB I l c)) = X I (l + 1) c)
    (k : Vec F S128x256 .bf16 → Vec F S256x128 .bf16 → Vec F S31x128x128 .bf16 → Prog (TpuEff nD τ sig (Elt F) Λ₀ .tc) PUnit)
    (Q : PUnit.{1} → sProp (MT nD τ sig ℕ (Elt F) ℕ UU ℕ)) :
    iprop(Lst I l c ∗ Tk l c ∗ P₁ ∗ P₂ ∗ Owes I K c (agL l c ++ (rsL l c ++ rest)))
      ⊢ iprop(((Lst I (l + 1) c ∗ P₁ ∗ P₂ ∗ Owes I K c rest) -∗ wpT c (k (I.win l c) (I.wout l c) (tailSlots (RB I l c))) Q)
        -∗ wpT c (layerP stM hst xfM hxf ptM hpt rbM hrb cc0_scratch4 cc0_scratch5 cc0_scratch6 cc0_scratch7 wm wo (upTab c) (dnTab c) fpart fr k) Q) := by
  unfold Lst Tk layerP
  iintro ⟨⟨Hst, HxO, HaS, HaR, HbS, HbR, Hrb, ⟨%f0, Hpt⟩, Hx0⟩, ⟨HtaS, HtaR, HtbS, HtbR, HcaR, HcbR⟩, Hw1, Hw2, HO⟩ Hk
  ihave Hst := (Entails.of_eq (st_deal c (X I l c))) $$ Hst
  icases Hst with ⟨Hst0, Hst⟩
  ihave HaS := (at_dup (fun s => agS c s) l) $$ HaS
  icases HaS with ⟨HaS, HraS⟩
  ihave HbR := (at_dup (fun s => rsR c (partner s)) l) $$ HbR
  icases HbR with ⟨HbR, HrbR⟩
  ihave HbS := (at_dup (fun s => rsS c (partner s)) l) $$ HbS
  icases HbS with ⟨HbS, HrbS⟩
  ihave Hbl := (bl_make hl c) $$ [Hrb HrbR]
  · isplitl [Hrb]; · iexact Hrb
    iexact HrbR
  -- the gather's sends
  iapply (loop_gather (l := l) I K c (rsL l c ++ rest) _ Q (by omega) hl) $$ [Hst HxO Hbl HtaS HraS HtaR HO]
  · isplitr [HO]
    · rw [zip6]
      isplitl [Hst]; · iexact Hst
      isplitl [HxO]; · iexact HxO
      isplitl [Hbl]; · iexact Hbl
      isplitl [HtaS]; · iexact HtaS
      isplitl [HraS]; · iexact HraS
      iexact HtaR
    iexact HO
  iintro ⟨HcaS, HO⟩
  -- the weights
  iapply (h₁ _ _ _) $$ Hw1; iintro Hw1
  iapply (h₂ _ _ _) $$ Hw2; iintro Hw2
  -- the gathered rows
  iapply (loop_gathered (l := l) I K c (rsL l c ++ rest) _ Q hl ((above_rs l hl c).append (hA.mono (by omega)))) $$ [HcaR HaR HO]
  · isplitr [HO]
    · rw [zip2]
      isplitl [HcaR]; · iexact HcaR
      iexact HaR
    iexact HO
  iintro ⟨H, HO⟩
  ihave H := (Entails.of_eq (zip3 _ _ _)) $$ H
  icases H with ⟨HaR, Hxs, Hb⟩
  ihave HaR := (at_dup (fun s => agR c s) (l + 1)) $$ HaR
  icases HaR with ⟨HaR, HraR⟩
  ihave Hxt := (Entails.of_eq (xs_join c (GX I l c))) $$ Hxs
  iapply (load_xt c (GX I l c) _ _ _) $$ Hxt; iintro Hxt
  iapply (load_pt c f0 _ _ _) $$ Hpt; iintro Hpt
  iapply (store_pt c f0 (GX I l c) (I.win l c) (I.wout l c) _ _) $$ Hpt; iintro Hpt
  ihave Hxs := (Entails.of_eq (xs_join c (GX I l c)).symm) $$ Hxt
  ihave Hpt := (Entails.of_eq (show ptT c (part (I.win l c) (I.wout l c) (GX I l c)) = bigSep slots (fun s => (ptP c s (PB I l c) : sProp 𝕄)) from (pt_join c (PB I l c)).symm)) $$ Hpt
  ihave Hx := (leave_next hl c (GX I l c)) $$ [Hx0 Hxs]
  · isplitl [Hx0]; · iexact Hx0
    iexact Hxs
  icases Hx with ⟨Hx0, Hxl⟩
  -- the scatter's sends
  iapply (loop_scatter (l := l) I K c rest _ Q hl) $$ [Hpt Hb Hxl HraR HtbS HrbS HtbR HO]
  · isplitr [HO]
    · rw [zip6, zip2]
      isplitl [Hpt]; · iexact Hpt
      isplitl [Hb]; · iexact Hb
      isplitl [Hxl HraR]
      · isplitl [Hxl]; · iexact Hxl
        iexact HraR
      isplitl [HtbS]; · iexact HtbS
      isplitl [HrbS]; · iexact HrbS
      iexact HtbR
    iexact HO
  iintro ⟨HcbS, HO⟩
  -- the gather's sends are done
  iapply (loop_gatherSent (l := l) I K c rest _ Q (by omega) (hA.mono (by omega))) $$ [HcaS HaS HO]
  · isplitr [HO]
    · rw [zip2]
      isplitl [HcaS]; · iexact HcaS
      iexact HaS
    iexact HO
  iintro ⟨H, HO⟩
  ihave H := (Entails.of_eq (zip2 _ _)) $$ H
  icases H with ⟨HaS, Hst⟩
  -- what comes back
  iapply (loop_scattered (l := l) I K c rest _ Q hl hA) $$ [HcbS HbS HcbR HbR HO]
  · isplitr [HO]
    · rw [zip22]
      isplitl [HcbS HbS]
      · isplitl [HcbS]; · iexact HcbS
        iexact HbS
      isplitl [HcbR]; · iexact HcbR
      iexact HbR
    iexact HO
  iintro ⟨H, HO⟩
  ihave H := (Entails.of_eq (zip23 _ _ _ _ _)) $$ H
  icases H with ⟨⟨HbS, Hpt⟩, HbR, Hrb, HxO⟩
  ihave Hrb := (Entails.of_eq ((partner_slots fun s => rbP c s (RB I l c)).trans (rb_join c (RB I l c)))) $$ Hrb
  iapply (load_rb c (RB I l c) _ _ _) $$ Hrb; iintro Hrb
  ihave Hrb := (Entails.of_eq ((partner_slots fun s => rbP c s (RB I l c)).trans (rb_join c (RB I l c))).symm) $$ Hrb
  ihave Hst := (Entails.of_eq (st_deal c (X I l c)).symm) $$ [Hst0 Hst]
  · isplitl [Hst0]; · iexact Hst0
    iexact Hst
  iapply (load_st c fullShare (X I l c) _ _ _) $$ Hst; iintro Hst
  rw [hfr]
  iapply (store_st c (X I l c) (X I (l + 1) c) _ _) $$ Hst; iintro Hst
  iapply Hk
  isplitr [Hw1 Hw2 HO]
  · isplitl [Hst]; · iexact Hst
    isplitl [HxO]; · iexact HxO
    isplitl [HaS]; · iexact HaS
    isplitl [HaR]; · iexact HaR
    isplitl [HbS]; · iexact HbS
    isplitl [HbR]; · iexact HbR
    isplitl [Hrb]
    · have h : bigSep slots (fun s => (rbP c (partner s) (RB I l c) : sProp 𝕄)) ⊢ bigSep slots fun s => iprop(∃ f, rbP c (partner s) f) :=
        bigSep_mono fun s _ => rb_any1 c (partner s) (RB I l c)
      iapply h; iexact Hrb
    isplitl [Hpt]
    · iexists PB I l c
      ihave Hpt := (Entails.of_eq (pt_join c (PB I l c))) $$ Hpt
      iexact Hpt
    iexact Hx0
  isplitl [Hw1]; · iexact Hw1
  isplitl [Hw2]; · iexact Hw2
  iexact HO

end Cert.KernelIdeal.Tp

end
-- ==== Proof.Body.lean ====
module

public import proofs.«01_k».proof.Proof.Round
public import Idealize.ShloMosaic.Lib.Pipeline.Value

/-! The whole body: the entry barrier, the three layers, the closing gather, and the buffers and counters given back. -/

@[expose] public section

noncomputable section

namespace Cert.KernelIdeal.Tp

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (K : Dev nD × Cx → ℕ)

/-! ### The barrier's wait -/

theorem step_bar (c : Dev nD) (es : Owed) (hA : Above 1 es) (k : Prog (TpuEff nD τ sig (Elt F) Λ₀ .tc) PUnit)
    (Q : PUnit.{1} → sProp (MT nD τ sig ℕ (Elt F) ℕ UU ℕ)) :
    iprop((cred (tallyAt (barC c) 0 31) ∗ atPos ER (barC c) 0 ∅ 0) ∗ Owes I K c es)
      ⊢ iprop(((atPos ER (barC c) 1 ∅ 0 ∗ bigSep slots (fun s => xLeave 0 (dn c s) (partner s)) ∗ Owes I K c es) -∗ wpT c k Q)
          -∗ wpT c (semWaitWord barSem 31#32 >>= fun _ => k) Q) := by
  have hlv : Lev (F := F) ⊢ MayWait (c : Thread nD τ) (.reg barSem) 0 (tot es) := mayWait c (.reg barSem) (by decide) hA
  have hmw : recs I K ⊢ MayWait (c : Thread nD τ) (.reg barSem) 0 (tot es) := by
    unfold recs
    iintro ⟨-, -, #H⟩
    iapply hlv; iexact H
  simp only [semWaitWord, Prog.lift, Prog.bind_op, Prog.bind_ret]
  unfold Owes
  iintro ⟨⟨Hc, Hat⟩, #HR, ⟨%W, HO⟩⟩ Hk
  iapply (Rounds.wp_wait_rest_token 𝒱₀ ER (Rd I) (c : Thread nD τ) none (κ := K (c, none))
      (wpE_semWait_eq 𝒱₀ (c : Thread nD τ) none Set.univ) (Set.mem_univ _) 0 (O := tot es) (W := W) (R := 0) (m := 0) (T := ∅)
      (by rw [expect_bar]; decide)) $$ [Hc Hat HO]
  · isplitr; · iapply (inv_at I K (c, none)); iexact HR
    isplitl [Hc]; · iexact Hc
    isplitl [HO]; · iexact HO
    isplitr; · iapply hmw; iexact HR
    iexact Hat
  iintro ⟨HO, Hat, -, Hp⟩
  ihave Hp := (Entails.of_eq (rest_bar I c)) $$ Hp
  iapply Hk
  isplitl [Hat]; · iexact Hat
  isplitl [Hp]; · iexact Hp
  isplitr; · iexact HR
  iexists _; iexact HO

/-! ### The last phase -/

theorem pay22 (x : Vec F S128x128 .bf16) : k0_pay22 x = x := by unfold k0_pay22; exact shapeCast_self _ _

theorem load_mine (c : Dev nD) (r : Rect S4096x128) (hr : r = rowRect c) (f : Vec F S4096x128 .bf16) :
    Loads c xfM r.toLoadRect (xsP c c f) (xfM.view.readAt (Elt F) r.toLoadRect f) := by
  subst hr; rw [xsP_eq]; exact loads_of c (whole_setOn (b := cc0_scratch0) _) rfl

theorem store_mine (c : Dev nD) (r : Rect S4096x128) (hr : r = rowRect c) (f : Vec F S4096x128 .bf16) (v : r.shape.Idx → Elt F .bf16)
    (hv : HEq v (X I 3 c)) {hx hm} (k : Prog (TpuEff nD τ sig (Elt F) Λ₀ .tc) PUnit) (Q : PUnit.{1} → sProp (MT nD τ sig ℕ (Elt F) ℕ UU ℕ)) :
    (xsP c c f) ⊢ iprop((xsP c c (GX I 3 c) -∗ wpT c k Q) -∗ wpT c (.op (.store xfM r v Finset.univ hx hm) fun _ => k) Q) := by
  subst hr
  obtain rfl := eq_of_heq hv
  have hS : (xfM.access (rowRect c)).set = (rowRect c).set := View.set_slice_whole cc0_scratch0 (rowRect c)
  rw [xsP_eq, xsP_eq]
  exact stores_of (Q := Q) (k := fun _ => k) (hx := hx) (hm := hm) c (m := xfM) (r := rowRect c) (le_of_eq hS)
    (pointsTo_congr fun i hi => mine_agree I c f i (hS ▸ hi))

theorem load_xf (c : Dev nD) (f : Vec F S4096x128 .bf16) :
    Loads c xfM (Rect.unit (s := S4096x128) ![0, 0] S4096x128.size inb_S4096x128_S4096x128_0_0).toLoadRect
      (xfM.view.loc (c : Thread nD τ) ↦[Finset.univ]{fullShare} f) f :=
  loads_of c (Finset.subset_univ _) (Memref.readAt_unit_zero (Elt F) cc0_scratch0 zz _ f)

abbrev outM : Memref sig .tc .vmem S4096x128 .f32 := Memref.whole cc0_stg7_0
abbrev outP (c : Dev nD) (f : Vec F S4096x128 .f32) : sProp 𝕄 := outM.view.loc (c : Thread nD τ) ↦[Finset.univ]{fullShare} f

theorem load_out (c : Dev nD) (f : Vec F S4096x128 .f32) :
    Loads c outM (Rect.unit (s := S4096x128) ![0, 0] S4096x128.size inb_S4096x128_S4096x128_0_0).toLoadRect (outP c f) f :=
  loads_of c (Finset.subset_univ _) (Memref.readAt_unit_zero (Elt F) cc0_stg7_0 zz _ f)

theorem store_out (c : Dev nD) (f v : Vec F S4096x128 .f32) {hx hm} (k : Prog (TpuEff nD τ sig (Elt F) Λ₀ .tc) PUnit)
    (Q : PUnit.{1} → sProp (MT nD τ sig ℕ (Elt F) ℕ UU ℕ)) :
    (outP c f) ⊢ iprop((outP c v -∗ wpT c k Q)
      -∗ wpT c (.op (.store outM (Rect.unit (s := S4096x128) ![0, 0] S4096x128.size inb_S4096x128_S4096x128_0_0) v Finset.univ hx hm) fun _ => k) Q) :=
  stores_of (Q := Q) (k := fun _ => k) (hx := hx) (hm := hm) c (m := outM)
    (r := Rect.unit (s := S4096x128) ![0, 0] S4096x128.size inb_S4096x128_S4096x128_0_0) (Finset.subset_univ _)
    (congrArg (fun f => outP c f) (Memref.write_access_unit_zero_univ (Elt F) cc0_stg7_0 zz _ f v))

/-- The tokens and credits of the closing gather. -/
def Tf (c : Dev nD) : sProp 𝕄 :=
  iprop(bigSep slots (fun s => dutyTok ER (agS c s) 3 0) ∗ bigSep slots (fun s => dutyTok ER (agR (up c s) s) 3 0)
    ∗ bigSep slots (fun s => cred (tallyAt (agR c s) 3 N)))

/-- What is left once the closing gather is done. -/
def Lend (c : Dev nD) : sProp 𝕄 :=
  iprop(stP c fullShare (X I 3 c) ∗ (xfM.view.loc (c : Thread nD τ) ↦[Finset.univ]{fullShare} GX I 3 c)
    ∗ bigSep slots (fun s => At (agS c s) 4) ∗ bigSep slots (fun s => At (agR c s) 4)
    ∗ bigSep slots (fun s => At (rsS c (partner s)) 3) ∗ bigSep slots (fun s => At (rsR c (partner s)) 3)
    ∗ bigSep slots (fun s => iprop(∃ f, rbP c (partner s) f)) ∗ (∃ f, ptT c f))

theorem no_leave (c : Dev nD) (es : Owed) :
    Owes I K c es ⊢ iprop(Owes I K c es ∗ bigSep slots (fun s => (bLeave 3 c (partner s) : sProp 𝕄))) := by
  have e : bigSep slots (fun s => (bLeave 3 c (partner s) : sProp 𝕄)) = bigSep slots (fun _ => iprop(emp)) :=
    bigSep_congr fun s _ => by unfold bLeave; exact if_neg (by decide)
  rw [e.trans (bigSep_emp_const slots)]
  iintro H
  isplitl; · iexact H
  iempintro

theorem final (c : Dev nD) (o : Vec F S4096x128 .f32) (Q : PUnit.{1} → sProp (MT nD τ sig ℕ (Elt F) ℕ UU ℕ)) :
    iprop(Lst I 3 c ∗ Tf c ∗ outP c o ∗ Owes I K c (agL 3 c))
      ⊢ iprop(((Lend I c ∗ outP c (k0_pay1 (GX I 3 c)) ∗ Owes I K c []) -∗ wpT c (.ret ⟨⟩) Q)
        -∗ wpT c (finalP stM hst xfM hxf cc0_scratch4 cc0_scratch5 outM c (upTab c)) Q) := by
  unfold Lst Tf finalP
  iintro ⟨⟨Hst, HxO, HaS, HaR, HbS, HbR, Hrb, Hpt, Hx0⟩, ⟨HtaS, HtaR, HcaR⟩, Hout, HO⟩ Hk
  ihave Hst := (Entails.of_eq (st_deal c (X I 3 c))) $$ Hst
  icases Hst with ⟨Hst0, Hst⟩
  ihave HaS := (at_dup (fun s => agS c s) 3) $$ HaS
  icases HaS with ⟨HaS, HraS⟩
  ihave HO := (no_leave I K c (agL 3 c)) $$ HO
  icases HO with ⟨HO, Hbl⟩
  ihave HO := (Entails.of_eq (congrArg (Owes I K c) (List.append_nil (agL 3 c)).symm)) $$ HO
  iapply (loop_close I K c [] _ Q) $$ [Hst HxO Hbl HtaS HraS HtaR HO]
  · isplitr [HO]
    · rw [zip6]
      isplitl [Hst]; · iexact Hst
      isplitl [HxO]; · iexact HxO
      isplitl [Hbl]; · iexact Hbl
      isplitl [HtaS]; · iexact HtaS
      isplitl [HraS]; · iexact HraS
      iexact HtaR
    iexact HO
  iintro ⟨HcaS, HO⟩
  iapply (load_st c (shr 0) (X I 3 c) _ _ _) $$ Hst0; iintro Hst0
  unfold xLeave
  icases Hx0 with ⟨%f, Hx0⟩
  ihave Hx0 := (Entails.of_eq (show (xsP c (xblk 3 c 0) f : sProp 𝕄) = xsP c c f by unfold xblk; rw [if_neg (by decide), dn_zero])) $$ Hx0
  iapply (load_mine c _ (off2_rect c) f _ _ _) $$ Hx0; iintro Hx0
  iapply (store_mine I c _ (off2_rect c) f _ (heq_of_eq (pay22 (X I 3 c))) _ _) $$ Hx0; iintro Hx0
  iapply (loop_closed I K c [] _ Q (fun e he => absurd he List.not_mem_nil)) $$ [HcaS HaS HcaR HaR HO]
  · isplitr [HO]
    · rw [zip22]
      isplitl [HcaS HaS]
      · isplitl [HcaS]; · iexact HcaS
        iexact HaS
      isplitl [HcaR]; · iexact HcaR
      iexact HaR
    iexact HO
  iintro ⟨H, HO⟩
  ihave H := (Entails.of_eq (zip23 _ _ _ _ _)) $$ H
  icases H with ⟨⟨HaS, Hst⟩, HaR, Hxs, -⟩
  have hw : iprop(xsP c c (GX I 3 c) ∗ bigSep slots (fun s => xsP c (dn c s) (GX I 3 c)))
      = (xfM.view.loc (c : Thread nD τ) ↦[Finset.univ]{fullShare} GX I 3 c : sProp 𝕄) := by
    rw [← xs_whole, bigSep_univ_equiv (dnEquiv c) (fun i => (xsP c i (GX I 3 c) : sProp 𝕄)), slots_univ]
    show _ = iprop(xsP c (dn c 0) (GX I 3 c) ∗ bigSep slots fun s => xsP c (dn c s) (GX I 3 c))
    rw [dn_zero]
  ihave Hxf := (Entails.of_eq hw) $$ [Hx0 Hxs]
  · isplitl [Hx0]; · iexact Hx0
    iexact Hxs
  iapply (load_xf c (GX I 3 c) _ _ _) $$ Hxf; iintro Hxf
  iapply (load_out c o _ _ _) $$ Hout; iintro Hout
  iapply (store_out c o (k0_pay1 (GX I 3 c)) _ _) $$ Hout; iintro Hout
  ihave Hst := (Entails.of_eq (st_deal c (X I 3 c)).symm) $$ [Hst0 Hst]
  · isplitl [Hst0]; · iexact Hst0
    iexact Hst
  iapply Hk
  unfold Lend
  isplitr [Hout HO]
  · isplitl [Hst]; · iexact Hst
    isplitl [Hxf]; · iexact Hxf
    isplitl [HaS]; · iexact HaS
    isplitl [HaR]; · iexact HaR
    isplitl [HbS]; · iexact HbS
    isplitl [HbR]; · iexact HbR
    isplitl [Hrb]; · iexact Hrb
    iexact Hpt
  isplitl [Hout]; · iexact Hout
  iexact HO

end Cert.KernelIdeal.Tp

end
-- ==== Proof.Whole.lean ====
module

public import proofs.«01_k».proof.Proof.Body

/-! The body run whole, from a device's share of the launch to its buffers and counters given back. -/

@[expose] public section

noncomputable section

namespace Cert.KernelIdeal.Tp

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (K : Dev nD × Cx → ℕ)

/-! ### All the DMA cells of a device -/

theorem cells4 (Φ : Fin 4 × Fin 32 → sProp (MT nD τ sig ℕ (Elt F) ℕ UU ℕ)) :
    bigSep Finset.univ Φ = iprop((Φ (0, 0) ∗ bigSep slots fun s => Φ (0, s)) ∗ (Φ (1, 0) ∗ bigSep slots fun s => Φ (1, s))
      ∗ (Φ (2, 0) ∗ bigSep slots fun s => Φ (2, s)) ∗ (Φ (3, 0) ∗ bigSep slots fun s => Φ (3, s))) := by
  rw [bigSep_univ_prod, bigSep_univ_eq_bigSepL [0, 1, 2, 3] (by decide) (by decide)]
  simp only [slots_univ]
  rfl

theorem at_mk1 (ck : Dev nD × Cx) : iprop(recs I K ∗ atPos ER (kcell ck) 0 ∅ 0) ⊢ At (kcell ck) 0 := by
  unfold At
  iintro ⟨#HR, H⟩
  isplitl [H]; · iexact H
  iapply (reached_at I K ck); iexact HR

theorem at_mk (c : Dev nD) (k : Fin 4) (g : Fin 32 → GSem nD τ sig) (hg : ∀ s, kcell (c, some (k, s)) = g s) :
    iprop(recs I K ∗ bigSep slots (fun s => atPos ER (kcell (c, some (k, s))) 0 ∅ 0)) ⊢ bigSep slots fun s => At (g s) 0 :=
  bigSep_with_persistent fun s _ => by rw [← hg s]; exact at_mk1 I K (c, some (k, s))

theorem at_pos1 (g : GSem nD τ sig) (l : ℕ) : (At g l : sProp 𝕄) ⊢ atPos ER g l ∅ 0 := by
  unfold At
  iintro ⟨H, -⟩
  iexact H

theorem at_pos (g : Fin 32 → GSem nD τ sig) (l : ℕ) :
    bigSep slots (fun s => (At (g s) l : sProp 𝕄)) ⊢ bigSep slots fun s => atPos ER (g s) l ∅ 0 := bigSep_mono fun s _ => at_pos1 (g s) l

/-- The round a DMA cell stands at when the kernel ends. -/
def endR (x : Fin 4 × Fin 32) : ℕ := if x.2 = 0 then 0 else if x.1.val < 2 then 4 else 3

theorem duties_endR (c : Dev nD) (x : Fin 4 × Fin 32) : ∀ r, endR x ≤ r → (Rd (F := F) I).duties (kcell (c, some x)) r = ∅ := by
  obtain ⟨k, s⟩ := x
  intro r hr
  by_cases hs : s = 0
  · subst hs; exact duties_dma_zero I c k r (Nat.zero_le _)
  · unfold endR at hr
    rw [if_neg hs] at hr
    match k with
    | 0 => exact duties_end I _ r hr
    | 1 => exact duties_end I _ r hr
    | 2 => exact duties_rsS_end I c r hr
    | 3 => exact duties_rsR_end I c r hr

theorem close1 (c : Dev nD) (x : Fin 4 × Fin 32) :
    iprop(recs I K ∗ atPos ER (kcell (c, some x)) (endR x) ∅ 0) ⊢ (|={Set.univ}=> semVal (kcell (c, some x)) 0 : sProp 𝕄) := by
  iintro ⟨#HR, H⟩
  iapply (Rounds.cell_close ER (Rd I) (Set.mem_univ (K (c, some x))) (fun h => h) (R := endR x) (duties_endR I c x))
  isplitr; · iapply (inv_at I K (c, some x)); iexact HR
  iexact H

theorem close_all (c : Dev nD) :
    iprop(recs I K ∗ bigSep Finset.univ fun x : Fin 4 × Fin 32 => atPos ER (kcell (c, some x)) (endR x) ∅ 0)
      ⊢ (|={Set.univ}=> bigSep Finset.univ fun x : Fin 4 × Fin 32 => semVal (kcell (c, some x)) 0 : sProp 𝕄) :=
  (bigSep_with_persistent fun x _ => close1 I K c x).trans (bigSep_fupd _ _)

theorem close_bar (c : Dev nD) : iprop(recs I K ∗ atPos ER (barC c) 1 ∅ 0) ⊢ (|={Set.univ}=> semVal (barC c) 0 : sProp 𝕄) := by
  iintro ⟨#HR, H⟩
  iapply (Rounds.cell_close ER (Rd I) (Set.mem_univ (K (c, none))) (fun h => h) (R := 1) (duties_bar_end I c))
  isplitr; · iapply (inv_at I K (c, none)); iexact HR
  iexact H

/-! ### What the body starts from and ends with -/

/-- The scratch buffers, whatever they hold. -/
def Scratch (c : Dev nD) : sProp 𝕄 :=
  iprop((∃ f : Vec F S4096x128 .bf16, xfM.view.loc (c : Thread nD τ) ↦[Finset.univ]{fullShare} f)
    ∗ (∃ f : Vec F S4096x128 .bf16, ptM.view.loc (c : Thread nD τ) ↦[Finset.univ]{fullShare} f)
    ∗ (∃ f : Vec F S32x128x128 .bf16, rbM.view.loc (c : Thread nD τ) ↦[Finset.univ]{fullShare} f)
    ∗ (∃ f, stP c fullShare f))

/-- A device's positions, tokens and credits. -/
def Start (c : Dev nD) : sProp 𝕄 :=
  iprop((atPos ER (barC c) 0 ∅ 0 ∗ bigSep Finset.univ fun x : Fin 4 × Fin 32 => atPos ER (kcell (c, some x)) 0 ∅ 0)
    ∗ bigSep slots (fun s => dutyTok ER (barC (up c s)) 0 s) ∗ cred (tallyAt (barC c) 0 31) ∗ Tk 0 c ∗ Tk 1 c ∗ Tk 2 c ∗ Tf c)

/-- The scratch buffers and all counters at zero. -/
def End (c : Dev nD) : sProp 𝕄 :=
  iprop(Scratch c ∗ semVal (barC c) 0 ∗ bigSep Finset.univ fun x : Fin 4 × Fin 32 => semVal (kcell (c, some x)) 0)

theorem xs_any (c : Dev nD) (f : Vec F S4096x128 .bf16) :
    (xfM.view.loc (c : Thread nD τ) ↦[Finset.univ]{fullShare} f : sProp 𝕄) ⊢ bigSep Finset.univ fun i => iprop(∃ f, xsP c i f) := by
  rw [← xs_whole]; exact bigSep_mono fun i _ => xs_any1 c i f

theorem rb_any (c : Dev nD) (f : Vec F S32x128x128 .bf16) :
    (rbM.view.loc (c : Thread nD τ) ↦[Finset.univ]{fullShare} f : sProp 𝕄) ⊢ bigSep Finset.univ fun i => iprop(∃ f, rbP c i f) := by
  rw [← rb_whole]; exact bigSep_mono fun i _ => rb_any1 c i f

theorem pt_any1 (c : Dev nD) (s : Fin 32) (g : Vec F S4096x128 .bf16) : (ptP c s g : sProp 𝕄) ⊢ iprop(∃ f, ptP c s f) := by
  iintro H; iexists g; iexact H

theorem pt_back (c : Dev nD) (f g : Vec F S4096x128 .bf16) :
    iprop(ptP c 0 f ∗ ptT c g) ⊢ (bigSep Finset.univ fun i => iprop(∃ f, ptP c i f) : sProp 𝕄) := by
  rw [slots_univ, ← pt_join]
  exact BI.sep_mono (pt_any1 c 0 f) (bigSep_mono fun i _ => pt_any1 c i g)

/-- The entry: with the barrier passed, every peer's rows are leave to write. -/
theorem xOk_first (c : Dev nD) :
    iprop(recs I K ∗ bigSep slots (fun s => xLeave 0 (dn c s) (partner s))) ⊢ (bigSep slots fun s => xOk 0 c s : sProp 𝕄) := by
  have e : bigSep slots (fun s => (xLeave 0 (dn c s) (partner s) : sProp 𝕄)) = bigSep slots fun s => xLeave 0 (up c s) s := by
    rw [← partner_slots]
    exact bigSep_congr fun s _ => by rw [dn_partner, partner_partner]
  rw [e]
  refine bigSep_with_persistent fun s _ => ?_
  unfold xOk
  iintro ⟨#HR, H⟩
  isplitl [H]; · iexact H
  iapply (reached_at I K (up c s, some (1, s))); iexact HR

theorem owes_recs (c : Dev nD) (es : Owed) : Owes I K c es ⊢ iprop(recs I K ∗ Owes I K c es) := by
  unfold Owes
  iintro ⟨#HR, H⟩
  isplitr; · iexact HR
  isplitr; · iexact HR
  iexact H

theorem sound (c : Dev nD)
    {a0 : Memref sig .tc .vmem S128x128 .bf16} {a1 a3 a5 : Memref sig .tc .vmem S128x256 .bf16} {a2 a4 a6 : Memref sig .tc .vmem S256x128 .bf16}
    {P0 P1 P2 P3 P4 P5 P6 : sProp (MT nD τ sig ℕ (Elt F) ℕ UU ℕ)}
    (h0 : Loads c a0 stRect.toLoadRect P0 (I.x c))
    (h1 : Loads c a1 winR P1 (I.win 0 c)) (h2 : Loads c a2 woutR P2 (I.wout 0 c))
    (h3 : Loads c a3 winR P3 (I.win 1 c)) (h4 : Loads c a4 woutR P4 (I.wout 1 c))
    (h5 : Loads c a5 winR P5 (I.win 2 c)) (h6 : Loads c a6 woutR P6 (I.wout 2 c))
    (o : Vec F S4096x128 .f32) (Q : PUnit.{1} → sProp (MT nD τ sig ℕ (Elt F) ℕ UU ℕ)) :
    iprop(Start c ∗ Scratch c ∗ P0 ∗ P1 ∗ P2 ∗ P3 ∗ P4 ∗ P5 ∗ P6 ∗ outP c o ∗ Owes I K c (sigL c ++ restL c))
      ⊢ iprop(((End c ∗ P0 ∗ P1 ∗ P2 ∗ P3 ∗ P4 ∗ P5 ∗ P6 ∗ outP c (k0_pay1 (GX I 3 c)) ∗ Owes I K c []) -∗ Q ⟨⟩)
        -∗ wpT c (bodyP a0 a1 a2 a3 a4 a5 a6 outM xfM hxf ptM hpt rbM hrb stM hst cc0_scratch4 cc0_scratch5 cc0_scratch6 cc0_scratch7
            upTab upTab dnTab upTab dnTab upTab dnTab upTab) Q) := by
  unfold Start Scratch bodyP entryP
  simp only [wp_deviceId]
  iintro ⟨⟨⟨HaB, Hcells⟩, HtB, HcB, HT0, HT1, HT2, HTf⟩, ⟨⟨%fx, Hxf⟩, ⟨%fp, Hpt⟩, ⟨%fb, Hrb⟩, ⟨%fs, Hst⟩⟩, H0, H1, H2, H3, H4, H5, H6, Hout, HO⟩ Hk
  -- the buffers by slots
  ihave Hxf := (xs_any c fx) $$ Hxf
  ihave Hxf := (Entails.of_eq (leaves 0 c).symm) $$ Hxf
  icases Hxf with ⟨Hx0, Hxs⟩
  ihave Hxs := (Entails.of_eq (partner_slots fun s => xLeave 0 c s).symm) $$ Hxs
  ihave Hpt := (Entails.of_eq ((pt_whole c fp).symm.trans (slots_univ _))) $$ Hpt
  icases Hpt with ⟨Hpt0, Hpt⟩
  ihave Hpt := (Entails.of_eq (pt_join c fp)) $$ Hpt
  ihave Hrb := (rb_any c fb) $$ Hrb
  ihave Hrb := (Entails.of_eq (slots_univ fun i => iprop(∃ f, rbP c i f))) $$ Hrb
  icases Hrb with ⟨Hrb0, Hrb⟩
  ihave Hrb := (Entails.of_eq (partner_slots fun i => iprop(∃ f, rbP c i f)).symm) $$ Hrb
  -- the cells
  ihave Hcells := (Entails.of_eq (cells4 fun x => atPos ER (kcell (c, some x)) 0 ∅ 0)) $$ Hcells
  icases Hcells with ⟨⟨HaS0, HaS⟩, ⟨HaR0, HaR⟩, ⟨HbS0, HbS⟩, ⟨HbR0, HbR⟩⟩
  ihave HO := (owes_recs I K c _) $$ HO
  icases HO with ⟨#HR, HO⟩
  ihave HaS := (at_mk I K c 0 (fun s => agS c s) fun _ => rfl) $$ [HaS]
  · isplitr; · iexact HR
    iexact HaS
  ihave HaR := (at_mk I K c 1 (fun s => agR c s) fun _ => rfl) $$ [HaR]
  · isplitr; · iexact HR
    iexact HaR
  ihave HbS := (at_mk I K c 2 (fun s => rsS c s) fun _ => rfl) $$ [HbS]
  · isplitr; · iexact HR
    iexact HbS
  ihave HbR := (at_mk I K c 3 (fun s => rsR c s) fun _ => rfl) $$ [HbR]
  · isplitr; · iexact HR
    iexact HbR
  ihave HbS := (Entails.of_eq (partner_slots fun s => At (rsS c s) 0).symm) $$ HbS
  ihave HbR := (Entails.of_eq (partner_slots fun s => At (rsR c s) 0).symm) $$ HbR
  -- the barrier
  iapply (loop_signal I K c (restL c) _ Q) $$ [HtB Hxs HO]
  · isplitr [HO]
    · rw [zip2]
      isplitl [HtB]; · iexact HtB
      iexact Hxs
    iexact HO
  iintro ⟨-, HO⟩
  iapply (step_bar I K c (restL c) (above_rest c) _ Q) $$ [HcB HaB HO]
  · isplitr [HO]
    · isplitl [HcB]; · iexact HcB
      iexact HaB
    iexact HO
  iintro ⟨HaB, Hxs, HO⟩
  ihave HxO := (xOk_first I K c) $$ [Hxs]
  · isplitr; · iexact HR
    iexact Hxs
  -- the first block
  iapply (h0 _ _ _) $$ H0; iintro H0
  iapply (load_st c fullShare fs _ _ _) $$ Hst; iintro Hst
  iapply (store_st c fs (X I 0 c) _ _) $$ Hst; iintro Hst
  unfold restL
  -- the layers
  iapply (layer I K c (l := 0) (by decide) _ ((above_ag 1 (by decide) c).append (((above_rs 1 (by decide) c).mono (by decide)).append
      (((above_ag 2 (by decide) c).mono (by decide)).append (((above_rs 2 (by decide) c).mono (by decide)).append ((above_ag 3 (by decide) c).mono (by decide))))))
      h1 h2 _ (by rw [X_succ, own_succ, own_zero]) _ Q) $$ [Hst HxO HaS HaR HbS HbR Hrb Hpt Hx0 HT0 H1 H2 HO]
  · isplitr [HT0 H1 H2 HO]
    · unfold Lst
      isplitl [Hst]; · iexact Hst
      isplitl [HxO]; · iexact HxO
      isplitl [HaS]; · iexact HaS
      isplitl [HaR]; · iexact HaR
      isplitl [HbS]; · iexact HbS
      isplitl [HbR]; · iexact HbR
      isplitl [Hrb]; · iexact Hrb
      isplitl [Hpt]; · iexists fp; iexact Hpt
      iexact Hx0
    isplitl [HT0]; · iexact HT0
    isplitl [H1]; · iexact H1
    isplitl [H2]; · iexact H2
    iexact HO
  iintro ⟨HL, H1, H2, HO⟩
  iapply (layer I K c (l := 1) (by decide) _ ((above_ag 2 (by decide) c).append (((above_rs 2 (by decide) c).mono (by decide)).append ((above_ag 3 (by decide) c).mono (by decide))))
      h3 h4 _ (by rw [X_succ, own_succ, own_succ, own_zero]) _ Q) $$ [HL HT1 H3 H4 HO]
  · isplitl [HL]; · iexact HL
    isplitl [HT1]; · iexact HT1
    isplitl [H3]; · iexact H3
    isplitl [H4]; · iexact H4
    iexact HO
  iintro ⟨HL, H3, H4, HO⟩
  iapply (layer I K c (l := 2) (by decide) _ (above_ag 3 (by decide) c)
      h5 h6 _ (by rw [X_succ, own_succ, own_succ, own_succ, own_zero]) _ Q) $$ [HL HT2 H5 H6 HO]
  · isplitl [HL]; · iexact HL
    isplitl [HT2]; · iexact HT2
    isplitl [H5]; · iexact H5
    isplitl [H6]; · iexact H6
    iexact HO
  iintro ⟨HL, H5, H6, HO⟩
  iapply (final I K c o Q) $$ [HL HTf Hout HO]
  · isplitl [HL]; · iexact HL
    isplitl [HTf]; · iexact HTf
    isplitl [Hout]; · iexact Hout
    iexact HO
  unfold Lend
  iintro ⟨⟨Hst, Hxf, HaS, HaR, HbS, HbR, Hrb, ⟨%fp', Hpt⟩⟩, Hout, HO⟩
  unfold wpT
  rw [wp_ret]
  -- the counters
  ihave HbS := (Entails.of_eq (partner_slots fun s => At (rsS c s) 3)) $$ HbS
  ihave HbR := (Entails.of_eq (partner_slots fun s => At (rsR c s) 3)) $$ HbR
  ihave HaS := (at_pos (fun s => agS c s) 4) $$ HaS
  ihave HaR := (at_pos (fun s => agR c s) 4) $$ HaR
  ihave HbS := (at_pos (fun s => rsS c s) 3) $$ HbS
  ihave HbR := (at_pos (fun s => rsR c s) 3) $$ HbR
  have hend : iprop((atPos ER (agS c 0) 0 ∅ 0 ∗ bigSep slots fun s => atPos ER (agS c s) 4 ∅ 0)
      ∗ (atPos ER (agR c 0) 0 ∅ 0 ∗ bigSep slots fun s => atPos ER (agR c s) 4 ∅ 0)
      ∗ (atPos ER (rsS c 0) 0 ∅ 0 ∗ bigSep slots fun s => atPos ER (rsS c s) 3 ∅ 0)
      ∗ (atPos ER (rsR c 0) 0 ∅ 0 ∗ bigSep slots fun s => atPos ER (rsR c s) 3 ∅ 0))
      = (bigSep Finset.univ fun x : Fin 4 × Fin 32 => atPos ER (kcell (c, some x)) (endR x) ∅ 0 : sProp 𝕄) := by
    have hR : ∀ (k : Fin 4) (R : ℕ), (if k.val < 2 then 4 else 3) = R →
        bigSep slots (fun s => atPos ER (kcell (c, some (k, s))) (endR (k, s)) ∅ 0) = (bigSep slots fun s => atPos ER (kcell (c, some (k, s))) R ∅ 0 : sProp 𝕄) :=
      fun k R e => bigSep_congr fun s hs => by
        unfold endR; rw [if_neg (mem_slots.mp hs)]; dsimp only; rw [e]
    rw [cells4, hR 0 4 rfl, hR 1 4 rfl, hR 2 3 rfl, hR 3 3 rfl]
    rfl
  ihave Hc := (Entails.of_eq hend) $$ [HaS0 HaS HaR0 HaR HbS0 HbS HbR0 HbR]
  · isplitl [HaS0 HaS]
    · isplitl [HaS0]; · iexact HaS0
      iexact HaS
    isplitl [HaR0 HaR]
    · isplitl [HaR0]; · iexact HaR0
      iexact HaR
    isplitl [HbS0 HbS]
    · isplitl [HbS0]; · iexact HbS0
      iexact HbS
    isplitl [HbR0]; · iexact HbR0
    iexact HbR
  imod (close_all I K c) $$ [Hc] with Hz
  · isplitr; · iexact HR
    iexact Hc
  imod (close_bar I K c) $$ [HaB] with HzB
  · isplitr; · iexact HR
    iexact HaB
  imodintro
  iapply Hk
  -- the buffers
  isplitl [Hxf Hpt0 Hpt Hrb0 Hrb Hst Hz HzB]
  · unfold End Scratch
    isplitr [Hz HzB]
    · isplitl [Hxf]; · iexists _; iexact Hxf
      isplitl [Hpt0 Hpt]
      · iapply (pt_whole_any c)
        iapply (pt_back c fp fp')
        isplitl [Hpt0]; · iexact Hpt0
        iexact Hpt
      isplitl [Hrb0 Hrb]
      · iapply (rb_whole_any c)
        rw [slots_univ]
        isplitl [Hrb0]; · iexact Hrb0
        ihave Hrb := (Entails.of_eq (partner_slots fun i => iprop(∃ f, rbP c i f))) $$ Hrb
        iexact Hrb
      iexists _; iexact Hst
    isplitl [HzB]; · iexact HzB
    iexact Hz
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hout]; · iexact Hout
  iexact HO

end Cert.KernelIdeal.Tp

end
-- ==== Proof.Data.lean ====
module

public import proofs.«01_k».proof.Proof.Whole
public import proofs.«01_k».proof.Proof.Gen.KernelIdeal.Frame

/-! What the region holds before and after its one point, and its body between the two. -/

@[expose] public section

noncomputable section

namespace Cert.KernelIdeal.Tp

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ### The operands as staged -/

def op0 (c : Dev nD) : (cc0_stg0_0 : Ref sig .tc).ty.Contents (Elt F) := (win0_0.blk (0 : Fin 1)).view.read (Elt F) ((s₀ m ρ).mem ((c : Thread nD τ).loc main_arg0))
def op1 (c : Dev nD) : (cc0_stg1_0 : Ref sig .tc).ty.Contents (Elt F) := (win0_1.blk (0 : Fin 1)).view.read (Elt F) ((s₀ m ρ).mem ((c : Thread nD τ).loc main_arg1))
def op2 (c : Dev nD) : (cc0_stg2_0 : Ref sig .tc).ty.Contents (Elt F) := (win0_2.blk (0 : Fin 1)).view.read (Elt F) ((s₀ m ρ).mem ((c : Thread nD τ).loc main_arg2))
def op3 (c : Dev nD) : (cc0_stg3_0 : Ref sig .tc).ty.Contents (Elt F) := (win0_3.blk (0 : Fin 1)).view.read (Elt F) ((s₀ m ρ).mem ((c : Thread nD τ).loc main_arg3))
def op4 (c : Dev nD) : (cc0_stg4_0 : Ref sig .tc).ty.Contents (Elt F) := (win0_4.blk (0 : Fin 1)).view.read (Elt F) ((s₀ m ρ).mem ((c : Thread nD τ).loc main_arg4))
def op5 (c : Dev nD) : (cc0_stg5_0 : Ref sig .tc).ty.Contents (Elt F) := (win0_5.blk (0 : Fin 1)).view.read (Elt F) ((s₀ m ρ).mem ((c : Thread nD τ).loc main_arg5))
def op6 (c : Dev nD) : (cc0_stg6_0 : Ref sig .tc).ty.Contents (Elt F) := (win0_6.blk (0 : Fin 1)).view.read (Elt F) ((s₀ m ρ).mem ((c : Thread nD τ).loc main_arg6))

/-- Every device's operands. -/
def inp : Inp F where
  x c := op0 m ρ c
  win l c := if l = 0 then op1 m ρ c else if l = 1 then op3 m ρ c else op5 m ρ c
  wout l c := if l = 0 then op2 m ρ c else if l = 1 then op4 m ρ c else op6 m ρ c

/-- The result. -/
def outAt (c : Dev nD) : (cc0_stg7_0 : Ref sig .tc).ty.Contents (Elt F) := k0_pay1 (GX (inp m ρ) 3 c)

/-- What a device owes at launch. -/
def O₀ (c : Dev nD) : CellTallies nD τ sig ℕ := tot (sigL c ++ restL c)

/-- A device's share of the launch. -/
def Φ₀ (c : Dev nD) : sProp 𝕄 := iprop((∃ K, recs (inp m ρ) K) ∗ Start c ∗ Scratch c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => op0 m ρ c
    | ⟨1, _⟩ => op1 m ρ c
    | ⟨2, _⟩ => op2 m ρ c
    | ⟨3, _⟩ => op3 m ρ c
    | ⟨4, _⟩ => op4 m ρ c
    | ⟨5, _⟩ => op5 m ρ c
    | ⟨6, _⟩ => op6 m ρ c
    | ⟨7, _⟩ => outAt m ρ c
  Φ t := match t with
    | ⟨0, _⟩ => Φ₀ m ρ c
    | ⟨_ + 1, _⟩ => End c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 8) ∗ Φ (1 : Fin 8) ∗ Φ (2 : Fin 8) ∗ Φ (3 : Fin 8) ∗ Φ (4 : Fin 8)
    ∗ Φ (5 : Fin 8) ∗ Φ (6 : Fin 8) ∗ Φ (7 : Fin 8)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t0_0.castSucc
    ∗ (∃ d, stg c cc0_stg0_0 ((dats m ρ 0 c).before (0 : Fin 8) t0_0 d)) ∗ (∃ d, stg c cc0_stg1_0 ((dats m ρ 0 c).before (1 : Fin 8) t0_0 d))
    ∗ (∃ d, stg c cc0_stg2_0 ((dats m ρ 0 c).before (2 : Fin 8) t0_0 d)) ∗ (∃ d, stg c cc0_stg3_0 ((dats m ρ 0 c).before (3 : Fin 8) t0_0 d))
    ∗ (∃ d, stg c cc0_stg4_0 ((dats m ρ 0 c).before (4 : Fin 8) t0_0 d)) ∗ (∃ d, stg c cc0_stg5_0 ((dats m ρ 0 c).before (5 : Fin 8) t0_0 d))
    ∗ (∃ d, stg c cc0_stg6_0 ((dats m ρ 0 c).before (6 : Fin 8) t0_0 d)) ∗ (∃ d, stg c cc0_stg7_0 ((dats m ρ 0 c).before (7 : Fin 8) t0_0 d)))

def bodyPost (c : Dev nD) : sProp 𝕄 :=
  iprop(End c ∗ (dats m ρ 0 c).owesAt 0 t0_0.succ ∗ stg c cc0_stg0_0 (op0 m ρ c) ∗ stg c cc0_stg1_0 (op1 m ρ c) ∗ stg c cc0_stg2_0 (op2 m ρ c)
    ∗ stg c cc0_stg3_0 (op3 m ρ c) ∗ stg c cc0_stg4_0 (op4 m ρ c) ∗ stg c cc0_stg5_0 (op5 m ρ c) ∗ stg c cc0_stg6_0 (op6 m ρ c) ∗ stg c cc0_stg7_0 (outAt m ρ c))

theorem stg_mk (c : Dev nD) (b : Ref sig .tc) (X : b.ty.Contents (Elt F)) :
    ((((c : Thread nD τ).loc b) ↦{fullShare} X : sProp 𝕄)) ⊢ stg c b X := by
  iintro H
  iexists X
  isplitr; · ipureintro; rfl
  iexact H

theorem owes_out (c : Dev nD) (I : Inp F) (K : Dev nD × Cx → ℕ) : Owes I K c [] ⊢ (dats m ρ 0 c).owesAt 0 t0_0.succ := by
  unfold Owes Dat.owesAt Pipeline.owesWithin
  rw [show (dats m ρ 0 c).owed t0_0.succ = 0 from rfl]
  iintro ⟨-, ⟨%W, HO⟩⟩
  iexists W
  isplitr; · ipureintro; exact fun _ _ => Or.inl trivial
  iexact HO

set_option maxRecDepth 4000 in
theorem sound_body (c : Dev nD) :
    bodyPre m ρ c ⊢ wp frame (wpE (defs₀ (F := F)) 𝒱₀ c none) Set.univ (bodyAt0 (F := F) t0_0) (fun _ => bodyPost m ρ c) := by
  unfold bodyPre Φ₀
  iintro ⟨⟨⟨%K, #HR⟩, HS, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩,
    ⟨%d5, %g5, %hg5, H5⟩, ⟨%d6, %g6, %hg6, H6⟩, ⟨%d7, %g7, %hg7, H7⟩⟩
  have e0 : g0 = op0 m ρ c := by rw [hg0]; unfold Dat.before; rw [if_pos (fetch0_0 t0_0)]; rfl
  have e1 : g1 = op1 m ρ c := by rw [hg1]; unfold Dat.before; rw [if_pos (fetch0_1 t0_0)]; rfl
  have e2 : g2 = op2 m ρ c := by rw [hg2]; unfold Dat.before; rw [if_pos (fetch0_2 t0_0)]; rfl
  have e3 : g3 = op3 m ρ c := by rw [hg3]; unfold Dat.before; rw [if_pos (fetch0_3 t0_0)]; rfl
  have e4 : g4 = op4 m ρ c := by rw [hg4]; unfold Dat.before; rw [if_pos (fetch0_4 t0_0)]; rfl
  have e5 : g5 = op5 m ρ c := by rw [hg5]; unfold Dat.before; rw [if_pos (fetch0_5 t0_0)]; rfl
  have e6 : g6 = op6 m ρ c := by rw [hg6]; unfold Dat.before; rw [if_pos (fetch0_6 t0_0)]; rfl
  subst e0 e1 e2 e3 e4 e5 e6
  clear hg0 hg1 hg2 hg3 hg4 hg5 hg6 hg7
  have hO : (dats m ρ 0 c).owesAt 0 t0_0.castSucc ⊢ iprop(∃ W, owes (c : Thread nD τ) (tot (sigL c ++ restL c)) W) := by
    unfold Dat.owesAt Pipeline.owesWithin
    rw [show (dats m ρ 0 c).owed t0_0.castSucc = O₀ c from rfl]
    unfold O₀
    iintro ⟨%W, -, HO⟩
    iexists W; iexact HO
  ihave HO := hO $$ Ho
  rw [show (bodyAt0 (F := F) t0_0) = bodyP (Memref.whole cc0_stg0_0) (Memref.whole cc0_stg1_0) (Memref.whole cc0_stg2_0) (Memref.whole cc0_stg3_0) (Memref.whole cc0_stg4_0)
      (Memref.whole cc0_stg5_0) (Memref.whole cc0_stg6_0) outM xfM hxf ptM hpt rbM hrb stM hst cc0_scratch4 cc0_scratch5 cc0_scratch6 cc0_scratch7
      upTab upTab dnTab upTab dnTab upTab dnTab upTab from (body_eq ..).trans (by simp only [sigDevs_eq, agDevs0_eq, agDevs1_eq, agDevs2_eq, finDevs_eq, rsDevs0_eq, rsDevs1_eq, rsDevs2_eq])]
  iapply (sound (inp m ρ) K c
    (loads_of c (m := Memref.whole cc0_stg0_0) (Finset.subset_univ _) (Memref.readAt_unit_zero (Elt F) cc0_stg0_0 zz _ (op0 m ρ c)))
    (loads_of c (m := Memref.whole cc0_stg1_0) (Finset.subset_univ _) (Memref.readAt_unit_zero (Elt F) cc0_stg1_0 zz _ (op1 m ρ c)))
    (loads_of c (m := Memref.whole cc0_stg2_0) (Finset.subset_univ _) (Memref.readAt_unit_zero (Elt F) cc0_stg2_0 zz _ (op2 m ρ c)))
    (loads_of c (m := Memref.whole cc0_stg3_0) (Finset.subset_univ _) (Memref.readAt_unit_zero (Elt F) cc0_stg3_0 zz _ (op3 m ρ c)))
    (loads_of c (m := Memref.whole cc0_stg4_0) (Finset.subset_univ _) (Memref.readAt_unit_zero (Elt F) cc0_stg4_0 zz _ (op4 m ρ c)))
    (loads_of c (m := Memref.whole cc0_stg5_0) (Finset.subset_univ _) (Memref.readAt_unit_zero (Elt F) cc0_stg5_0 zz _ (op5 m ρ c)))
    (loads_of c (m := Memref.whole cc0_stg6_0) (Finset.subset_univ _) (Memref.readAt_unit_zero (Elt F) cc0_stg6_0 zz _ (op6 m ρ c)))
    g7 (fun _ => bodyPost m ρ c)) $$ [HS Hscr H0 H1 H2 H3 H4 H5 H6 H7 HO]
  · isplitl [HS]; · iexact HS
    isplitl [Hscr]; · iexact Hscr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold Owes
    isplitr; · iexact HR
    iexact HO
  iintro ⟨HE, H0, H1, H2, H3, H4, H5, H6, H7, HO⟩
  unfold bodyPost
  isplitl [HE]; · iexact HE
  isplitl [HO]; · iapply (owes_out m ρ c (inp m ρ) K); iexact HO
  isplitl [H0]; · iapply (stg_mk c cc0_stg0_0); iexact H0
  isplitl [H1]; · iapply (stg_mk c cc0_stg1_0); iexact H1
  isplitl [H2]; · iapply (stg_mk c cc0_stg2_0); iexact H2
  isplitl [H3]; · iapply (stg_mk c cc0_stg3_0); iexact H3
  isplitl [H4]; · iapply (stg_mk c cc0_stg4_0); iexact H4
  isplitl [H5]; · iapply (stg_mk c cc0_stg5_0); iexact H5
  isplitl [H6]; · iapply (stg_mk c cc0_stg6_0); iexact H6
  iapply (stg_mk c cc0_stg7_0); iexact H7

set_option maxRecDepth 60000 in
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  show bodyPre m ρ c ⊢ wp frame (wpE (defs₀ (F := F)) 𝒱₀ c none) Set.univ (bodyAt0 (F := F) t0_0) (fun _ => bodyPost m ρ c)
  exact sound_body m ρ c

end Cert.KernelIdeal.Tp

end
-- ==== Proof.Tokens.lean ====
module

public import proofs.«01_k».proof.Proof.Data

/-! The tokens: minted by the cell they belong to, then handed to the device that pays with them. -/

@[expose] public section

noncomputable section

namespace Cert.KernelIdeal.Tp

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### Cells are told apart -/

theorem osem_injective : Function.Injective osem := by decide +kernel

theorem osem_ne (x : Fin 4 × Fin 32) : osem x ≠ .reg barSem := fun h => by cases h

theorem csem_injective : Function.Injective csem := by
  rintro (_ | x) (_ | y) h
  · rfl
  · exact absurd h.symm (osem_ne y)
  · exact absurd h (osem_ne x)
  · exact congrArg some (osem_injective h)

theorem kcell_injective : Function.Injective kcell := by
  rintro ⟨c, x⟩ ⟨c', x'⟩ h
  have h1 : c = c' := congrArg (fun g : GSem nD τ sig => g.1.1) h
  have h2 : x = x' := csem_injective (congrArg Prod.snd h)
  rw [h1, h2]

/-- Every cell of the protocol. -/
def allCells : Finset (GSem nD τ sig) := Finset.univ.map ⟨kcell, kcell_injective⟩

/-- A token's place: the cell, the round, the duty. -/
abbrev Tx : Type := Cx × Fin 4 × Fin 32

def tokOf (x : Dev nD × Tx) : GSem nD τ sig × ℕ × Fin 32 := (kcell (x.1, x.2.1), x.2.2.1.val, x.2.2.2)

theorem tokOf_injective : Function.Injective tokOf := by
  rintro ⟨c, x, l, d⟩ ⟨c', x', l', d'⟩ h
  have h1 := kcell_injective (congrArg Prod.fst h)
  have h2 : l = l' := Fin.ext (congrArg (fun p => p.2.1) h)
  have h3 : d = d' := congrArg (fun p => p.2.2) h
  cases h1; cases h2; cases h3; rfl

def allToks : Finset (GSem nD τ sig × ℕ × Fin 32) := Finset.univ.map ⟨tokOf, tokOf_injective⟩

/-- A device's cells are its barrier and its DMA cells. -/
theorem bigSep_cx (Φ : Cx → sProp (MT nD τ sig ℕ (Elt F) ℕ UU ℕ)) :
    bigSep Finset.univ Φ = iprop(Φ none ∗ bigSep Finset.univ fun x : Fin 4 × Fin 32 => Φ (some x)) := by
  have h : (Finset.univ : Finset Cx).erase none = Finset.univ.map Function.Embedding.some := by
    ext x; cases x <;> simp
  rw [bigSep_univ_at Φ none, h, bigSep_map]
  rfl

/-! ### Families of tokens -/

/-- One token for each slot. -/
def fam (g : Fin 32 → GSem nD τ sig) (l : ℕ) : sProp 𝕄 := bigSep slots fun s => dutyTok ER (g s) l 0

/-- As minted by the cells' owner. -/
def mint (c : Dev nD) : sProp 𝕄 :=
  iprop(bigSep slots (fun s => dutyTok ER (barC c) 0 s)
    ∗ (fam (agS c) 0 ∗ fam (agS c) 1 ∗ fam (agS c) 2 ∗ fam (agS c) 3) ∗ (fam (agR c) 0 ∗ fam (agR c) 1 ∗ fam (agR c) 2 ∗ fam (agR c) 3)
    ∗ (fam (rsS c) 0 ∗ fam (rsS c) 1 ∗ fam (rsS c) 2 ∗ fam (rsS c) 3) ∗ (fam (rsR c) 0 ∗ fam (rsR c) 1 ∗ fam (rsR c) 2 ∗ fam (rsR c) 3))

/-- As held by the devices that pay with them. -/
def paid (c : Dev nD) : sProp 𝕄 :=
  iprop(bigSep slots (fun s => dutyTok ER (barC (up c s)) 0 s)
    ∗ (fam (agS c) 0 ∗ fam (agS c) 1 ∗ fam (agS c) 2 ∗ fam (agS c) 3)
    ∗ (fam (fun s => agR (up c s) s) 0 ∗ fam (fun s => agR (up c s) s) 1 ∗ fam (fun s => agR (up c s) s) 2 ∗ fam (fun s => agR (up c s) s) 3)
    ∗ (fam (rsS c) 0 ∗ fam (rsS c) 1 ∗ fam (rsS c) 2 ∗ fam (rsS c) 3)
    ∗ (fam (fun s => rsR (dn c (partner s)) s) 0 ∗ fam (fun s => rsR (dn c (partner s)) s) 1 ∗ fam (fun s => rsR (dn c (partner s)) s) 2
      ∗ fam (fun s => rsR (dn c (partner s)) s) 3))

theorem all_at0 (g : GSem nD τ sig) :
    (bigSep Finset.univ fun y : Fin 4 × Fin 32 => (dutyTok ER g y.1.val y.2 : sProp 𝕄))
      ⊢ iprop(dutyTok ER g 0 0 ∗ dutyTok ER g 1 0 ∗ dutyTok ER g 2 0 ∗ dutyTok ER g 3 0) := by
  rw [bigSep_univ_prod, bigSep_univ_eq_bigSepL [0, 1, 2, 3] (by decide) (by decide)]
  exact BI.sep_mono (bigSep_elim (Finset.mem_univ 0)) (BI.sep_mono (bigSep_elim (Finset.mem_univ 0))
    (BI.sep_mono (bigSep_elim (Finset.mem_univ 0)) (bigSep_elim (Finset.mem_univ 0))))

theorem all_bar (g : GSem nD τ sig) :
    (bigSep Finset.univ fun y : Fin 4 × Fin 32 => (dutyTok ER g y.1.val y.2 : sProp 𝕄)) ⊢ bigSep slots fun s => dutyTok ER g 0 s := by
  rw [bigSep_univ_prod]
  exact (bigSep_elim (Finset.mem_univ 0)).trans (bigSep_subset (Finset.subset_univ _))

theorem fam4 (g : Fin 32 → GSem nD τ sig) (Ψ : sProp (MT nD τ sig ℕ (Elt F) ℕ UU ℕ)) :
    iprop(Ψ ∗ bigSep slots fun s => iprop(dutyTok ER (g s) 0 0 ∗ dutyTok ER (g s) 1 0 ∗ dutyTok ER (g s) 2 0 ∗ dutyTok ER (g s) 3 0))
      ⊢ iprop(fam g 0 ∗ fam g 1 ∗ fam g 2 ∗ fam g 3) := by
  unfold fam
  rw [bigSep_sep', bigSep_sep', bigSep_sep']
  iintro ⟨-, H⟩
  iexact H

theorem mint_of (c : Dev nD) :
    (bigSep Finset.univ fun x : Tx => (dutyTok ER (kcell (c, x.1)) x.2.1.val x.2.2 : sProp 𝕄)) ⊢ mint c := by
  rw [bigSep_univ_prod, bigSep_cx]
  unfold mint
  refine BI.sep_mono (all_bar (barC c)) ?_
  refine (bigSep_mono fun x _ => all_at0 (kcell (c, some x))).trans ?_
  rw [cells4]
  exact BI.sep_mono (fam4 (agS c) _) (BI.sep_mono (fam4 (agR c) _) (BI.sep_mono (fam4 (rsS c) _) (fam4 (rsR c) _)))

/-! ### Handed round -/

/-- The device slot `s` up. -/
def upEquiv (s : Fin 32) : Dev nD ≃ Dev nD := ⟨fun d => up d s, fun d => dn d s, fun d => dn_up d s, fun d => up_dn d s⟩

/-- The device slot `s` down. -/
def downEquiv (s : Fin 32) : Dev nD ≃ Dev nD := ⟨fun d => dn d s, fun d => up d s, fun d => up_dn d s, fun d => dn_up d s⟩

/-- Two products change places. -/
theorem bigSep_comm (S : Finset (Fin 32)) (Φ : Dev nD → Fin 32 → sProp (MT nD τ sig ℕ (Elt F) ℕ UU ℕ)) :
    (bigSep Finset.univ fun c => bigSep S fun s => Φ c s) = bigSep S fun s => bigSep Finset.univ fun c => Φ c s := by
  induction S using Finset.induction_on with
  | empty =>
    simp only [bigSep_empty]
    exact bigSep_emp_const _
  | insert s S hs ih => rw [bigSep_insert hs, ← ih, ← bigSep_sep]; exact bigSep_congr fun c _ => bigSep_insert hs

theorem around (e : Fin 32 → (Dev nD ≃ Dev nD)) (Φ : Dev nD → Fin 32 → sProp (MT nD τ sig ℕ (Elt F) ℕ UU ℕ)) :
    (bigSep Finset.univ fun c => bigSep slots fun s => Φ c s) = bigSep Finset.univ fun c => bigSep slots fun s => Φ (e s c) s := by
  rw [bigSep_comm, bigSep_comm slots fun c s => Φ (e s c) s]
  exact bigSep_congr fun s _ => bigSep_univ_equiv (e s) fun c => Φ c s

theorem fam_up (g : Dev nD → Fin 32 → GSem nD τ sig) (l : ℕ) :
    (bigSep Finset.univ fun c => (fam (g c) l : sProp 𝕄)) = bigSep Finset.univ fun c => fam (fun s => g (up c s) s) l :=
  around upEquiv fun c s => dutyTok ER (g c s) l 0

theorem fam_down (g : Dev nD → Fin 32 → GSem nD τ sig) (l : ℕ) :
    (bigSep Finset.univ fun c => (fam (g c) l : sProp 𝕄)) = bigSep Finset.univ fun c => fam (fun s => g (dn c (partner s)) s) l :=
  around (fun s => downEquiv (partner s)) fun c s => dutyTok ER (g c s) l 0

theorem toks_around : (bigSep Finset.univ fun c : Dev nD => (mint c : sProp 𝕄)) = bigSep Finset.univ fun c : Dev nD => paid c := by
  have hb := around (F := F) upEquiv fun c s => dutyTok ER (barC c) 0 s
  unfold mint paid
  simp only [bigSep_sep', fam_up agR, fam_down rsR]
  rw [hb]
  rfl

/-- A family along the order of the scatter. -/
theorem fam_partner (g : Fin 32 → GSem nD τ sig) (l : ℕ) :
    (fam g l : sProp 𝕄) = bigSep slots fun s => dutyTok ER (g (partner s)) l 0 := (partner_slots fun s => dutyTok ER (g s) l 0).symm

end Cert.KernelIdeal.Tp

end
-- ==== Proof.Credits.lean ====
module

public import proofs.«01_k».proof.Proof.Tokens

/-! The credits: what all devices together owe a cell at launch. -/

@[expose] public section

noncomputable section

namespace Cert.KernelIdeal.Tp

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### A list of debts as a sum -/

theorem tot_sum (es : Owed) : tot es = (es.map fun e => (tallyAt e.1 e.2.1 e.2.2 : CellTallies nD τ sig ℕ)).sum := by
  induction es with
  | nil => rfl
  | cons e es ih => rw [List.map_cons, List.sum_cons, ← ih]; exact add_comm _ _

theorem tot_append (a b : Owed) : tot (a ++ b) = tot a + tot b := by
  rw [tot_sum, tot_sum, tot_sum, List.map_append, List.sum_append]

theorem tot_slots (ord : List (Fin 32)) (hn : ord.Nodup) (ho : ord.toFinset = slots) (g : Fin 32 → GSem nD τ sig) (l n : ℕ) :
    tot (ord.map fun s => (g s, l, n)) = ∑ s ∈ slots, (tallyAt (g s) l n : CellTallies nD τ sig ℕ) := by
  rw [tot_sum, List.map_map, ← ho, List.sum_toFinset _ hn]
  rfl

/-! ### What a family of debts comes to at one cell -/

/-- A family's debts, all devices together, at cell `q` and round `u`. -/
def owedBy (g : Dev nD → Fin 32 → GSem nD τ sig) (l n : ℕ) (q : GSem nD τ sig) (u : ℕ) : ℕ :=
  ∑ d : Dev nD, ∑ s ∈ slots, (tallyAt (g d s) l n : CellTallies nD τ sig ℕ) q u

theorem tot_at (ord : List (Fin 32)) (hn : ord.Nodup) (ho : ord.toFinset = slots) (g : Fin 32 → GSem nD τ sig) (l n : ℕ) (q : GSem nD τ sig) (u : ℕ) :
    tot (ord.map fun s => (g s, l, n)) q u = ∑ s ∈ slots, (tallyAt (g s) l n : CellTallies nD τ sig ℕ) q u := by
  rw [tot_slots ord hn ho, Finset.sum_apply, Finsupp.finsetSum_apply]

theorem owed_around (e : Fin 32 → (Dev nD ≃ Dev nD)) (g : Dev nD → Fin 32 → GSem nD τ sig) (l n : ℕ) (q : GSem nD τ sig) (u : ℕ) :
    owedBy (fun d s => g (e s d) s) l n q u = owedBy g l n q u := by
  unfold owedBy
  rw [Finset.sum_comm, Finset.sum_comm (s := Finset.univ) (t := slots)]
  exact Finset.sum_congr rfl fun s _ => Equiv.sum_comp (e s) fun d => (tallyAt (g d s) l n : CellTallies nD τ sig ℕ) q u

theorem owed_none {g : Dev nD → Fin 32 → GSem nD τ sig} {q : GSem nD τ sig} (h : ∀ d s, q ≠ g d s) (l n u : ℕ) : owedBy g l n q u = 0 :=
  Finset.sum_eq_zero fun d _ => Finset.sum_eq_zero fun s _ => by rw [tallyAt_apply, if_neg fun h' => h d s h'.1]

theorem owed_one {g : Dev nD → Fin 32 → GSem nD τ sig} (hg : ∀ c s d s', g c s = g d s' → c = d ∧ s = s') (c : Dev nD) {s : Fin 32} (hs : s ∈ slots) (l n u : ℕ) :
    owedBy g l n (g c s) u = if u = l then n else 0 := by
  unfold owedBy
  rw [Finset.sum_eq_single c, Finset.sum_eq_single s, tallyAt_apply]
  · by_cases h : u = l
    · rw [if_pos ⟨rfl, h⟩, if_pos h]
    · rw [if_neg (fun h' => h h'.2), if_neg h]
  · intro s' _ h; rw [tallyAt_apply, if_neg fun h' => h (hg _ _ _ _ h'.1).2.symm]
  · exact fun h => absurd hs h
  · intro d _ h
    exact Finset.sum_eq_zero fun s' _ => by rw [tallyAt_apply, if_neg fun h' => h (hg _ _ _ _ h'.1).1.symm]
  · exact fun h => absurd (Finset.mem_univ _) h

theorem bar_dev {c d : Dev nD} (h : barC c = barC d) : c = d := congrArg (fun g : GSem nD τ sig => g.1.1) h

theorem owed_bar (c : Dev nD) (u : ℕ) : owedBy (fun d _ => barC d) 0 1 (barC c) u = if u = 0 then 31 else 0 := by
  unfold owedBy
  rw [Finset.sum_eq_single c]
  · by_cases h : u = 0
    · rw [Finset.sum_congr rfl fun s _ => by rw [tallyAt_apply, if_pos ⟨rfl, h⟩], Finset.sum_const, if_pos h]; decide
    · rw [Finset.sum_congr rfl fun s _ => by rw [tallyAt_apply, if_neg fun h' => h h'.2], Finset.sum_const_zero, if_neg h]
  · intro d _ h
    exact Finset.sum_eq_zero fun s' _ => by rw [tallyAt_apply, if_neg fun h' => h (bar_dev h'.1).symm]
  · exact fun h => absurd (Finset.mem_univ _) h

/-! ### The cells of the three families -/

theorem dma_cell {c d : Dev nD} {x y : Fin 4 × Fin 32} (h : kcell (c, some x) = kcell (d, some y)) : c = d ∧ x = y := by
  have h := kcell_injective h
  exact ⟨congrArg Prod.fst h, Option.some.inj (congrArg Prod.snd h)⟩

theorem agR_inj : ∀ c s d s', agR c s = agR d s' → c = d ∧ s = s' := fun c s d s' h =>
  have h := dma_cell (x := (1, s)) (y := (1, s')) h
  ⟨h.1, congrArg Prod.snd h.2⟩

theorem rsR_inj : ∀ c s d s', rsR c (partner s) = rsR d (partner s') → c = d ∧ s = s' := fun c s d s' h =>
  have h := dma_cell (x := (3, partner s)) (y := (3, partner s')) h
  ⟨h.1, by
    have e : partner s = partner s' := congrArg Prod.snd h.2
    rw [← partner_partner s, e, partner_partner]⟩

theorem agR_rsR (c d : Dev nD) (s s' : Fin 32) : agR c s ≠ rsR d s' := fun h =>
  absurd (show (1 : Fin 4) = 3 from congrArg (fun p => p.1) (dma_cell (x := (1, s)) (y := (3, s')) h).2) (by decide)

theorem bar_dma (c d : Dev nD) (q : DmaSem sig) : barC c ≠ ((d : Thread nD τ), .dma q) := fun h => by cases congrArg Prod.snd h

/-- What all devices together owe a cell. -/
def owedAll (q : GSem nD τ sig) (u : ℕ) : ℕ :=
  owedBy (fun d _ => barC d) 0 1 q u + (owedBy agR 0 N q u + (owedBy (fun d s => rsR d (partner s)) 0 N q u + (owedBy agR 1 N q u
    + (owedBy (fun d s => rsR d (partner s)) 1 N q u + (owedBy agR 2 N q u + (owedBy (fun d s => rsR d (partner s)) 2 N q u + owedBy agR 3 N q u))))))

theorem credit_at (q : GSem nD τ sig) (u : ℕ) : launchCredit (Pipeline.owing O₀) 0 q u = owedAll q u := by
  rw [Pipeline.launchCredit_owing]
  unfold O₀ restL sigL agL rsL owedAll
  simp only [tot_append, Pi.add_apply, Finsupp.add_apply, Finset.sum_add_distrib]
  rw [← owed_around upEquiv (fun d _ => barC d), ← owed_around upEquiv agR, ← owed_around upEquiv agR, ← owed_around upEquiv agR, ← owed_around upEquiv agR,
    ← owed_around downEquiv (fun d s => rsR d (partner s)), ← owed_around downEquiv (fun d s => rsR d (partner s)),
    ← owed_around downEquiv (fun d s => rsR d (partner s))]
  unfold owedBy
  simp only [tot_at ordK ordK_nodup ordK_slots, tot_at ordS ordS_nodup ordS_slots]
  rfl

theorem launch_bar (c : Dev nD) :
    tallyOn (barC c) (launchCredit (Pipeline.owing O₀) 0 (barC c)) = (tallyAt (barC c) 0 31 : CellTallies nD τ sig ℕ) := by
  unfold tallyAt; refine congrArg _ (Finsupp.ext fun u => ?_)
  rw [credit_at]; unfold owedAll
  simp only [owed_none (g := agR) (fun d s => bar_dma c d _), owed_none (g := fun d s => rsR d (partner s)) (fun d s => bar_dma c d _), owed_bar,
    Finsupp.single_apply, Nat.add_zero, eq_comm]

theorem launch_agR (c : Dev nD) {s : Fin 32} (hs : s ∈ slots) :
    tallyOn (agR c s) (launchCredit (Pipeline.owing O₀) 0 (agR c s))
      = (tallyAt (agR c s) 0 N + (tallyAt (agR c s) 1 N + (tallyAt (agR c s) 2 N + tallyAt (agR c s) 3 N)) : CellTallies nD τ sig ℕ) := by
  unfold tallyAt; rw [← tallyOn_add, ← tallyOn_add, ← tallyOn_add]; refine congrArg _ (Finsupp.ext fun u => ?_)
  rw [credit_at]; unfold owedAll
  simp only [owed_none (g := fun d _ => barC d) (fun d _ => (bar_dma d c _).symm), owed_none (g := fun d s => rsR d (partner s)) (fun d s' => agR_rsR c d s _),
    owed_one agR_inj c hs, Finsupp.add_apply, Finsupp.single_apply, Nat.zero_add, eq_comm]

theorem launch_rsR (c : Dev nD) {s : Fin 32} (hs : s ∈ slots) :
    tallyOn (rsR c (partner s)) (launchCredit (Pipeline.owing O₀) 0 (rsR c (partner s)))
      = (tallyAt (rsR c (partner s)) 0 N + (tallyAt (rsR c (partner s)) 1 N + tallyAt (rsR c (partner s)) 2 N) : CellTallies nD τ sig ℕ) := by
  unfold tallyAt; rw [← tallyOn_add, ← tallyOn_add]; refine congrArg _ (Finsupp.ext fun u => ?_)
  rw [credit_at]; unfold owedAll
  simp only [owed_none (g := fun d _ => barC d) (fun d _ => (bar_dma d c _).symm), owed_none (g := agR) (fun d s' => (agR_rsR d c s' _).symm),
    owed_one rsR_inj c hs, Finsupp.add_apply, Finsupp.single_apply, Nat.zero_add, Nat.add_zero, eq_comm]

/-! ### Dealt by rounds -/

/-- A device's credits. -/
def Creds (c : Dev nD) : sProp 𝕄 :=
  iprop(cred (tallyAt (barC c) 0 31)
    ∗ (bigSep slots (fun s => cred (tallyAt (agR c s) 0 N)) ∗ bigSep slots (fun s => cred (tallyAt (agR c s) 1 N))
      ∗ bigSep slots (fun s => cred (tallyAt (agR c s) 2 N)) ∗ bigSep slots (fun s => cred (tallyAt (agR c s) 3 N)))
    ∗ (bigSep slots (fun s => cred (tallyAt (rsR c (partner s)) 0 N)) ∗ bigSep slots (fun s => cred (tallyAt (rsR c (partner s)) 1 N))
      ∗ bigSep slots (fun s => cred (tallyAt (rsR c (partner s)) 2 N))))

theorem cred_add' (a b : CellTallies nD τ sig ℕ) : (cred (a + b) : sProp 𝕄) ⊢ iprop(cred a ∗ cred b) := (cred_add a b).1

theorem creds_agR (c : Dev nD) :
    bigSep slots (fun s => (cred (tallyOn (agR c s) (launchCredit (Pipeline.owing O₀) 0 (agR c s))) : sProp 𝕄))
      ⊢ iprop(bigSep slots (fun s => cred (tallyAt (agR c s) 0 N)) ∗ bigSep slots (fun s => cred (tallyAt (agR c s) 1 N))
      ∗ bigSep slots (fun s => cred (tallyAt (agR c s) 2 N)) ∗ bigSep slots (fun s => cred (tallyAt (agR c s) 3 N))) := by
  rw [← bigSep_sep', ← bigSep_sep', ← bigSep_sep']
  exact bigSep_mono fun s hs => by
    rw [launch_agR c hs]
    exact (cred_add' _ _).trans (sep_mono_right ((cred_add' _ _).trans (sep_mono_right (cred_add' _ _))))

theorem creds_rsR (c : Dev nD) :
    bigSep slots (fun s => (cred (tallyOn (rsR c s) (launchCredit (Pipeline.owing O₀) 0 (rsR c s))) : sProp 𝕄))
      ⊢ iprop(bigSep slots (fun s => cred (tallyAt (rsR c (partner s)) 0 N)) ∗ bigSep slots (fun s => cred (tallyAt (rsR c (partner s)) 1 N))
      ∗ bigSep slots (fun s => cred (tallyAt (rsR c (partner s)) 2 N))) := by
  rw [← partner_slots (fun s => (cred (tallyOn (rsR c s) (launchCredit (Pipeline.owing O₀) 0 (rsR c s))) : sProp 𝕄)), ← bigSep_sep', ← bigSep_sep']
  exact bigSep_mono fun s hs => by
    rw [launch_rsR c hs]
    exact (cred_add' _ _).trans (sep_mono_right (cred_add' _ _))

/-- Of the four arrays, the two the peers credit. -/
theorem pick_recv {A A' B B' C C' D D' Q R : sProp (MT nD τ sig ℕ (Elt F) ℕ UU ℕ)} (h : B' ⊢ Q) (h' : D' ⊢ R) :
    iprop((A ∗ A') ∗ (B ∗ B') ∗ (C ∗ C') ∗ (D ∗ D')) ⊢ iprop(Q ∗ R) := by
  iintro ⟨-, ⟨-, Ha⟩, -, ⟨-, Hr⟩⟩
  isplitl [Ha]; · iapply h; iexact Ha
  iapply h'; iexact Hr

theorem creds (c : Dev nD) : (Pipeline.launchCred O₀ c : sProp 𝕄) ⊢ Creds c := by
  unfold Pipeline.launchCred Creds
  rw [bigSep_univ_at _ (SemLoc.reg barSem), launch_bar]
  refine sep_mono_right ?_
  have hsub : (Finset.univ.map ⟨osem, osem_injective⟩ : Finset (SemLoc sig)) ⊆ Finset.univ.erase (.reg barSem) := fun x hx => by
    obtain ⟨y, -, rfl⟩ := Finset.mem_map.mp hx
    exact Finset.mem_erase.mpr ⟨osem_ne y, Finset.mem_univ _⟩
  refine (bigSep_subset hsub).trans ?_
  rw [bigSep_map, cells4]
  exact pick_recv (creds_agR c) (creds_rsR c)

end Cert.KernelIdeal.Tp

end
-- ==== Proof.Launch.lean ====
module

public import proofs.«01_k».proof.Proof.Credits
public import Idealize.ShloMosaic.Lib.Quiescent
public import Idealize.ShloMosaic.Lib.Pipeline.CollectiveSegs

/-! The launch: the cells' invariants made for all devices at once, and the run of the whole program. -/

@[expose] public section

noncomputable section

namespace Cert.KernelIdeal.Tp

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ### The resources of the launch -/

def u₀ : UU := (initOf (Pipeline.cells cfgs cellOf_inj) (Pipeline.launchToks cfgs cellOf_inj), initOf allCells allToks)

def posn (c : Dev nD) : sProp 𝕄 := bigSep Finset.univ fun x : Cx => atPos ER (kcell (c, x)) 0 ∅ 0

def toks (c : Dev nD) : sProp 𝕄 := bigSep Finset.univ fun x : Tx => dutyTok ER (kcell (c, x.1)) x.2.1.val x.2.2

/-- What a device gets of the launch's element. -/
def G (c : Dev nD) : sProp 𝕄 :=
  iprop((bigSep Finset.univ fun x : Cx => roundState ER (Rd (inp m ρ)) (kcell (c, x)) 0)
    ∗ (posn c ∗ bigSep Finset.univ fun x : Cx => reached ER (kcell (c, x)) 0) ∗ toks c)

/-- The records all devices share. -/
def records (K : Dev nD × Cx → ℕ) : sProp 𝕄 :=
  iprop((bigSep Finset.univ fun ck : Dev nD × Cx => cellInv ER (Rd (inp m ρ)) (K ck) (kcell ck))
    ∗ bigSep Finset.univ fun ck : Dev nD × Cx => reached ER (kcell ck) 0)

instance records_persistent (K : Dev nD × Cx → ℕ) : BI.Persistent (records m ρ K) := by unfold records; infer_instance

/-- What the global step makes of it. -/
def G' (c : Dev nD) : sProp 𝕄 := iprop((∃ K, records m ρ K) ∗ posn c ∗ paid c)

theorem fund_all : BI.own (ER (initOf allCells allToks)) ⊢ (|==> bigSep Finset.univ (G m ρ) : sProp 𝕄) := by
  have hX (Φ : GSem nD τ sig → sProp (MT nD τ sig ℕ (Elt F) ℕ UU ℕ)) :
      bigSep allCells Φ = bigSep Finset.univ fun c : Dev nD => bigSep Finset.univ fun x : Cx => Φ (kcell (c, x)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd (inp m ρ)) allCells allToks) $$ HX with ⟨Hst, Hr, Hat, Htok⟩
  imodintro
  ihave Hst' := (Entails.of_eq (hX fun g => roundState ER (Rd (inp m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posn; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barC c) 0 := by
  unfold unscopedSems0; rw [bigSep_eq_bigSepL_of_eq [SemLoc.reg barSem] (by decide +kernel) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun x : Cx => semVal (kcell (c, x)) 0 : sProp 𝕄) := by
  rw [unscopedSems0_eq, bigSep_cx]
  unfold Pipeline.ownSems0
  iintro ⟨H, HB⟩
  isplitl [HB]; · iexact HB
  iexact H

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun x : Cx => iprop(∃ κ : ℕ, cellInv ER (Rd (inp m ρ)) κ (kcell (c, x))))
          ∗ (posn c ∗ bigSep Finset.univ fun x : Cx => reached ER (kcell (c, x)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : Cx => semVal (kcell (c, x)) 0) ∗ bigSep Finset.univ fun x : Cx => roundState ER (Rd (inp m ρ)) (kcell (c, x)) 0)
      ⊢ (|={Set.univ}=> bigSep Finset.univ fun x : Cx => iprop(∃ κ : ℕ, cellInv ER (Rd (inp m ρ)) κ (kcell (c, x))) : sProp 𝕄) from by
        rw [← bigSep_sep']
        exact (bigSep_mono fun x _ => (Rounds.body_intro ER (Rd (inp m ρ)) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

theorem share_out (K : Dev nD × Cx → ℕ) (c : Dev nD) : iprop(records m ρ K ∗ (posn c ∗ paid c)) ⊢ G' m ρ c := by
  unfold G'
  iintro ⟨#HR, H⟩
  isplitr; · iexists K; iexact HR
  iexact H

theorem deal : (bigSep Finset.univ fun c : Dev nD => (toks c : sProp 𝕄)) ⊢ bigSep Finset.univ fun c : Dev nD => paid c := by
  rw [← toks_around]
  exact bigSep_mono fun c _ => mint_of c

theorem regroup :
    (bigSep Finset.univ fun c : Dev nD => iprop((bigSep Finset.univ fun x : Cx => iprop(∃ κ : ℕ, cellInv ER (Rd (inp m ρ)) κ (kcell (c, x))))
          ∗ (posn c ∗ bigSep Finset.univ fun x : Cx => reached ER (kcell (c, x)) 0) ∗ toks c) : sProp 𝕄)
      ⊢ bigSep Finset.univ (G' m ρ) := by
  rw [bigSep_sep', bigSep_sep', bigSep_sep', ← bigSep_univ_prod (fun ck : Dev nD × Cx => iprop(∃ κ : ℕ, cellInv ER (Rd (inp m ρ)) κ (kcell ck))),
    ← bigSep_univ_prod (fun ck : Dev nD × Cx => (reached ER (kcell ck) 0 : sProp 𝕄))]
  iintro ⟨HI, ⟨Hat, #HR⟩, Htok⟩
  ihave HK := (BI.bigSep_exists_pi Finset.univ (fun (ck : Dev nD × Cx) (κ : ℕ) => (cellInv ER (Rd (inp m ρ)) κ (kcell ck) : sProp 𝕄))) $$ HI
  icases HK with ⟨%K, #HI⟩
  ihave Htk := (deal (F := F)) $$ Htok
  iapply (bigSep_with_persistent (R := records m ρ K) fun c _ => share_out m ρ K c)
  isplitr
  · unfold records; isplitl; · iexact HI
    iexact HR
  · rw [bigSep_sep']
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### Entry and exit -/

/-- What the region is entered with. -/
def start (c : Dev nD) : sProp 𝕄 := iprop((∃ K, recs (inp m ρ) K) ∗ Start c)

theorem start_of (c : Dev nD) : iprop(posn c ∗ paid c ∗ Creds c) ⊢ (Start c : sProp 𝕄) := by
  unfold posn paid Creds Start Tk Tf
  rw [bigSep_cx, fam_partner (rsS c) 0, fam_partner (rsS c) 1, fam_partner (rsS c) 2,
    fam_partner (fun s => rsR (dn c (partner s)) s) 0, fam_partner (fun s => rsR (dn c (partner s)) s) 1, fam_partner (fun s => rsR (dn c (partner s)) s) 2]
  simp only [partner_partner]
  unfold fam
  iintro ⟨Hpos, ⟨HtB, ⟨HS0, HS1, HS2, HS3⟩, ⟨HR0, HR1, HR2, HR3⟩, ⟨HT0, HT1, HT2, -⟩, ⟨HV0, HV1, HV2, -⟩⟩,
    ⟨HcB, ⟨Ha0, Ha1, Ha2, Ha3⟩, ⟨Hb0, Hb1, Hb2⟩⟩⟩
  isplitl [Hpos]; · iexact Hpos
  isplitl [HtB]; · iexact HtB
  isplitl [HcB]; · iexact HcB
  isplitl [HS0 HR0 HT0 HV0 Ha0 Hb0]
  · isplitl [HS0]; · iexact HS0
    isplitl [HR0]; · iexact HR0
    isplitl [HT0]; · iexact HT0
    isplitl [HV0]; · iexact HV0
    isplitl [Ha0]; · iexact Ha0
    iexact Hb0
  isplitl [HS1 HR1 HT1 HV1 Ha1 Hb1]
  · isplitl [HS1]; · iexact HS1
    isplitl [HR1]; · iexact HR1
    isplitl [HT1]; · iexact HT1
    isplitl [HV1]; · iexact HV1
    isplitl [Ha1]; · iexact Ha1
    iexact Hb1
  isplitl [HS2 HR2 HT2 HV2 Ha2 Hb2]
  · isplitl [HS2]; · iexact HS2
    isplitl [HR2]; · iexact HR2
    isplitl [HT2]; · iexact HT2
    isplitl [HV2]; · iexact HV2
    isplitl [Ha2]; · iexact Ha2
    iexact Hb2
  isplitl [HS3]; · iexact HS3
  isplitl [HR3]; · iexact HR3
  iexact Ha3

theorem recs_of (K : Dev nD × Cx → ℕ) : iprop(records m ρ K ∗ Lev (F := F)) ⊢ recs (inp m ρ) K := by
  unfold records recs
  iintro ⟨⟨#HI, #HR⟩, HL⟩
  isplitr; · iexact HI
  isplitr; · iexact HR
  iexact HL

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G'
  iintro ⟨-, Hlev, Hcr, -, ⟨%K, HR⟩, Hpos, Hpaid⟩
  ihave Hc := (creds (F := F) c) $$ Hcr
  imodintro
  unfold start
  isplitl
  · isplitl [Hlev HR]
    · iexists K
      iapply (recs_of m ρ K)
      isplitl [HR]; · iexact HR
      unfold Lev; iexact Hlev
    iapply (start_of c)
    isplitl [Hpos]; · iexact Hpos
    isplitl [Hpaid]; · iexact Hpaid
    iexact Hc
  · iempintro

theorem scratch_eq (c : Dev nD) : (Scratch c : sProp 𝕄) = Pipeline.scopedRest cfg0.spec c := by
  rw [scopedRest0_eq]
  unfold Scratch stP
  simp only [View.set_whole]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scratch_eq]
  unfold Φ₀ start
  iintro ⟨⟨HK, HS⟩, -, Hr⟩
  isplitl [HK]; · iexact HK
  isplitl [HS]; · iexact HS
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = End c from rfl, ← scratch_eq, unscopedSems0_eq]
  unfold End Pipeline.ownSems0
  iintro ⟨Hr, HB, HD⟩
  isplitl [HB]; · iexact HB
  isplitl [HD]; · iexact HD
  iexact Hr

theorem stage_sem : ∀ (w : Fin cfg0.W) (s : Fin (cfg0.win w).nbuf), role (.dma ((cfg0.win w).sem s)) = .other := by decide +kernel

theorem waits (c : Dev nD) : (levAts L lv : sProp 𝕄) ⊢ Pipeline.cellsWaits cfgs (dats m ρ) 0 0 c :=
  Pipeline.cellsWaits_intro cfgs (dats m ρ) 0 0 c fun w s t => by
    have hl : lv ((c : Thread nD τ), .dma ((cfg0.win w).sem s)) 0 = 0 := by unfold lv; rw [stage_sem]; rfl
    have h0 : (levAts L lv : sProp 𝕄) ⊢ MayWait (c : Thread nD τ) (.dma ((cfg0.win w).sem s)) 0 (O₀ c) :=
      mayWait c _ (by decide) (by rw [hl]; exact (above_sig c).append ((above_rest c).mono (by decide)))
    have h1 : (levAts L lv : sProp 𝕄) ⊢ MayWait (c : Thread nD τ) (.dma ((cfg0.win w).sem s)) 0 0 :=
      mayWait c _ (by decide) (es := []) (fun e he => by cases he)
    rcases t with ⟨_ | _, ht⟩
    · exact h0
    · exact h1

/-! ### The run -/

def finalA (c : Dev nD) (w : Fin cfg0.W) : Buf (Elt F) ((cfg0.win w).arr.view.loc (c : Thread nD τ)) := (dats m ρ 0 c).arrAt w cfg0.N

/-- Every window's array ends as computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every weakly fair execution ends, with the result at the computed contents, the
    operands as they were and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Tp

end
-- ==== Proof.Frames.lean ====
/- The frames: what `run_main` says of the operands and of the counters, at the bits and at the ideal values, and the
   reference's. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

noncomputable section

namespace Cert.KernelIdeal.Tp

open Cert.KernelIdeal Cert.KernelIdeal.Gen Idealize.ShloMosaic Idealize.ShloMosaic.TcCoe Idealize.SL Idealize.SL.Sem

variable {F : FTy → Type} [FloatOps F]
variable (m : (ℓ : Loc nD τ sig) → Buf (Elt F) ℓ) (ρ : Dev nD → PrngReg)

/-- An operand's array after the run holds what it held. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

/-- The operands after the run. -/
def Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem kept_of {r : PUnit × MemSt nD τ sig (Elt F)} (h : QC m ρ r) : Kept m r := fun c =>
  ⟨(h c (0 : Fin 8)).trans (finalA_in m ρ c 0 rfl), (h c (1 : Fin 8)).trans (finalA_in m ρ c 1 rfl),
    (h c (2 : Fin 8)).trans (finalA_in m ρ c 2 rfl), (h c (3 : Fin 8)).trans (finalA_in m ρ c 3 rfl),
    (h c (4 : Fin 8)).trans (finalA_in m ρ c 4 rfl), (h c (5 : Fin 8)).trans (finalA_in m ρ c 5 rfl),
    (h c (6 : Fin 8)).trans (finalA_in m ρ c 6 rfl)⟩

/-- From any memory with zero counters every run ends, with the operands as they were and every counter at zero. -/
theorem run_kept : θ_run defs (onTc (τ := τ) (main (F := F))) ⟨m, fun _ => 0, ρ⟩ (fun r => Kept m r ∧ r.2.sem = fun _ => 0) :=
  (θ_run defs _ _).mono (fun _ h => ⟨kept_of m ρ h.1, h.2⟩) (run_main m ρ)

end Cert.KernelIdeal.Tp

namespace Cert.Proof

open Idealize.ShloMosaic Idealize.ShloMosaic.TcCoe Idealize.SL.Sem

/-- The idealized kernel's frame. -/
theorem frame_ideal : Cert.quiescent_KernelIdeal := fun m ρ _ => Cert.KernelIdeal.Tp.run_kept (F := Ideal) m ρ

set_option maxRecDepth 100000 in
/-- The two programs' bodies are one text. -/
theorem bodies_eq : Cert.Kernel.defs₀ (F := Bits) = Cert.KernelIdeal.defs₀ (F := Bits) := by
  unfold Cert.Kernel.defs₀ Cert.KernelIdeal.defs₀
  congr 1
  funext l x
  match l, x with
  | 0, (_, _) => rfl

theorem defs_eq : Cert.Kernel.defs (F := Bits) = Cert.KernelIdeal.defs (F := Bits) := by
  show Pipeline.defs (Cert.KernelIdeal.pcfgs (F := Bits)) Cert.Kernel.defs₀ = Pipeline.defs (Cert.KernelIdeal.pcfgs (F := Bits)) Cert.KernelIdeal.defs₀
  rw [bodies_eq]

/-- The run, with the bodies under another name. -/
theorem kept_under (m : (ℓ : Loc Cert.KernelIdeal.nD Cert.KernelIdeal.τ Cert.KernelIdeal.sig) → Buf (Elt Bits) ℓ) (ρ : Dev Cert.KernelIdeal.nD → PrngReg)
    {d : Defs Cert.KernelIdeal.nD Cert.KernelIdeal.τ Cert.KernelIdeal.sig (Elt Bits) _} (hd : d = Cert.KernelIdeal.defs (F := Bits)) :
    θ_run d (onTc (τ := Cert.KernelIdeal.τ) (Cert.KernelIdeal.main (F := Bits))) ⟨m, fun _ => 0, ρ⟩
      (fun r => Cert.KernelIdeal.Tp.Kept m r ∧ r.2.sem = fun _ => 0) := by
  subst hd
  exact Cert.KernelIdeal.Tp.run_kept (F := Bits) m ρ

/-- The kernel's own frame: the same text, read at the bits. -/
theorem frame_kernel : Cert.quiescent_Kernel := fun m ρ _ => kept_under m ρ defs_eq

/-- The reference's frame: its one device runs host operations only, and it declares no counter. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Cell.lean ====
/- The kernel's payloads over the extended reals, entry by entry: every one is the same cell of a layer. -/
module

public import proofs.«01_k».proof.Proof.Cells
public import Idealize.ShloMosaic.Lib.MatmulPlain
public import Idealize.ShloMosaic.Lib.IdealHost
public import Idealize.ShloMosaic.Lib.Pipeline.Value

@[expose] public section

noncomputable section

namespace Cert.KernelIdeal.Tp

open Idealize.ShloMosaic Idealize.ShloMosaic.TcCoe Idealize.ShloMosaic.ValueIdx Idealize.SL.Sem Cert.KernelIdeal.Gen
open scoped BigOperators

/-! ### Products, read at an entry -/

/-- A product into a zero accumulator: the contraction. -/
theorem prod_apply {M K N : ℕ} {φ₁ φ₂ : FTy} (d : DotDims ⟨2, ![M, K]⟩ ⟨2, ![K, N]⟩ ⟨2, ![M, N]⟩) (hd : d = DotDims.plain M K N)
    (a : FVec Ideal ⟨2, ![M, K]⟩ φ₁) (b : FVec Ideal ⟨2, ![K, N]⟩ φ₂) (p : Fin M) (q : Fin N) :
    matmul d none a b (constant ⟨2, ![M, N]⟩ .f32 0x00000000#32) (ix2 p q) = ∑ k : Fin K, a (ix2 p k) * b (ix2 k q) := by
  subst hd
  refine (Ideal.matmul_plain_apply none a b _ p q).trans ?_
  show Ideal.ofBits .f32 0x00000000#32 + _ = _
  rw [Ideal.ofBits_zero_f32, zero_add]

/-- One entry of a layer: a row of `x`, through `K` hidden columns. -/
def cell {K : ℕ} (x : Fin 128 → EReal) (w₁ : FVec Ideal ⟨2, ![128, K]⟩ .bf16) (w₂ : FVec Ideal ⟨2, ![K, 128]⟩ .bf16) (q : Fin 128) : EReal :=
  ∑ k : Fin K, max (∑ j : Fin 128, x j * w₁ (ix2 j k)) 0 * w₂ (ix2 k q)

/-- Two products with the ramp between: cells. -/
theorem layer_apply {M K : ℕ} (d₁ : DotDims ⟨2, ![M, 128]⟩ ⟨2, ![128, K]⟩ ⟨2, ![M, K]⟩) (h₁ : d₁ = DotDims.plain M 128 K)
    (d₂ : DotDims ⟨2, ![M, K]⟩ ⟨2, ![K, 128]⟩ ⟨2, ![M, 128]⟩) (h₂ : d₂ = DotDims.plain M K 128)
    (x : FVec Ideal ⟨2, ![M, 128]⟩ .bf16) (w₁ : FVec Ideal ⟨2, ![128, K]⟩ .bf16) (w₂ : FVec Ideal ⟨2, ![K, 128]⟩ .bf16)
    (hb : FTy.bits .bf16 < FTy.bits .f32) (p : Fin M) (q : Fin 128) :
    matmul d₂ none (truncf .bf16 (maximumf (matmul d₁ none x w₁ (constant ⟨2, ![M, K]⟩ .f32 0x00000000#32))
      (broadcast ⟨2, ![M, K]⟩ (Scalar.ofBits .f32 0x00000000#32 : Ideal .f32))) hb) w₂ (constant ⟨2, ![M, 128]⟩ .f32 0x00000000#32) (ix2 p q)
      = cell (fun j => x (ix2 p j)) w₁ w₂ q := by
  rw [prod_apply d₂ h₂]
  refine Finset.sum_congr rfl fun k _ => congrArg (· * w₂ (ix2 k q)) ?_
  show max (matmul d₁ none x w₁ (constant ⟨2, ![M, K]⟩ .f32 0x00000000#32) (ix2 p k)) (Ideal.ofBits .f32 0x00000000#32) = _
  rw [prod_apply d₁ h₁, Ideal.ofBits_zero_f32]

/-! ### The payloads -/

theorem own_apply (x : FVec Ideal S128x128 .bf16) (w₁ : Vec Ideal S128x256 .bf16) (w₂ : Vec Ideal S256x128 .bf16) (p q : Fin 128) :
    k0_pay6 x w₁ w₂ (ix2 p q) = cell (K := 256) (fun j => x (ix2 p j)) w₁ w₂ q := by
  unfold k0_pay6 k0_pay4 k0_pay5
  simp only [shapeCast_self]
  exact layer_apply (M := 128) (K := 256) _ rfl _ rfl x w₁ w₂ _ p q

theorem fpart_apply (w₁ : Vec Ideal S128x256 .bf16) (w₂ : Vec Ideal S256x128 .bf16) (g : Vec Ideal S3968x128 .bf16) (p : Fin 3968) (q : Fin 128) :
    fpart w₁ w₂ g (ix2 p q) = cell (K := 256) (fun j => g (ix2 p j)) w₁ w₂ q := by
  unfold fpart k0_pay8 k0_pay7 k0_pay4 k0_pay5
  simp only [shapeCast_self]
  exact layer_apply (M := 3968) (K := 256) _ rfl _ rfl g w₁ w₂ _ p q

/-- The slots' index under the sum. -/
theorem lift_eq (h : S31x128x128.Reduces [0] S128x128) (p q : Fin 128) (t : Fin 31) : h.lift (ix2 p q) t = ix3 t p q := by
  funext a; apply Fin.ext
  match a with
  | ⟨0, _⟩ => rfl
  | ⟨1, _⟩ => rfl
  | ⟨2, _⟩ => rfl

theorem next_apply (v : FVec Ideal S128x128 .f32) (r : Vec Ideal S31x128x128 .bf16) (p q : Fin 128) :
    k0_pay9 v r (ix2 p q) = v (ix2 p q) + ∑ t : Fin 31, r (ix3 t p q) := by
  unfold k0_pay9
  refine congrArg (v (ix2 p q) + ·) ((Ideal.multiReduction_add_single (a := 0) (extf .f32 r bitsLt_bf16_f32) _ _ _ _ (ix2 p q)).trans ?_)
  exact Finset.sum_congr rfl fun (t : Fin 31) _ => congrArg r (lift_eq _ p q t)

/-! ### The rows and slots but the first -/

theorem tail_at (s : Fin 32) (hs : s ≠ 0) (p : Fin 128) : 128 * s.val - 128 + p.val < 3968 := by
  have h : s.val ≠ 0 := fun h => hs (Fin.ext h)
  have := s.isLt; have := p.isLt; omega

theorem tailRect_emb (s : Fin 32) (hs : s ≠ 0) (p q : Fin 128) :
    (ptM.access tailRect).emb (ix2 (n0 := 3968) (n1 := 128) ⟨128 * s.val - 128 + p.val, tail_at s hs p⟩ q) = at2 s (ix2 p q) := by
  have h : s.val ≠ 0 := fun h => hs (Fin.ext h)
  funext a; apply Fin.ext
  match a with
  | ⟨0, _⟩ => show 128 + 1 * (128 * s.val - 128 + p.val) = 128 * s.val + p.val; omega
  | ⟨1, _⟩ => show 0 + 1 * q.val = q.val; omega

theorem tailOf_apply (g : Vec Ideal S4096x128 .bf16) (s : Fin 32) (hs : s ≠ 0) (p q : Fin 128) :
    tailOf g (ix2 (n0 := 3968) (n1 := 128) ⟨128 * s.val - 128 + p.val, tail_at s hs p⟩ q) = g (at2 s (ix2 p q)) :=
  congrArg g (tailRect_emb s hs p q)

theorem tailSlots_apply (r : Vec Ideal S32x128x128 .bf16) (t : Fin 31) (p q : Fin 128) :
    tailSlots r (ix3 t p q) = r (ix3 t.succ p q) := by
  refine congrArg r ?_
  funext a; apply Fin.ext
  match a with
  | ⟨0, _⟩ => show 1 + 1 * t.val = t.val + 1; omega
  | ⟨1, _⟩ => show 0 + 1 * p.val = p.val; omega
  | ⟨2, _⟩ => show 0 + 1 * q.val = q.val; omega

/-- The partial product kept in a block but the first. -/
theorem part_apply (w₁ : Vec Ideal S128x256 .bf16) (w₂ : Vec Ideal S256x128 .bf16) (g : Vec Ideal S4096x128 .bf16) (s : Fin 32) (hs : s ≠ 0)
    (p q : Fin 128) : part w₁ w₂ g (at2 s (ix2 p q)) = cell (K := 256) (fun j => g (at2 s (ix2 p j))) w₁ w₂ q := by
  rw [← tailRect_emb s hs p q]
  refine (View.write_emb_of_mem (v := ptM.access tailRect) _ _ (Finset.mem_univ _)).trans ?_
  refine (fpart_apply w₁ w₂ (tailOf g) _ q).trans ?_
  exact congrArg (fun f => cell (K := 256) f w₁ w₂ q) (funext fun j => tailOf_apply g s hs p j)

end Cert.KernelIdeal.Tp

end
-- ==== Proof.Tensor.lean ====
/- The devices' blocks over the extended reals: after every layer, the rows of the reference's product. -/
module

public import proofs.«01_k».proof.Proof.Cell
public import proofs.«01_k».proof.Proof.Gen.ReferenceIdeal
public import Idealize.ShloMosaic.Lib.KernelVsHost
public import Idealize.ShloMosaic.Lib.Layout

@[expose] public section

noncomputable section

namespace Cert.KernelIdeal.Tp

open Idealize.ShloMosaic Idealize.ShloMosaic.TcCoe Idealize.ShloMosaic.ValueIdx Idealize.SL.Sem Cert.KernelIdeal.Gen
open scoped BigOperators

/-! ### One layer on the devices -/

/-- A device starts its layer from the block that it staged for its peers. -/
theorem own_eq_X (I : Inp Ideal) (l : ℕ) (c : Dev nD) : own I l c = X I l c := by
  cases l with
  | zero => rw [own_zero, X_zero]; unfold k0_pay3; rw [shapeCast_self]
  | succ l => rw [X_succ]; unfold k0_pay10; rw [shapeCast_self]

/-- What comes back to `c` in a slot but the first: the peer's share of `c`'s rows. -/
theorem RB_apply (I : Inp Ideal) {l : ℕ} (hl : l < 3) (c : Dev nD) (s : Fin 32) (hs : s ≠ 0) (p q : Fin 128) :
    RB I l c (ix3 s p q) = cell (K := 256) (fun j => X I l c (ix2 p j)) (I.win l (dn c s)) (I.wout l (dn c s)) q := by
  show PB I l (dn c s) (at2 (partner s) (ix2 p q)) = _
  refine (part_apply _ _ _ (partner s) (partner_ne_zero s hs) p q).trans ?_
  refine congrArg (fun f => cell (K := 256) f (I.win l (dn c s)) (I.wout l (dn c s)) q) (funext fun j => ?_)
  show X I l (owner l (dn c s) (hi (at2 (partner s) (ix2 p j)))) (lo (at2 (partner s) (ix2 p j))) = X I l c (ix2 p j)
  rw [hi_at2, lo_at2]
  unfold owner
  rw [if_pos hl, dn_partner, up_dn]

/-- A device's next block: the sum of every device's share of it. -/
theorem X_next (I : Inp Ideal) {l : ℕ} (hl : l < 3) (c : Dev nD) (p q : Fin 128) :
    X I (l + 1) c (ix2 p q) = ∑ d : Dev nD, cell (K := 256) (fun j => X I l c (ix2 p j)) (I.win l d) (I.wout l d) q := by
  rw [← own_eq_X, own_succ]
  refine (next_apply _ _ p q).trans ?_
  rw [own_apply, own_eq_X]
  refine Eq.trans ?_ (Equiv.sum_comp (dnEquiv c) fun d => cell (K := 256) (fun j => X I l c (ix2 p j)) (I.win l d) (I.wout l d) q)
  refine Eq.trans ?_ (Fin.sum_univ_succ (n := 31) fun s => cell (K := 256) (fun j => X I l c (ix2 p j)) (I.win l (dnEquiv c s)) (I.wout l (dnEquiv c s)) q).symm
  refine congrArg₂ (· + ·) ?_ (Finset.sum_congr rfl fun t _ => ?_)
  · show _ = cell (K := 256) (fun j => X I l c (ix2 p j)) (I.win l (dn c 0)) (I.wout l (dn c 0)) q
    rw [dn_zero]
  · exact (tailSlots_apply _ t p q).trans (RB_apply I hl c t.succ (Fin.succ_ne_zero t) p q)

/-! ### One layer of the reference -/

/-- The reference's layer. -/
def refLayer (x : FVec Ideal Cert.ReferenceIdeal.S4096x128 .bf16) (w₁ : FVec Ideal Cert.ReferenceIdeal.S128x8192 .bf16)
    (w₂ : FVec Ideal Cert.ReferenceIdeal.S8192x128 .bf16) : FVec Ideal Cert.ReferenceIdeal.S4096x128 .bf16 :=
  open Cert.ReferenceIdeal Cert.ReferenceIdeal.Gen in
  truncf .bf16 (Host.dotGeneral dot_S4096x8192_S8192x128_S4096x128_1_0_0_1_n_n none
    (maximumf (truncf .bf16 (Host.dotGeneral dot_S4096x128_S128x8192_S4096x8192_1_0_0_1_n_n none x w₁) Cert.ReferenceIdeal.Gen.bitsLt_bf16_f32)
      (broadcastInDim S4096x8192 ![] bcast_S_S4096x8192 (constant S_ .bf16 0x0000#16))) w₂) Cert.ReferenceIdeal.Gen.bitsLt_bf16_f32

theorem refLayer_cell (x : FVec Ideal Cert.ReferenceIdeal.S4096x128 .bf16) (w₁ : FVec Ideal Cert.ReferenceIdeal.S128x8192 .bf16)
    (w₂ : FVec Ideal Cert.ReferenceIdeal.S8192x128 .bf16) (p : Fin 4096) (q : Fin 128) :
    refLayer x w₁ w₂ (ix2 p q) = cell (K := 8192) (fun j => x (ix2 p j)) w₁ w₂ q := by
  unfold refLayer
  rw [← matmul_zero_eq_dotGeneral, ← matmul_zero_eq_dotGeneral]
  refine (prod_apply (M := 4096) (K := 8192) (N := 128) _ rfl _ w₂ p q).trans ?_
  refine Finset.sum_congr rfl fun k _ => congrArg (· * w₂ (ix2 k q)) ?_
  refine congrArg₂ max (prod_apply (M := 4096) (K := 128) (N := 8192) _ rfl x w₁ p k) ?_
  exact Ideal.ofBits_zero_bf16

/-! ### The hidden columns, cut among the devices -/

theorem cell_cut (x : Fin 128 → EReal) (W₁ : FVec Ideal ⟨2, ![128, 8192]⟩ .bf16) (W₂ : FVec Ideal ⟨2, ![8192, 128]⟩ .bf16) (q : Fin 128)
    (w₁ : Fin 32 → FVec Ideal ⟨2, ![128, 256]⟩ .bf16) (w₂ : Fin 32 → FVec Ideal ⟨2, ![256, 128]⟩ .bf16)
    (h₁ : ∀ d j k, w₁ d (ix2 j k) = W₁ (ix2 j (finProdFinEquiv (d, k)))) (h₂ : ∀ d k q, w₂ d (ix2 k q) = W₂ (ix2 (finProdFinEquiv (d, k)) q)) :
    ∑ d : Fin 32, cell (K := 256) x (w₁ d) (w₂ d) q = cell (K := 8192) x W₁ W₂ q := by
  unfold cell
  refine Eq.trans ?_ (Equiv.sum_comp (finProdFinEquiv (m := 32) (n := 256)) fun k : Fin 8192 => max (∑ j : Fin 128, x j * W₁ (ix2 j k)) 0 * W₂ (ix2 k q))
  rw [Fintype.sum_prod_type]
  refine Finset.sum_congr rfl fun d _ => Finset.sum_congr rfl fun k _ => ?_
  rw [h₂]
  simp only [h₁]

end Cert.KernelIdeal.Tp

end
-- ==== Proof.Result.lean ====
/- What the run leaves in the result's array, and that it is the reference's value. -/
module

public import proofs.«01_k».proof.Proof.Launch
public import proofs.«01_k».proof.Proof.Tensor

@[expose] public section

noncomputable section

namespace Cert.KernelIdeal.Tp

open Idealize.ShloMosaic Idealize.ShloMosaic.TcCoe Idealize.ShloMosaic.ValueIdx Idealize.SL.Sem Cert.KernelIdeal Cert.KernelIdeal.Gen
open scoped BigOperators

/-! ### The windows are the whole arrays -/

section Windows

variable {F : FTy → Type} [FloatOps F]
variable (m : (ℓ : Loc nD τ sig) → Buf (Elt F) ℓ) (ρ : Dev nD → PrngReg)

theorem op0_eq (c : Dev nD) : op0 m ρ c = m ((c : Thread nD τ).loc main_arg0) := by
  have h : (fun a => win0_0.index t0_0 a * main_arg0.ty.shape.size a) = fun _ => 0 := funext fun a => by fin_cases a <;> decide
  exact Memref.read_access_unit_zero (Elt F) main_arg0 h (fun a => by rw [congrFun h a]; simp) _

theorem op1_eq (c : Dev nD) : op1 m ρ c = m ((c : Thread nD τ).loc main_arg1) := by
  have h : (fun a => win0_1.index t0_0 a * main_arg1.ty.shape.size a) = fun _ => 0 := funext fun a => by fin_cases a <;> decide
  exact Memref.read_access_unit_zero (Elt F) main_arg1 h (fun a => by rw [congrFun h a]; simp) _

theorem op2_eq (c : Dev nD) : op2 m ρ c = m ((c : Thread nD τ).loc main_arg2) := by
  have h : (fun a => win0_2.index t0_0 a * main_arg2.ty.shape.size a) = fun _ => 0 := funext fun a => by fin_cases a <;> decide
  exact Memref.read_access_unit_zero (Elt F) main_arg2 h (fun a => by rw [congrFun h a]; simp) _

theorem op3_eq (c : Dev nD) : op3 m ρ c = m ((c : Thread nD τ).loc main_arg3) := by
  have h : (fun a => win0_3.index t0_0 a * main_arg3.ty.shape.size a) = fun _ => 0 := funext fun a => by fin_cases a <;> decide
  exact Memref.read_access_unit_zero (Elt F) main_arg3 h (fun a => by rw [congrFun h a]; simp) _

theorem op4_eq (c : Dev nD) : op4 m ρ c = m ((c : Thread nD τ).loc main_arg4) := by
  have h : (fun a => win0_4.index t0_0 a * main_arg4.ty.shape.size a) = fun _ => 0 := funext fun a => by fin_cases a <;> decide
  exact Memref.read_access_unit_zero (Elt F) main_arg4 h (fun a => by rw [congrFun h a]; simp) _

theorem op5_eq (c : Dev nD) : op5 m ρ c = m ((c : Thread nD τ).loc main_arg5) := by
  have h : (fun a => win0_5.index t0_0 a * main_arg5.ty.shape.size a) = fun _ => 0 := funext fun a => by fin_cases a <;> decide
  exact Memref.read_access_unit_zero (Elt F) main_arg5 h (fun a => by rw [congrFun h a]; simp) _

theorem op6_eq (c : Dev nD) : op6 m ρ c = m ((c : Thread nD τ).loc main_arg6) := by
  have h : (fun a => win0_6.index t0_0 a * main_arg6.ty.shape.size a) = fun _ => 0 := funext fun a => by fin_cases a <;> decide
  exact Memref.read_access_unit_zero (Elt F) main_arg6 h (fun a => by rw [congrFun h a]; simp) _

/-- The result's array after the run. -/
theorem finalA_out (c : Dev nD) : finalA m ρ c (7 : Fin 8) = outAt m ρ c := by
  have h : (fun a => win0_7.index t0_0 a * main_v1.ty.shape.size a) = fun _ => 0 := funext fun a => by fin_cases a <;> decide
  have hr : (win0_7.blk (0 : Fin 1)).view.read (Elt F) (finalA m ρ c (7 : Fin 8)) = finalA m ρ c (7 : Fin 8) :=
    Memref.read_access_unit_zero (Elt F) main_v1 h (fun a => by rw [congrFun h a]; simp) _
  rw [← hr]
  refine (congrArg ((win0_7.blk (0 : Fin 1)).view.read (Elt F)) (((dats m ρ 0 c).arrAt_succ (7 : Fin 8) t0_0).trans (if_pos (flush0_7 _)))).trans ?_
  exact View.read_write_univ _ _

end Windows

/-! ### The layers one after the other -/

/-- The reference's rows after `l` layers. -/
def stack (x : FVec Ideal Cert.ReferenceIdeal.S4096x128 .bf16) (w₁ : ℕ → FVec Ideal Cert.ReferenceIdeal.S128x8192 .bf16)
    (w₂ : ℕ → FVec Ideal Cert.ReferenceIdeal.S8192x128 .bf16) : ℕ → FVec Ideal Cert.ReferenceIdeal.S4096x128 .bf16
  | 0 => x
  | l + 1 => refLayer (stack x w₁ w₂ l) (w₁ l) (w₂ l)

/-- The devices hold the parts of the arrays. -/
structure Parts (I : Inp Ideal) (x : FVec Ideal Cert.ReferenceIdeal.S4096x128 .bf16)
    (w₁ : ℕ → FVec Ideal Cert.ReferenceIdeal.S128x8192 .bf16) (w₂ : ℕ → FVec Ideal Cert.ReferenceIdeal.S8192x128 .bf16) : Prop where
  rows : ∀ (c : Dev nD) (p q : Fin 128), I.x c (ix2 p q) = x (at2 c (ix2 p q))
  cols : ∀ (l : ℕ) (d : Fin 32) (j : Fin 128) (k : Fin 256), I.win l d (ix2 j k) = w₁ l (ix2 j (finProdFinEquiv (d, k)))
  back : ∀ (l : ℕ) (d : Fin 32) (k : Fin 256) (q : Fin 128), I.wout l d (ix2 k q) = w₂ l (ix2 (finProdFinEquiv (d, k)) q)

variable {I : Inp Ideal} {x : FVec Ideal Cert.ReferenceIdeal.S4096x128 .bf16} {w₁ : ℕ → FVec Ideal Cert.ReferenceIdeal.S128x8192 .bf16}
  {w₂ : ℕ → FVec Ideal Cert.ReferenceIdeal.S8192x128 .bf16}

/-- After every layer device `c` holds the reference's rows of block `c`. -/
theorem X_stack (h : Parts I x w₁ w₂) : ∀ (l : ℕ), l ≤ 3 → ∀ (c : Dev nD) (p q : Fin 128), X I l c (ix2 p q) = stack x w₁ w₂ l (at2 c (ix2 p q))
  | 0, _, c, p, q => by
    rw [← own_eq_X, own_zero]; unfold k0_pay2; rw [shapeCast_self]
    exact h.rows c p q
  | l + 1, hl, c, p, q => by
    rw [X_next I (by omega) c p q]
    refine (cell_cut _ (w₁ l) (w₂ l) q (I.win l) (I.wout l) (h.cols l) (h.back l)).trans ?_
    refine Eq.trans ?_ (refLayer_cell (stack x w₁ w₂ l) (w₁ l) (w₂ l) _ q).symm
    exact congrArg (fun f => cell (K := 8192) f (w₁ l) (w₂ l) q) (funext fun j => X_stack h l (by omega) c p j)

theorem at2_hi_lo (i : S4096x128.Idx) : at2 (hi i) (lo i) = i := by
  funext a; apply Fin.ext
  match a with
  | ⟨0, _⟩ => show 128 * ((i 0).val / 128) + (i 0).val % 128 = (i 0).val; omega
  | ⟨1, _⟩ => rfl

/-- The gathered rows at the close. -/
theorem GX_stack (h : Parts I x w₁ w₂) (c : Dev nD) : GX I 3 c = stack x w₁ w₂ 3 := funext fun i => by
  show X I 3 (owner 3 c (hi i)) (lo i) = _
  refine (X_stack h 3 le_rfl (hi i) _ _).trans (congrArg (stack x w₁ w₂ 3) ?_)
  exact at2_hi_lo i

end Cert.KernelIdeal.Tp

end
-- ==== Proof.Algebraic.lean ====
/- The value: over the extended reals every device's result is the reference's. -/
module

public import proofs.«01_k».proof.Proof.Frames
public import proofs.«01_k».proof.Proof.Result

@[expose] public section

noncomputable section

namespace Cert.Proof

open Idealize.ShloMosaic Idealize.ShloMosaic.TcCoe Idealize.ShloMosaic.ValueIdx Idealize.SL.Sem
open Cert.KernelIdeal.Tp

/-- A cut of rows, read at an entry. -/
theorem block_rows {A B N : ℕ} (c : Fin N) (v : (⟨2, ![N * A, B]⟩ : Shape).Idx → EReal) (h : Layout.Tiles ⟨2, ![A, B]⟩ ⟨2, ![N * A, B]⟩ 0 N)
    (p : Fin A) (q : Fin B) : Layout.block ⟨2, ![A, B]⟩ ⟨2, ![N * A, B]⟩ 0 N c v h (ix2 p q) = v (ix2 (finProdFinEquiv (c, p)) q) := by
  refine congrArg v ?_
  funext a; apply Fin.ext
  match a with
  | ⟨0, _⟩ => show c.val * A + p.val = p.val + A * c.val; rw [Nat.mul_comm, Nat.add_comm]
  | ⟨1, _⟩ => rfl

/-- A cut of columns, read at an entry. -/
theorem block_cols {A B N : ℕ} (c : Fin N) (v : (⟨2, ![A, N * B]⟩ : Shape).Idx → EReal) (h : Layout.Tiles ⟨2, ![A, B]⟩ ⟨2, ![A, N * B]⟩ 1 N)
    (p : Fin A) (q : Fin B) : Layout.block ⟨2, ![A, B]⟩ ⟨2, ![A, N * B]⟩ 1 N c v h (ix2 p q) = v (ix2 p (finProdFinEquiv (c, q))) := by
  refine congrArg v ?_
  funext a; apply Fin.ext
  match a with
  | ⟨0, _⟩ => rfl
  | ⟨1, _⟩ => show c.val * B + q.val = q.val + B * c.val; rw [Nat.mul_comm, Nat.add_comm]

/-- One of three arrays, by the layer. -/
def pick {α : Type} (a b c : α) (l : ℕ) : α := if l = 0 then a else if l = 1 then b else c

theorem pick_all {α β : Type} {R : α → β → Prop} {a b c : α} {a' b' c' : β} (ha : R a a') (hb : R b b') (hc : R c c') (l : ℕ) :
    R (pick a b c l) (pick a' b' c' l) := by
  unfold pick
  split
  · exact ha
  · split
    · exact hb
    · exact hc

section

variable (m : (ℓ : Loc Cert.KernelIdeal.nD Cert.KernelIdeal.τ Cert.KernelIdeal.sig) → Buf (Elt Ideal) ℓ) (ρ : Dev Cert.KernelIdeal.nD → PrngReg)

theorem win_pick (l : ℕ) (c : Dev Cert.KernelIdeal.nD) : (inp m ρ).win l c = pick (op1 m ρ c) (op3 m ρ c) (op5 m ρ c) l := rfl
theorem wout_pick (l : ℕ) (c : Dev Cert.KernelIdeal.nD) : (inp m ρ).wout l c = pick (op2 m ρ c) (op4 m ρ c) (op6 m ρ c) l := rfl

end

/-- Every device's result is the reference's value, and the arguments of both are as they were. -/
theorem algebraic : Cert.algebraic_KernelIdeal_ReferenceIdeal := by
  intro m g m' g' _ hag
  have hcol : ∀ (o : Dev Cert.KernelIdeal.nD → FVec Ideal ⟨2, ![128, 256]⟩ .bf16) (v : FVec Ideal ⟨2, ![128, 8192]⟩ .bf16),
      (∀ c, o c = Layout.block ⟨2, ![128, 256]⟩ ⟨2, ![128, 8192]⟩ 1 32 c v) →
      ∀ (d : Fin 32) (j : Fin 128) (k : Fin 256), o d (ix2 j k) = v (ix2 j (finProdFinEquiv (d, k))) := fun o v h d j k => by
    rw [h d]; exact block_cols (A := 128) (B := 256) (N := 32) d v _ j k
  have hrow : ∀ (o : Dev Cert.KernelIdeal.nD → FVec Ideal ⟨2, ![256, 128]⟩ .bf16) (v : FVec Ideal ⟨2, ![8192, 128]⟩ .bf16),
      (∀ c, o c = Layout.block ⟨2, ![256, 128]⟩ ⟨2, ![8192, 128]⟩ 0 32 c v) →
      ∀ (d : Fin 32) (k : Fin 256) (q : Fin 128), o d (ix2 k q) = v (ix2 (finProdFinEquiv (d, k)) q) := fun o v h d k q => by
    rw [h d]; exact block_rows (A := 256) (B := 128) (N := 32) d v _ k q
  have hparts : Parts (inp m g) (m' (((0 : Dev Cert.ReferenceIdeal.nD).tc : Thread _ Cert.ReferenceIdeal.τ).loc Cert.ReferenceIdeal.main_arg0))
      (pick (m' (((0 : Dev Cert.ReferenceIdeal.nD).tc : Thread _ Cert.ReferenceIdeal.τ).loc Cert.ReferenceIdeal.main_arg1))
        (m' (((0 : Dev Cert.ReferenceIdeal.nD).tc : Thread _ Cert.ReferenceIdeal.τ).loc Cert.ReferenceIdeal.main_arg3))
        (m' (((0 : Dev Cert.ReferenceIdeal.nD).tc : Thread _ Cert.ReferenceIdeal.τ).loc Cert.ReferenceIdeal.main_arg5)))
      (pick (m' (((0 : Dev Cert.ReferenceIdeal.nD).tc : Thread _ Cert.ReferenceIdeal.τ).loc Cert.ReferenceIdeal.main_arg2))
        (m' (((0 : Dev Cert.ReferenceIdeal.nD).tc : Thread _ Cert.ReferenceIdeal.τ).loc Cert.ReferenceIdeal.main_arg4))
        (m' (((0 : Dev Cert.ReferenceIdeal.nD).tc : Thread _ Cert.ReferenceIdeal.τ).loc Cert.ReferenceIdeal.main_arg6))) := by
    refine ⟨fun c p q => ?_, fun l d j k => ?_, fun l d k q => ?_⟩
    · show op0 m g c (ix2 p q) = _
      rw [op0_eq, (hag c).1]
      refine (block_rows (A := 128) (B := 128) (N := 32) c _ _ p q).trans (congrArg _ ?_)
      funext a; apply Fin.ext
      match a with
      | ⟨0, _⟩ => show p.val + 128 * c.val = 128 * c.val + p.val; omega
      | ⟨1, _⟩ => rfl
    · rw [win_pick]
      exact pick_all (R := fun (o : FVec Ideal ⟨2, ![128, 256]⟩ .bf16) (v : FVec Ideal ⟨2, ![128, 8192]⟩ .bf16) => o (ix2 j k) = v (ix2 j (finProdFinEquiv (d, k))))
        (hcol (op1 m g) _ (fun c => (op1_eq m g c).trans (hag c).2.1) d j k)
        (hcol (op3 m g) _ (fun c => (op3_eq m g c).trans (hag c).2.2.2.1) d j k)
        (hcol (op5 m g) _ (fun c => (op5_eq m g c).trans (hag c).2.2.2.2.2.1) d j k) l
    · rw [wout_pick]
      exact pick_all (R := fun (o : FVec Ideal ⟨2, ![256, 128]⟩ .bf16) (v : FVec Ideal ⟨2, ![8192, 128]⟩ .bf16) => o (ix2 k q) = v (ix2 (finProdFinEquiv (d, k)) q))
        (hrow (op2 m g) _ (fun c => (op2_eq m g c).trans (hag c).2.2.1) d k q)
        (hrow (op4 m g) _ (fun c => (op4_eq m g c).trans (hag c).2.2.2.2.1) d k q)
        (hrow (op6 m g) _ (fun c => (op6_eq m g c).trans (hag c).2.2.2.2.2.2) d k q) l
  refine ⟨extf .f32 (stack (m' (((0 : Dev Cert.ReferenceIdeal.nD).tc : Thread _ Cert.ReferenceIdeal.τ).loc Cert.ReferenceIdeal.main_arg0))
      (pick (m' (((0 : Dev Cert.ReferenceIdeal.nD).tc : Thread _ Cert.ReferenceIdeal.τ).loc Cert.ReferenceIdeal.main_arg1)) (m' (((0 : Dev Cert.ReferenceIdeal.nD).tc : Thread _ Cert.ReferenceIdeal.τ).loc Cert.ReferenceIdeal.main_arg3))
        (m' (((0 : Dev Cert.ReferenceIdeal.nD).tc : Thread _ Cert.ReferenceIdeal.τ).loc Cert.ReferenceIdeal.main_arg5)))
      (pick (m' (((0 : Dev Cert.ReferenceIdeal.nD).tc : Thread _ Cert.ReferenceIdeal.τ).loc Cert.ReferenceIdeal.main_arg2)) (m' (((0 : Dev Cert.ReferenceIdeal.nD).tc : Thread _ Cert.ReferenceIdeal.τ).loc Cert.ReferenceIdeal.main_arg4))
        (m' (((0 : Dev Cert.ReferenceIdeal.nD).tc : Thread _ Cert.ReferenceIdeal.τ).loc Cert.ReferenceIdeal.main_arg6))) 3) Cert.ReferenceIdeal.Gen.bitsLt_bf16_f32, ?_, ?_⟩
  · refine (θ_run Cert.KernelIdeal.defs _ _).mono (fun r h c => ⟨?_, kept_of m g h.1 c⟩) (run_main (F := Ideal) m g)
    exact (h.1 c (7 : Fin 8)).trans ((finalA_out m g c).trans (congrArg Cert.KernelIdeal.Gen.k0_pay1 (GX_stack hparts c)))
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
